-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_starts_in_range [hPre_starts_in_range : Cert.Pre_starts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_starts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_starts_in_range [hPre_starts_in_range : Cert.Pre_starts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_starts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_starts_in_range_wide [hPre_starts_in_range_wide : Cert.Pre_starts_in_range_wide.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_starts_in_range_wide.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_starts_in_range_wide [hPre_starts_in_range_wide : Cert.Pre_starts_in_range_wide.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_starts_in_range_wide.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_lengths_in_range [hPre_lengths_in_range : Cert.Pre_lengths_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_lengths_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_lengths_in_range [hPre_lengths_in_range : Cert.Pre_lengths_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_lengths_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_lengths_in_range_last [hPre_lengths_in_range_last : Cert.Pre_lengths_in_range_last.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_lengths_in_range_last.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_lengths_in_range_last [hPre_lengths_in_range_last : Cert.Pre_lengths_in_range_last.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_lengths_in_range_last.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_starts_in_range [hKernel3Ideal : Cert.Kernel3Ideal.Facts] [hPre_starts_in_range : Cert.Pre_starts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_starts_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_starts_in_range [hReference3Ideal : Cert.Reference3Ideal.Facts] [hPre_starts_in_range : Cert.Pre_starts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_starts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_starts_in_range_wide [hKernel4Ideal : Cert.Kernel4Ideal.Facts] [hPre_starts_in_range_wide : Cert.Pre_starts_in_range_wide.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_starts_in_range_wide m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_starts_in_range_wide [hReference4Ideal : Cert.Reference4Ideal.Facts] [hPre_starts_in_range_wide : Cert.Pre_starts_in_range_wide.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_starts_in_range_wide m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_lengths_in_range [hKernel5Ideal : Cert.Kernel5Ideal.Facts] [hPre_lengths_in_range : Cert.Pre_lengths_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_lengths_in_range m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_lengths_in_range [hReference5Ideal : Cert.Reference5Ideal.Facts] [hPre_lengths_in_range : Cert.Pre_lengths_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_lengths_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_lengths_in_range_last [hKernel6Ideal : Cert.Kernel6Ideal.Facts] [hPre_lengths_in_range_last : Cert.Pre_lengths_in_range_last.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_lengths_in_range_last m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_lengths_in_range_last [hReference6Ideal : Cert.Reference6Ideal.Facts] [hPre_lengths_in_range_last : Cert.Pre_lengths_in_range_last.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_lengths_in_range_last m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_starts_in_range [hKernel3Ideal : Cert.Kernel3Ideal.Facts] [hReference3Ideal : Cert.Reference3Ideal.Facts] [hPre_starts_in_range : Cert.Pre_starts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_starts_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_starts_in_range_wide [hKernel4Ideal : Cert.Kernel4Ideal.Facts] [hReference4Ideal : Cert.Reference4Ideal.Facts] [hPre_starts_in_range_wide : Cert.Pre_starts_in_range_wide.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_starts_in_range_wide m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_lengths_in_range [hKernel5Ideal : Cert.Kernel5Ideal.Facts] [hReference5Ideal : Cert.Reference5Ideal.Facts] [hPre_lengths_in_range : Cert.Pre_lengths_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_lengths_in_range m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_lengths_in_range_last [hKernel6Ideal : Cert.Kernel6Ideal.Facts] [hReference6Ideal : Cert.Reference6Ideal.Facts] [hPre_lengths_in_range_last : Cert.Pre_lengths_in_range_last.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_lengths_in_range_last m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_starts_in_range : Cert.Pre_starts_in_range.Facts) (hPre_starts_in_range_wide : Cert.Pre_starts_in_range_wide.Facts) (hPre_lengths_in_range : Cert.Pre_lengths_in_range.Facts) (hPre_lengths_in_range_last : Cert.Pre_lengths_in_range_last.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_starts_in_range (hKernel3Ideal := hKernel3Ideal) (hPre_starts_in_range := hPre_starts_in_range)
    ∧ quiescent_Reference3Ideal (hReference3Ideal := hReference3Ideal)
    ∧ quiescent_Reference3Ideal_pre_starts_in_range (hReference3Ideal := hReference3Ideal) (hPre_starts_in_range := hPre_starts_in_range)
    ∧ quiescent_Kernel4 (hKernel4 := hKernel4)
    ∧ quiescent_Kernel4Ideal (hKernel4Ideal := hKernel4Ideal)
    ∧ quiescent_Kernel4Ideal_pre_starts_in_range_wide (hKernel4Ideal := hKernel4Ideal) (hPre_starts_in_range_wide := hPre_starts_in_range_wide)
    ∧ quiescent_Reference4Ideal (hReference4Ideal := hReference4Ideal)
    ∧ quiescent_Reference4Ideal_pre_starts_in_range_wide (hReference4Ideal := hReference4Ideal) (hPre_starts_in_range_wide := hPre_starts_in_range_wide)
    ∧ quiescent_Kernel5 (hKernel5 := hKernel5)
    ∧ quiescent_Kernel5Ideal (hKernel5Ideal := hKernel5Ideal)
    ∧ quiescent_Kernel5Ideal_pre_lengths_in_range (hKernel5Ideal := hKernel5Ideal) (hPre_lengths_in_range := hPre_lengths_in_range)
    ∧ quiescent_Reference5Ideal (hReference5Ideal := hReference5Ideal)
    ∧ quiescent_Reference5Ideal_pre_lengths_in_range (hReference5Ideal := hReference5Ideal) (hPre_lengths_in_range := hPre_lengths_in_range)
    ∧ quiescent_Kernel6 (hKernel6 := hKernel6)
    ∧ quiescent_Kernel6Ideal (hKernel6Ideal := hKernel6Ideal)
    ∧ quiescent_Kernel6Ideal_pre_lengths_in_range_last (hKernel6Ideal := hKernel6Ideal) (hPre_lengths_in_range_last := hPre_lengths_in_range_last)
    ∧ quiescent_Reference6Ideal (hReference6Ideal := hReference6Ideal)
    ∧ quiescent_Reference6Ideal_pre_lengths_in_range_last (hReference6Ideal := hReference6Ideal) (hPre_lengths_in_range_last := hPre_lengths_in_range_last)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_starts_in_range (hKernel3Ideal := hKernel3Ideal) (hReference3Ideal := hReference3Ideal) (hPre_starts_in_range := hPre_starts_in_range)
    ∧ preserves_Kernel4_Kernel4Ideal
    ∧ algebraic_Kernel4Ideal_Reference4Ideal_pre_starts_in_range_wide (hKernel4Ideal := hKernel4Ideal) (hReference4Ideal := hReference4Ideal) (hPre_starts_in_range_wide := hPre_starts_in_range_wide)
    ∧ preserves_Kernel5_Kernel5Ideal
    ∧ algebraic_Kernel5Ideal_Reference5Ideal_pre_lengths_in_range (hKernel5Ideal := hKernel5Ideal) (hReference5Ideal := hReference5Ideal) (hPre_lengths_in_range := hPre_lengths_in_range)
    ∧ preserves_Kernel6_Kernel6Ideal
    ∧ algebraic_Kernel6Ideal_Reference6Ideal_pre_lengths_in_range_last (hKernel6Ideal := hKernel6Ideal) (hReference6Ideal := hReference6Ideal) (hPre_lengths_in_range_last := hPre_lengths_in_range_last)
-- ==== Pre_lengths_in_range.lean ====
abbrev S32x1024x1024 : Shape := ⟨3, ![32, 1024, 1024]⟩
abbrev S32x1024 : Shape := ⟨2, ![32, 1024]⟩
abbrev S_ : Shape := ⟨0, ![]⟩
abbrev S32 : Shape := ⟨1, ![32]⟩

class Facts : Prop where
  bcast_S_S32x1024 : S_.BroadcastsInDim S32x1024 (![] : Fin 0 → Fin S32x1024.rank)
  reducesTo_S32x1024_S32_d1 : S32x1024.ReducesTo [1] S32
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x1024x1024 .f32) (main_arg1 : FVec F S32x1024 .f32) : IVec S_ 1 :=
  let main_cst : FVec F S_ .f32 := constant S_ .f32 0x3F800000#32
  let main_v0 : FVec F S32x1024 .f32 := broadcastInDim S32x1024 ![] bcast_S_S32x1024 main_cst
  let main_v1 : FVec F S32x1024 .f32 := subf main_v0 main_arg1
  let main_cst_0 : FVec F S_ .f32 := constant S_ .f32 0x00000000#32
  let main_v2 : FVec F S32 .f32 := (fun x v => Host.reduceAdd x v reducesTo_S32x1024_S32_d1 h_S_) main_v1 main_cst_0
  let main_v3 : IVec S32 32 := fptosi 32 main_v2
  let main_c : IVec S_ 32 := constantI S_ 32 0#32
  let main_v4 : IVec S32 32 := broadcastInDim S32 ![] bcast_S_S32 main_c
  let main_v5 : IVec S32 1 := cmpi .sge main_v3 main_v4
  let main_c_1 : IVec S_ 32 := constantI S_ 32 1024#32
  let main_v6 : IVec S32 32 := broadcastInDim S32 ![] bcast_S_S32 main_c_1
  let main_v7 : IVec S32 1 := cmpi .sle main_v3 main_v6
  let main_v8 : IVec S32 1 := andi main_v5 main_v7
  let main_c_2 : IVec S_ 1 := constantI S_ 1 1#1
  let main_v9 : IVec S_ 1 := (fun x v => Host.reduce IntOp.andi x v reducesTo_S32_S_d0 h_S_) main_v8 main_c_2
  main_v9
-- ==== Pre_lengths_in_range_last.lean ====
abbrev S1024x32x512 : Shape := ⟨3, ![1024, 32, 512]⟩
abbrev S32x1024 : Shape := ⟨2, ![32, 1024]⟩
abbrev S_ : Shape := ⟨0, ![]⟩
abbrev S32 : Shape := ⟨1, ![32]⟩

class Facts : Prop where
  bcast_S_S32x1024 : S_.BroadcastsInDim S32x1024 (![] : Fin 0 → Fin S32x1024.rank)
  reducesTo_S32x1024_S32_d1 : S32x1024.ReducesTo [1] S32
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S1024x32x512 .bf16) (main_arg1 : FVec F S1024x32x512 .bf16) (main_arg2 : FVec F S32x1024 .f32) : IVec S_ 1 :=
  let main_cst : FVec F S_ .f32 := constant S_ .f32 0x3F800000#32
  let main_v0 : FVec F S32x1024 .f32 := broadcastInDim S32x1024 ![] bcast_S_S32x1024 main_cst
  let main_v1 : FVec F S32x1024 .f32 := subf main_v0 main_arg2
  let main_cst_0 : FVec F S_ .f32 := constant S_ .f32 0x00000000#32
  let main_v2 : FVec F S32 .f32 := (fun x v => Host.reduceAdd x v reducesTo_S32x1024_S32_d1 h_S_) main_v1 main_cst_0
  let main_v3 : IVec S32 32 := fptosi 32 main_v2
  let main_c : IVec S_ 32 := constantI S_ 32 0#32
  let main_v4 : IVec S32 32 := broadcastInDim S32 ![] bcast_S_S32 main_c
  let main_v5 : IVec S32 1 := cmpi .sge main_v3 main_v4
  let main_c_1 : IVec S_ 32 := constantI S_ 32 1024#32
  let main_v6 : IVec S32 32 := broadcastInDim S32 ![] bcast_S_S32 main_c_1
  let main_v7 : IVec S32 1 := cmpi .sle main_v3 main_v6
  let main_v8 : IVec S32 1 := andi main_v5 main_v7
  let main_c_2 : IVec S_ 1 := constantI S_ 1 1#1
  let main_v9 : IVec S_ 1 := (fun x v => Host.reduce IntOp.andi x v reducesTo_S32_S_d0 h_S_) main_v8 main_c_2
  main_v9
-- ==== Pre_starts_in_range.lean ====
abbrev S1024x32x512 : Shape := ⟨3, ![1024, 32, 512]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S1024x32x512 .bf16) (main_arg1 : IVec S32 32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 1024#32
  let main_v2 : IVec S32 32 := broadcastInDim S32 ![] bcast_S_S32 main_c_0
  let main_v3 : IVec S32 1 := cmpi .slt main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  main_v5
-- ==== Pre_starts_in_range_wide.lean ====
abbrev S1024x32x1024 : Shape := ⟨3, ![1024, 32, 1024]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S1024x32x1024 .bf16) (main_arg1 : IVec S32 32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 1024#32
  let main_v2 : IVec S32 32 := broadcastInDim S32 ![] bcast_S_S32 main_c_0
  let main_v3 : IVec S32 1 := cmpi .slt main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  main_v5
-- ==== Kernel.lean ====
abbrev S32768x512 : Shape := ⟨2, ![32768, 512]⟩
abbrev S2x1024x2048 : Shape := ⟨3, ![2, 1024, 2048]⟩
abbrev S2x512x2048 : Shape := ⟨3, ![2, 512, 2048]⟩
abbrev S2x2048 : Shape := ⟨2, ![2, 2048]⟩
abbrev S2x1x2048 : Shape := ⟨3, ![2, 1, 2048]⟩
abbrev S1024x512 : Shape := ⟨2, ![1024, 512]⟩
abbrev S1024x2048 : Shape := ⟨2, ![1024, 2048]⟩
abbrev S2x32x512 : Shape := ⟨3, ![2, 32, 512]⟩
abbrev S1x512x2048 : Shape := ⟨3, ![1, 512, 2048]⟩
abbrev S512x2048 : Shape := ⟨2, ![512, 2048]⟩
abbrev S1x1x2048 : Shape := ⟨3, ![1, 1, 2048]⟩
abbrev S1x2048 : Shape := ⟨2, ![1, 2048]⟩
abbrev S1x32x512 : Shape := ⟨3, ![1, 32, 512]⟩
abbrev S32x512 : Shape := ⟨2, ![32, 512]⟩
abbrev S1x512x512 : Shape := ⟨3, ![1, 512, 512]⟩
abbrev S512x512 : Shape := ⟨2, ![512, 512]⟩

abbrev nBuf : Space → Nat
  | .hbm => 10
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S2x1024x2048, .bf16⟩
  | .hbm, ⟨5, _⟩ => ⟨S2x512x2048, .bf16⟩
  | .hbm, ⟨6, _⟩ => ⟨S2x2048, .f32⟩
  | .hbm, ⟨7, _⟩ => ⟨S2x1x2048, .f32⟩
  | .hbm, ⟨8, _⟩ => ⟨S32768x512, .bf16⟩
  | .hbm, ⟨9, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x2048, .bf16⟩
  | .local _ .vmem, ⟨9, _⟩ => ⟨S2x512x2048, .bf16⟩
  | .local _ .vmem, ⟨10, _⟩ => ⟨S2x1x2048, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | .local _ .vmem, ⟨16, _⟩ => ⟨S1024x2048, .bf16⟩
  | .local _ .vmem, ⟨17, _⟩ => ⟨S2x32x512, .f32⟩
  | .local _ .vmem, ⟨18, _⟩ => ⟨S2x32x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_43 : BitVec 32 := 0#32
  let c4_i32 : BitVec 32 := 4#32
  let v45 : BitVec 32 := Scalar.addi c0_i32_43 c4_i32
  let c1_i32 : BitVec 32 := 1#32
  ⟨c0_i32_43, v45, c1_i32⟩
def k0_off1 (k0_t1 : Fin k0_t1_loop.trips) (c0_i32_57 : BitVec 32) : Fin 2 → Nat :=
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let c32_i32 : BitVec 32 := 32#32
  let v61 : BitVec 32 := Scalar.muli v60 c32_i32
  let v66 : Index := Scalar.indexCast v61
  let c0_62 : Index := 0#32
  ![v66.toNat, 0]
def k0_off2 (k0_t1 : Fin k0_t1_loop.trips) (c0_i32_57 : BitVec 32) : Fin 2 → Nat :=
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let c32_i32 : BitVec 32 := 32#32
  let v61 : BitVec 32 := Scalar.muli v60 c32_i32
  let v73 : Index := Scalar.indexCast v61
  let c512_67 : Index := 512#32
  ![v73.toNat, 512]
def k0_off3 (k0_t1 : Fin k0_t1_loop.trips) (c0_i32_57 : BitVec 32) : Fin 2 → Nat :=
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let c32_i32 : BitVec 32 := 32#32
  let v61 : BitVec 32 := Scalar.muli v60 c32_i32
  let v80 : Index := Scalar.indexCast v61
  let c1024_71 : Index := 1024#32
  ![v80.toNat, 1024]
def k0_off4 (k0_t1 : Fin k0_t1_loop.trips) (c0_i32_57 : BitVec 32) : Fin 2 → Nat :=
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let c32_i32 : BitVec 32 := 32#32
  let v61 : BitVec 32 := Scalar.muli v60 c32_i32
  let v87 : Index := Scalar.indexCast v61
  let c1536_75 : Index := 1536#32
  ![v87.toNat, 1536]
def k0_off5 (k0_t1 : Fin k0_t1_loop.trips) (c0_i32_57 : BitVec 32) : Fin 2 → Nat :=
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let c32_i32 : BitVec 32 := 32#32
  let v61 : BitVec 32 := Scalar.muli v60 c32_i32
  let v101 : Index := Scalar.indexCast v61
  let c0_76 : Index := 0#32
  ![v101.toNat, 0]
def k0_off6 (k0_t1 : Fin k0_t1_loop.trips) (c0_i32_57 : BitVec 32) : Fin 2 → Nat :=
  let c31_i32 : BitVec 32 := 31#32
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let v103 : BitVec 32 := Scalar.subi c31_i32 v60
  let c32_i32_77 : BitVec 32 := 32#32
  let v104 : BitVec 32 := Scalar.muli v103 c32_i32_77
  let v109 : Index := Scalar.indexCast v104
  let c0_82 : Index := 0#32
  ![v109.toNat, 0]
def k0_off7 (k0_t1 : Fin k0_t1_loop.trips) (c0_i32_57 : BitVec 32) : Fin 2 → Nat :=
  let c31_i32 : BitVec 32 := 31#32
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let v103 : BitVec 32 := Scalar.subi c31_i32 v60
  let c32_i32_77 : BitVec 32 := 32#32
  let v104 : BitVec 32 := Scalar.muli v103 c32_i32_77
  let v116 : Index := Scalar.indexCast v104
  let c512_87 : Index := 512#32
  ![v116.toNat, 512]
def k0_off8 (k0_t1 : Fin k0_t1_loop.trips) (c0_i32_57 : BitVec 32) : Fin 2 → Nat :=
  let c31_i32 : BitVec 32 := 31#32
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let v103 : BitVec 32 := Scalar.subi c31_i32 v60
  let c32_i32_77 : BitVec 32 := 32#32
  let v104 : BitVec 32 := Scalar.muli v103 c32_i32_77
  let v123 : Index := Scalar.indexCast v104
  let c1024_92 : Index := 1024#32
  ![v123.toNat, 1024]
def k0_off9 (k0_t1 : Fin k0_t1_loop.trips) (c0_i32_57 : BitVec 32) : Fin 2 → Nat :=
  let c31_i32 : BitVec 32 := 31#32
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let v103 : BitVec 32 := Scalar.subi c31_i32 v60
  let c32_i32_77 : BitVec 32 := 32#32
  let v104 : BitVec 32 := Scalar.muli v103 c32_i32_77
  let v130 : Index := Scalar.indexCast v104
  let c1536_97 : Index := 1536#32
  ![v130.toNat, 1536]
def k0_off10 (k0_t1 : Fin k0_t1_loop.trips) (c0_i32_57 : BitVec 32) : Fin 2 → Nat :=
  let c31_i32 : BitVec 32 := 31#32
  let c0_i32_43 : BitVec 32 := 0#32
  let c1_i32 : BitVec 32 := 1#32
  let arg14 : BitVec 32 := Scf.iv c0_i32_43 c1_i32 k0_t1
  let c8_i32 : BitVec 32 := 8#32
  let v59 : BitVec 32 := Scalar.muli arg14 c8_i32
  let v60 : BitVec 32 := Scalar.addi v59 c0_i32_57
  let v103 : BitVec 32 := Scalar.subi c31_i32 v60
  let c32_i32_77 : BitVec 32 := 32#32
  let v104 : BitVec 32 := Scalar.muli v103 c32_i32_77
  let v144 : Index := Scalar.indexCast v104
  let c0_98 : Index := 0#32
  ![v144.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32768x512 : Shape := ⟨2, ![32768, 512]⟩
abbrev S2x1024x2048 : Shape := ⟨3, ![2, 1024, 2048]⟩
abbrev S2x512x2048 : Shape := ⟨3, ![2, 512, 2048]⟩
abbrev S2x2048 : Shape := ⟨2, ![2, 2048]⟩
abbrev S32768x1024 : Shape := ⟨2, ![32768, 1024]⟩
abbrev S1024x32x1024 : Shape := ⟨3, ![1024, 32, 1024]⟩
abbrev S1x1024x2048 : Shape := ⟨3, ![1, 1024, 2048]⟩
abbrev S1024x2048 : Shape := ⟨2, ![1024, 2048]⟩
abbrev S1024x32x2048 : Shape := ⟨3, ![1024, 32, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S32x512 : Shape := ⟨2, ![32, 512]⟩
abbrev S1024x32x512 : Shape := ⟨3, ![1024, 32, 512]⟩
abbrev S1x32x2048 : Shape := ⟨3, ![1, 32, 2048]⟩
abbrev S32x2048 : Shape := ⟨2, ![32, 2048]⟩
abbrev S1x512x2048 : Shape := ⟨3, ![1, 512, 2048]⟩
abbrev S512x2048 : Shape := ⟨2, ![512, 2048]⟩
abbrev S1x32x512 : Shape := ⟨3, ![1, 32, 512]⟩

abbrev nBuf : Space → Nat
  | .hbm => 150
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S32768x512, .bf16⟩
  | 4 => ⟨S2x1024x2048, .bf16⟩
  | 5 => ⟨S2x512x2048, .bf16⟩
  | 6 => ⟨S2x2048, .f32⟩
  | 7 => ⟨S2x1024x2048, .f32⟩
  | 8 => ⟨S2x512x2048, .f32⟩
  | 9 => ⟨S32768x1024, .bf16⟩
  | 10 => ⟨S32768x1024, .f32⟩
  | 11 => ⟨S1024x32x1024, .f32⟩
  | 12 => ⟨S32768x1024, .bf16⟩
  | 13 => ⟨S32768x1024, .f32⟩
  | 14 => ⟨S1024x32x1024, .f32⟩
  | 15 => ⟨S1x1024x2048, .f32⟩
  | 16 => ⟨S1024x2048, .f32⟩
  | 17 => ⟨S1024x32x2048, .f32⟩
  | 18 => ⟨S1x2048, .f32⟩
  | 19 => ⟨S2048, .f32⟩
  | 20 => ⟨S1x1x2048, .f32⟩
  | 21 => ⟨S1024x32x2048, .f32⟩
  | 22 => ⟨S1024x32x2048, .f32⟩
  | 23 => ⟨S1024x32x1024, .f32⟩
  | 24 => ⟨S1x1024x2048, .f32⟩
  | 25 => ⟨S1024x2048, .f32⟩
  | 26 => ⟨S1024x32x2048, .f32⟩
  | 27 => ⟨S1x2048, .f32⟩
  | 28 => ⟨S2048, .f32⟩
  | 29 => ⟨S1x1x2048, .f32⟩
  | 30 => ⟨S1024x32x2048, .f32⟩
  | 31 => ⟨S1024x32x2048, .f32⟩
  | 32 => ⟨S_, .f32⟩
  | 33 => ⟨S32x512, .f32⟩
  | 34 => ⟨S_, .f32⟩
  | 35 => ⟨S1024x32x512, .f32⟩
  | 36 => ⟨S_, .f32⟩
  | 37 => ⟨S1024x32x512, .f32⟩
  | 38 => ⟨S_, .i32⟩
  | 39 => ⟨S1024x32x2048, .f32⟩
  | 40 => ⟨S1024x32x2048, .f32⟩
  | 41 => ⟨S2x512x2048, .f32⟩
  | 42 => ⟨S_, .i32⟩
  | 43 => ⟨S32x512, .f32⟩
  | 44 => ⟨S32x512, .f32⟩
  | 45 => ⟨S32x512, .f32⟩
  | 46 => ⟨S32x512, .f32⟩
  | 47 => ⟨S1024x32x512, .f32⟩
  | 48 => ⟨S1024x32x512, .f32⟩
  | 49 => ⟨S_, .i32⟩
  | 50 => ⟨S_, .i1⟩
  | 51 => ⟨S_, .i32⟩
  | 52 => ⟨S_, .i32⟩
  | 53 => ⟨S1x32x2048, .f32⟩
  | 54 => ⟨S32x2048, .f32⟩
  | 55 => ⟨S_, .i32⟩
  | 56 => ⟨S_, .i32⟩
  | 57 => ⟨S1x32x2048, .f32⟩
  | 58 => ⟨S32x2048, .f32⟩
  | 59 => ⟨S1x512x2048, .f32⟩
  | 60 => ⟨S512x2048, .f32⟩
  | 61 => ⟨S32x2048, .f32⟩
  | 62 => ⟨S32x2048, .f32⟩
  | 63 => ⟨S32x512, .f32⟩
  | 64 => ⟨S32x512, .f32⟩
  | 65 => ⟨S32x512, .f32⟩
  | 66 => ⟨S32x512, .f32⟩
  | 67 => ⟨S32x512, .f32⟩
  | 68 => ⟨S32x512, .f32⟩
  | 69 => ⟨S_, .f32⟩
  | 70 => ⟨S32x512, .f32⟩
  | 71 => ⟨S32x512, .f32⟩
  | 72 => ⟨S_, .f32⟩
  | 73 => ⟨S32x512, .f32⟩
  | 74 => ⟨S32x512, .f32⟩
  | 75 => ⟨S32x512, .f32⟩
  | 76 => ⟨S32x512, .f32⟩
  | 77 => ⟨S32x512, .f32⟩
  | 78 => ⟨S_, .f32⟩
  | 79 => ⟨S32x512, .f32⟩
  | 80 => ⟨S32x512, .f32⟩
  | 81 => ⟨S_, .f32⟩
  | 82 => ⟨S32x512, .f32⟩
  | 83 => ⟨S32x512, .f32⟩
  | 84 => ⟨S32x512, .f32⟩
  | 85 => ⟨S32x512, .f32⟩
  | 86 => ⟨S32x512, .f32⟩
  | 87 => ⟨S32x512, .f32⟩
  | 88 => ⟨S32x512, .f32⟩
  | 89 => ⟨S_, .f32⟩
  | 90 => ⟨S32x512, .f32⟩
  | 91 => ⟨S32x512, .f32⟩
  | 92 => ⟨S_, .f32⟩
  | 93 => ⟨S32x512, .f32⟩
  | 94 => ⟨S32x512, .f32⟩
  | 95 => ⟨S32x512, .f32⟩
  | 96 => ⟨S32x512, .f32⟩
  | 97 => ⟨S1x512x2048, .f32⟩
  | 98 => ⟨S512x2048, .f32⟩
  | 99 => ⟨S32x2048, .f32⟩
  | 100 => ⟨S32x2048, .f32⟩
  | 101 => ⟨S32x512, .f32⟩
  | 102 => ⟨S32x512, .f32⟩
  | 103 => ⟨S32x512, .f32⟩
  | 104 => ⟨S32x512, .f32⟩
  | 105 => ⟨S32x512, .f32⟩
  | 106 => ⟨S32x512, .f32⟩
  | 107 => ⟨S_, .f32⟩
  | 108 => ⟨S32x512, .f32⟩
  | 109 => ⟨S32x512, .f32⟩
  | 110 => ⟨S_, .f32⟩
  | 111 => ⟨S32x512, .f32⟩
  | 112 => ⟨S32x512, .f32⟩
  | 113 => ⟨S32x512, .f32⟩
  | 114 => ⟨S32x512, .f32⟩
  | 115 => ⟨S32x512, .f32⟩
  | 116 => ⟨S_, .f32⟩
  | 117 => ⟨S32x512, .f32⟩
  | 118 => ⟨S32x512, .f32⟩
  | 119 => ⟨S_, .f32⟩
  | 120 => ⟨S32x512, .f32⟩
  | 121 => ⟨S32x512, .f32⟩
  | 122 => ⟨S32x512, .f32⟩
  | 123 => ⟨S32x512, .f32⟩
  | 124 => ⟨S32x512, .f32⟩
  | 125 => ⟨S32x512, .f32⟩
  | 126 => ⟨S32x512, .f32⟩
  | 127 => ⟨S_, .f32⟩
  | _ => ⟨S32768x512, .bf16⟩

abbrev hbmTy0_1 (i : Nat) : BufTy := match i % 128 with
  | 0 => ⟨S32x512, .f32⟩
  | 1 => ⟨S32x512, .f32⟩
  | 2 => ⟨S_, .f32⟩
  | 3 => ⟨S32x512, .f32⟩
  | 4 => ⟨S32x512, .f32⟩
  | 5 => ⟨S32x512, .f32⟩
  | 6 => ⟨S32x512, .f32⟩
  | 7 => ⟨S1x32x512, .f32⟩
  | 8 => ⟨S_, .i32⟩
  | 9 => ⟨S_, .i32⟩
  | 10 => ⟨S1024x32x512, .f32⟩
  | 11 => ⟨S1x32x512, .f32⟩
  | 12 => ⟨S_, .i32⟩
  | 13 => ⟨S_, .i32⟩
  | 14 => ⟨S1024x32x512, .f32⟩
  | 15 => ⟨S_, .i32⟩
  | 16 => ⟨S_, .i32⟩
  | 17 => ⟨S32768x512, .f32⟩
  | 18 => ⟨S32768x512, .bf16⟩
  | 19 => ⟨S1024x32x512, .f32⟩
  | 20 => ⟨S32768x512, .f32⟩
  | 21 => ⟨S32768x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_c : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev main_v28_5 : Ref sig .tc := ⟨.hbm, 44, rfl⟩
abbrev main_v28_6 : Ref sig .tc := ⟨.hbm, 45, rfl⟩
abbrev main_v28_7 : Ref sig .tc := ⟨.hbm, 46, rfl⟩
abbrev main_v28_8 : Ref sig .tc := ⟨.hbm, 47, rfl⟩
abbrev main_v28_9 : Ref sig .tc := ⟨.hbm, 48, rfl⟩
abbrev main_while0c_c_11 : Ref sig .tc := ⟨.hbm, 49, rfl⟩
abbrev main_while0c_v34 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_v0 : Ref sig .tc := ⟨.hbm, 53, rfl⟩
abbrev main_while0b_v34 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_v0 : Ref sig .tc := ⟨.hbm, 57, rfl⟩
abbrev main_while0b_v35 : Ref sig .tc := ⟨.hbm, 58, rfl⟩
abbrev main_while0b_v36 : Ref sig .tc := ⟨.hbm, 59, rfl⟩
abbrev main_while0b_v37 : Ref sig .tc := ⟨.hbm, 60, rfl⟩
abbrev main_while0b_v38 : Ref sig .tc := ⟨.hbm, 61, rfl⟩
abbrev main_while0b_v39 : Ref sig .tc := ⟨.hbm, 62, rfl⟩
abbrev main_while0b_v40 : Ref sig .tc := ⟨.hbm, 63, rfl⟩
abbrev main_while0b_v41 : Ref sig .tc := ⟨.hbm, 64, rfl⟩
abbrev main_while0b_v42 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_cst_11 : Ref sig .tc := ⟨.hbm, 69, rfl⟩
abbrev main_while0b_v46 : Ref sig .tc := ⟨.hbm, 70, rfl⟩
abbrev main_while0b_v47 : Ref sig .tc := ⟨.hbm, 71, rfl⟩
abbrev main_while0b_cst_12 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_cst_13 : Ref sig .tc := ⟨.hbm, 78, rfl⟩
abbrev main_while0b_v53 : Ref sig .tc := ⟨.hbm, 79, rfl⟩
abbrev main_while0b_v54 : Ref sig .tc := ⟨.hbm, 80, rfl⟩
abbrev main_while0b_cst_14 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_cst_15 : Ref sig .tc := ⟨.hbm, 89, rfl⟩
abbrev main_while0b_v62 : Ref sig .tc := ⟨.hbm, 90, rfl⟩
abbrev main_while0b_v63 : Ref sig .tc := ⟨.hbm, 91, rfl⟩
abbrev main_while0b_cst_16 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_v75 : Ref sig .tc := ⟨.hbm, 104, rfl⟩
abbrev main_while0b_v76 : Ref sig .tc := ⟨.hbm, 105, rfl⟩
abbrev main_while0b_v77 : Ref sig .tc := ⟨.hbm, 106, rfl⟩
abbrev main_while0b_cst_17 : Ref sig .tc := ⟨.hbm, 107, rfl⟩
abbrev main_while0b_v78 : Ref sig .tc := ⟨.hbm, 108, rfl⟩
abbrev main_while0b_v79 : Ref sig .tc := ⟨.hbm, 109, rfl⟩
abbrev main_while0b_cst_18 : Ref sig .tc := ⟨.hbm, 110, rfl⟩
abbrev main_while0b_v80 : Ref sig .tc := ⟨.hbm, 111, rfl⟩
abbrev main_while0b_v81 : Ref sig .tc := ⟨.hbm, 112, rfl⟩
abbrev main_while0b_v82 : Ref sig .tc := ⟨.hbm, 113, rfl⟩
abbrev main_while0b_v83 : Ref sig .tc := ⟨.hbm, 114, rfl⟩
abbrev main_while0b_v84 : Ref sig .tc := ⟨.hbm, 115, rfl⟩
abbrev main_while0b_cst_19 : Ref sig .tc := ⟨.hbm, 116, rfl⟩
abbrev main_while0b_v85 : Ref sig .tc := ⟨.hbm, 117, rfl⟩
abbrev main_while0b_v86 : Ref sig .tc := ⟨.hbm, 118, rfl⟩
abbrev main_while0b_cst_20 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_cst_21 : Ref sig .tc := ⟨.hbm, 127, rfl⟩
abbrev main_while0b_v94 : Ref sig .tc := ⟨.hbm, 128, rfl⟩
abbrev main_while0b_v95 : Ref sig .tc := ⟨.hbm, 129, rfl⟩
abbrev main_while0b_cst_22 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_call2_v0 : Ref sig .tc := ⟨.hbm, 135, rfl⟩
abbrev main_while0b_call2_c : Ref sig .tc := ⟨.hbm, 136, rfl⟩
abbrev main_while0b_call2_c_0 : Ref sig .tc := ⟨.hbm, 137, rfl⟩
abbrev main_while0b_v100 : Ref sig .tc := ⟨.hbm, 138, rfl⟩
abbrev main_while0b_call3_v0 : Ref sig .tc := ⟨.hbm, 139, rfl⟩
abbrev main_while0b_call3_c : Ref sig .tc := ⟨.hbm, 140, rfl⟩
abbrev main_while0b_call3_c_0 : Ref sig .tc := ⟨.hbm, 141, rfl⟩
abbrev main_while0b_v101 : Ref sig .tc := ⟨.hbm, 142, rfl⟩
abbrev main_while0b_c_23 : Ref sig .tc := ⟨.hbm, 143, rfl⟩
abbrev main_while0b_v102 : Ref sig .tc := ⟨.hbm, 144, rfl⟩
abbrev main_v29 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩

abbrev nD : Nat := 1
abbrev τ : Topo := Topo.v7x

variable {F : FTy → Type} [FloatOps F]

abbrev main_while0_count : Scf.Loop 32 := ⟨0#32, 1024#32, 1#32⟩
-- ==== Kernel2.lean ====
abbrev S2x1024x32x1024 : Shape := ⟨4, ![2, 1024, 32, 1024]⟩
abbrev S2x1024x2048 : Shape := ⟨3, ![2, 1024, 2048]⟩
abbrev S2x512x2048 : Shape := ⟨3, ![2, 512, 2048]⟩
abbrev S2x2048 : Shape := ⟨2, ![2, 2048]⟩
abbrev S2x1x2048 : Shape := ⟨3, ![2, 1, 2048]⟩
abbrev S32768x512 : Shape := ⟨2, ![32768, 512]⟩
abbrev S1x32x32x1024 : Shape := ⟨4, ![1, 32, 32, 1024]⟩
abbrev S1024x512 : Shape := ⟨2, ![1024, 512]⟩
abbrev S1024x2048 : Shape := ⟨2, ![1024, 2048]⟩
abbrev S2x32x512 : Shape := ⟨3, ![2, 32, 512]⟩
abbrev S32x32x1024 : Shape := ⟨3, ![32, 32, 1024]⟩
abbrev S1024x1024 : Shape := ⟨2, ![1024, 1024]⟩
abbrev S1x1024x2048 : Shape := ⟨3, ![1, 1024, 2048]⟩
abbrev S1x1x2048 : Shape := ⟨3, ![1, 1, 2048]⟩
abbrev S1x2048 : Shape := ⟨2, ![1, 2048]⟩
abbrev S1x32x512 : Shape := ⟨3, ![1, 32, 512]⟩
abbrev S32x512 : Shape := ⟨2, ![32, 512]⟩
abbrev S1x512x512 : Shape := ⟨3, ![1, 512, 512]⟩
abbrev S512x512 : Shape := ⟨2, ![512, 512]⟩

abbrev nBuf : Space → Nat
  | .hbm => 7
  | .vmem => 15
  | .smem => 0
  | _ => 0

abbrev bufTy : (tb : Table) → Fin (tcTables nBuf tb) → BufTy
  | .hbm, ⟨0, _⟩ => ⟨S2x1024x32x1024, .bf16⟩
  | .hbm, ⟨1, _⟩ => ⟨S2x1024x2048, .bf16⟩
  | .hbm, ⟨2, _⟩ => ⟨S2x512x2048, .bf16⟩
  | .hbm, ⟨3, _⟩ => ⟨S2x2048, .f32⟩
  | .hbm, ⟨4, _⟩ => ⟨S2x1x2048, .f32⟩
  | .hbm, ⟨5, _⟩ => ⟨S32768x512, .bf16⟩
  | .hbm, ⟨6, _⟩ => ⟨S32768x512, .bf16⟩
  | .local _ .vmem, ⟨0, _⟩ => ⟨S1x32x32x1024, .bf16⟩
  | .local _ .vmem, ⟨1, _⟩ => ⟨S1x32x32x1024, .bf16⟩
  | .local _ .vmem, ⟨2, _⟩ => ⟨S1x32x32x1024, .bf16⟩
  | .local _ .vmem, ⟨3, _⟩ => ⟨S1x32x32x1024, .bf16⟩
  | .local _ .vmem, ⟨4, _⟩ => ⟨S2x1024x2048, .bf16⟩
  | .local _ .vmem, ⟨5, _⟩ => ⟨S2x512x2048, .bf16⟩
  | .local _ .vmem, ⟨6, _⟩ => ⟨S2x1x2048, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | .local _ .vmem, ⟨12, _⟩ => ⟨S1024x2048, .bf16⟩
  | .local _ .vmem, ⟨13, _⟩ => ⟨S2x32x512, .f32⟩
  | .local _ .vmem, ⟨14, _⟩ => ⟨S2x32x512, .f32⟩
  | _, _ => ⟨S2x1024x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_36 : BitVec 32 := 0#32
  let c4_i32 : BitVec 32 := 4#32
  let v39 : BitVec 32 := Scalar.addi c0_i32_36 c4_i32
  let c1_i32 : BitVec 32 := 1#32
  ⟨c0_i32_36, v39, c1_i32⟩
def k0_off1 (k0_t1 : Fin k0_t1_loop.trips) (c0_i32_50 : BitVec 32) : Fin 2 → Nat :=
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let c32_i32 : BitVec 32 := 32#32
  let v55 : BitVec 32 := Scalar.muli v54 c32_i32
  let v60 : Index := Scalar.indexCast v55
  let c0_55 : Index := 0#32
  ![v60.toNat, 0]
def k0_off2 (k0_t1 : Fin k0_t1_loop.trips) (c0_i32_50 : BitVec 32) : Fin 2 → Nat :=
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let c32_i32 : BitVec 32 := 32#32
  let v55 : BitVec 32 := Scalar.muli v54 c32_i32
  let v67 : Index := Scalar.indexCast v55
  let c512_59 : Index := 512#32
  ![v67.toNat, 512]
def k0_off3 (k0_t1 : Fin k0_t1_loop.trips) (c0_i32_50 : BitVec 32) : Fin 2 → Nat :=
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let c32_i32 : BitVec 32 := 32#32
  let v55 : BitVec 32 := Scalar.muli v54 c32_i32
  let v74 : Index := Scalar.indexCast v55
  let c1024_63 : Index := 1024#32
  ![v74.toNat, 1024]
def k0_off4 (k0_t1 : Fin k0_t1_loop.trips) (c0_i32_50 : BitVec 32) : Fin 2 → Nat :=
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let c32_i32 : BitVec 32 := 32#32
  let v55 : BitVec 32 := Scalar.muli v54 c32_i32
  let v81 : Index := Scalar.indexCast v55
  let c1536_67 : Index := 1536#32
  ![v81.toNat, 1536]
def k0_off5 (k0_t1 : Fin k0_t1_loop.trips) (c0_i32_50 : BitVec 32) : Fin 2 → Nat :=
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let c32_i32 : BitVec 32 := 32#32
  let v55 : BitVec 32 := Scalar.muli v54 c32_i32
  let v95 : Index := Scalar.indexCast v55
  let c0_68 : Index := 0#32
  ![v95.toNat, 0]
def k0_off6 (k0_t1 : Fin k0_t1_loop.trips) (c0_i32_50 : BitVec 32) : Fin 2 → Nat :=
  let c31_i32 : BitVec 32 := 31#32
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let v97 : BitVec 32 := Scalar.subi c31_i32 v54
  let c32_i32_69 : BitVec 32 := 32#32
  let v98 : BitVec 32 := Scalar.muli v97 c32_i32_69
  let v103 : Index := Scalar.indexCast v98
  let c0_74 : Index := 0#32
  ![v103.toNat, 0]
def k0_off7 (k0_t1 : Fin k0_t1_loop.trips) (c0_i32_50 : BitVec 32) : Fin 2 → Nat :=
  let c31_i32 : BitVec 32 := 31#32
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let v97 : BitVec 32 := Scalar.subi c31_i32 v54
  let c32_i32_69 : BitVec 32 := 32#32
  let v98 : BitVec 32 := Scalar.muli v97 c32_i32_69
  let v110 : Index := Scalar.indexCast v98
  let c512_79 : Index := 512#32
  ![v110.toNat, 512]
def k0_off8 (k0_t1 : Fin k0_t1_loop.trips) (c0_i32_50 : BitVec 32) : Fin 2 → Nat :=
  let c31_i32 : BitVec 32 := 31#32
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let v97 : BitVec 32 := Scalar.subi c31_i32 v54
  let c32_i32_69 : BitVec 32 := 32#32
  let v98 : BitVec 32 := Scalar.muli v97 c32_i32_69
  let v117 : Index := Scalar.indexCast v98
  let c1024_84 : Index := 1024#32
  ![v117.toNat, 1024]
def k0_off9 (k0_t1 : Fin k0_t1_loop.trips) (c0_i32_50 : BitVec 32) : Fin 2 → Nat :=
  let c31_i32 : BitVec 32 := 31#32
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let v97 : BitVec 32 := Scalar.subi c31_i32 v54
  let c32_i32_69 : BitVec 32 := 32#32
  let v98 : BitVec 32 := Scalar.muli v97 c32_i32_69
  let v124 : Index := Scalar.indexCast v98
  let c1536_89 : Index := 1536#32
  ![v124.toNat, 1536]
def k0_off10 (k0_t1 : Fin k0_t1_loop.trips) (c0_i32_50 : BitVec 32) : Fin 2 → Nat :=
  let c31_i32 : BitVec 32 := 31#32
  let c0_i32_36 : BitVec 32 := 0#32
  let c1_i32 : BitVec 32 := 1#32
  let arg12 : BitVec 32 := Scf.iv c0_i32_36 c1_i32 k0_t1
  let c8_i32 : BitVec 32 := 8#32
  let v53 : BitVec 32 := Scalar.muli arg12 c8_i32
  let v54 : BitVec 32 := Scalar.addi v53 c0_i32_50
  let v97 : BitVec 32 := Scalar.subi c31_i32 v54
  let c32_i32_69 : BitVec 32 := 32#32
  let v98 : BitVec 32 := Scalar.muli v97 c32_i32_69
  let v138 : Index := Scalar.indexCast v98
  let c0_90 : Index := 0#32
  ![v138.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S1x32x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x1024x32x1024 : Shape := ⟨4, ![2, 1024, 32, 1024]⟩
abbrev S2x1024x2048 : Shape := ⟨3, ![2, 1024, 2048]⟩
abbrev S2x512x2048 : Shape := ⟨3, ![2, 512, 2048]⟩
abbrev S2x2048 : Shape := ⟨2, ![2, 2048]⟩
abbrev S1x1024x32x1024 : Shape := ⟨4, ![1, 1024, 32, 1024]⟩
abbrev S1024x32x1024 : Shape := ⟨3, ![1024, 32, 1024]⟩
abbrev S1x1024x2048 : Shape := ⟨3, ![1, 1024, 2048]⟩
abbrev S1024x2048 : Shape := ⟨2, ![1024, 2048]⟩
abbrev S1024x32x2048 : Shape := ⟨3, ![1024, 32, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S32x512 : Shape := ⟨2, ![32, 512]⟩
abbrev S1024x32x512 : Shape := ⟨3, ![1024, 32, 512]⟩
abbrev S1x32x2048 : Shape := ⟨3, ![1, 32, 2048]⟩
abbrev S32x2048 : Shape := ⟨2, ![32, 2048]⟩
abbrev S1x512x2048 : Shape := ⟨3, ![1, 512, 2048]⟩
abbrev S512x2048 : Shape := ⟨2, ![512, 2048]⟩
abbrev S1x32x512 : Shape := ⟨3, ![1, 32, 512]⟩
abbrev S32768x512 : Shape := ⟨2, ![32768, 512]⟩

abbrev nBuf : Space → Nat
  | .hbm => 146
  | .vmem => 0
  | .smem => 0
  | _ => 0

abbrev hbmTy0_0 (i : Nat) : BufTy := match i % 128 with
  | 0 => ⟨S2x1024x32x1024, .bf16⟩
  | 1 => ⟨S2x1024x2048, .bf16⟩
  | 2 => ⟨S2x512x2048, .bf16⟩
  | 3 => ⟨S2x2048, .f32⟩
  | 4 => ⟨S2x1024x2048, .f32⟩
  | 5 => ⟨S2x512x2048, .f32⟩
  | 6 => ⟨S2x1024x32x1024, .f32⟩
  | 7 => ⟨S1x1024x32x1024, .f32⟩
  | 8 => ⟨S1024x32x1024, .f32⟩
  | 9 => ⟨S1x1024x2048, .f32⟩
  | 10 => ⟨S1024x2048, .f32⟩
  | 11 => ⟨S1024x32x2048, .f32⟩
  | 12 => ⟨S1x2048, .f32⟩
  | 13 => ⟨S2048, .f32⟩
  | 14 => ⟨S1x1x2048, .f32⟩
  | 15 => ⟨S1024x32x2048, .f32⟩
  | 16 => ⟨S1024x32x2048, .f32⟩
  | 17 => ⟨S1x1024x32x1024, .f32⟩
  | 18 => ⟨S1024x32x1024, .f32⟩
  | 19 => ⟨S1024x32x1024, .f32⟩
  | 20 => ⟨S1x1024x2048, .f32⟩
  | 21 => ⟨S1024x2048, .f32⟩
  | 22 => ⟨S1024x32x2048, .f32⟩
  | 23 => ⟨S1x2048, .f32⟩
  | 24 => ⟨S2048, .f32⟩
  | 25 => ⟨S1x1x2048, .f32⟩
  | 26 => ⟨S1024x32x2048, .f32⟩
  | 27 => ⟨S1024x32x2048, .f32⟩
  | 28 => ⟨S_, .f32⟩
  | 29 => ⟨S32x512, .f32⟩
  | 30 => ⟨S_, .f32⟩
  | 31 => ⟨S1024x32x512, .f32⟩
  | 32 => ⟨S_, .f32⟩
  | 33 => ⟨S1024x32x512, .f32⟩
  | 34 => ⟨S_, .i32⟩
  | 35 => ⟨S1024x32x2048, .f32⟩
  | 36 => ⟨S1024x32x2048, .f32⟩
  | 37 => ⟨S2x512x2048, .f32⟩
  | 38 => ⟨S_, .i32⟩
  | 39 => ⟨S32x512, .f32⟩
  | 40 => ⟨S32x512, .f32⟩
  | 41 => ⟨S32x512, .f32⟩
  | 42 => ⟨S32x512, .f32⟩
  | 43 => ⟨S1024x32x512, .f32⟩
  | 44 => ⟨S1024x32x512, .f32⟩
  | 45 => ⟨S_, .i32⟩
  | 46 => ⟨S_, .i1⟩
  | 47 => ⟨S_, .i32⟩
  | 48 => ⟨S_, .i32⟩
  | 49 => ⟨S1x32x2048, .f32⟩
  | 50 => ⟨S32x2048, .f32⟩
  | 51 => ⟨S_, .i32⟩
  | 52 => ⟨S_, .i32⟩
  | 53 => ⟨S1x32x2048, .f32⟩
  | 54 => ⟨S32x2048, .f32⟩
  | 55 => ⟨S1x512x2048, .f32⟩
  | 56 => ⟨S512x2048, .f32⟩
  | 57 => ⟨S32x2048, .f32⟩
  | 58 => ⟨S32x2048, .f32⟩
  | 59 => ⟨S32x512, .f32⟩
  | 60 => ⟨S32x512, .f32⟩
  | 61 => ⟨S32x512, .f32⟩
  | 62 => ⟨S32x512, .f32⟩
  | 63 => ⟨S32x512, .f32⟩
  | 64 => ⟨S32x512, .f32⟩
  | 65 => ⟨S_, .f32⟩
  | 66 => ⟨S32x512, .f32⟩
  | 67 => ⟨S32x512, .f32⟩
  | 68 => ⟨S_, .f32⟩
  | 69 => ⟨S32x512, .f32⟩
  | 70 => ⟨S32x512, .f32⟩
  | 71 => ⟨S32x512, .f32⟩
  | 72 => ⟨S32x512, .f32⟩
  | 73 => ⟨S32x512, .f32⟩
  | 74 => ⟨S_, .f32⟩
  | 75 => ⟨S32x512, .f32⟩
  | 76 => ⟨S32x512, .f32⟩
  | 77 => ⟨S_, .f32⟩
  | 78 => ⟨S32x512, .f32⟩
  | 79 => ⟨S32x512, .f32⟩
  | 80 => ⟨S32x512, .f32⟩
  | 81 => ⟨S32x512, .f32⟩
  | 82 => ⟨S32x512, .f32⟩
  | 83 => ⟨S32x512, .f32⟩
  | 84 => ⟨S32x512, .f32⟩
  | 85 => ⟨S_, .f32⟩
  | 86 => ⟨S32x512, .f32⟩
  | 87 => ⟨S32x512, .f32⟩
  | 88 => ⟨S_, .f32⟩
  | 89 => ⟨S32x512, .f32⟩
  | 90 => ⟨S32x512, .f32⟩
  | 91 => ⟨S32x512, .f32⟩
  | 92 => ⟨S32x512, .f32⟩
  | 93 => ⟨S1x512x2048, .f32⟩
  | 94 => ⟨S512x2048, .f32⟩
  | 95 => ⟨S32x2048, .f32⟩
  | 96 => ⟨S32x2048, .f32⟩
  | 97 => ⟨S32x512, .f32⟩
  | 98 => ⟨S32x512, .f32⟩
  | 99 => ⟨S32x512, .f32⟩
  | 100 => ⟨S32x512, .f32⟩
  | 101 => ⟨S32x512, .f32⟩
  | 102 => ⟨S32x512, .f32⟩
  | 103 => ⟨S_, .f32⟩
  | 104 => ⟨S32x512, .f32⟩
  | 105 => ⟨S32x512, .f32⟩
  | 106 => ⟨S_, .f32⟩
  | 107 => ⟨S32x512, .f32⟩
  | 108 => ⟨S32x512, .f32⟩
  | 109 => ⟨S32x512, .f32⟩
  | 110 => ⟨S32x512, .f32⟩
  | 111 => ⟨S32x512, .f32⟩
  | 112 => ⟨S_, .f32⟩
  | 113 => ⟨S32x512, .f32⟩
  | 114 => ⟨S32x512, .f32⟩
  | 115 => ⟨S_, .f32⟩
  | 116 => ⟨S32x512, .f32⟩
  | 117 => ⟨S32x512, .f32⟩
  | 118 => ⟨S32x512, .f32⟩
  | 119 => ⟨S32x512, .f32⟩
  | 120 => ⟨S32x512, .f32⟩
  | 121 => ⟨S32x512, .f32⟩
  | 122 => ⟨S32x512, .f32⟩
  | 123 => ⟨S_, .f32⟩
  | 124 => ⟨S32x512, .f32⟩
  | 125 => ⟨S32x512, .f32⟩
  | 126 => ⟨S_, .f32⟩
  | 127 => ⟨S32x512, .f32⟩
  | _ => ⟨S2x1024x32x1024, .bf16⟩

abbrev hbmTy0_1 (i : Nat) : BufTy := match i % 128 with
  | 0 => ⟨S32x512, .f32⟩
  | 1 => ⟨S32x512, .f32⟩
  | 2 => ⟨S32x512, .f32⟩
  | 3 => ⟨S1x32x512, .f32⟩
  | 4 => ⟨S_, .i32⟩
  | 5 => ⟨S_, .i32⟩
  | 6 => ⟨S1024x32x512, .f32⟩
  | 7 => ⟨S1x32x512, .f32⟩
  | 8 => ⟨S_, .i32⟩
  | 9 => ⟨S_, .i32⟩
  | 10 => ⟨S1024x32x512, .f32⟩
  | 11 => ⟨S_, .i32⟩
  | 12 => ⟨S_, .i32⟩
  | 13 => ⟨S32768x512, .f32⟩
  | 14 => ⟨S32768x512, .bf16⟩
  | 15 => ⟨S1024x32x512, .f32⟩
  | 16 => ⟨S32768x512, .f32⟩
  | 17 => ⟨S32768x512, .bf16⟩
  | _ => ⟨S2x1024x32x1024, .bf16⟩

abbrev hbmTy (i : Nat) : BufTy := match i / 128 with
  | 0 => hbmTy0_0 i
  | 1 => hbmTy0_1 i
  | _ => ⟨S2x1024x32x1024, .bf16⟩

abbrev bufTy : (tb : Table) → Fin (tcTables nBuf tb) → BufTy
  | .hbm, ⟨i, _⟩ => hbmTy i
  | _, _ => ⟨S2x1024x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_c : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v27_5 : Ref sig .tc := ⟨.hbm, 40, rfl⟩
abbrev main_v27_6 : Ref sig .tc := ⟨.hbm, 41, rfl⟩
abbrev main_v27_7 : Ref sig .tc := ⟨.hbm, 42, rfl⟩
abbrev main_v27_8 : Ref sig .tc := ⟨.hbm, 43, rfl⟩
abbrev main_v27_9 : Ref sig .tc := ⟨.hbm, 44, rfl⟩
abbrev main_while0c_c_11 : Ref sig .tc := ⟨.hbm, 45, rfl⟩
abbrev main_while0c_v33 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_v0 : Ref sig .tc := ⟨.hbm, 49, rfl⟩
abbrev main_while0b_v33 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_v0 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_v38 : Ref sig .tc := ⟨.hbm, 58, rfl⟩
abbrev main_while0b_v39 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_v43 : Ref sig .tc := ⟨.hbm, 63, rfl⟩
abbrev main_while0b_v44 : Ref sig .tc := ⟨.hbm, 64, rfl⟩
abbrev main_while0b_cst_11 : Ref sig .tc := ⟨.hbm, 65, rfl⟩
abbrev main_while0b_v45 : Ref sig .tc := ⟨.hbm, 66, rfl⟩
abbrev main_while0b_v46 : Ref sig .tc := ⟨.hbm, 67, rfl⟩
abbrev main_while0b_cst_12 : Ref sig .tc := ⟨.hbm, 68, rfl⟩
abbrev main_while0b_v47 : Ref sig .tc := ⟨.hbm, 69, rfl⟩
abbrev main_while0b_v48 : Ref sig .tc := ⟨.hbm, 70, rfl⟩
abbrev main_while0b_v49 : Ref sig .tc := ⟨.hbm, 71, rfl⟩
abbrev main_while0b_v50 : Ref sig .tc := ⟨.hbm, 72, rfl⟩
abbrev main_while0b_v51 : Ref sig .tc := ⟨.hbm, 73, rfl⟩
abbrev main_while0b_cst_13 : Ref sig .tc := ⟨.hbm, 74, rfl⟩
abbrev main_while0b_v52 : Ref sig .tc := ⟨.hbm, 75, rfl⟩
abbrev main_while0b_v53 : Ref sig .tc := ⟨.hbm, 76, rfl⟩
abbrev main_while0b_cst_14 : Ref sig .tc := ⟨.hbm, 77, rfl⟩
abbrev main_while0b_v54 : Ref sig .tc := ⟨.hbm, 78, rfl⟩
abbrev main_while0b_v55 : Ref sig .tc := ⟨.hbm, 79, rfl⟩
abbrev main_while0b_v56 : Ref sig .tc := ⟨.hbm, 80, rfl⟩
abbrev main_while0b_v57 : Ref sig .tc := ⟨.hbm, 81, rfl⟩
abbrev main_while0b_v58 : Ref sig .tc := ⟨.hbm, 82, rfl⟩
abbrev main_while0b_v59 : Ref sig .tc := ⟨.hbm, 83, rfl⟩
abbrev main_while0b_v60 : Ref sig .tc := ⟨.hbm, 84, rfl⟩
abbrev main_while0b_cst_15 : Ref sig .tc := ⟨.hbm, 85, rfl⟩
abbrev main_while0b_v61 : Ref sig .tc := ⟨.hbm, 86, rfl⟩
abbrev main_while0b_v62 : Ref sig .tc := ⟨.hbm, 87, rfl⟩
abbrev main_while0b_cst_16 : Ref sig .tc := ⟨.hbm, 88, rfl⟩
abbrev main_while0b_v63 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_v69 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_cst_17 : Ref sig .tc := ⟨.hbm, 103, rfl⟩
abbrev main_while0b_v77 : Ref sig .tc := ⟨.hbm, 104, rfl⟩
abbrev main_while0b_v78 : Ref sig .tc := ⟨.hbm, 105, rfl⟩
abbrev main_while0b_cst_18 : Ref sig .tc := ⟨.hbm, 106, rfl⟩
abbrev main_while0b_v79 : Ref sig .tc := ⟨.hbm, 107, rfl⟩
abbrev main_while0b_v80 : Ref sig .tc := ⟨.hbm, 108, rfl⟩
abbrev main_while0b_v81 : Ref sig .tc := ⟨.hbm, 109, rfl⟩
abbrev main_while0b_v82 : Ref sig .tc := ⟨.hbm, 110, rfl⟩
abbrev main_while0b_v83 : Ref sig .tc := ⟨.hbm, 111, rfl⟩
abbrev main_while0b_cst_19 : Ref sig .tc := ⟨.hbm, 112, rfl⟩
abbrev main_while0b_v84 : Ref sig .tc := ⟨.hbm, 113, rfl⟩
abbrev main_while0b_v85 : Ref sig .tc := ⟨.hbm, 114, rfl⟩
abbrev main_while0b_cst_20 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_cst_21 : Ref sig .tc := ⟨.hbm, 123, rfl⟩
abbrev main_while0b_v93 : Ref sig .tc := ⟨.hbm, 124, rfl⟩
abbrev main_while0b_v94 : Ref sig .tc := ⟨.hbm, 125, rfl⟩
abbrev main_while0b_cst_22 : Ref sig .tc := ⟨.hbm, 126, rfl⟩
abbrev main_while0b_v95 : Ref sig .tc := ⟨.hbm, 127, rfl⟩
abbrev main_while0b_v96 : Ref sig .tc := ⟨.hbm, 128, rfl⟩
abbrev main_while0b_v97 : Ref sig .tc := ⟨.hbm, 129, rfl⟩
abbrev main_while0b_v98 : Ref sig .tc := ⟨.hbm, 130, rfl⟩
abbrev main_while0b_call2_v0 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_v99 : Ref sig .tc := ⟨.hbm, 134, rfl⟩
abbrev main_while0b_call3_v0 : Ref sig .tc := ⟨.hbm, 135, rfl⟩
abbrev main_while0b_call3_c : Ref sig .tc := ⟨.hbm, 136, rfl⟩
abbrev main_while0b_call3_c_0 : Ref sig .tc := ⟨.hbm, 137, rfl⟩
abbrev main_while0b_v100 : Ref sig .tc := ⟨.hbm, 138, rfl⟩
abbrev main_while0b_c_23 : Ref sig .tc := ⟨.hbm, 139, rfl⟩
abbrev main_while0b_v101 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩

abbrev nD : Nat := 1
abbrev τ : Topo := Topo.v7x

variable {F : FTy → Type} [FloatOps F]

abbrev main_while0_count : Scf.Loop 32 := ⟨0#32, 1024#32, 1#32⟩
-- ==== Kernel3.lean ====
abbrev S1024x32x512 : Shape := ⟨3, ![1024, 32, 512]⟩
abbrev S32 : Shape := ⟨1, ![32]⟩
abbrev S1024x16384 : Shape := ⟨2, ![1024, 16384]⟩
abbrev S1024x512 : Shape := ⟨2, ![1024, 512]⟩
abbrev S1024x1024 : Shape := ⟨2, ![1024, 1024]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S1024x32x512, .bf16⟩
  | .hbm, ⟨1, _⟩ => ⟨S1024x16384, .bf16⟩
  | .hbm, ⟨2, _⟩ => ⟨S1024x16384, .bf16⟩
  | .hbm, ⟨3, _⟩ => ⟨S1024x32x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .smem, ⟨0, _⟩ => ⟨S32, .i32⟩
  | _, _ => ⟨S1024x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel3Ideal.lean ====
abbrev S1024x32x512 : Shape := ⟨3, ![1024, 32, 512]⟩
abbrev S32 : Shape := ⟨1, ![32]⟩
abbrev S1024x16384 : Shape := ⟨2, ![1024, 16384]⟩
abbrev S1024x512 : Shape := ⟨2, ![1024, 512]⟩
abbrev S1024x1024 : Shape := ⟨2, ![1024, 1024]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S1024x32x512, .bf16⟩
  | .hbm, ⟨1, _⟩ => ⟨S1024x16384, .bf16⟩
  | .hbm, ⟨2, _⟩ => ⟨S1024x16384, .bf16⟩
  | .hbm, ⟨3, _⟩ => ⟨S1024x32x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .smem, ⟨0, _⟩ => ⟨S32, .i32⟩
  | _, _ => ⟨S1024x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S1024x32x512 : Shape := ⟨3, ![1024, 32, 512]⟩
abbrev S32 : Shape := ⟨1, ![32]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S1024x32x512, .bf16⟩
  | .hbm, ⟨1, _⟩ => ⟨S32, .i32⟩
  | .hbm, ⟨2, _⟩ => ⟨S1024, .i32⟩
  | .hbm, ⟨3, _⟩ => ⟨S1024x1, .i32⟩
  | .hbm, ⟨4, _⟩ => ⟨S1x32, .i32⟩
  | .hbm, ⟨5, _⟩ => ⟨S1024x32, .i32⟩
  | .hbm, ⟨6, _⟩ => ⟨S1024x32, .i32⟩
  | .hbm, ⟨7, _⟩ => ⟨S1024x32, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1024x32, .i32⟩
  | .hbm, ⟨15, _⟩ => ⟨S1024x32, .i32⟩
  | .hbm, ⟨16, _⟩ => ⟨S_, .i32⟩
  | .hbm, ⟨17, _⟩ => ⟨S1024x32, .i32⟩
  | .hbm, ⟨18, _⟩ => ⟨S1024x32, .i1⟩
  | .hbm, ⟨19, _⟩ => ⟨S_, .i32⟩
  | .hbm, ⟨20, _⟩ => ⟨S1024x32, .i32⟩
  | .hbm, ⟨21, _⟩ => ⟨S1024x32, .i1⟩
  | .hbm, ⟨22, _⟩ => ⟨S_, .i32⟩
  | .hbm, ⟨23, _⟩ => ⟨S_, .i1⟩
  | .hbm, ⟨24, _⟩ => ⟨S1024x32, .i1⟩
  | .hbm, ⟨25, _⟩ => ⟨S1024x32, .i1⟩
  | .hbm, ⟨26, _⟩ => ⟨S1024x32, .i1⟩
  | .hbm, ⟨27, _⟩ => ⟨S1024x32, .i32⟩
  | .hbm, ⟨28, _⟩ => ⟨S1024x32, .i32⟩
  | .hbm, ⟨29, _⟩ => ⟨S1024x32, .i32⟩
  | .hbm, ⟨30, _⟩ => ⟨S1024x32x1, .i32⟩
  | .hbm, ⟨31, _⟩ => ⟨S_, .i32⟩
  | .hbm, ⟨32, _⟩ => ⟨S1024x32x1, .i32⟩
  | .hbm, ⟨33, _⟩ => ⟨S1024x32x1, .i1⟩
  | .hbm, ⟨34, _⟩ => ⟨S_, .i32⟩
  | .hbm, ⟨35, _⟩ => ⟨S1024x32x1, .i32⟩
  | .hbm, ⟨36, _⟩ => ⟨S1024x32x1, .i32⟩
  | .hbm, ⟨37, _⟩ => ⟨S1024x32x1, .i32⟩
  | .hbm, ⟨38, _⟩ => ⟨S1, .i32⟩
  | .hbm, ⟨39, _⟩ => ⟨S_, .i32⟩
  | .hbm, ⟨40, _⟩ => ⟨S1024x32x1, .i32⟩
  | .hbm, ⟨41, _⟩ => ⟨S1024x32x1, .i1⟩
  | .hbm, ⟨42, _⟩ => ⟨S1x1x1, .i32⟩
  | .hbm, ⟨43, _⟩ => ⟨S1024x32x1, .i32⟩
  | .hbm, ⟨44, _⟩ => ⟨S1024x32x1, .i1⟩
  | .hbm, ⟨45, _⟩ => ⟨S1024x32x1, .i1⟩
  | .hbm, ⟨46, _⟩ => ⟨S_, .i1⟩
  | .hbm, ⟨47, _⟩ => ⟨S1024x32, .i1⟩
  | .hbm, ⟨48, _⟩ => ⟨S1024x32x512, .bf16⟩
  | .hbm, ⟨49, _⟩ => ⟨S1024x32x512, .i1⟩
  | .hbm, ⟨50, _⟩ => ⟨S_, .bf16⟩
  | .hbm, ⟨51, _⟩ => ⟨S1024x32x512, .bf16⟩
  | .hbm, ⟨52, _⟩ => ⟨S1024x32x512, .bf16⟩
  | _, _ => ⟨S1024x32x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v8 : Ref sig .tc := ⟨.hbm, 52, rfl⟩

abbrev nD : Nat := 1
abbrev τ : Topo := Topo.v7x

variable {F : FTy → Type} [FloatOps F]
-- ==== Kernel4.lean ====
abbrev S1024x32x1024 : Shape := ⟨3, ![1024, 32, 1024]⟩
abbrev S32 : Shape := ⟨1, ![32]⟩
abbrev S1024x32768 : Shape := ⟨2, ![1024, 32768]⟩
abbrev S1024x1024 : Shape := ⟨2, ![1024, 1024]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S1024x32x1024, .bf16⟩
  | .hbm, ⟨1, _⟩ => ⟨S1024x32768, .bf16⟩
  | .hbm, ⟨2, _⟩ => ⟨S1024x32768, .bf16⟩
  | .hbm, ⟨3, _⟩ => ⟨S1024x32x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .smem, ⟨0, _⟩ => ⟨S32, .i32⟩
  | _, _ => ⟨S1024x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S1024x32x1024 : Shape := ⟨3, ![1024, 32, 1024]⟩
abbrev S32 : Shape := ⟨1, ![32]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S1024x32x1024, .bf16⟩
  | .hbm, ⟨1, _⟩ => ⟨S32, .i32⟩
  | .hbm, ⟨2, _⟩ => ⟨S1024, .i32⟩
  | .hbm, ⟨3, _⟩ => ⟨S1024x1, .i32⟩
  | .hbm, ⟨4, _⟩ => ⟨S1x32, .i32⟩
  | .hbm, ⟨5, _⟩ => ⟨S1024x32, .i32⟩
  | .hbm, ⟨6, _⟩ => ⟨S1024x32, .i32⟩
  | .hbm, ⟨7, _⟩ => ⟨S1024x32, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1024x32, .i32⟩
  | .hbm, ⟨15, _⟩ => ⟨S1024x32, .i32⟩
  | .hbm, ⟨16, _⟩ => ⟨S_, .i32⟩
  | .hbm, ⟨17, _⟩ => ⟨S1024x32, .i32⟩
  | .hbm, ⟨18, _⟩ => ⟨S1024x32, .i1⟩
  | .hbm, ⟨19, _⟩ => ⟨S_, .i32⟩
  | .hbm, ⟨20, _⟩ => ⟨S1024x32, .i32⟩
  | .hbm, ⟨21, _⟩ => ⟨S1024x32, .i1⟩
  | .hbm, ⟨22, _⟩ => ⟨S_, .i32⟩
  | .hbm, ⟨23, _⟩ => ⟨S_, .i1⟩
  | .hbm, ⟨24, _⟩ => ⟨S1024x32, .i1⟩
  | .hbm, ⟨25, _⟩ => ⟨S1024x32, .i1⟩
  | .hbm, ⟨26, _⟩ => ⟨S1024x32, .i1⟩
  | .hbm, ⟨27, _⟩ => ⟨S1024x32, .i32⟩
  | .hbm, ⟨28, _⟩ => ⟨S1024x32, .i32⟩
  | .hbm, ⟨29, _⟩ => ⟨S1024x32, .i32⟩
  | .hbm, ⟨30, _⟩ => ⟨S1024x32x1, .i32⟩
  | .hbm, ⟨31, _⟩ => ⟨S_, .i32⟩
  | .hbm, ⟨32, _⟩ => ⟨S1024x32x1, .i32⟩
  | .hbm, ⟨33, _⟩ => ⟨S1024x32x1, .i1⟩
  | .hbm, ⟨34, _⟩ => ⟨S_, .i32⟩
  | .hbm, ⟨35, _⟩ => ⟨S1024x32x1, .i32⟩
  | .hbm, ⟨36, _⟩ => ⟨S1024x32x1, .i32⟩
  | .hbm, ⟨37, _⟩ => ⟨S1024x32x1, .i32⟩
  | .hbm, ⟨38, _⟩ => ⟨S1, .i32⟩
  | .hbm, ⟨39, _⟩ => ⟨S_, .i32⟩
  | .hbm, ⟨40, _⟩ => ⟨S1024x32x1, .i32⟩
  | .hbm, ⟨41, _⟩ => ⟨S1024x32x1, .i1⟩
  | .hbm, ⟨42, _⟩ => ⟨S1x1x1, .i32⟩
  | .hbm, ⟨43, _⟩ => ⟨S1024x32x1, .i32⟩
  | .hbm, ⟨44, _⟩ => ⟨S1024x32x1, .i1⟩
  | .hbm, ⟨45, _⟩ => ⟨S1024x32x1, .i1⟩
  | .hbm, ⟨46, _⟩ => ⟨S_, .i1⟩
  | .hbm, ⟨47, _⟩ => ⟨S1024x32, .i1⟩
  | .hbm, ⟨48, _⟩ => ⟨S1024x32x1024, .bf16⟩
  | .hbm, ⟨49, _⟩ => ⟨S1024x32x1024, .i1⟩
  | .hbm, ⟨50, _⟩ => ⟨S_, .bf16⟩
  | .hbm, ⟨51, _⟩ => ⟨S1024x32x1024, .bf16⟩
  | .hbm, ⟨52, _⟩ => ⟨S1024x32x1024, .bf16⟩
  | _, _ => ⟨S1024x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v8 : Ref sig .tc := ⟨.hbm, 52, rfl⟩

abbrev nD : Nat := 1
abbrev τ : Topo := Topo.v7x

variable {F : FTy → Type} [FloatOps F]
-- ==== Kernel5.lean ====
abbrev S32x1024x1024 : Shape := ⟨3, ![32, 1024, 1024]⟩
abbrev S32x1024 : Shape := ⟨2, ![32, 1024]⟩
abbrev S_ : Shape := ⟨0, ![]⟩
abbrev S32 : Shape := ⟨1, ![32]⟩
abbrev S1024x32x1024 : Shape := ⟨3, ![1024, 32, 1024]⟩
abbrev S1024x32768 : Shape := ⟨2, ![1024, 32768]⟩
abbrev S1024x1024 : Shape := ⟨2, ![1024, 1024]⟩
abbrev S1 : Shape := ⟨1, ![1]⟩
abbrev S1x1024x32x1024 : Shape := ⟨4, ![1, 1024, 32, 1024]⟩
abbrev S2x1024x32x1024 : Shape := ⟨4, ![2, 1024, 32, 1024]⟩

abbrev nBuf : Space → Nat
  | .hbm => 18
  | .vmem => 6
  | .smem => 1
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S_, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S1024x32x1024, .f32⟩
  | .hbm, ⟨11, _⟩ => ⟨S1024x32x1024, .bf16⟩
  | .hbm, ⟨12, _⟩ => ⟨S1024x32768, .bf16⟩
  | .hbm, ⟨13, _⟩ => ⟨S1024x32768, .bf16⟩
  | .hbm, ⟨14, _⟩ => ⟨S1024x32x1024, .bf16⟩
  | .hbm, ⟨15, _⟩ => ⟨S1x1024x32x1024, .bf16⟩
  | .hbm, ⟨16, _⟩ => ⟨S1x1024x32x1024, .bf16⟩
  | .hbm, ⟨17, _⟩ => ⟨S2x1024x32x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .smem, ⟨0, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S32x1024x1024 : Shape := ⟨3, ![32, 1024, 1024]⟩
abbrev S32x1024 : Shape := ⟨2, ![32, 1024]⟩
abbrev S_ : Shape := ⟨0, ![]⟩
abbrev S32 : Shape := ⟨1, ![32]⟩
abbrev S1024x32x1024 : Shape := ⟨3, ![1024, 32, 1024]⟩
abbrev S1024 : Shape := ⟨1, ![1024]⟩
abbrev S1x1024 : Shape := ⟨2, ![1, 1024]⟩
abbrev S32x1 : Shape := ⟨2, ![32, 1]⟩
abbrev S32x1024x1 : Shape := ⟨3, ![32, 1024, 1]⟩
abbrev S1 : Shape := ⟨1, ![1]⟩
abbrev S1x1x1 : Shape := ⟨3, ![1, 1, 1]⟩
abbrev S1x1024x32x1024 : Shape := ⟨4, ![1, 1024, 32, 1024]⟩
abbrev S2x1024x32x1024 : Shape := ⟨4, ![2, 1024, 32, 1024]⟩

abbrev nBuf : Space → Nat
  | .hbm => 72
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S_, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32, .i32⟩
  | .hbm, ⟨8, _⟩ => ⟨S1024x32x1024, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1x1024, .i32⟩
  | .hbm, ⟨17, _⟩ => ⟨S32x1, .i32⟩
  | .hbm, ⟨18, _⟩ => ⟨S32x1024, .i32⟩
  | .hbm, ⟨19, _⟩ => ⟨S32x1024, .i32⟩
  | .hbm, ⟨20, _⟩ => ⟨S32x1024, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S32x1024, .i32⟩
  | .hbm, ⟨28, _⟩ => ⟨S32x1024, .i32⟩
  | .hbm, ⟨29, _⟩ => ⟨S_, .i32⟩
  | .hbm, ⟨30, _⟩ => ⟨S32x1024, .i32⟩
  | .hbm, ⟨31, _⟩ => ⟨S32x1024, .i1⟩
  | .hbm, ⟨32, _⟩ => ⟨S_, .i32⟩
  | .hbm, ⟨33, _⟩ => ⟨S32x1024, .i32⟩
  | .hbm, ⟨34, _⟩ => ⟨S32x1024, .i1⟩
  | .hbm, ⟨35, _⟩ => ⟨S_, .i32⟩
  | .hbm, ⟨36, _⟩ => ⟨S_, .i1⟩
  | .hbm, ⟨37, _⟩ => ⟨S32x1024, .i1⟩
  | .hbm, ⟨38, _⟩ => ⟨S32x1024, .i1⟩
  | .hbm, ⟨39, _⟩ => ⟨S32x1024, .i1⟩
  | .hbm, ⟨40, _⟩ => ⟨S32x1024, .i32⟩
  | .hbm, ⟨41, _⟩ => ⟨S32x1024, .i32⟩
  | .hbm, ⟨42, _⟩ => ⟨S32x1024, .i32⟩
  | .hbm, ⟨43, _⟩ => ⟨S32x1024x1, .i32⟩
  | .hbm, ⟨44, _⟩ => ⟨S_, .i32⟩
  | .hbm, ⟨45, _⟩ => ⟨S32x1024x1, .i32⟩
  | .hbm, ⟨46, _⟩ => ⟨S32x1024x1, .i1⟩
  | .hbm, ⟨47, _⟩ => ⟨S_, .i32⟩
  | .hbm, ⟨48, _⟩ => ⟨S32x1024x1, .i32⟩
  | .hbm, ⟨49, _⟩ => ⟨S32x1024x1, .i32⟩
  | .hbm, ⟨50, _⟩ => ⟨S32x1024x1, .i32⟩
  | .hbm, ⟨51, _⟩ => ⟨S1, .i32⟩
  | .hbm, ⟨52, _⟩ => ⟨S_, .i32⟩
  | .hbm, ⟨53, _⟩ => ⟨S32x1024x1, .i32⟩
  | .hbm, ⟨54, _⟩ => ⟨S32x1024x1, .i1⟩
  | .hbm, ⟨55, _⟩ => ⟨S1x1x1, .i32⟩
  | .hbm, ⟨56, _⟩ => ⟨S32x1024x1, .i32⟩
  | .hbm, ⟨57, _⟩ => ⟨S32x1024x1, .i1⟩
  | .hbm, ⟨58, _⟩ => ⟨S32x1024x1, .i1⟩
  | .hbm, ⟨59, _⟩ => ⟨S_, .i1⟩
  | .hbm, ⟨60, _⟩ => ⟨S32x1024, .i1⟩
  | .hbm, ⟨61, _⟩ => ⟨S32x1024x1024, .f32⟩
  | .hbm, ⟨62, _⟩ => ⟨S32x1024x1024, .i1⟩
  | .hbm, ⟨63, _⟩ => ⟨S_, .f32⟩
  | .hbm, ⟨64, _⟩ => ⟨S32x1024x1024, .f32⟩
  | .hbm, ⟨65, _⟩ => ⟨S32x1024x1024, .f32⟩
  | .hbm, ⟨66, _⟩ => ⟨S1024x32x1024, .f32⟩
  | .hbm, ⟨67, _⟩ => ⟨S1024x32x1024, .f32⟩
  | .hbm, ⟨68, _⟩ => ⟨S1x1024x32x1024, .f32⟩
  | .hbm, ⟨69, _⟩ => ⟨S1x1024x32x1024, .f32⟩
  | .hbm, ⟨70, _⟩ => ⟨S2x1024x32x1024, .f32⟩
  | .hbm, ⟨71, _⟩ => ⟨S2x1024x32x1024, .bf16⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩

abbrev nD : Nat := 1
abbrev τ : Topo := Topo.v7x

variable {F : FTy → Type} [FloatOps F]
-- ==== Kernel6.lean ====
abbrev S1024x32x512 : Shape := ⟨3, ![1024, 32, 512]⟩
abbrev S32x1024 : Shape := ⟨2, ![32, 1024]⟩
abbrev S_ : Shape := ⟨0, ![]⟩
abbrev S32 : Shape := ⟨1, ![32]⟩
abbrev S1024x16384 : Shape := ⟨2, ![1024, 16384]⟩
abbrev S1024x512 : Shape := ⟨2, ![1024, 512]⟩
abbrev S1024x1024 : Shape := ⟨2, ![1024, 1024]⟩
abbrev S1 : Shape := ⟨1, ![1]⟩
abbrev S1024x32x1024 : Shape := ⟨3, ![1024, 32, 1024]⟩
abbrev S32x1024x1024 : Shape := ⟨3, ![32, 1024, 1024]⟩

abbrev nBuf : Space → Nat
  | .hbm => 20
  | .vmem => 6
  | .smem => 1
  | _ => 0

abbrev bufTy : (tb : Table) → Fin (tcTables nBuf tb) → BufTy
  | .hbm, ⟨0, _⟩ => ⟨S1024x32x512, .bf16⟩
  | .hbm, ⟨1, _⟩ => ⟨S1024x32x512, .bf16⟩
  | .hbm, ⟨2, _⟩ => ⟨S32x1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S1024x16384, .bf16⟩
  | .hbm, ⟨15, _⟩ => ⟨S1024x16384, .bf16⟩
  | .hbm, ⟨16, _⟩ => ⟨S1024x32x512, .bf16⟩
  | .hbm, ⟨17, _⟩ => ⟨S1024x32x1024, .bf16⟩
  | .hbm, ⟨18, _⟩ => ⟨S1024x32x1024, .f32⟩
  | .hbm, ⟨19, _⟩ => ⟨S32x1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .smem, ⟨0, _⟩ => ⟨S32, .i32⟩
  | _, _ => ⟨S1024x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference6Ideal.lean ====
abbrev S1024x32x512 : Shape := ⟨3, ![1024, 32, 512]⟩
abbrev S32x1024 : Shape := ⟨2, ![32, 1024]⟩
abbrev S_ : Shape := ⟨0, ![]⟩
abbrev S32 : Shape := ⟨1, ![32]⟩
abbrev S32x1024x512 : Shape := ⟨3, ![32, 1024, 512]⟩
abbrev S1024 : Shape := ⟨1, ![1024]⟩
abbrev S1x1024 : Shape := ⟨2, ![1, 1024]⟩
abbrev S32x1 : Shape := ⟨2, ![32, 1]⟩
abbrev S32x1024x1 : Shape := ⟨3, ![32, 1024, 1]⟩
abbrev S1 : Shape := ⟨1, ![1]⟩
abbrev S1x1x1 : Shape := ⟨3, ![1, 1, 1]⟩
abbrev S32x1024x1024 : Shape := ⟨3, ![32, 1024, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1024x32x512, .bf16⟩
  | .hbm, ⟨1, _⟩ => ⟨S1024x32x512, .bf16⟩
  | .hbm, ⟨2, _⟩ => ⟨S32x1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32, .i32⟩
  | .hbm, ⟨9, _⟩ => ⟨S1024x32x512, .f32⟩
  | .hbm, ⟨10, _⟩ => ⟨S32x1024x512, .f32⟩
  | .hbm, ⟨11, _⟩ => ⟨S1024x32x512, .f32⟩
  | .hbm, ⟨12, _⟩ => ⟨S1024x32x512, .f32⟩
  | .hbm, ⟨13, _⟩ => ⟨S32x1024x512, .f32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1x1024, .i32⟩
  | .hbm, ⟨22, _⟩ => ⟨S32x1, .i32⟩
  | .hbm, ⟨23, _⟩ => ⟨S32x1024, .i32⟩
  | .hbm, ⟨24, _⟩ => ⟨S32x1024, .i32⟩
  | .hbm, ⟨25, _⟩ => ⟨S32x1024, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S32x1024, .i32⟩
  | .hbm, ⟨33, _⟩ => ⟨S32x1024, .i32⟩
  | .hbm, ⟨34, _⟩ => ⟨S_, .i32⟩
  | .hbm, ⟨35, _⟩ => ⟨S32x1024, .i32⟩
  | .hbm, ⟨36, _⟩ => ⟨S32x1024, .i1⟩
  | .hbm, ⟨37, _⟩ => ⟨S_, .i32⟩
  | .hbm, ⟨38, _⟩ => ⟨S32x1024, .i32⟩
  | .hbm, ⟨39, _⟩ => ⟨S32x1024, .i1⟩
  | .hbm, ⟨40, _⟩ => ⟨S_, .i32⟩
  | .hbm, ⟨41, _⟩ => ⟨S_, .i1⟩
  | .hbm, ⟨42, _⟩ => ⟨S32x1024, .i1⟩
  | .hbm, ⟨43, _⟩ => ⟨S32x1024, .i1⟩
  | .hbm, ⟨44, _⟩ => ⟨S32x1024, .i1⟩
  | .hbm, ⟨45, _⟩ => ⟨S32x1024, .i32⟩
  | .hbm, ⟨46, _⟩ => ⟨S32x1024, .i32⟩
  | .hbm, ⟨47, _⟩ => ⟨S32x1024, .i32⟩
  | .hbm, ⟨48, _⟩ => ⟨S32x1024x1, .i32⟩
  | .hbm, ⟨49, _⟩ => ⟨S_, .i32⟩
  | .hbm, ⟨50, _⟩ => ⟨S32x1024x1, .i32⟩
  | .hbm, ⟨51, _⟩ => ⟨S32x1024x1, .i1⟩
  | .hbm, ⟨52, _⟩ => ⟨S_, .i32⟩
  | .hbm, ⟨53, _⟩ => ⟨S32x1024x1, .i32⟩
  | .hbm, ⟨54, _⟩ => ⟨S32x1024x1, .i32⟩
  | .hbm, ⟨55, _⟩ => ⟨S32x1024x1, .i32⟩
  | .hbm, ⟨56, _⟩ => ⟨S1, .i32⟩
  | .hbm, ⟨57, _⟩ => ⟨S_, .i32⟩
  | .hbm, ⟨58, _⟩ => ⟨S32x1024x1, .i32⟩
  | .hbm, ⟨59, _⟩ => ⟨S32x1024x1, .i1⟩
  | .hbm, ⟨60, _⟩ => ⟨S1x1x1, .i32⟩
  | .hbm, ⟨61, _⟩ => ⟨S32x1024x1, .i32⟩
  | .hbm, ⟨62, _⟩ => ⟨S32x1024x1, .i1⟩
  | .hbm, ⟨63, _⟩ => ⟨S32x1024x1, .i1⟩
  | .hbm, ⟨64, _⟩ => ⟨S_, .i1⟩
  | .hbm, ⟨65, _⟩ => ⟨S32x1024, .i1⟩
  | .hbm, ⟨66, _⟩ => ⟨S32x1024x512, .f32⟩
  | .hbm, ⟨67, _⟩ => ⟨S32x1024x512, .i1⟩
  | .hbm, ⟨68, _⟩ => ⟨S_, .f32⟩
  | .hbm, ⟨69, _⟩ => ⟨S32x1024x512, .f32⟩
  | .hbm, ⟨70, _⟩ => ⟨S32x1024x512, .f32⟩
  | .hbm, ⟨71, _⟩ => ⟨S32x1024x1024, .f32⟩
  | _, _ => ⟨S1024x32x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v19 : Ref sig .tc := ⟨.hbm, 47, rfl⟩
abbrev main_v20 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_c_2 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_c_3 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v21 : Ref sig .tc := ⟨.hbm, 70, rfl⟩
abbrev main_v22 : Ref sig .tc := ⟨.hbm, 71, rfl⟩

abbrev nD : Nat := 1
abbrev τ : Topo := Topo.v7x

variable {F : FTy → Type} [FloatOps F]
-- ==== Proof.Hand.Cell.lean ====
module
public import proofs.«01_k».proof.Proof.Gen.KernelIdeal.Loops
/- One trip of the time loop of the layer kernel, as eight applications of the LSTM cell in each direction: what the
   trip yields and what it stores. -/
@[expose] public section

noncomputable section

namespace Cert.KernelIdeal.Gen

open Idealize.ShloMosaic Idealize.ShloMosaic.TcCoe

variable {F : FTy → Type} [FloatOps F]

/-- A cell state and a hidden state. -/
abbrev CH (F : FTy → Type) := FVec F S32x512 .f32 × FVec F S32x512 .f32

/-- One gate's pre-activation: the hidden state times the gate's recurrent weights, plus the input projection. -/
def gate (w : FVec F S1x512x512 .bf16) (x : FVec F S32x512 .bf16) (h : FVec F S32x512 .f32) : FVec F S32x512 .f32 :=
  addf (matmul dot_S32x512_S512x512_S32x512_1_0_0_1_n_n none (truncf .bf16 h bitsLt_bf16_f32)
    (shapeCast S512x512 w shapeCasts_S1x512x512_S512x512) (constant S32x512 .f32 0x00000000#32)) (extf .f32 x bitsLt_bf16_f32)

/-- One LSTM step, gates in the order input, forget, candidate, output. -/
def cell (w0 w1 w2 w3 : FVec F S1x512x512 .bf16) (x0 x1 x2 x3 : FVec F S32x512 .bf16) (p : CH F) : CH F :=
  (addf (mulf (logistic (gate w1 x1 p.2)) p.1) (mulf (logistic (gate w0 x0 p.2)) (tanh (gate w2 x2 p.2))),
   mulf (logistic (gate w3 x3 p.2))
     (tanh (addf (mulf (logistic (gate w1 x1 p.2)) p.1) (mulf (logistic (gate w0 x0 p.2)) (tanh (gate w2 x2 p.2))))))

/-- One forward step of trip `k`, number `r` of the eight: the cell at the four gate slices of the recurrent weights
    and the four gate slices of the step's rows of the input-projection scratch. -/
def fwdStep (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips) (r : Fin 8)
    (p : CH F) : CH F :=
  cell (View.readAt (Elt F) arg6.view (Rect.unit (s := S2x512x2048) ![0, 0, 0] S1x512x512.size inb_S2x512x2048_S1x512x512_0_0_0).toLoadRect X6)
    (View.readAt (Elt F) arg6.view (Rect.unit (s := S2x512x2048) ![0, 0, 512] S1x512x512.size inb_S2x512x2048_S1x512x512_0_0_512).toLoadRect X6)
    (View.readAt (Elt F) arg6.view (Rect.unit (s := S2x512x2048) ![0, 0, 1024] S1x512x512.size inb_S2x512x2048_S1x512x512_0_0_1024).toLoadRect X6)
    (View.readAt (Elt F) arg6.view (Rect.unit (s := S2x512x2048) ![0, 0, 1536] S1x512x512.size inb_S2x512x2048_S1x512x512_0_0_1536).toLoadRect X6)
    (View.readAt (Elt F) arg.view (Rect.unit (s := S1024x2048) (k0_off1 k (BitVec.ofNat 32 r.val)) S32x512.size (k0_off1_inb k r)).toLoadRect X)
    (View.readAt (Elt F) arg.view (Rect.unit (s := S1024x2048) (k0_off2 k (BitVec.ofNat 32 r.val)) S32x512.size (k0_off2_inb k r)).toLoadRect X)
    (View.readAt (Elt F) arg.view (Rect.unit (s := S1024x2048) (k0_off3 k (BitVec.ofNat 32 r.val)) S32x512.size (k0_off3_inb k r)).toLoadRect X)
    (View.readAt (Elt F) arg.view (Rect.unit (s := S1024x2048) (k0_off4 k (BitVec.ofNat 32 r.val)) S32x512.size (k0_off4_inb k r)).toLoadRect X) p

/-- The state after the first steps of trip `k`. -/
def fwdSteps (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips)
    (p : CH F) : ℕ → CH F
  | 0 => p
  | r + 1 => fwdStep arg6 arg X6 X k (Fin.ofNat 8 r) (fwdSteps arg6 arg X6 X k p r)

/-- One backward step of trip `k`, number `r` of the eight: the cell at the four gate slices of the recurrent weights
    and the four gate slices of the step's rows of the input-projection scratch. -/
def bwdStep (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips) (r : Fin 8)
    (p : CH F) : CH F :=
  cell (View.readAt (Elt F) arg6.view (Rect.unit (s := S2x512x2048) ![1, 0, 0] S1x512x512.size inb_S2x512x2048_S1x512x512_1_0_0).toLoadRect X6)
    (View.readAt (Elt F) arg6.view (Rect.unit (s := S2x512x2048) ![1, 0, 512] S1x512x512.size inb_S2x512x2048_S1x512x512_1_0_512).toLoadRect X6)
    (View.readAt (Elt F) arg6.view (Rect.unit (s := S2x512x2048) ![1, 0, 1024] S1x512x512.size inb_S2x512x2048_S1x512x512_1_0_1024).toLoadRect X6)
    (View.readAt (Elt F) arg6.view (Rect.unit (s := S2x512x2048) ![1, 0, 1536] S1x512x512.size inb_S2x512x2048_S1x512x512_1_0_1536).toLoadRect X6)
    (View.readAt (Elt F) arg.view (Rect.unit (s := S1024x2048) (k0_off6 k (BitVec.ofNat 32 r.val)) S32x512.size (k0_off6_inb k r)).toLoadRect X)
    (View.readAt (Elt F) arg.view (Rect.unit (s := S1024x2048) (k0_off7 k (BitVec.ofNat 32 r.val)) S32x512.size (k0_off7_inb k r)).toLoadRect X)
    (View.readAt (Elt F) arg.view (Rect.unit (s := S1024x2048) (k0_off8 k (BitVec.ofNat 32 r.val)) S32x512.size (k0_off8_inb k r)).toLoadRect X)
    (View.readAt (Elt F) arg.view (Rect.unit (s := S1024x2048) (k0_off9 k (BitVec.ofNat 32 r.val)) S32x512.size (k0_off9_inb k r)).toLoadRect X) p

/-- The state after the first steps of trip `k`. -/
def bwdSteps (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips)
    (p : CH F) : ℕ → CH F
  | 0 => p
  | r + 1 => bwdStep arg6 arg X6 X k (Fin.ofNat 8 r) (bwdSteps arg6 arg X6 X k p r)

set_option maxRecDepth 100000 in
set_option maxHeartbeats 4000000 in
/-- What a trip yields. -/
theorem trip_yield (𝒱 : Variants) (c : Dev nD) (bd : Option 𝒱.V) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (arg0 : BitVec 32) (v25 : FVec F S1024x2048 .f32) (X6 : BufTy.Contents (Elt F) arg6.view.ty) (X10 : BufTy.Contents (Elt F) arg10.view.ty) (X11 : BufTy.Contents (Elt F) arg11.view.ty) (k : Fin k0_t1_loop.trips) (acc : FVec F S32x512 .f32 × FVec F S32x512 .f32 × FVec F S32x512 .f32 × FVec F S32x512 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 k).1 acc = ((fwdSteps arg6 arg10 X6 X10 k (acc.1, acc.2.1) 8).1, (fwdSteps arg6 arg10 X6 X10 k (acc.1, acc.2.1) 8).2,
      (bwdSteps arg6 arg11 X6 X11 k (acc.2.2.1, acc.2.2.2) 8).1, (bwdSteps arg6 arg11 X6 X11 k (acc.2.2.1, acc.2.2.2) 8).2) := by
  unfold trip_k0_t1
  dsimp only
  rfl

set_option maxRecDepth 100000 in
set_option maxHeartbeats 4000000 in
/-- What a trip stores of the forward output. -/
theorem trip_fwd (𝒱 : Variants) (c : Dev nD) (bd : Option 𝒱.V) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (arg0 : BitVec 32) (v25 : FVec F S1024x2048 .f32) (X6 : BufTy.Contents (Elt F) arg6.view.ty) (X10 : BufTy.Contents (Elt F) arg10.view.ty) (X11 : BufTy.Contents (Elt F) arg11.view.ty) (k : Fin k0_t1_loop.trips) (acc : FVec F S32x512 .f32 × FVec F S32x512 .f32 × FVec F S32x512 .f32 × FVec F S32x512 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 k).2.1 acc =
     ([⟨Rect.unit (s := S1024x512) (k0_off5 k (BitVec.ofNat 32 7)) S32x512.size (k0_off5_inb k 7), truncf .bf16 (fwdSteps arg6 arg10 X6 X10 k (acc.1, acc.2.1) 8).2 bitsLt_bf16_f32⟩,
      ⟨Rect.unit (s := S1024x512) (k0_off5 k (BitVec.ofNat 32 6)) S32x512.size (k0_off5_inb k 6), truncf .bf16 (fwdSteps arg6 arg10 X6 X10 k (acc.1, acc.2.1) 7).2 bitsLt_bf16_f32⟩,
      ⟨Rect.unit (s := S1024x512) (k0_off5 k (BitVec.ofNat 32 5)) S32x512.size (k0_off5_inb k 5), truncf .bf16 (fwdSteps arg6 arg10 X6 X10 k (acc.1, acc.2.1) 6).2 bitsLt_bf16_f32⟩,
      ⟨Rect.unit (s := S1024x512) (k0_off5 k (BitVec.ofNat 32 4)) S32x512.size (k0_off5_inb k 4), truncf .bf16 (fwdSteps arg6 arg10 X6 X10 k (acc.1, acc.2.1) 5).2 bitsLt_bf16_f32⟩,
      ⟨Rect.unit (s := S1024x512) (k0_off5 k (BitVec.ofNat 32 3)) S32x512.size (k0_off5_inb k 3), truncf .bf16 (fwdSteps arg6 arg10 X6 X10 k (acc.1, acc.2.1) 4).2 bitsLt_bf16_f32⟩,
      ⟨Rect.unit (s := S1024x512) (k0_off5 k (BitVec.ofNat 32 2)) S32x512.size (k0_off5_inb k 2), truncf .bf16 (fwdSteps arg6 arg10 X6 X10 k (acc.1, acc.2.1) 3).2 bitsLt_bf16_f32⟩,
      ⟨Rect.unit (s := S1024x512) (k0_off5 k (BitVec.ofNat 32 1)) S32x512.size (k0_off5_inb k 1), truncf .bf16 (fwdSteps arg6 arg10 X6 X10 k (acc.1, acc.2.1) 2).2 bitsLt_bf16_f32⟩,
      ⟨Rect.unit (s := S1024x512) (k0_off5 k (BitVec.ofNat 32 0)) S32x512.size (k0_off5_inb k 0), truncf .bf16 (fwdSteps arg6 arg10 X6 X10 k (acc.1, acc.2.1) 1).2 bitsLt_bf16_f32⟩] : List (View.Piece (Elt F) S1024x512 .bf16)) := by
  unfold trip_k0_t1
  dsimp only
  rfl

set_option maxRecDepth 100000 in
set_option maxHeartbeats 4000000 in
/-- What a trip stores of the backward output. -/
theorem trip_bwd (𝒱 : Variants) (c : Dev nD) (bd : Option 𝒱.V) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (arg0 : BitVec 32) (v25 : FVec F S1024x2048 .f32) (X6 : BufTy.Contents (Elt F) arg6.view.ty) (X10 : BufTy.Contents (Elt F) arg10.view.ty) (X11 : BufTy.Contents (Elt F) arg11.view.ty) (k : Fin k0_t1_loop.trips) (acc : FVec F S32x512 .f32 × FVec F S32x512 .f32 × FVec F S32x512 .f32 × FVec F S32x512 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 k).2.2.1 acc =
     ([⟨Rect.unit (s := S1024x512) (k0_off10 k (BitVec.ofNat 32 7)) S32x512.size (k0_off10_inb k 7), truncf .bf16 (bwdSteps arg6 arg11 X6 X11 k (acc.2.2.1, acc.2.2.2) 8).2 bitsLt_bf16_f32⟩,
      ⟨Rect.unit (s := S1024x512) (k0_off10 k (BitVec.ofNat 32 6)) S32x512.size (k0_off10_inb k 6), truncf .bf16 (bwdSteps arg6 arg11 X6 X11 k (acc.2.2.1, acc.2.2.2) 7).2 bitsLt_bf16_f32⟩,
      ⟨Rect.unit (s := S1024x512) (k0_off10 k (BitVec.ofNat 32 5)) S32x512.size (k0_off10_inb k 5), truncf .bf16 (bwdSteps arg6 arg11 X6 X11 k (acc.2.2.1, acc.2.2.2) 6).2 bitsLt_bf16_f32⟩,
      ⟨Rect.unit (s := S1024x512) (k0_off10 k (BitVec.ofNat 32 4)) S32x512.size (k0_off10_inb k 4), truncf .bf16 (bwdSteps arg6 arg11 X6 X11 k (acc.2.2.1, acc.2.2.2) 5).2 bitsLt_bf16_f32⟩,
      ⟨Rect.unit (s := S1024x512) (k0_off10 k (BitVec.ofNat 32 3)) S32x512.size (k0_off10_inb k 3), truncf .bf16 (bwdSteps arg6 arg11 X6 X11 k (acc.2.2.1, acc.2.2.2) 4).2 bitsLt_bf16_f32⟩,
      ⟨Rect.unit (s := S1024x512) (k0_off10 k (BitVec.ofNat 32 2)) S32x512.size (k0_off10_inb k 2), truncf .bf16 (bwdSteps arg6 arg11 X6 X11 k (acc.2.2.1, acc.2.2.2) 3).2 bitsLt_bf16_f32⟩,
      ⟨Rect.unit (s := S1024x512) (k0_off10 k (BitVec.ofNat 32 1)) S32x512.size (k0_off10_inb k 1), truncf .bf16 (bwdSteps arg6 arg11 X6 X11 k (acc.2.2.1, acc.2.2.2) 2).2 bitsLt_bf16_f32⟩,
      ⟨Rect.unit (s := S1024x512) (k0_off10 k (BitVec.ofNat 32 0)) S32x512.size (k0_off10_inb k 0), truncf .bf16 (bwdSteps arg6 arg11 X6 X11 k (acc.2.2.1, acc.2.2.2) 1).2 bitsLt_bf16_f32⟩] : List (View.Piece (Elt F) S1024x512 .bf16)) := by
  unfold trip_k0_t1
  dsimp only
  rfl

end Cert.KernelIdeal.Gen
-- ==== Proof.Hand.Loop.lean ====
module

public import proofs.«01_k».proof.Proof.Hand.Cell
public import Idealize.ShloMosaic.Lib.Pipeline.FrameBody
public import Idealize.ShloMosaic.Lib.Pipeline.Value
public import Idealize.ShloMosaic.Lib.Pipeline.ValueKit
public import Idealize.ShloMosaic.Lib.ValueIdxCore
/- The time loop of the layer kernel over one block of 32 steps: the states it passes through, and the outputs it
   stores, as functions of the recurrent weights, the block's input projections and the state the block starts from. -/
@[expose] public section

noncomputable section

namespace Cert.KernelIdeal.Gen

open Idealize.ShloMosaic Idealize.ShloMosaic.TcCoe

variable {F : FTy → Type} [FloatOps F]

/-- The recurrent weights of direction `d`, gate `g`. -/
def wsl (W : FVec F S2x512x2048 .bf16) (d : Fin 2) (g : Fin 4) : FVec F S1x512x512 .bf16 :=
  fun i => W (ValueIdx.ix3 d (⟨(i 1).val, (i 1).isLt⟩ : Fin 512) (⟨512 * g.val + (i 2).val, by have := g.isLt; have : (i 2).val < 512 := (i 2).isLt; omega⟩ : Fin 2048))

/-- The input projections of step `n` of a block, gate `g`. -/
def xsl (x : FVec F S1024x2048 .bf16) (n : ℕ) (g : Fin 4) : FVec F S32x512 .bf16 :=
  fun i => x (ValueIdx.ix2 (⟨(32 * n + (i 0).val) % 1024, Nat.mod_lt _ (by decide)⟩ : Fin 1024)
    (⟨512 * g.val + (i 1).val, by have := g.isLt; have : (i 1).val < 512 := (i 1).isLt; omega⟩ : Fin 2048))

/-- The cell of direction `d` at row group `n` of a block. -/
def cellAt (W : FVec F S2x512x2048 .bf16) (d : Fin 2) (x : FVec F S1024x2048 .bf16) (n : ℕ) (p : CH F) : CH F :=
  cell (wsl W d 0) (wsl W d 1) (wsl W d 2) (wsl W d 3) (xsl x n 0) (xsl x n 1) (xsl x n 2) (xsl x n 3) p

/-- The forward state after `n` steps of a block. -/
def fwdAt (W : FVec F S2x512x2048 .bf16) (x : FVec F S1024x2048 .bf16) (p : CH F) : ℕ → CH F
  | 0 => p
  | n + 1 => cellAt W 0 x n (fwdAt W x p n)

/-- The backward state after `n` steps of a block: the row groups are taken from the last to the first. -/
def bwdAt (W : FVec F S2x512x2048 .bf16) (x : FVec F S1024x2048 .bf16) (p : CH F) : ℕ → CH F
  | 0 => p
  | n + 1 => cellAt W 1 x (31 - n) (bwdAt W x p n)

theorem vec2_eq {a b c d : ℕ} (h : a = c) (h' : b = d) : (![a, b] : Fin 2 → ℕ) = ![c, d] := by rw [h, h']

theorem readW_eq (arg6 : Memref sig .tc .vmem S2x512x2048 .bf16) (X6 : BufTy.Contents (Elt F) arg6.view.ty) (d : Fin 2) (g : Fin 4)
    (off : Fin 3 → ℕ) (inb : ∀ a, off a + S1x512x512.size a ≤ S2x512x2048.size a) (h : off = ![d.val, 0, 512 * g.val]) :
    (View.readAt (Elt F) arg6.view (Rect.unit (s := S2x512x2048) off S1x512x512.size inb).toLoadRect X6 : S1x512x512.Idx → Elt F .bf16)
      = wsl (arg6.view.read (Elt F) X6) d g := by
  subst h
  funext i
  have h0 : (i 0).val < 1 := (i 0).isLt
  refine congrArg (arg6.view.read (Elt F) X6) (funext fun a => Fin.ext ?_)
  rw [Rect.idx_unit_val]
  match a with
  | ⟨0, _⟩ => show d.val + (i 0).val = d.val; omega
  | ⟨1, _⟩ => show 0 + (i 1).val = (i 1).val; omega
  | ⟨2, _⟩ => rfl

theorem readX_eq (arg : Memref sig .tc .vmem S1024x2048 .bf16) (X : BufTy.Contents (Elt F) arg.view.ty) (n : ℕ) (g : Fin 4) (hn : n < 32)
    (off : Fin 2 → ℕ) (inb : ∀ a, off a + S32x512.size a ≤ S1024x2048.size a) (h : off = ![32 * n, 512 * g.val]) :
    (View.readAt (Elt F) arg.view (Rect.unit (s := S1024x2048) off S32x512.size inb).toLoadRect X : S32x512.Idx → Elt F .bf16)
      = xsl (arg.view.read (Elt F) X) n g := by
  subst h
  funext i
  have h0 : (i 0).val < 32 := (i 0).isLt
  refine congrArg (arg.view.read (Elt F) X) (funext fun a => Fin.ext ?_)
  rw [Rect.idx_unit_val]
  match a with
  | ⟨0, _⟩ => show 32 * n + (i 0).val = (32 * n + (i 0).val) % 1024; rw [Nat.mod_eq_of_lt (by omega)]
  | ⟨1, _⟩ => rfl

theorem fwdStep_eq (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips) (r : Fin 8)
    (p : CH F) : fwdStep arg6 arg X6 X k r p = cellAt (arg6.view.read (Elt F) X6) 0 (arg.view.read (Elt F) X) (8 * k.val + r.val) p := by
  have hk : k.val < 4 := Nat.lt_of_lt_of_le k.isLt k0_t1_abs.2.1
  have hr := r.isLt
  unfold fwdStep cellAt
  rw [readW_eq arg6 X6 0 0 ![0, 0, 0] inb_S2x512x2048_S1x512x512_0_0_0 rfl, readW_eq arg6 X6 0 1 ![0, 0, 512] inb_S2x512x2048_S1x512x512_0_0_512 rfl, readW_eq arg6 X6 0 2 ![0, 0, 1024] inb_S2x512x2048_S1x512x512_0_0_1024 rfl, readW_eq arg6 X6 0 3 ![0, 0, 1536] inb_S2x512x2048_S1x512x512_0_0_1536 rfl,
    readX_eq arg X (8 * k.val + r.val) 0 (by omega) (k0_off1 k (BitVec.ofNat 32 r.val)) (k0_off1_inb k r) (by rw [k0_off1_eq]; exact vec2_eq (by omega) rfl),
    readX_eq arg X (8 * k.val + r.val) 1 (by omega) (k0_off2 k (BitVec.ofNat 32 r.val)) (k0_off2_inb k r) (by rw [k0_off2_eq]; exact vec2_eq (by omega) rfl),
    readX_eq arg X (8 * k.val + r.val) 2 (by omega) (k0_off3 k (BitVec.ofNat 32 r.val)) (k0_off3_inb k r) (by rw [k0_off3_eq]; exact vec2_eq (by omega) rfl),
    readX_eq arg X (8 * k.val + r.val) 3 (by omega) (k0_off4 k (BitVec.ofNat 32 r.val)) (k0_off4_inb k r) (by rw [k0_off4_eq]; exact vec2_eq (by omega) rfl)]

theorem bwdStep_eq (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips) (r : Fin 8)
    (p : CH F) : bwdStep arg6 arg X6 X k r p = cellAt (arg6.view.read (Elt F) X6) 1 (arg.view.read (Elt F) X) (31 - (8 * k.val + r.val)) p := by
  have hk : k.val < 4 := Nat.lt_of_lt_of_le k.isLt k0_t1_abs.2.1
  have hr := r.isLt
  unfold bwdStep cellAt
  rw [readW_eq arg6 X6 1 0 ![1, 0, 0] inb_S2x512x2048_S1x512x512_1_0_0 rfl, readW_eq arg6 X6 1 1 ![1, 0, 512] inb_S2x512x2048_S1x512x512_1_0_512 rfl, readW_eq arg6 X6 1 2 ![1, 0, 1024] inb_S2x512x2048_S1x512x512_1_0_1024 rfl, readW_eq arg6 X6 1 3 ![1, 0, 1536] inb_S2x512x2048_S1x512x512_1_0_1536 rfl,
    readX_eq arg X (31 - (8 * k.val + r.val)) 0 (by omega) (k0_off6 k (BitVec.ofNat 32 r.val)) (k0_off6_inb k r) (by rw [k0_off6_eq]; exact vec2_eq (by omega) rfl),
    readX_eq arg X (31 - (8 * k.val + r.val)) 1 (by omega) (k0_off7 k (BitVec.ofNat 32 r.val)) (k0_off7_inb k r) (by rw [k0_off7_eq]; exact vec2_eq (by omega) rfl),
    readX_eq arg X (31 - (8 * k.val + r.val)) 2 (by omega) (k0_off8 k (BitVec.ofNat 32 r.val)) (k0_off8_inb k r) (by rw [k0_off8_eq]; exact vec2_eq (by omega) rfl),
    readX_eq arg X (31 - (8 * k.val + r.val)) 3 (by omega) (k0_off9 k (BitVec.ofNat 32 r.val)) (k0_off9_inb k r) (by rw [k0_off9_eq]; exact vec2_eq (by omega) rfl)]

theorem fwdSteps_eq (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips)
    (p : CH F) : ∀ n, n ≤ 8 → fwdSteps arg6 arg X6 X k (fwdAt (arg6.view.read (Elt F) X6) (arg.view.read (Elt F) X) p (8 * k.val)) n
      = fwdAt (arg6.view.read (Elt F) X6) (arg.view.read (Elt F) X) p (8 * k.val + n)
  | 0, _ => rfl
  | n + 1, h => by
    rw [fwdSteps, fwdSteps_eq arg6 arg X6 X k p n (by omega), fwdStep_eq]
    have e : (Fin.ofNat 8 n).val = n := Nat.mod_eq_of_lt (by omega)
    rw [e]; rfl

theorem bwdSteps_eq (arg6 : Memref sig .tc .vmem S2x512x2048 .bf16) (arg : Memref sig .tc .vmem S1024x2048 .bf16)
    (X6 : BufTy.Contents (Elt F) arg6.view.ty) (X : BufTy.Contents (Elt F) arg.view.ty) (k : Fin k0_t1_loop.trips)
    (p : CH F) : ∀ n, n ≤ 8 → bwdSteps arg6 arg X6 X k (bwdAt (arg6.view.read (Elt F) X6) (arg.view.read (Elt F) X) p (8 * k.val)) n
      = bwdAt (arg6.view.read (Elt F) X6) (arg.view.read (Elt F) X) p (8 * k.val + n)
  | 0, _ => rfl
  | n + 1, h => by
    rw [bwdSteps, bwdSteps_eq arg6 arg X6 X k p n (by omega), bwdStep_eq]
    have e : (Fin.ofNat 8 n).val = n := Nat.mod_eq_of_lt (by omega)
    rw [e]; rfl

/-- The forward output of a block: row group `n` holds the hidden state after step `n`. -/
def outF (W : FVec F S2x512x2048 .bf16) (x : FVec F S1024x2048 .bf16) (p : CH F) : FVec F S1024x512 .bf16 :=
  fun y => (truncf .bf16 (fwdAt W x p ((y 0).val / 32 + 1)).2 bitsLt_bf16_f32 : FVec F S32x512 .bf16)
    (ValueIdx.ix2 (⟨(y 0).val % 32, Nat.mod_lt _ (by decide)⟩ : Fin 32) (⟨(y 1).val, (y 1).isLt⟩ : Fin 512))

/-- The backward output of a block: row group `31 - n` holds the hidden state after step `n`. -/
def outB (W : FVec F S2x512x2048 .bf16) (x : FVec F S1024x2048 .bf16) (p : CH F) : FVec F S1024x512 .bf16 :=
  fun y => (truncf .bf16 (bwdAt W x p (32 - (y 0).val / 32)).2 bitsLt_bf16_f32 : FVec F S32x512 .bf16)
    (ValueIdx.ix2 (⟨(y 0).val % 32, Nat.mod_lt _ (by decide)⟩ : Fin 32) (⟨(y 1).val, (y 1).isLt⟩ : Fin 512))

/-- The stores made so far are right, and cover the first `n` row groups. -/
def GoodF (W : FVec F S2x512x2048 .bf16) (x : FVec F S1024x2048 .bf16) (p : CH F) (L : List (View.Piece (Elt F) S1024x512 .bf16)) (n : ℕ) : Prop :=
  (∀ q ∈ L, ∀ z : q.1.shape.Idx, q.2 z = outF W x p (q.1.emb z)) ∧ ∀ y : S1024x512.Idx, (y 0).val < 32 * n → ∃ q ∈ L, y ∈ q.1.set

/-- The stores made so far are right, and cover the last `n` row groups. -/
def GoodB (W : FVec F S2x512x2048 .bf16) (x : FVec F S1024x2048 .bf16) (p : CH F) (L : List (View.Piece (Elt F) S1024x512 .bf16)) (n : ℕ) : Prop :=
  (∀ q ∈ L, ∀ z : q.1.shape.Idx, q.2 z = outB W x p (q.1.emb z)) ∧ ∀ y : S1024x512.Idx, 1024 ≤ (y 0).val + 32 * n → ∃ q ∈ L, y ∈ q.1.set

theorem GoodF.cons {W : FVec F S2x512x2048 .bf16} {x : FVec F S1024x2048 .bf16} {p : CH F} {L : List (View.Piece (Elt F) S1024x512 .bf16)} {n : ℕ}
    (hn : n < 32) (h : GoodF W x p L n) {off : Fin 2 → ℕ} (inb : ∀ a, off a + S32x512.size a ≤ S1024x512.size a) (ho : off = ![32 * n, 0])
    (v : FVec F S32x512 .bf16) (hv : v = truncf .bf16 (fwdAt W x p (n + 1)).2 bitsLt_bf16_f32) :
    GoodF W x p (⟨Rect.unit (s := S1024x512) off S32x512.size inb, v⟩ :: L) (n + 1) := by
  subst ho hv
  refine ⟨fun q hq z => ?_, fun y hy => ?_⟩
  · rcases List.mem_cons.mp hq with rfl | hq
    · have h0 : (z 0).val < 32 := (z 0).isLt
      have e0 : (((Rect.unit (s := S1024x512) ![32 * n, 0] S32x512.size inb).emb z) 0 : ℕ) = 32 * n + (z 0).val :=
        Rect.idx_unit_val (s := S1024x512) ![32 * n, 0] S32x512.size inb z 0
      have e1 : (((Rect.unit (s := S1024x512) ![32 * n, 0] S32x512.size inb).emb z) 1 : ℕ) = (z 1).val :=
        (Rect.idx_unit_val (s := S1024x512) ![32 * n, 0] S32x512.size inb z 1).trans (Nat.zero_add _)
      unfold outF
      have ed : (((Rect.unit (s := S1024x512) ![32 * n, 0] S32x512.size inb).emb z) 0 : ℕ) / 32 + 1 = n + 1 := by rw [e0]; omega
      rw [ed]
      refine congrArg (truncf .bf16 (fwdAt W x p (n + 1)).2 bitsLt_bf16_f32) (funext fun a => Fin.ext ?_)
      match a with
      | ⟨0, _⟩ => exact (show (z 0).val = (((Rect.unit (s := S1024x512) ![32 * n, 0] S32x512.size inb).emb z) 0 : ℕ) % 32 by rw [e0]; omega)
      | ⟨1, _⟩ => exact e1.symm
    · exact h.1 q hq z
  · by_cases hl : (y 0).val < 32 * n
    · obtain ⟨q, hq, hm⟩ := h.2 y hl
      exact ⟨q, List.mem_cons_of_mem _ hq, hm⟩
    · refine ⟨_, List.mem_cons_self, ?_⟩
      have h1 : (y 1).val < 512 := (y 1).isLt
      refine (Rect.mem_set_unit (inb := inb)).mpr fun a => ?_
      match a with
      | ⟨0, _⟩ => exact (show 32 * n ≤ (y 0).val ∧ (y 0).val < 32 * n + 32 by omega)
      | ⟨1, _⟩ => exact (show 0 ≤ (y 1).val ∧ (y 1).val < 0 + 512 by omega)

theorem GoodB.cons {W : FVec F S2x512x2048 .bf16} {x : FVec F S1024x2048 .bf16} {p : CH F} {L : List (View.Piece (Elt F) S1024x512 .bf16)} {n : ℕ}
    (hn : n < 32) (h : GoodB W x p L n) {off : Fin 2 → ℕ} (inb : ∀ a, off a + S32x512.size a ≤ S1024x512.size a) (ho : off = ![32 * (31 - n), 0])
    (v : FVec F S32x512 .bf16) (hv : v = truncf .bf16 (bwdAt W x p (n + 1)).2 bitsLt_bf16_f32) :
    GoodB W x p (⟨Rect.unit (s := S1024x512) off S32x512.size inb, v⟩ :: L) (n + 1) := by
  subst ho hv
  refine ⟨fun q hq z => ?_, fun y hy => ?_⟩
  · rcases List.mem_cons.mp hq with rfl | hq
    · have h0 : (z 0).val < 32 := (z 0).isLt
      have e0 : (((Rect.unit (s := S1024x512) ![32 * (31 - n), 0] S32x512.size inb).emb z) 0 : ℕ) = 32 * (31 - n) + (z 0).val :=
        Rect.idx_unit_val (s := S1024x512) ![32 * (31 - n), 0] S32x512.size inb z 0
      have e1 : (((Rect.unit (s := S1024x512) ![32 * (31 - n), 0] S32x512.size inb).emb z) 1 : ℕ) = (z 1).val :=
        (Rect.idx_unit_val (s := S1024x512) ![32 * (31 - n), 0] S32x512.size inb z 1).trans (Nat.zero_add _)
      unfold outB
      have ed : 32 - (((Rect.unit (s := S1024x512) ![32 * (31 - n), 0] S32x512.size inb).emb z) 0 : ℕ) / 32 = n + 1 := by rw [e0]; omega
      rw [ed]
      refine congrArg (truncf .bf16 (bwdAt W x p (n + 1)).2 bitsLt_bf16_f32) (funext fun a => Fin.ext ?_)
      match a with
      | ⟨0, _⟩ => exact (show (z 0).val = (((Rect.unit (s := S1024x512) ![32 * (31 - n), 0] S32x512.size inb).emb z) 0 : ℕ) % 32 by rw [e0]; omega)
      | ⟨1, _⟩ => exact e1.symm
    · exact h.1 q hq z
  · by_cases hl : 1024 ≤ (y 0).val + 32 * n
    · obtain ⟨q, hq, hm⟩ := h.2 y hl
      exact ⟨q, List.mem_cons_of_mem _ hq, hm⟩
    · refine ⟨_, List.mem_cons_self, ?_⟩
      have h1 : (y 1).val < 512 := (y 1).isLt
      refine (Rect.mem_set_unit (inb := inb)).mpr fun a => ?_
      match a with
      | ⟨0, _⟩ => exact (show 32 * (31 - n) ≤ (y 0).val ∧ (y 0).val < 32 * (31 - n) + 32 by omega)
      | ⟨1, _⟩ => exact (show 0 ≤ (y 1).val ∧ (y 1).val < 0 + 512 by omega)

set_option maxHeartbeats 1000000 in
set_option maxRecDepth 4096 in
/-- Before trip `k` of the loop: the two states after `8 k` steps, and the stores made are right. -/
theorem st_good (𝒱 : Variants) (c : Dev nD) (bd : Option 𝒱.V) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (arg0 : BitVec 32) (v25 : FVec F S1024x2048 .f32) (X6 : BufTy.Contents (Elt F) arg6.view.ty) (X10 : BufTy.Contents (Elt F) arg10.view.ty) (X11 : BufTy.Contents (Elt F) arg11.view.ty)
    (init : FVec F S32x512 .f32 × FVec F S32x512 .f32 × FVec F S32x512 .f32 × FVec F S32x512 .f32) :
    ∀ k, k ≤ 4 → (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 init k).1 = ((fwdAt (arg6.view.read (Elt F) X6) (arg10.view.read (Elt F) X10) (init.1, init.2.1) (8 * k)).1, (fwdAt (arg6.view.read (Elt F) X6) (arg10.view.read (Elt F) X10) (init.1, init.2.1) (8 * k)).2,
        (bwdAt (arg6.view.read (Elt F) X6) (arg11.view.read (Elt F) X11) (init.2.2.1, init.2.2.2) (8 * k)).1, (bwdAt (arg6.view.read (Elt F) X6) (arg11.view.read (Elt F) X11) (init.2.2.1, init.2.2.2) (8 * k)).2)
      ∧ GoodF (arg6.view.read (Elt F) X6) (arg10.view.read (Elt F) X10) (init.1, init.2.1) (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 init k).2.1 (8 * k)
      ∧ GoodB (arg6.view.read (Elt F) X6) (arg11.view.read (Elt F) X11) (init.2.2.1, init.2.2.2) (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 init k).2.2 (8 * k)
  | 0, _ => ⟨rfl, ⟨fun q hq => absurd hq List.not_mem_nil, fun y hy => absurd hy (by omega)⟩,
      ⟨fun q hq => absurd hq List.not_mem_nil, fun y hy => absurd (y 0).isLt (by show ¬ (y 0).val < 1024; omega)⟩⟩
  | k + 1, hk => by
    obtain ⟨e, hF, hB⟩ := st_good 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 init k (by omega)
    have hkt : k < k0_t1_loop.trips := by rw [show k0_t1_loop.trips = 4 from by decide]; omega
    have hs := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 init ⟨k, hkt⟩
    dsimp only at hs
    rw [hs, e]
    unfold tripR_k0_t1
    rw [trip_yield, trip_fwd, trip_bwd]
    dsimp only [Prod.mk.eta]
    have hf : ∀ n, n ≤ 8 → fwdSteps arg6 arg10 X6 X10 ⟨k, hkt⟩ (fwdAt (arg6.view.read (Elt F) X6) (arg10.view.read (Elt F) X10) (init.1, init.2.1) (8 * k)) n = _ :=
      fun n hn => fwdSteps_eq arg6 arg10 X6 X10 ⟨k, hkt⟩ (init.1, init.2.1) n hn
    have hb : ∀ n, n ≤ 8 → bwdSteps arg6 arg11 X6 X11 ⟨k, hkt⟩ (bwdAt (arg6.view.read (Elt F) X6) (arg11.view.read (Elt F) X11) (init.2.2.1, init.2.2.2) (8 * k)) n = _ :=
      fun n hn => bwdSteps_eq arg6 arg11 X6 X11 ⟨k, hkt⟩ (init.2.2.1, init.2.2.2) n hn
    rw [hf 1 (by omega), hf 2 (by omega), hf 3 (by omega), hf 4 (by omega), hf 5 (by omega), hf 6 (by omega), hf 7 (by omega), hf 8 (by omega), hb 1 (by omega), hb 2 (by omega), hb 3 (by omega), hb 4 (by omega), hb 5 (by omega), hb 6 (by omega), hb 7 (by omega), hb 8 (by omega)]
    refine ⟨rfl, ?_, ?_⟩
    · show GoodF _ _ _ (_ :: _ :: _ :: _ :: _ :: _ :: _ :: _ :: _) (8 * k + 7 + 1)
      refine GoodF.cons (n := 8 * k + 7) (by omega) ?_ _ ((k0_off5_eq ⟨k, hkt⟩ 7).trans (vec2_eq (by show 256 * k + 32 * 7 = _; omega) rfl)) _ rfl
      refine GoodF.cons (n := 8 * k + 6) (by omega) ?_ _ ((k0_off5_eq ⟨k, hkt⟩ 6).trans (vec2_eq (by show 256 * k + 32 * 6 = _; omega) rfl)) _ rfl
      refine GoodF.cons (n := 8 * k + 5) (by omega) ?_ _ ((k0_off5_eq ⟨k, hkt⟩ 5).trans (vec2_eq (by show 256 * k + 32 * 5 = _; omega) rfl)) _ rfl
      refine GoodF.cons (n := 8 * k + 4) (by omega) ?_ _ ((k0_off5_eq ⟨k, hkt⟩ 4).trans (vec2_eq (by show 256 * k + 32 * 4 = _; omega) rfl)) _ rfl
      refine GoodF.cons (n := 8 * k + 3) (by omega) ?_ _ ((k0_off5_eq ⟨k, hkt⟩ 3).trans (vec2_eq (by show 256 * k + 32 * 3 = _; omega) rfl)) _ rfl
      refine GoodF.cons (n := 8 * k + 2) (by omega) ?_ _ ((k0_off5_eq ⟨k, hkt⟩ 2).trans (vec2_eq (by show 256 * k + 32 * 2 = _; omega) rfl)) _ rfl
      refine GoodF.cons (n := 8 * k + 1) (by omega) ?_ _ ((k0_off5_eq ⟨k, hkt⟩ 1).trans (vec2_eq (by show 256 * k + 32 * 1 = _; omega) rfl)) _ rfl
      refine GoodF.cons (n := 8 * k + 0) (by omega) ?_ _ ((k0_off5_eq ⟨k, hkt⟩ 0).trans (vec2_eq (by show 256 * k + 32 * 0 = _; omega) rfl)) _ rfl
      exact hF
    · show GoodB _ _ _ (_ :: _ :: _ :: _ :: _ :: _ :: _ :: _ :: _) (8 * k + 7 + 1)
      refine GoodB.cons (n := 8 * k + 7) (by omega) ?_ _ ((k0_off10_eq ⟨k, hkt⟩ 7).trans (vec2_eq (by show 992 - (256 * k + 32 * 7) = _; omega) rfl)) _ rfl
      refine GoodB.cons (n := 8 * k + 6) (by omega) ?_ _ ((k0_off10_eq ⟨k, hkt⟩ 6).trans (vec2_eq (by show 992 - (256 * k + 32 * 6) = _; omega) rfl)) _ rfl
      refine GoodB.cons (n := 8 * k + 5) (by omega) ?_ _ ((k0_off10_eq ⟨k, hkt⟩ 5).trans (vec2_eq (by show 992 - (256 * k + 32 * 5) = _; omega) rfl)) _ rfl
      refine GoodB.cons (n := 8 * k + 4) (by omega) ?_ _ ((k0_off10_eq ⟨k, hkt⟩ 4).trans (vec2_eq (by show 992 - (256 * k + 32 * 4) = _; omega) rfl)) _ rfl
      refine GoodB.cons (n := 8 * k + 3) (by omega) ?_ _ ((k0_off10_eq ⟨k, hkt⟩ 3).trans (vec2_eq (by show 992 - (256 * k + 32 * 3) = _; omega) rfl)) _ rfl
      refine GoodB.cons (n := 8 * k + 2) (by omega) ?_ _ ((k0_off10_eq ⟨k, hkt⟩ 2).trans (vec2_eq (by show 992 - (256 * k + 32 * 2) = _; omega) rfl)) _ rfl
      refine GoodB.cons (n := 8 * k + 1) (by omega) ?_ _ ((k0_off10_eq ⟨k, hkt⟩ 1).trans (vec2_eq (by show 992 - (256 * k + 32 * 1) = _; omega) rfl)) _ rfl
      refine GoodB.cons (n := 8 * k + 0) (by omega) ?_ _ ((k0_off10_eq ⟨k, hkt⟩ 0).trans (vec2_eq (by show 992 - (256 * k + 32 * 0) = _; omega) rfl)) _ rfl
      exact hB

end Cert.KernelIdeal.Gen

end
-- ==== Proof.Hand.Body.lean ====
module

public import proofs.«01_k».proof.Proof.Hand.Cell
public import proofs.«01_k».proof.Proof.Gen.KernelIdeal.Frame
/- The layer kernel's body run once per case of its one branch. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (its one branch), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x2048 .bf16 := Memref.whole cc0_scratch0
abbrev scM0_1 : Memref sig .tc .vmem S1024x2048 .bf16 := Memref.whole cc0_scratch1
abbrev scM0_2 : Memref sig .tc .vmem S2x32x512 .f32 := Memref.whole cc0_scratch2
abbrev scM0_3 : Memref sig .tc .vmem S2x32x512 .f32 := Memref.whole cc0_scratch3
/-- The scratch `arg12` the kernel carries between points, as a view: what it holds is stated through it. -/
abbrev VS0_2 : View sig .tc .vmem S2x32x512 .f32 := scM0_2.view
/-- The scratch `arg13` the kernel carries between points, as a view: what it holds is stated through it. -/
abbrev VS0_3 : View sig .tc .vmem S2x32x512 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 2000000 in
/-- The body at the first grid point, where it first resets the carried state: the
    pieces it leaves in the two outputs and in the carried state. -/
noncomputable def layerRun_A (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (hc0 : cond0_0 i)
    (x0 : Vec F S1024x512 .bf16) (x1 : Vec F S1024x512 .bf16) (x2 : Vec F S1024x512 .bf16) (x3 : Vec F S1024x512 .bf16) (x4 : Vec F S2x1024x2048 .bf16) (x5 : Vec F S2x512x2048 .bf16) (x6 : Vec F S2x1x2048 .f32) :
    Σ' (L8 : List (View.Piece (Elt F) S1024x512 .bf16)) (L9 : List (View.Piece (Elt F) S1024x512 .bf16)) (LS2 : List (View.Piece (Elt F) S2x32x512 .f32)), { LS3 : List (View.Piece (Elt F) S2x32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__lstm_layer_kernel4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__lstm_layer_kernel4_eq_skeleton]; unfold cc0__lstm_layer_kernel4_skel
    simp only [k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

set_option maxHeartbeats 2000000 in
/-- The body at a later grid point, from the carried state the point before left: the
    pieces it leaves in the two outputs and in the carried state. -/
noncomputable def layerRun_B (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (hc0 : ¬cond0_0 i)
    (x0 : Vec F S1024x512 .bf16) (x1 : Vec F S1024x512 .bf16) (x2 : Vec F S1024x512 .bf16) (x3 : Vec F S1024x512 .bf16) (x4 : Vec F S2x1024x2048 .bf16) (x5 : Vec F S2x512x2048 .bf16) (x6 : Vec F S2x1x2048 .f32) (xs2 : Vec F S2x32x512 .f32) (xs3 : Vec F S2x32x512 .f32) :
    Σ' (L8 : List (View.Piece (Elt F) S1024x512 .bf16)) (L9 : List (View.Piece (Elt F) S1024x512 .bf16)) (LS2 : List (View.Piece (Elt F) S2x32x512 .f32)), { LS3 : List (View.Piece (Elt F) S2x32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs2 ∗ owns (c : Thread nD τ) arg13 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__lstm_layer_kernel4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__lstm_layer_kernel4_eq_skeleton]; unfold cc0__lstm_layer_kernel4_skel
    simp only [k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%fs2, %hfs2, HS2⟩, ⟨%fs3, %hfs3, HS3⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg12.eq_unread hfs2
    obtain rfl := harg13.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.KernelIdeal.Gen

end
-- ==== Proof.Hand.Block.lean ====
module

public import proofs.«01_k».proof.Proof.Hand.Loop
public import proofs.«01_k».proof.Proof.Hand.Body
/- What one grid point of the layer kernel leaves, as functions of what it reads: the blocks of inputs, the weights,
   the bias and the state carried from the grid point before. -/
@[expose] public section

set_option maxRecDepth 16384

noncomputable section

namespace Cert.KernelIdeal.Gen

open Idealize.ShloMosaic Idealize.ShloMosaic.TcCoe

variable {F : FTy → Type} [FloatOps F]

/-- One direction's half of a pair of states. -/
def half (s : FVec F S2x32x512 .f32) (d : Fin 2) : FVec F S32x512 .f32 :=
  fun i => s (ValueIdx.ix3 d (⟨(i 0).val, (i 0).isLt⟩ : Fin 32) (⟨(i 1).val, (i 1).isLt⟩ : Fin 512))

/-- Two directions' states side by side. -/
def stk (a b : FVec F S32x512 .f32) : FVec F S2x32x512 .f32 :=
  fun y => if (y 0).val = 0 then a (ValueIdx.ix2 (⟨(y 1).val, (y 1).isLt⟩ : Fin 32) (⟨(y 2).val, (y 2).isLt⟩ : Fin 512))
    else b (ValueIdx.ix2 (⟨(y 1).val, (y 1).isLt⟩ : Fin 32) (⟨(y 2).val, (y 2).isLt⟩ : Fin 512))

theorem half_stk_0 (a b : FVec F S32x512 .f32) : half (stk a b) 0 = a :=
  funext fun i => congrArg a (ValueIdx.eq_ix2 (i : (a : Fin 2) → Fin (S32x512.size a))).symm

theorem half_stk_1 (a b : FVec F S32x512 .f32) : half (stk a b) 1 = b :=
  funext fun i => congrArg b (ValueIdx.eq_ix2 (i : (a : Fin 2) → Fin (S32x512.size a))).symm

/-- The zero pair of states. -/
def zst : FVec F S2x32x512 .f32 := fun _ => Scalar.ofBits .f32 0#32

/-- The input weights of direction `d` for the input's half `s`. -/
def wxsl (wx : FVec F S2x1024x2048 .bf16) (d s : Fin 2) : FVec F S512x2048 .bf16 :=
  fun i => wx (ValueIdx.ix3 d (⟨512 * s.val + (i 0).val, by have := s.isLt; have : (i 0).val < 512 := (i 0).isLt; omega⟩ : Fin 1024) (⟨(i 1).val, (i 1).isLt⟩ : Fin 2048))

/-- The bias of direction `d`, the same in every row. -/
def bbc (b : FVec F S2x1x2048 .f32) (d : Fin 2) : FVec F S1024x2048 .f32 :=
  fun i => b (ValueIdx.ix3 d (0 : Fin 1) (⟨(i 1).val, (i 1).isLt⟩ : Fin 2048))

/-- The input projections of a block. -/
def proj (l r : FVec F S1024x512 .bf16) (wx : FVec F S2x1024x2048 .bf16) (b : FVec F S2x1x2048 .f32) (d : Fin 2) : FVec F S1024x2048 .bf16 :=
  truncf .bf16 (addf (addf (matmul dot_S1024x512_S512x2048_S1024x2048_1_0_0_1_n_n none l (wxsl wx d 0) (constant S1024x2048 .f32 0#32))
    (matmul dot_S1024x512_S512x2048_S1024x2048_1_0_0_1_n_n none r (wxsl wx d 1) (constant S1024x2048 .f32 0#32))) (bbc b d)) bitsLt_bf16_f32

theorem read5_eq (arg5 : Memref sig .tc .vmem S2x1024x2048 .bf16) (harg5 : arg5.IsWhole) (x4 : FVec F S2x1024x2048 .bf16) (d s : Fin 2)
    (off : Fin 3 → ℕ) (inb : ∀ a, off a + S1x512x2048.size a ≤ S2x1024x2048.size a) (h : off = ![d.val, 512 * s.val, 0]) :
    shapeCast S512x2048 (View.readAt (Elt F) arg5.view (Rect.unit (s := S2x1024x2048) off S1x512x2048.size inb).toLoadRect (harg5.unread x4) : S1x512x2048.Idx → Elt F .bf16) shapeCasts_S1x512x2048_S512x2048
      = wxsl x4 d s := by
  subst h
  rw [View.readAt_eq_ld, harg5.read_unread]
  funext i
  refine (shapeCast_dropUnit_apply (n := 2) ![512, 2048] _ _ i).trans (congrArg x4 (funext fun a => Fin.ext ?_))
  rw [Rect.idx_unit_val]
  match a with
  | ⟨0, _⟩ => rfl
  | ⟨1, _⟩ => rfl
  | ⟨2, _⟩ => exact Nat.zero_add _

theorem read7_eq (arg7 : Memref sig .tc .vmem S2x1x2048 .f32) (harg7 : arg7.IsWhole) (x6 : FVec F S2x1x2048 .f32) (d : Fin 2)
    (off : Fin 3 → ℕ) (inb : ∀ a, off a + S1x1x2048.size a ≤ S2x1x2048.size a) (h : off = ![d.val, 0, 0]) :
    broadcastTo S1024x2048 (shapeCast S1x2048 (View.readAt (Elt F) arg7.view (Rect.unit (s := S2x1x2048) off S1x1x2048.size inb).toLoadRect (harg7.unread x6) : S1x1x2048.Idx → Elt F .f32) shapeCasts_S1x1x2048_S1x2048) broadcasts_S1x2048_S1024x2048
      = bbc x6 d := by
  subst h
  rw [View.readAt_eq_ld, harg7.read_unread]
  funext i
  refine (broadcastTo_apply _ _ _ (ValueIdx.ix2 (0 : Fin 1) (⟨(i 1).val, (i 1).isLt⟩ : Fin 2048)) fun a => ?_).trans ?_
  · match a with
    | ⟨0, _⟩ => rfl
    | ⟨1, _⟩ => rfl
  refine (shapeCast_dropUnit_apply (n := 2) ![1, 2048] _ _ _).trans (congrArg x6 (funext fun a => Fin.ext ?_))
  rw [Rect.idx_unit_val]
  match a with
  | ⟨0, _⟩ => rfl
  | ⟨1, _⟩ => rfl
  | ⟨2, _⟩ => exact Nat.zero_add _

theorem read_whole (arg : Memref sig .tc .vmem S1024x512 .bf16) (harg : arg.IsWhole) (x : FVec F S1024x512 .bf16)
    (off : Fin 2 → ℕ) (inb : ∀ a, off a + S1024x512.size a ≤ S1024x512.size a) (h : off = fun _ => 0) :
    (View.readAt (Elt F) arg.view (Rect.unit (s := S1024x512) off S1024x512.size inb).toLoadRect (harg.unread x) : S1024x512.Idx → Elt F .bf16) = x := by
  rw [View.readAt_eq_ld, harg.read_unread, View.ld_unit_zero h]

theorem vec2_zero : (![0, 0] : Fin 2 → ℕ) = fun _ => 0 := funext fun a => match a with | ⟨0, _⟩ => rfl | ⟨1, _⟩ => rfl

theorem vec3_zero : (![0, 0, 0] : Fin 3 → ℕ) = fun _ => 0 := funext fun a => match a with | ⟨0, _⟩ => rfl | ⟨1, _⟩ => rfl | ⟨2, _⟩ => rfl

/-- Two states stored one under the other read back side by side, whatever was there. -/
theorem canon_stk (u v : FVec F S32x512 .f32) (inb : ∀ a, (![1, 0, 0] : Fin 3 → ℕ) a + S1x32x512.size a ≤ S2x32x512.size a)
    (inb' : ∀ a, (![0, 0, 0] : Fin 3 → ℕ) a + S1x32x512.size a ≤ S2x32x512.size a) (L : List (View.Piece (Elt F) S2x32x512 .f32)) :
    View.canon ((⟨Rect.unit (s := S2x32x512) ![1, 0, 0] S1x32x512.size inb, shapeCast S1x32x512 v shapeCasts_S32x512_S1x32x512⟩ : View.Piece (Elt F) S2x32x512 .f32)
      :: (⟨Rect.unit (s := S2x32x512) ![0, 0, 0] S1x32x512.size inb', shapeCast S1x32x512 u shapeCasts_S32x512_S1x32x512⟩ : View.Piece (Elt F) S2x32x512 .f32) :: L) = stk u v := by
  funext y
  have h0 : (y 0).val < 2 := (y 0).isLt
  by_cases h : (y 0).val = 0
  · rw [View.canon_cons_of_not_mem]
    · have ey : y = (Rect.unit (s := S2x32x512) ![0, 0, 0] S1x32x512.size inb').emb (ValueIdx.ix3 (0 : Fin 1) (⟨(y 1).val, (y 1).isLt⟩ : Fin 32) (⟨(y 2).val, (y 2).isLt⟩ : Fin 512)) := by
        funext a
        refine Fin.ext ((?_ : _ = _).trans (Rect.idx_unit_val (s := S2x32x512) ![0, 0, 0] S1x32x512.size inb' _ a).symm)
        match a with
        | ⟨0, _⟩ => exact h
        | ⟨1, _⟩ => exact (Nat.zero_add _).symm
        | ⟨2, _⟩ => exact (Nat.zero_add _).symm
      have es : stk u v y = u (ValueIdx.ix2 (⟨(y 1).val, (y 1).isLt⟩ : Fin 32) (⟨(y 2).val, (y 2).isLt⟩ : Fin 512)) := if_pos h
      rw [es]
      refine (congrArg _ ey).trans ((View.canon_cons_emb _ _ _ _).trans ((shapeCast_addUnit_apply (n := 2) ![32, 512] _ _ _).trans (congrArg u (funext fun a => ?_))))
      match a with
      | ⟨0, _⟩ => rfl
      | ⟨1, _⟩ => rfl
    · intro hm
      have := (Rect.mem_set_unit (inb := inb)).mp hm (0 : Fin 3)
      have h1 : 1 ≤ (y 0).val := this.1
      omega
  · have ey : y = (Rect.unit (s := S2x32x512) ![1, 0, 0] S1x32x512.size inb).emb (ValueIdx.ix3 (0 : Fin 1) (⟨(y 1).val, (y 1).isLt⟩ : Fin 32) (⟨(y 2).val, (y 2).isLt⟩ : Fin 512)) := by
      funext a
      refine Fin.ext ((?_ : _ = _).trans (Rect.idx_unit_val (s := S2x32x512) ![1, 0, 0] S1x32x512.size inb _ a).symm)
      match a with
      | ⟨0, _⟩ => exact (show (y 0).val = 1 + 0 by omega)
      | ⟨1, _⟩ => exact (Nat.zero_add _).symm
      | ⟨2, _⟩ => exact (Nat.zero_add _).symm
    have es : stk u v y = v (ValueIdx.ix2 (⟨(y 1).val, (y 1).isLt⟩ : Fin 32) (⟨(y 2).val, (y 2).isLt⟩ : Fin 512)) := if_neg h
    rw [es]
    refine (congrArg _ ey).trans ((View.canon_cons_emb _ _ _ _).trans ((shapeCast_addUnit_apply (n := 2) ![32, 512] _ _ _).trans (congrArg v (funext fun a => ?_))))
    match a with
    | ⟨0, _⟩ => rfl
    | ⟨1, _⟩ => rfl

/-- A half of the carried state read back. -/
theorem readH (arg : Memref sig .tc .vmem S2x32x512 .f32) (harg : arg.IsWhole) (xs : FVec F S2x32x512 .f32) (d : Fin 2)
    (off : Fin 3 → ℕ) (inb : ∀ a, off a + S1x32x512.size a ≤ S2x32x512.size a) (h : off = ![d.val, 0, 0]) :
    shapeCast S32x512 (View.readAt (Elt F) arg.view (Rect.unit (s := S2x32x512) off S1x32x512.size inb).toLoadRect (harg.unread xs) : S1x32x512.Idx → Elt F .f32) shapeCasts_S1x32x512_S32x512
      = half xs d := by
  subst h
  rw [View.readAt_eq_ld, harg.read_unread]
  funext i
  refine (shapeCast_dropUnit_apply (n := 2) ![32, 512] _ _ i).trans (congrArg xs (funext fun a => Fin.ext ?_))
  rw [Rect.idx_unit_val]
  match a with
  | ⟨0, _⟩ => rfl
  | ⟨1, _⟩ => exact Nat.zero_add _
  | ⟨2, _⟩ => exact Nat.zero_add _

/-- A half of the state just reset is zero. -/
theorem readZ (arg : Memref sig .tc .vmem S2x32x512 .f32) (d : Fin 2)
    (off : Fin 3 → ℕ) (inb : ∀ a, off a + S1x32x512.size a ≤ S2x32x512.size a) (_ : off = ![d.val, 0, 0]) :
    shapeCast S32x512 (arg.view.readCov [(⟨Rect.unit (s := S2x32x512) ![0, 0, 0] S2x32x512.size inb_S2x32x512_S2x32x512_0_0_0, k0_pay102⟩ : View.Piece (Elt F) S2x32x512 .f32)]
      (Rect.unit (s := S2x32x512) off S1x32x512.size inb).toLoadRect : S1x32x512.Idx → Elt F .f32) shapeCasts_S1x32x512_S32x512
      = half zst d := by
  rw [View.readCov_eq_canon', View.canon_unit_zero vec3_zero]
  rfl

theorem projF_read (arg10 : Memref sig .tc .vmem S1024x2048 .bf16) (arg1 : Memref sig .tc .vmem S1024x512 .bf16) (harg1 : arg1.IsWhole) (arg2 : Memref sig .tc .vmem S1024x512 .bf16) (harg2 : arg2.IsWhole)
    (arg5 : Memref sig .tc .vmem S2x1024x2048 .bf16) (harg5 : arg5.IsWhole) (arg7 : Memref sig .tc .vmem S2x1x2048 .f32) (harg7 : arg7.IsWhole)
    (x0 x1 : FVec F S1024x512 .bf16) (x4 : FVec F S2x1024x2048 .bf16) (x6 : FVec F S2x1x2048 .f32) :
    arg10.view.read (Elt F) (arg10.view.writes (Elt F) arg10.view.junk [(⟨Rect.unit (s := S1024x2048) ![0, 0] S1024x2048.size inb_S1024x2048_S1024x2048_0_0,
      k0_pay99 (View.readAt (Elt F) arg1.view (Rect.unit (s := S1024x512) ![0, 0] S1024x512.size inb_S1024x512_S1024x512_0_0).toLoadRect (harg1.unread x0))
        (View.readAt (Elt F) arg5.view (Rect.unit (s := S2x1024x2048) ![0, 0, 0] S1x512x2048.size inb_S2x1024x2048_S1x512x2048_0_0_0).toLoadRect (harg5.unread x4))
        (View.readAt (Elt F) arg2.view (Rect.unit (s := S1024x512) ![0, 0] S1024x512.size inb_S1024x512_S1024x512_0_0).toLoadRect (harg2.unread x1))
        (View.readAt (Elt F) arg5.view (Rect.unit (s := S2x1024x2048) ![0, 512, 0] S1x512x2048.size inb_S2x1024x2048_S1x512x2048_0_512_0).toLoadRect (harg5.unread x4))
        (View.readAt (Elt F) arg7.view (Rect.unit (s := S2x1x2048) ![0, 0, 0] S1x1x2048.size inb_S2x1x2048_S1x1x2048_0_0_0).toLoadRect (harg7.unread x6))⟩ : View.Piece (Elt F) S1024x2048 .bf16)])
      = proj x0 x1 x4 x6 0 := by
  rw [View.read_writes_junk_eq_canon, View.canon_unit_zero vec2_zero]
  unfold k0_pay99
  dsimp only
  rw [read_whole arg1 harg1 x0 _ _ vec2_zero, read_whole arg2 harg2 x1 _ _ vec2_zero, read5_eq arg5 harg5 x4 0 0 ![0, 0, 0] inb_S2x1024x2048_S1x512x2048_0_0_0 rfl,
    read5_eq arg5 harg5 x4 0 1 ![0, 512, 0] inb_S2x1024x2048_S1x512x2048_0_512_0 rfl, read7_eq arg7 harg7 x6 0 ![0, 0, 0] inb_S2x1x2048_S1x1x2048_0_0_0 rfl]
  repeat rw [shapeCast_self]
  rfl

theorem projB_read (arg11 : Memref sig .tc .vmem S1024x2048 .bf16) (arg3 : Memref sig .tc .vmem S1024x512 .bf16) (harg3 : arg3.IsWhole) (arg4 : Memref sig .tc .vmem S1024x512 .bf16) (harg4 : arg4.IsWhole)
    (arg5 : Memref sig .tc .vmem S2x1024x2048 .bf16) (harg5 : arg5.IsWhole) (arg7 : Memref sig .tc .vmem S2x1x2048 .f32) (harg7 : arg7.IsWhole)
    (x2 x3 : FVec F S1024x512 .bf16) (x4 : FVec F S2x1024x2048 .bf16) (x6 : FVec F S2x1x2048 .f32) :
    arg11.view.read (Elt F) (arg11.view.writes (Elt F) arg11.view.junk [(⟨Rect.unit (s := S1024x2048) ![0, 0] S1024x2048.size inb_S1024x2048_S1024x2048_0_0,
      k0_pay101 (k0_pay100 (View.readAt (Elt F) arg3.view (Rect.unit (s := S1024x512) ![0, 0] S1024x512.size inb_S1024x512_S1024x512_0_0).toLoadRect (harg3.unread x2))
        (View.readAt (Elt F) arg5.view (Rect.unit (s := S2x1024x2048) ![1, 0, 0] S1x512x2048.size inb_S2x1024x2048_S1x512x2048_1_0_0).toLoadRect (harg5.unread x4))
        (View.readAt (Elt F) arg4.view (Rect.unit (s := S1024x512) ![0, 0] S1024x512.size inb_S1024x512_S1024x512_0_0).toLoadRect (harg4.unread x3))
        (View.readAt (Elt F) arg5.view (Rect.unit (s := S2x1024x2048) ![1, 512, 0] S1x512x2048.size inb_S2x1024x2048_S1x512x2048_1_512_0).toLoadRect (harg5.unread x4)))
        (View.readAt (Elt F) arg7.view (Rect.unit (s := S2x1x2048) ![1, 0, 0] S1x1x2048.size inb_S2x1x2048_S1x1x2048_1_0_0).toLoadRect (harg7.unread x6))⟩ : View.Piece (Elt F) S1024x2048 .bf16)])
      = proj x2 x3 x4 x6 1 := by
  rw [View.read_writes_junk_eq_canon, View.canon_unit_zero vec2_zero]
  unfold k0_pay101 k0_pay100
  dsimp only
  rw [read_whole arg3 harg3 x2 _ _ vec2_zero, read_whole arg4 harg4 x3 _ _ vec2_zero, read5_eq arg5 harg5 x4 1 0 ![1, 0, 0] inb_S2x1024x2048_S1x512x2048_1_0_0 rfl,
    read5_eq arg5 harg5 x4 1 1 ![1, 512, 0] inb_S2x1024x2048_S1x512x2048_1_512_0 rfl, read7_eq arg7 harg7 x6 1 ![1, 0, 0] inb_S2x1x2048_S1x1x2048_1_0_0 rfl]
  repeat rw [shapeCast_self]
  rfl

/-- Right pieces that cover read back as the block of outputs. -/
theorem GoodF.read {W : FVec F S2x512x2048 .bf16} {x : FVec F S1024x2048 .bf16} {p : CH F} {L : List (View.Piece (Elt F) S1024x512 .bf16)}
    (h : GoodF W x p L 32) (v : View sig .tc .vmem S1024x512 .bf16) (f : BufTy.Contents (Elt F) v.ty) : v.read (Elt F) (v.writes (Elt F) f L) = outF W x p := by
  have hc : ∀ y : S1024x512.Idx, ∃ q ∈ L, y ∈ q.1.set := fun y => h.2 y (by have : (y 0).val < 1024 := (y 0).isLt; omega)
  rw [View.read_writes_eq_canon v f L hc]
  exact funext fun y => View.canon_apply_of_pieces (outF W x p) L h.1 y (hc y)

theorem GoodB.read {W : FVec F S2x512x2048 .bf16} {x : FVec F S1024x2048 .bf16} {p : CH F} {L : List (View.Piece (Elt F) S1024x512 .bf16)}
    (h : GoodB W x p L 32) (v : View sig .tc .vmem S1024x512 .bf16) (f : BufTy.Contents (Elt F) v.ty) : v.read (Elt F) (v.writes (Elt F) f L) = outB W x p := by
  have hc : ∀ y : S1024x512.Idx, ∃ q ∈ L, y ∈ q.1.set := fun y => h.2 y (by have : (y 0).val < 1024 := (y 0).isLt; omega)
  rw [View.read_writes_eq_canon v f L hc]
  exact funext fun y => View.canon_apply_of_pieces (outB W x p) L h.1 y (hc y)

/-- The whole loop: the states it ends with and the stores it makes. -/
theorem loop_out (𝒱 : Variants) (c : Dev nD) (bd : Option 𝒱.V) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (arg0 : BitVec 32) (v25 : FVec F S1024x2048 .f32) (X6 : BufTy.Contents (Elt F) arg6.view.ty) (X10 : BufTy.Contents (Elt F) arg10.view.ty) (X11 : BufTy.Contents (Elt F) arg11.view.ty)
    (W : FVec F S2x512x2048 .bf16) (xf xb : FVec F S1024x2048 .bf16) (a0 a1 a2 a3 : FVec F S32x512 .f32)
    (hW : arg6.view.read (Elt F) X6 = W) (hx : arg10.view.read (Elt F) X10 = xf) (hy : arg11.view.read (Elt F) X11 = xb)
    {b0 b1 b2 b3 : FVec F S32x512 .f32} (h0 : b0 = a0) (h1 : b1 = a1) (h2 : b2 = a2) (h3 : b3 = a3) :
    let st := st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 (b0, b1, b2, b3) (Scf.trips 0#32 (Scalar.addi 0#32 4#32) 1#32)
    st.1 = ((fwdAt W xf (a0, a1) 32).1, (fwdAt W xf (a0, a1) 32).2, (bwdAt W xb (a2, a3) 32).1, (bwdAt W xb (a2, a3) 32).2)
      ∧ GoodF W xf (a0, a1) st.2.1 32 ∧ GoodB W xb (a2, a3) st.2.2 32 := by
  intro st
  have e4 : Scf.trips 0#32 (Scalar.addi 0#32 4#32) 1#32 = 4 := by decide
  have h := st_good 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 (b0, b1, b2, b3) 4 (le_refl 4)
  subst h0 h1 h2 h3
  rw [hW, hx, hy] at h
  show (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v25 X6 X10 X11 (b0, b1, b2, b3) (Scf.trips 0#32 (Scalar.addi 0#32 4#32) 1#32)).1 = _ ∧ _
  dsimp only [st]
  rw [e4]
  exact h

set_option maxHeartbeats 2000000 in
/-- What the body leaves at the first grid point: the two blocks of outputs and the two directions' states. -/
theorem runA_good (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (hc0 : cond0_0 i)
    (x0 : Vec F S1024x512 .bf16) (x1 : Vec F S1024x512 .bf16) (x2 : Vec F S1024x512 .bf16) (x3 : Vec F S1024x512 .bf16) (x4 : Vec F S2x1024x2048 .bf16) (x5 : Vec F S2x512x2048 .bf16) (x6 : Vec F S2x1x2048 .f32) :
    GoodF x5 (proj x0 x1 x4 x6 0) (half zst 0, half zst 0) (layerRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 32 ∧ GoodB x5 (proj x2 x3 x4 x6 1) (half zst 1, half zst 1) (layerRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 32
      ∧ View.canon (layerRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 = stk (fwdAt x5 (proj x0 x1 x4 x6 0) (half zst 0, half zst 0) 32).1 (bwdAt x5 (proj x2 x3 x4 x6 1) (half zst 1, half zst 1) 32).1
      ∧ View.canon (layerRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 = stk (fwdAt x5 (proj x0 x1 x4 x6 0) (half zst 0, half zst 0) 32).2 (bwdAt x5 (proj x2 x3 x4 x6 1) (half zst 1, half zst 1) 32).2 := by
  unfold layerRun_A
  dsimp only
  have e := fun v25 => loop_out Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) v25 (harg6.unread x5)
    (arg10.view.writes (Elt F) arg10.view.junk (layerRun_A.sl.HS0_1 c arg1 harg1 arg2 harg2 arg5 harg5 arg7 harg7 x0 x1 x4 x6))
    (arg11.view.writes (Elt F) arg11.view.junk (layerRun_A.sl.HS1_1 c arg3 harg3 arg4 harg4 arg5 harg5 arg7 harg7 x2 x3 x4 x6))
    x5 (proj x0 x1 x4 x6 0) (proj x2 x3 x4 x6 1) (half zst 0) (half zst 0) (half zst 1) (half zst 1)
    (harg6.read_unread x5)
    (projF_read arg10 arg1 harg1 arg2 harg2 arg5 harg5 arg7 harg7 x0 x1 x4 x6)
    (projB_read arg11 arg3 harg3 arg4 harg4 arg5 harg5 arg7 harg7 x2 x3 x4 x6)
    (readZ arg12 0 ![0, 0, 0] inb_S2x32x512_S1x32x512_0_0_0 rfl) (readZ arg13 0 ![0, 0, 0] inb_S2x32x512_S1x32x512_0_0_0 rfl)
    (readZ arg12 1 ![1, 0, 0] inb_S2x32x512_S1x32x512_1_0_0 rfl) (readZ arg13 1 ![1, 0, 0] inb_S2x32x512_S1x32x512_1_0_0 rfl)
  exact ⟨(e _).2.1, (e _).2.2,
    (canon_stk _ _ _ _ _).trans (congrArg₂ stk (congrArg (fun q => q.1) (e _).1) (congrArg (fun q => q.2.2.1) (e _).1)),
    (canon_stk _ _ _ _ _).trans (congrArg₂ stk (congrArg (fun q => q.2.1) (e _).1) (congrArg (fun q => q.2.2.2) (e _).1))⟩

set_option maxHeartbeats 2000000 in
/-- What the body leaves at a later grid point: the two blocks of outputs and the two directions' states. -/
theorem runB_good (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2x1024x2048 .bf16) (harg5 : arg5.IsWhole) (arg6 : Memref sig .tc .vmem S2x512x2048 .bf16) (harg6 : arg6.IsWhole) (arg7 : Memref sig .tc .vmem S2x1x2048 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2x32x512 .f32) (harg12 : arg12.IsWhole) (arg13 : Memref sig .tc .vmem S2x32x512 .f32) (harg13 : arg13.IsWhole) (hc0 : ¬cond0_0 i)
    (x0 : Vec F S1024x512 .bf16) (x1 : Vec F S1024x512 .bf16) (x2 : Vec F S1024x512 .bf16) (x3 : Vec F S1024x512 .bf16) (x4 : Vec F S2x1024x2048 .bf16) (x5 : Vec F S2x512x2048 .bf16) (x6 : Vec F S2x1x2048 .f32) (xs2 : Vec F S2x32x512 .f32) (xs3 : Vec F S2x32x512 .f32) :
    GoodF x5 (proj x0 x1 x4 x6 0) (half xs2 0, half xs3 0) (layerRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 xs3).1 32 ∧ GoodB x5 (proj x2 x3 x4 x6 1) (half xs2 1, half xs3 1) (layerRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 xs3).2.1 32
      ∧ View.canon (layerRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 xs3).2.2.1 = stk (fwdAt x5 (proj x0 x1 x4 x6 0) (half xs2 0, half xs3 0) 32).1 (bwdAt x5 (proj x2 x3 x4 x6 1) (half xs2 1, half xs3 1) 32).1
      ∧ View.canon (layerRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 xs3).2.2.2.1 = stk (fwdAt x5 (proj x0 x1 x4 x6 0) (half xs2 0, half xs3 0) 32).2 (bwdAt x5 (proj x2 x3 x4 x6 1) (half xs2 1, half xs3 1) 32).2 := by
  unfold layerRun_B
  dsimp only
  have e := fun v25 => loop_out Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) v25 (harg6.unread x5)
    (arg10.view.writes (Elt F) arg10.view.junk (layerRun_B.sl.HS0_1 c arg1 harg1 arg2 harg2 arg5 harg5 arg7 harg7 x0 x1 x4 x6))
    (arg11.view.writes (Elt F) arg11.view.junk (layerRun_B.sl.HS1_1 c arg3 harg3 arg4 harg4 arg5 harg5 arg7 harg7 x2 x3 x4 x6))
    x5 (proj x0 x1 x4 x6 0) (proj x2 x3 x4 x6 1) (half xs2 0) (half xs3 0) (half xs2 1) (half xs3 1)
    (harg6.read_unread x5)
    (projF_read arg10 arg1 harg1 arg2 harg2 arg5 harg5 arg7 harg7 x0 x1 x4 x6)
    (projB_read arg11 arg3 harg3 arg4 harg4 arg5 harg5 arg7 harg7 x2 x3 x4 x6)
    (readH arg12 harg12 xs2 0 ![0, 0, 0] inb_S2x32x512_S1x32x512_0_0_0 rfl) (readH arg13 harg13 xs3 0 ![0, 0, 0] inb_S2x32x512_S1x32x512_0_0_0 rfl)
    (readH arg12 harg12 xs2 1 ![1, 0, 0] inb_S2x32x512_S1x32x512_1_0_0 rfl) (readH arg13 harg13 xs3 1 ![1, 0, 0] inb_S2x32x512_S1x32x512_1_0_0 rfl)
  exact ⟨(e _).2.1, (e _).2.2,
    (canon_stk _ _ _ _ _).trans (congrArg₂ stk (congrArg (fun q => q.1) (e _).1) (congrArg (fun q => q.2.2.1) (e _).1)),
    (canon_stk _ _ _ _ _).trans (congrArg₂ stk (congrArg (fun q => q.2.1) (e _).1) (congrArg (fun q => q.2.2.2) (e _).1))⟩

end Cert.KernelIdeal.Gen

end
-- ==== Proof.Hand.Run.lean ====
module

public import proofs.«01_k».proof.Proof.Hand.Block
/- The layer kernel's pipeline run: the state carried from grid point to grid point, the blocks it writes, the body's
   triple at every grid point, and the run of the whole program. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % cfg0.N, Nat.mod_lt _ (by rw [show cfg0.N = 32 from N_0]; decide)⟩

theorem pt_val (t : Fin cfg0.N) : pt t.val = t := Fin.ext (Nat.mod_eq_of_lt t.isLt)

/-- The forward projections of the block read at a point. -/
def pjF (c : Dev nD) (t : Fin cfg0.N) : FVec F S1024x2048 .bf16 := proj (iblk m c 0 t) (iblk m c 1 t) (iblk m c 4 t) (iblk m c 6 t) 0

/-- The backward projections of the block read at a point. -/
def pjB (c : Dev nD) (t : Fin cfg0.N) : FVec F S1024x2048 .bf16 := proj (iblk m c 2 t) (iblk m c 3 t) (iblk m c 4 t) (iblk m c 6 t) 1

/-- The recurrent weights read at a point. -/
def whAt (c : Dev nD) (t : Fin cfg0.N) : FVec F S2x512x2048 .bf16 := iblk m c 5 t

/-- The two carried buffers (cell and hidden state, both directions) after `n` grid points. -/
def stAt (c : Dev nD) : ℕ → FVec F S2x32x512 .f32 × FVec F S2x32x512 .f32
  | 0 => (zst, zst)
  | n + 1 =>
    let s := stAt c n
    let f := fwdAt (whAt m c (pt n)) (pjF m c (pt n)) (half s.1 0, half s.2 0) 32
    let b := bwdAt (whAt m c (pt n)) (pjB m c (pt n)) (half s.1 1, half s.2 1) 32
    (stk f.1 b.1, stk f.2 b.2)

theorem stAt_succ (c : Dev nD) (t : Fin cfg0.N) : stAt m c (t.val + 1) =
    (stk (fwdAt (whAt m c t) (pjF m c t) (half (stAt m c t.val).1 0, half (stAt m c t.val).2 0) 32).1
        (bwdAt (whAt m c t) (pjB m c t) (half (stAt m c t.val).1 1, half (stAt m c t.val).2 1) 32).1,
      stk (fwdAt (whAt m c t) (pjF m c t) (half (stAt m c t.val).1 0, half (stAt m c t.val).2 0) 32).2
        (bwdAt (whAt m c t) (pjB m c t) (half (stAt m c t.val).1 1, half (stAt m c t.val).2 1) 32).2) := by
  rw [stAt, pt_val]

/-- What the forward output's buffer holds after a point. -/
def oF (c : Dev nD) (t : Fin cfg0.N) : FVec F S1024x512 .bf16 :=
  outF (whAt m c t) (pjF m c t) (half (stAt m c t.val).1 0, half (stAt m c t.val).2 0)

/-- What the backward output's buffer holds after a point. -/
def oB (c : Dev nD) (t : Fin cfg0.N) : FVec F S1024x512 .bf16 :=
  outB (whAt m c t) (pjB m c t) (half (stAt m c t.val).1 1, half (stAt m c t.val).2 1)

/-- What the kernel holds before position `n`: at first every buffer of its own at anything; afterwards the carried
    state of the points so far. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ (∃ d, owns (c : Thread nD τ) scM0_1 fullShare d) ∗ owns (c : Thread nD τ) scM0_2 fullShare (stAt m c (n + 1)).1 ∗ owns (c : Thread nD τ) scM0_3 fullShare (stAt m c (n + 1)).2) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (stAt m c n).1 ∗ owns (c : Thread nD τ) scM0_3 fullShare (stAt m c n).2) ∗ (∃ r, prngReg c r)) := by
  cases n with
  | zero => exact absurd rfl hz
  | succ n => rfl

/-- The pipeline's data: each input's buffer at its block, each output's at what the body leaves, the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oF m c t
    | ⟨8, _⟩ => oB m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = oF m c t := by dsimp only [dats]
theorem after0_8 (c : Dev nD) (t : Fin cfg0.N) : (dats m 0 c).after 8 t = oB m c t := by dsimp only [dats]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at point `t`, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The pieces stored into a carried buffer cover it. -/
theorem stk_cover (u v : FVec F S1x32x512 .f32) (inb : ∀ a, (![1, 0, 0] : Fin 3 → ℕ) a + S1x32x512.size a ≤ S2x32x512.size a)
    (inb' : ∀ a, (![0, 0, 0] : Fin 3 → ℕ) a + S1x32x512.size a ≤ S2x32x512.size a) (L : List (View.Piece (Elt F) S2x32x512 .f32)) (y : S2x32x512.Idx) :
    ∃ q ∈ ((⟨Rect.unit (s := S2x32x512) ![1, 0, 0] S1x32x512.size inb, v⟩ : View.Piece (Elt F) S2x32x512 .f32)
      :: (⟨Rect.unit (s := S2x32x512) ![0, 0, 0] S1x32x512.size inb', u⟩ : View.Piece (Elt F) S2x32x512 .f32) :: L), y ∈ q.1.set := by
  have h0 : (y 0).val < 2 := (y 0).isLt
  have h1 : (y 1).val < 32 := (y 1).isLt
  have h2 : (y 2).val < 512 := (y 2).isLt
  by_cases h : (y 0).val = 0
  · refine ⟨_, List.mem_cons_of_mem _ List.mem_cons_self, (Rect.mem_set_unit (inb := inb')).mpr fun a => ?_⟩
    match a with
    | ⟨0, _⟩ => exact (show 0 ≤ (y 0).val ∧ (y 0).val < 0 + 1 by omega)
    | ⟨1, _⟩ => exact (show 0 ≤ (y 1).val ∧ (y 1).val < 0 + 32 by omega)
    | ⟨2, _⟩ => exact (show 0 ≤ (y 2).val ∧ (y 2).val < 0 + 512 by omega)
  · refine ⟨_, List.mem_cons_self, (Rect.mem_set_unit (inb := inb)).mpr fun a => ?_⟩
    match a with
    | ⟨0, _⟩ => exact (show 1 ≤ (y 0).val ∧ (y 0).val < 1 + 1 by omega)
    | ⟨1, _⟩ => exact (show 0 ≤ (y 1).val ∧ (y 1).val < 0 + 32 by omega)
    | ⟨2, _⟩ => exact (show 0 ≤ (y 2).val ∧ (y 2).val < 0 + 512 by omega)

set_option maxHeartbeats 9600000 in
/-- The body at any point: from the blocks and the state the points before left, it leaves the two output blocks and the
    next state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_pos m c (t.val + 1) _ (Nat.succ_ne_zero _)]
  have hN : t.val < 32 := lt_of_lt_of_eq t.isLt (show cfg0.N = 32 from N_0)
  by_cases hz : t.val = 0
  · rw [PhiS_castSucc m c t, PhiS_zero m c _ _ hz, PhiA0_eq]
    have hs : stAt m c t.val = (zst, zst) := by rw [hz]; rfl
    have h0 : t.val % 32 = 0 := by omega
    have G := runA_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)
    have ES := stAt_succ m c t
    rw [hs] at ES
    have E7 : outF (whAt m c t) (pjF m c t) (half zst 0, half zst 0) = oF m c t := by unfold oF; rw [hs]
    have E8 : outB (whAt m c t) (pjB m c t) (half zst 1, half zst 1) = oB m c t := by unfold oB; rw [hs]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((layerRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, ⟨%e7, H7⟩, ⟨%e8, H8⟩, HS0, HS1, ⟨%es2, HS2⟩, ⟨%es3, HS3⟩⟩
    isplitl [HS0 HS1 HS2 HS3 Hg]
    · isplitl [HS0 HS1 HS2 HS3]
      · isplitl [HS0]
        · iexact HS0
        isplitl [HS1]
        · iexact HS1
        isplitl [HS2]
        · unfold owns; iexists _; isplitr
          swap; · iexact HS2
          ipureintro; exact (View.read_writes_eq_canon _ _ _ (by unfold layerRun_A; exact stk_cover _ _ _ _ _)).trans (G.2.2.1.trans (congrArg Prod.fst ES).symm)
        unfold owns; iexists _; isplitr
        swap; · iexact HS3
        ipureintro; exact (View.read_writes_eq_canon _ _ _ (by unfold layerRun_A; exact stk_cover _ _ _ _ _)).trans (G.2.2.2.trans (congrArg Prod.snd ES).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (G.1.read _ _).trans E7
    unfold owns; iexists _; isplitr
    swap; · iexact H8
    ipureintro; exact (G.2.1.read _ _).trans E8
  · rw [PhiS_castSucc m c t, PhiS_pos m c _ _ hz]
    have h0 : ¬t.val % 32 = 0 := by omega
    have G := runB_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (stAt m c t.val).1 (stAt m c t.val).2
    have ES := stAt_succ m c t
    have E7 : outF (whAt m c t) (pjF m c t) (half (stAt m c t.val).1 0, half (stAt m c t.val).2 0) = oF m c t := rfl
    have E8 : outB (whAt m c t) (pjB m c t) (half (stAt m c t.val).1 1, half (stAt m c t.val).2 1) = oB m c t := rfl
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((layerRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (stAt m c t.val).1 (stAt m c t.val).2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, ⟨%e7, H7⟩, ⟨%e8, H8⟩, HS0, HS1, ⟨%es2, HS2⟩, ⟨%es3, HS3⟩⟩
    isplitl [HS0 HS1 HS2 HS3 Hg]
    · isplitl [HS0 HS1 HS2 HS3]
      · isplitl [HS0]
        · iexact HS0
        isplitl [HS1]
        · iexact HS1
        isplitl [HS2]
        · unfold owns; iexists _; isplitr
          swap; · iexact HS2
          ipureintro; exact (View.read_writes_eq_canon _ _ _ (by unfold layerRun_B; exact stk_cover _ _ _ _ _)).trans (G.2.2.1.trans (congrArg Prod.fst ES).symm)
        unfold owns; iexists _; isplitr
        swap; · iexact HS3
        ipureintro; exact (View.read_writes_eq_canon _ _ _ (by unfold layerRun_B; exact stk_cover _ _ _ _ _)).trans (G.2.2.2.trans (congrArg Prod.snd ES).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (G.1.read _ _).trans E7
    unfold owns; iexists _; isplitr
    swap; · iexact H8
    ipureintro; exact (G.2.1.read _ _).trans E8

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

set_option backward.isDefEq.respectTransparency.types false in
/-- Every run of the program ends, with the arrays at what the pipeline leaves and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The run's two results, as what the pipeline leaves, and the argument arrays as launched. -/
theorem run_values : θ_run defs (onTc (τ := τ) (main (F := F))) ⟨m, fun _ => 0, ρ⟩ (fun r => ∀ c : Dev nD,
      r.2.mem ((c.tc : Thread nD τ).loc main_v1_0) = (dats m 0 c).arrAt 7 cfg0.N
      ∧ r.2.mem ((c.tc : Thread nD τ).loc main_v1_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 7, (h.1 c).1 8, h.2 c⟩)
    (θ_run_and (run_main m ρ) (frame_of m ρ (dats m) (A_eq m) (run_main m ρ)))

end Cert.KernelIdeal.Gen

end
-- ==== Proof.Hand.First.Cell.lean ====
module
public import proofs.«01_k».proof.Proof.Gen.Kernel2Ideal.Loops
/- One trip of the time loop of the layer kernel, as eight applications of the LSTM cell in each direction: what the
   trip yields and what it stores. -/
@[expose] public section

noncomputable section

namespace Cert.Kernel2Ideal.Gen

open Idealize.ShloMosaic Idealize.ShloMosaic.TcCoe

variable {F : FTy → Type} [FloatOps F]

/-- A cell state and a hidden state. -/
abbrev CH (F : FTy → Type) := FVec F S32x512 .f32 × FVec F S32x512 .f32

/-- One gate's pre-activation: the hidden state times the gate's recurrent weights, plus the input projection. -/
def gate (w : FVec F S1x512x512 .bf16) (x : FVec F S32x512 .bf16) (h : FVec F S32x512 .f32) : FVec F S32x512 .f32 :=
  addf (matmul dot_S32x512_S512x512_S32x512_1_0_0_1_n_n none (truncf .bf16 h bitsLt_bf16_f32)
    (shapeCast S512x512 w shapeCasts_S1x512x512_S512x512) (constant S32x512 .f32 0x00000000#32)) (extf .f32 x bitsLt_bf16_f32)

/-- One LSTM step, gates in the order input, forget, candidate, output. -/
def cell (w0 w1 w2 w3 : FVec F S1x512x512 .bf16) (x0 x1 x2 x3 : FVec F S32x512 .bf16) (p : CH F) : CH F :=
  (addf (mulf (logistic (gate w1 x1 p.2)) p.1) (mulf (logistic (gate w0 x0 p.2)) (tanh (gate w2 x2 p.2))),
   mulf (logistic (gate w3 x3 p.2))
     (tanh (addf (mulf (logistic (gate w1 x1 p.2)) p.1) (mulf (logistic (gate w0 x0 p.2)) (tanh (gate w2 x2 p.2))))))

/-- One forward step of trip `k`, number `r` of the eight: the cell at the four gate slices of the recurrent weights
    and the four gate slices of the step's rows of the input-projection scratch. -/
def fwdStep (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips) (r : Fin 8)
    (p : CH F) : CH F :=
  cell (View.readAt (Elt F) arg4.view (Rect.unit (s := S2x512x2048) ![0, 0, 0] S1x512x512.size inb_S2x512x2048_S1x512x512_0_0_0).toLoadRect X4)
    (View.readAt (Elt F) arg4.view (Rect.unit (s := S2x512x2048) ![0, 0, 512] S1x512x512.size inb_S2x512x2048_S1x512x512_0_0_512).toLoadRect X4)
    (View.readAt (Elt F) arg4.view (Rect.unit (s := S2x512x2048) ![0, 0, 1024] S1x512x512.size inb_S2x512x2048_S1x512x512_0_0_1024).toLoadRect X4)
    (View.readAt (Elt F) arg4.view (Rect.unit (s := S2x512x2048) ![0, 0, 1536] S1x512x512.size inb_S2x512x2048_S1x512x512_0_0_1536).toLoadRect X4)
    (View.readAt (Elt F) arg.view (Rect.unit (s := S1024x2048) (k0_off1 k (BitVec.ofNat 32 r.val)) S32x512.size (k0_off1_inb k r)).toLoadRect X)
    (View.readAt (Elt F) arg.view (Rect.unit (s := S1024x2048) (k0_off2 k (BitVec.ofNat 32 r.val)) S32x512.size (k0_off2_inb k r)).toLoadRect X)
    (View.readAt (Elt F) arg.view (Rect.unit (s := S1024x2048) (k0_off3 k (BitVec.ofNat 32 r.val)) S32x512.size (k0_off3_inb k r)).toLoadRect X)
    (View.readAt (Elt F) arg.view (Rect.unit (s := S1024x2048) (k0_off4 k (BitVec.ofNat 32 r.val)) S32x512.size (k0_off4_inb k r)).toLoadRect X) p

/-- The state after the first steps of trip `k`. -/
def fwdSteps (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips)
    (p : CH F) : ℕ → CH F
  | 0 => p
  | r + 1 => fwdStep arg4 arg X4 X k (Fin.ofNat 8 r) (fwdSteps arg4 arg X4 X k p r)

/-- One backward step of trip `k`, number `r` of the eight: the cell at the four gate slices of the recurrent weights
    and the four gate slices of the step's rows of the input-projection scratch. -/
def bwdStep (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips) (r : Fin 8)
    (p : CH F) : CH F :=
  cell (View.readAt (Elt F) arg4.view (Rect.unit (s := S2x512x2048) ![1, 0, 0] S1x512x512.size inb_S2x512x2048_S1x512x512_1_0_0).toLoadRect X4)
    (View.readAt (Elt F) arg4.view (Rect.unit (s := S2x512x2048) ![1, 0, 512] S1x512x512.size inb_S2x512x2048_S1x512x512_1_0_512).toLoadRect X4)
    (View.readAt (Elt F) arg4.view (Rect.unit (s := S2x512x2048) ![1, 0, 1024] S1x512x512.size inb_S2x512x2048_S1x512x512_1_0_1024).toLoadRect X4)
    (View.readAt (Elt F) arg4.view (Rect.unit (s := S2x512x2048) ![1, 0, 1536] S1x512x512.size inb_S2x512x2048_S1x512x512_1_0_1536).toLoadRect X4)
    (View.readAt (Elt F) arg.view (Rect.unit (s := S1024x2048) (k0_off6 k (BitVec.ofNat 32 r.val)) S32x512.size (k0_off6_inb k r)).toLoadRect X)
    (View.readAt (Elt F) arg.view (Rect.unit (s := S1024x2048) (k0_off7 k (BitVec.ofNat 32 r.val)) S32x512.size (k0_off7_inb k r)).toLoadRect X)
    (View.readAt (Elt F) arg.view (Rect.unit (s := S1024x2048) (k0_off8 k (BitVec.ofNat 32 r.val)) S32x512.size (k0_off8_inb k r)).toLoadRect X)
    (View.readAt (Elt F) arg.view (Rect.unit (s := S1024x2048) (k0_off9 k (BitVec.ofNat 32 r.val)) S32x512.size (k0_off9_inb k r)).toLoadRect X) p

/-- The state after the first steps of trip `k`. -/
def bwdSteps (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips)
    (p : CH F) : ℕ → CH F
  | 0 => p
  | r + 1 => bwdStep arg4 arg X4 X k (Fin.ofNat 8 r) (bwdSteps arg4 arg X4 X k p r)

set_option maxRecDepth 100000 in
set_option maxHeartbeats 4000000 in
/-- What a trip yields. -/
theorem trip_yield (𝒱 : Variants) (c : Dev nD) (bd : Option 𝒱.V) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (X4 : BufTy.Contents (Elt F) arg4.view.ty) (X8 : BufTy.Contents (Elt F) arg8.view.ty) (X9 : BufTy.Contents (Elt F) arg9.view.ty) (k : Fin k0_t1_loop.trips) (acc : FVec F S32x512 .f32 × FVec F S32x512 .f32 × FVec F S32x512 .f32 × FVec F S32x512 .f32) :
    (trip_k0_t1 (F := F) 𝒱 c bd i arg1 harg1 arg2 harg2 arg3 harg3 arg4 harg4 arg5 harg5 arg6 harg6 arg7 harg7 arg8 harg8 arg9 harg9 arg10 harg10 arg11 harg11 X4 X8 X9 k).1 acc = ((fwdSteps arg4 arg8 X4 X8 k (acc.1, acc.2.1) 8).1, (fwdSteps arg4 arg8 X4 X8 k (acc.1, acc.2.1) 8).2,
      (bwdSteps arg4 arg9 X4 X9 k (acc.2.2.1, acc.2.2.2) 8).1, (bwdSteps arg4 arg9 X4 X9 k (acc.2.2.1, acc.2.2.2) 8).2) := by
  unfold trip_k0_t1
  dsimp only
  rfl

set_option maxRecDepth 100000 in
set_option maxHeartbeats 4000000 in
/-- What a trip stores of the forward output. -/
theorem trip_fwd (𝒱 : Variants) (c : Dev nD) (bd : Option 𝒱.V) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (X4 : BufTy.Contents (Elt F) arg4.view.ty) (X8 : BufTy.Contents (Elt F) arg8.view.ty) (X9 : BufTy.Contents (Elt F) arg9.view.ty) (k : Fin k0_t1_loop.trips) (acc : FVec F S32x512 .f32 × FVec F S32x512 .f32 × FVec F S32x512 .f32 × FVec F S32x512 .f32) :
    (trip_k0_t1 (F := F) 𝒱 c bd i arg1 harg1 arg2 harg2 arg3 harg3 arg4 harg4 arg5 harg5 arg6 harg6 arg7 harg7 arg8 harg8 arg9 harg9 arg10 harg10 arg11 harg11 X4 X8 X9 k).2.1 acc =
     ([⟨Rect.unit (s := S1024x512) (k0_off5 k (BitVec.ofNat 32 7)) S32x512.size (k0_off5_inb k 7), truncf .bf16 (fwdSteps arg4 arg8 X4 X8 k (acc.1, acc.2.1) 8).2 bitsLt_bf16_f32⟩,
      ⟨Rect.unit (s := S1024x512) (k0_off5 k (BitVec.ofNat 32 6)) S32x512.size (k0_off5_inb k 6), truncf .bf16 (fwdSteps arg4 arg8 X4 X8 k (acc.1, acc.2.1) 7).2 bitsLt_bf16_f32⟩,
      ⟨Rect.unit (s := S1024x512) (k0_off5 k (BitVec.ofNat 32 5)) S32x512.size (k0_off5_inb k 5), truncf .bf16 (fwdSteps arg4 arg8 X4 X8 k (acc.1, acc.2.1) 6).2 bitsLt_bf16_f32⟩,
      ⟨Rect.unit (s := S1024x512) (k0_off5 k (BitVec.ofNat 32 4)) S32x512.size (k0_off5_inb k 4), truncf .bf16 (fwdSteps arg4 arg8 X4 X8 k (acc.1, acc.2.1) 5).2 bitsLt_bf16_f32⟩,
      ⟨Rect.unit (s := S1024x512) (k0_off5 k (BitVec.ofNat 32 3)) S32x512.size (k0_off5_inb k 3), truncf .bf16 (fwdSteps arg4 arg8 X4 X8 k (acc.1, acc.2.1) 4).2 bitsLt_bf16_f32⟩,
      ⟨Rect.unit (s := S1024x512) (k0_off5 k (BitVec.ofNat 32 2)) S32x512.size (k0_off5_inb k 2), truncf .bf16 (fwdSteps arg4 arg8 X4 X8 k (acc.1, acc.2.1) 3).2 bitsLt_bf16_f32⟩,
      ⟨Rect.unit (s := S1024x512) (k0_off5 k (BitVec.ofNat 32 1)) S32x512.size (k0_off5_inb k 1), truncf .bf16 (fwdSteps arg4 arg8 X4 X8 k (acc.1, acc.2.1) 2).2 bitsLt_bf16_f32⟩,
      ⟨Rect.unit (s := S1024x512) (k0_off5 k (BitVec.ofNat 32 0)) S32x512.size (k0_off5_inb k 0), truncf .bf16 (fwdSteps arg4 arg8 X4 X8 k (acc.1, acc.2.1) 1).2 bitsLt_bf16_f32⟩] : List (View.Piece (Elt F) S1024x512 .bf16)) := by
  unfold trip_k0_t1
  dsimp only
  rfl

set_option maxRecDepth 100000 in
set_option maxHeartbeats 4000000 in
/-- What a trip stores of the backward output. -/
theorem trip_bwd (𝒱 : Variants) (c : Dev nD) (bd : Option 𝒱.V) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (X4 : BufTy.Contents (Elt F) arg4.view.ty) (X8 : BufTy.Contents (Elt F) arg8.view.ty) (X9 : BufTy.Contents (Elt F) arg9.view.ty) (k : Fin k0_t1_loop.trips) (acc : FVec F S32x512 .f32 × FVec F S32x512 .f32 × FVec F S32x512 .f32 × FVec F S32x512 .f32) :
    (trip_k0_t1 (F := F) 𝒱 c bd i arg1 harg1 arg2 harg2 arg3 harg3 arg4 harg4 arg5 harg5 arg6 harg6 arg7 harg7 arg8 harg8 arg9 harg9 arg10 harg10 arg11 harg11 X4 X8 X9 k).2.2.1 acc =
     ([⟨Rect.unit (s := S1024x512) (k0_off10 k (BitVec.ofNat 32 7)) S32x512.size (k0_off10_inb k 7), truncf .bf16 (bwdSteps arg4 arg9 X4 X9 k (acc.2.2.1, acc.2.2.2) 8).2 bitsLt_bf16_f32⟩,
      ⟨Rect.unit (s := S1024x512) (k0_off10 k (BitVec.ofNat 32 6)) S32x512.size (k0_off10_inb k 6), truncf .bf16 (bwdSteps arg4 arg9 X4 X9 k (acc.2.2.1, acc.2.2.2) 7).2 bitsLt_bf16_f32⟩,
      ⟨Rect.unit (s := S1024x512) (k0_off10 k (BitVec.ofNat 32 5)) S32x512.size (k0_off10_inb k 5), truncf .bf16 (bwdSteps arg4 arg9 X4 X9 k (acc.2.2.1, acc.2.2.2) 6).2 bitsLt_bf16_f32⟩,
      ⟨Rect.unit (s := S1024x512) (k0_off10 k (BitVec.ofNat 32 4)) S32x512.size (k0_off10_inb k 4), truncf .bf16 (bwdSteps arg4 arg9 X4 X9 k (acc.2.2.1, acc.2.2.2) 5).2 bitsLt_bf16_f32⟩,
      ⟨Rect.unit (s := S1024x512) (k0_off10 k (BitVec.ofNat 32 3)) S32x512.size (k0_off10_inb k 3), truncf .bf16 (bwdSteps arg4 arg9 X4 X9 k (acc.2.2.1, acc.2.2.2) 4).2 bitsLt_bf16_f32⟩,
      ⟨Rect.unit (s := S1024x512) (k0_off10 k (BitVec.ofNat 32 2)) S32x512.size (k0_off10_inb k 2), truncf .bf16 (bwdSteps arg4 arg9 X4 X9 k (acc.2.2.1, acc.2.2.2) 3).2 bitsLt_bf16_f32⟩,
      ⟨Rect.unit (s := S1024x512) (k0_off10 k (BitVec.ofNat 32 1)) S32x512.size (k0_off10_inb k 1), truncf .bf16 (bwdSteps arg4 arg9 X4 X9 k (acc.2.2.1, acc.2.2.2) 2).2 bitsLt_bf16_f32⟩,
      ⟨Rect.unit (s := S1024x512) (k0_off10 k (BitVec.ofNat 32 0)) S32x512.size (k0_off10_inb k 0), truncf .bf16 (bwdSteps arg4 arg9 X4 X9 k (acc.2.2.1, acc.2.2.2) 1).2 bitsLt_bf16_f32⟩] : List (View.Piece (Elt F) S1024x512 .bf16)) := by
  unfold trip_k0_t1
  dsimp only
  rfl

end Cert.Kernel2Ideal.Gen
-- ==== Proof.Hand.First.Loop.lean ====
module

public import proofs.«01_k».proof.Proof.Hand.First.Cell
public import Idealize.ShloMosaic.Lib.Pipeline.FrameBody
public import Idealize.ShloMosaic.Lib.Pipeline.Value
public import Idealize.ShloMosaic.Lib.Pipeline.ValueKit
public import Idealize.ShloMosaic.Lib.ValueIdxCore
/- The time loop of the layer kernel over one block of 32 steps: the states it passes through, and the outputs it
   stores, as functions of the recurrent weights, the block's input projections and the state the block starts from. -/
@[expose] public section

noncomputable section

namespace Cert.Kernel2Ideal.Gen

open Idealize.ShloMosaic Idealize.ShloMosaic.TcCoe

variable {F : FTy → Type} [FloatOps F]

/-- The recurrent weights of direction `d`, gate `g`. -/
def wsl (W : FVec F S2x512x2048 .bf16) (d : Fin 2) (g : Fin 4) : FVec F S1x512x512 .bf16 :=
  fun i => W (ValueIdx.ix3 d (⟨(i 1).val, (i 1).isLt⟩ : Fin 512) (⟨512 * g.val + (i 2).val, by have := g.isLt; have : (i 2).val < 512 := (i 2).isLt; omega⟩ : Fin 2048))

/-- The input projections of step `n` of a block, gate `g`. -/
def xsl (x : FVec F S1024x2048 .bf16) (n : ℕ) (g : Fin 4) : FVec F S32x512 .bf16 :=
  fun i => x (ValueIdx.ix2 (⟨(32 * n + (i 0).val) % 1024, Nat.mod_lt _ (by decide)⟩ : Fin 1024)
    (⟨512 * g.val + (i 1).val, by have := g.isLt; have : (i 1).val < 512 := (i 1).isLt; omega⟩ : Fin 2048))

/-- The cell of direction `d` at row group `n` of a block. -/
def cellAt (W : FVec F S2x512x2048 .bf16) (d : Fin 2) (x : FVec F S1024x2048 .bf16) (n : ℕ) (p : CH F) : CH F :=
  cell (wsl W d 0) (wsl W d 1) (wsl W d 2) (wsl W d 3) (xsl x n 0) (xsl x n 1) (xsl x n 2) (xsl x n 3) p

/-- The forward state after `n` steps of a block. -/
def fwdAt (W : FVec F S2x512x2048 .bf16) (x : FVec F S1024x2048 .bf16) (p : CH F) : ℕ → CH F
  | 0 => p
  | n + 1 => cellAt W 0 x n (fwdAt W x p n)

/-- The backward state after `n` steps of a block: the row groups are taken from the last to the first. -/
def bwdAt (W : FVec F S2x512x2048 .bf16) (x : FVec F S1024x2048 .bf16) (p : CH F) : ℕ → CH F
  | 0 => p
  | n + 1 => cellAt W 1 x (31 - n) (bwdAt W x p n)

theorem vec2_eq {a b c d : ℕ} (h : a = c) (h' : b = d) : (![a, b] : Fin 2 → ℕ) = ![c, d] := by rw [h, h']

theorem readW_eq (arg4 : Memref sig .tc .vmem S2x512x2048 .bf16) (X4 : BufTy.Contents (Elt F) arg4.view.ty) (d : Fin 2) (g : Fin 4)
    (off : Fin 3 → ℕ) (inb : ∀ a, off a + S1x512x512.size a ≤ S2x512x2048.size a) (h : off = ![d.val, 0, 512 * g.val]) :
    (View.readAt (Elt F) arg4.view (Rect.unit (s := S2x512x2048) off S1x512x512.size inb).toLoadRect X4 : S1x512x512.Idx → Elt F .bf16)
      = wsl (arg4.view.read (Elt F) X4) d g := by
  subst h
  funext i
  have h0 : (i 0).val < 1 := (i 0).isLt
  refine congrArg (arg4.view.read (Elt F) X4) (funext fun a => Fin.ext ?_)
  rw [Rect.idx_unit_val]
  match a with
  | ⟨0, _⟩ => show d.val + (i 0).val = d.val; omega
  | ⟨1, _⟩ => show 0 + (i 1).val = (i 1).val; omega
  | ⟨2, _⟩ => rfl

theorem readX_eq (arg : Memref sig .tc .vmem S1024x2048 .bf16) (X : BufTy.Contents (Elt F) arg.view.ty) (n : ℕ) (g : Fin 4) (hn : n < 32)
    (off : Fin 2 → ℕ) (inb : ∀ a, off a + S32x512.size a ≤ S1024x2048.size a) (h : off = ![32 * n, 512 * g.val]) :
    (View.readAt (Elt F) arg.view (Rect.unit (s := S1024x2048) off S32x512.size inb).toLoadRect X : S32x512.Idx → Elt F .bf16)
      = xsl (arg.view.read (Elt F) X) n g := by
  subst h
  funext i
  have h0 : (i 0).val < 32 := (i 0).isLt
  refine congrArg (arg.view.read (Elt F) X) (funext fun a => Fin.ext ?_)
  rw [Rect.idx_unit_val]
  match a with
  | ⟨0, _⟩ => show 32 * n + (i 0).val = (32 * n + (i 0).val) % 1024; rw [Nat.mod_eq_of_lt (by omega)]
  | ⟨1, _⟩ => rfl

theorem fwdStep_eq (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips) (r : Fin 8)
    (p : CH F) : fwdStep arg4 arg X4 X k r p = cellAt (arg4.view.read (Elt F) X4) 0 (arg.view.read (Elt F) X) (8 * k.val + r.val) p := by
  have hk : k.val < 4 := Nat.lt_of_lt_of_le k.isLt k0_t1_abs.2.1
  have hr := r.isLt
  unfold fwdStep cellAt
  rw [readW_eq arg4 X4 0 0 ![0, 0, 0] inb_S2x512x2048_S1x512x512_0_0_0 rfl, readW_eq arg4 X4 0 1 ![0, 0, 512] inb_S2x512x2048_S1x512x512_0_0_512 rfl, readW_eq arg4 X4 0 2 ![0, 0, 1024] inb_S2x512x2048_S1x512x512_0_0_1024 rfl, readW_eq arg4 X4 0 3 ![0, 0, 1536] inb_S2x512x2048_S1x512x512_0_0_1536 rfl,
    readX_eq arg X (8 * k.val + r.val) 0 (by omega) (k0_off1 k (BitVec.ofNat 32 r.val)) (k0_off1_inb k r) (by rw [k0_off1_eq]; exact vec2_eq (by omega) rfl),
    readX_eq arg X (8 * k.val + r.val) 1 (by omega) (k0_off2 k (BitVec.ofNat 32 r.val)) (k0_off2_inb k r) (by rw [k0_off2_eq]; exact vec2_eq (by omega) rfl),
    readX_eq arg X (8 * k.val + r.val) 2 (by omega) (k0_off3 k (BitVec.ofNat 32 r.val)) (k0_off3_inb k r) (by rw [k0_off3_eq]; exact vec2_eq (by omega) rfl),
    readX_eq arg X (8 * k.val + r.val) 3 (by omega) (k0_off4 k (BitVec.ofNat 32 r.val)) (k0_off4_inb k r) (by rw [k0_off4_eq]; exact vec2_eq (by omega) rfl)]

theorem bwdStep_eq (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips) (r : Fin 8)
    (p : CH F) : bwdStep arg4 arg X4 X k r p = cellAt (arg4.view.read (Elt F) X4) 1 (arg.view.read (Elt F) X) (31 - (8 * k.val + r.val)) p := by
  have hk : k.val < 4 := Nat.lt_of_lt_of_le k.isLt k0_t1_abs.2.1
  have hr := r.isLt
  unfold bwdStep cellAt
  rw [readW_eq arg4 X4 1 0 ![1, 0, 0] inb_S2x512x2048_S1x512x512_1_0_0 rfl, readW_eq arg4 X4 1 1 ![1, 0, 512] inb_S2x512x2048_S1x512x512_1_0_512 rfl, readW_eq arg4 X4 1 2 ![1, 0, 1024] inb_S2x512x2048_S1x512x512_1_0_1024 rfl, readW_eq arg4 X4 1 3 ![1, 0, 1536] inb_S2x512x2048_S1x512x512_1_0_1536 rfl,
    readX_eq arg X (31 - (8 * k.val + r.val)) 0 (by omega) (k0_off6 k (BitVec.ofNat 32 r.val)) (k0_off6_inb k r) (by rw [k0_off6_eq]; exact vec2_eq (by omega) rfl),
    readX_eq arg X (31 - (8 * k.val + r.val)) 1 (by omega) (k0_off7 k (BitVec.ofNat 32 r.val)) (k0_off7_inb k r) (by rw [k0_off7_eq]; exact vec2_eq (by omega) rfl),
    readX_eq arg X (31 - (8 * k.val + r.val)) 2 (by omega) (k0_off8 k (BitVec.ofNat 32 r.val)) (k0_off8_inb k r) (by rw [k0_off8_eq]; exact vec2_eq (by omega) rfl),
    readX_eq arg X (31 - (8 * k.val + r.val)) 3 (by omega) (k0_off9 k (BitVec.ofNat 32 r.val)) (k0_off9_inb k r) (by rw [k0_off9_eq]; exact vec2_eq (by omega) rfl)]

theorem fwdSteps_eq (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips)
    (p : CH F) : ∀ n, n ≤ 8 → fwdSteps arg4 arg X4 X k (fwdAt (arg4.view.read (Elt F) X4) (arg.view.read (Elt F) X) p (8 * k.val)) n
      = fwdAt (arg4.view.read (Elt F) X4) (arg.view.read (Elt F) X) p (8 * k.val + n)
  | 0, _ => rfl
  | n + 1, h => by
    rw [fwdSteps, fwdSteps_eq arg4 arg X4 X k p n (by omega), fwdStep_eq]
    have e : (Fin.ofNat 8 n).val = n := Nat.mod_eq_of_lt (by omega)
    rw [e]; rfl

theorem bwdSteps_eq (arg4 : Memref sig .tc .vmem S2x512x2048 .bf16) (arg : Memref sig .tc .vmem S1024x2048 .bf16)
    (X4 : BufTy.Contents (Elt F) arg4.view.ty) (X : BufTy.Contents (Elt F) arg.view.ty) (k : Fin k0_t1_loop.trips)
    (p : CH F) : ∀ n, n ≤ 8 → bwdSteps arg4 arg X4 X k (bwdAt (arg4.view.read (Elt F) X4) (arg.view.read (Elt F) X) p (8 * k.val)) n
      = bwdAt (arg4.view.read (Elt F) X4) (arg.view.read (Elt F) X) p (8 * k.val + n)
  | 0, _ => rfl
  | n + 1, h => by
    rw [bwdSteps, bwdSteps_eq arg4 arg X4 X k p n (by omega), bwdStep_eq]
    have e : (Fin.ofNat 8 n).val = n := Nat.mod_eq_of_lt (by omega)
    rw [e]; rfl

/-- The forward output of a block: row group `n` holds the hidden state after step `n`. -/
def outF (W : FVec F S2x512x2048 .bf16) (x : FVec F S1024x2048 .bf16) (p : CH F) : FVec F S1024x512 .bf16 :=
  fun y => (truncf .bf16 (fwdAt W x p ((y 0).val / 32 + 1)).2 bitsLt_bf16_f32 : FVec F S32x512 .bf16)
    (ValueIdx.ix2 (⟨(y 0).val % 32, Nat.mod_lt _ (by decide)⟩ : Fin 32) (⟨(y 1).val, (y 1).isLt⟩ : Fin 512))

/-- The backward output of a block: row group `31 - n` holds the hidden state after step `n`. -/
def outB (W : FVec F S2x512x2048 .bf16) (x : FVec F S1024x2048 .bf16) (p : CH F) : FVec F S1024x512 .bf16 :=
  fun y => (truncf .bf16 (bwdAt W x p (32 - (y 0).val / 32)).2 bitsLt_bf16_f32 : FVec F S32x512 .bf16)
    (ValueIdx.ix2 (⟨(y 0).val % 32, Nat.mod_lt _ (by decide)⟩ : Fin 32) (⟨(y 1).val, (y 1).isLt⟩ : Fin 512))

/-- The stores made so far are right, and cover the first `n` row groups. -/
def GoodF (W : FVec F S2x512x2048 .bf16) (x : FVec F S1024x2048 .bf16) (p : CH F) (L : List (View.Piece (Elt F) S1024x512 .bf16)) (n : ℕ) : Prop :=
  (∀ q ∈ L, ∀ z : q.1.shape.Idx, q.2 z = outF W x p (q.1.emb z)) ∧ ∀ y : S1024x512.Idx, (y 0).val < 32 * n → ∃ q ∈ L, y ∈ q.1.set

/-- The stores made so far are right, and cover the last `n` row groups. -/
def GoodB (W : FVec F S2x512x2048 .bf16) (x : FVec F S1024x2048 .bf16) (p : CH F) (L : List (View.Piece (Elt F) S1024x512 .bf16)) (n : ℕ) : Prop :=
  (∀ q ∈ L, ∀ z : q.1.shape.Idx, q.2 z = outB W x p (q.1.emb z)) ∧ ∀ y : S1024x512.Idx, 1024 ≤ (y 0).val + 32 * n → ∃ q ∈ L, y ∈ q.1.set

theorem GoodF.cons {W : FVec F S2x512x2048 .bf16} {x : FVec F S1024x2048 .bf16} {p : CH F} {L : List (View.Piece (Elt F) S1024x512 .bf16)} {n : ℕ}
    (hn : n < 32) (h : GoodF W x p L n) {off : Fin 2 → ℕ} (inb : ∀ a, off a + S32x512.size a ≤ S1024x512.size a) (ho : off = ![32 * n, 0])
    (v : FVec F S32x512 .bf16) (hv : v = truncf .bf16 (fwdAt W x p (n + 1)).2 bitsLt_bf16_f32) :
    GoodF W x p (⟨Rect.unit (s := S1024x512) off S32x512.size inb, v⟩ :: L) (n + 1) := by
  subst ho hv
  refine ⟨fun q hq z => ?_, fun y hy => ?_⟩
  · rcases List.mem_cons.mp hq with rfl | hq
    · have h0 : (z 0).val < 32 := (z 0).isLt
      have e0 : (((Rect.unit (s := S1024x512) ![32 * n, 0] S32x512.size inb).emb z) 0 : ℕ) = 32 * n + (z 0).val :=
        Rect.idx_unit_val (s := S1024x512) ![32 * n, 0] S32x512.size inb z 0
      have e1 : (((Rect.unit (s := S1024x512) ![32 * n, 0] S32x512.size inb).emb z) 1 : ℕ) = (z 1).val :=
        (Rect.idx_unit_val (s := S1024x512) ![32 * n, 0] S32x512.size inb z 1).trans (Nat.zero_add _)
      unfold outF
      have ed : (((Rect.unit (s := S1024x512) ![32 * n, 0] S32x512.size inb).emb z) 0 : ℕ) / 32 + 1 = n + 1 := by rw [e0]; omega
      rw [ed]
      refine congrArg (truncf .bf16 (fwdAt W x p (n + 1)).2 bitsLt_bf16_f32) (funext fun a => Fin.ext ?_)
      match a with
      | ⟨0, _⟩ => exact (show (z 0).val = (((Rect.unit (s := S1024x512) ![32 * n, 0] S32x512.size inb).emb z) 0 : ℕ) % 32 by rw [e0]; omega)
      | ⟨1, _⟩ => exact e1.symm
    · exact h.1 q hq z
  · by_cases hl : (y 0).val < 32 * n
    · obtain ⟨q, hq, hm⟩ := h.2 y hl
      exact ⟨q, List.mem_cons_of_mem _ hq, hm⟩
    · refine ⟨_, List.mem_cons_self, ?_⟩
      have h1 : (y 1).val < 512 := (y 1).isLt
      refine (Rect.mem_set_unit (inb := inb)).mpr fun a => ?_
      match a with
      | ⟨0, _⟩ => exact (show 32 * n ≤ (y 0).val ∧ (y 0).val < 32 * n + 32 by omega)
      | ⟨1, _⟩ => exact (show 0 ≤ (y 1).val ∧ (y 1).val < 0 + 512 by omega)

theorem GoodB.cons {W : FVec F S2x512x2048 .bf16} {x : FVec F S1024x2048 .bf16} {p : CH F} {L : List (View.Piece (Elt F) S1024x512 .bf16)} {n : ℕ}
    (hn : n < 32) (h : GoodB W x p L n) {off : Fin 2 → ℕ} (inb : ∀ a, off a + S32x512.size a ≤ S1024x512.size a) (ho : off = ![32 * (31 - n), 0])
    (v : FVec F S32x512 .bf16) (hv : v = truncf .bf16 (bwdAt W x p (n + 1)).2 bitsLt_bf16_f32) :
    GoodB W x p (⟨Rect.unit (s := S1024x512) off S32x512.size inb, v⟩ :: L) (n + 1) := by
  subst ho hv
  refine ⟨fun q hq z => ?_, fun y hy => ?_⟩
  · rcases List.mem_cons.mp hq with rfl | hq
    · have h0 : (z 0).val < 32 := (z 0).isLt
      have e0 : (((Rect.unit (s := S1024x512) ![32 * (31 - n), 0] S32x512.size inb).emb z) 0 : ℕ) = 32 * (31 - n) + (z 0).val :=
        Rect.idx_unit_val (s := S1024x512) ![32 * (31 - n), 0] S32x512.size inb z 0
      have e1 : (((Rect.unit (s := S1024x512) ![32 * (31 - n), 0] S32x512.size inb).emb z) 1 : ℕ) = (z 1).val :=
        (Rect.idx_unit_val (s := S1024x512) ![32 * (31 - n), 0] S32x512.size inb z 1).trans (Nat.zero_add _)
      unfold outB
      have ed : 32 - (((Rect.unit (s := S1024x512) ![32 * (31 - n), 0] S32x512.size inb).emb z) 0 : ℕ) / 32 = n + 1 := by rw [e0]; omega
      rw [ed]
      refine congrArg (truncf .bf16 (bwdAt W x p (n + 1)).2 bitsLt_bf16_f32) (funext fun a => Fin.ext ?_)
      match a with
      | ⟨0, _⟩ => exact (show (z 0).val = (((Rect.unit (s := S1024x512) ![32 * (31 - n), 0] S32x512.size inb).emb z) 0 : ℕ) % 32 by rw [e0]; omega)
      | ⟨1, _⟩ => exact e1.symm
    · exact h.1 q hq z
  · by_cases hl : 1024 ≤ (y 0).val + 32 * n
    · obtain ⟨q, hq, hm⟩ := h.2 y hl
      exact ⟨q, List.mem_cons_of_mem _ hq, hm⟩
    · refine ⟨_, List.mem_cons_self, ?_⟩
      have h1 : (y 1).val < 512 := (y 1).isLt
      refine (Rect.mem_set_unit (inb := inb)).mpr fun a => ?_
      match a with
      | ⟨0, _⟩ => exact (show 32 * (31 - n) ≤ (y 0).val ∧ (y 0).val < 32 * (31 - n) + 32 by omega)
      | ⟨1, _⟩ => exact (show 0 ≤ (y 1).val ∧ (y 1).val < 0 + 512 by omega)

set_option maxHeartbeats 1000000 in
set_option maxRecDepth 4096 in
/-- Before trip `k` of the loop: the two states after `8 k` steps, and the stores made are right. -/
theorem st_good (𝒱 : Variants) (c : Dev nD) (bd : Option 𝒱.V) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (X4 : BufTy.Contents (Elt F) arg4.view.ty) (X8 : BufTy.Contents (Elt F) arg8.view.ty) (X9 : BufTy.Contents (Elt F) arg9.view.ty)
    (init : FVec F S32x512 .f32 × FVec F S32x512 .f32 × FVec F S32x512 .f32 × FVec F S32x512 .f32) :
    ∀ k, k ≤ 4 → (st_k0_t1 (F := F) 𝒱 c bd i arg1 harg1 arg2 harg2 arg3 harg3 arg4 harg4 arg5 harg5 arg6 harg6 arg7 harg7 arg8 harg8 arg9 harg9 arg10 harg10 arg11 harg11 X4 X8 X9 init k).1 = ((fwdAt (arg4.view.read (Elt F) X4) (arg8.view.read (Elt F) X8) (init.1, init.2.1) (8 * k)).1, (fwdAt (arg4.view.read (Elt F) X4) (arg8.view.read (Elt F) X8) (init.1, init.2.1) (8 * k)).2,
        (bwdAt (arg4.view.read (Elt F) X4) (arg9.view.read (Elt F) X9) (init.2.2.1, init.2.2.2) (8 * k)).1, (bwdAt (arg4.view.read (Elt F) X4) (arg9.view.read (Elt F) X9) (init.2.2.1, init.2.2.2) (8 * k)).2)
      ∧ GoodF (arg4.view.read (Elt F) X4) (arg8.view.read (Elt F) X8) (init.1, init.2.1) (st_k0_t1 (F := F) 𝒱 c bd i arg1 harg1 arg2 harg2 arg3 harg3 arg4 harg4 arg5 harg5 arg6 harg6 arg7 harg7 arg8 harg8 arg9 harg9 arg10 harg10 arg11 harg11 X4 X8 X9 init k).2.1 (8 * k)
      ∧ GoodB (arg4.view.read (Elt F) X4) (arg9.view.read (Elt F) X9) (init.2.2.1, init.2.2.2) (st_k0_t1 (F := F) 𝒱 c bd i arg1 harg1 arg2 harg2 arg3 harg3 arg4 harg4 arg5 harg5 arg6 harg6 arg7 harg7 arg8 harg8 arg9 harg9 arg10 harg10 arg11 harg11 X4 X8 X9 init k).2.2 (8 * k)
  | 0, _ => ⟨rfl, ⟨fun q hq => absurd hq List.not_mem_nil, fun y hy => absurd hy (by omega)⟩,
      ⟨fun q hq => absurd hq List.not_mem_nil, fun y hy => absurd (y 0).isLt (by show ¬ (y 0).val < 1024; omega)⟩⟩
  | k + 1, hk => by
    obtain ⟨e, hF, hB⟩ := st_good 𝒱 c bd i arg1 harg1 arg2 harg2 arg3 harg3 arg4 harg4 arg5 harg5 arg6 harg6 arg7 harg7 arg8 harg8 arg9 harg9 arg10 harg10 arg11 harg11 X4 X8 X9 init k (by omega)
    have hkt : k < k0_t1_loop.trips := by rw [show k0_t1_loop.trips = 4 from by decide]; omega
    have hs := st_k0_t1_succ (F := F) 𝒱 c bd i arg1 harg1 arg2 harg2 arg3 harg3 arg4 harg4 arg5 harg5 arg6 harg6 arg7 harg7 arg8 harg8 arg9 harg9 arg10 harg10 arg11 harg11 X4 X8 X9 init ⟨k, hkt⟩
    dsimp only at hs
    rw [hs, e]
    unfold tripR_k0_t1
    rw [trip_yield, trip_fwd, trip_bwd]
    dsimp only [Prod.mk.eta]
    have hf : ∀ n, n ≤ 8 → fwdSteps arg4 arg8 X4 X8 ⟨k, hkt⟩ (fwdAt (arg4.view.read (Elt F) X4) (arg8.view.read (Elt F) X8) (init.1, init.2.1) (8 * k)) n = _ :=
      fun n hn => fwdSteps_eq arg4 arg8 X4 X8 ⟨k, hkt⟩ (init.1, init.2.1) n hn
    have hb : ∀ n, n ≤ 8 → bwdSteps arg4 arg9 X4 X9 ⟨k, hkt⟩ (bwdAt (arg4.view.read (Elt F) X4) (arg9.view.read (Elt F) X9) (init.2.2.1, init.2.2.2) (8 * k)) n = _ :=
      fun n hn => bwdSteps_eq arg4 arg9 X4 X9 ⟨k, hkt⟩ (init.2.2.1, init.2.2.2) n hn
    rw [hf 1 (by omega), hf 2 (by omega), hf 3 (by omega), hf 4 (by omega), hf 5 (by omega), hf 6 (by omega), hf 7 (by omega), hf 8 (by omega), hb 1 (by omega), hb 2 (by omega), hb 3 (by omega), hb 4 (by omega), hb 5 (by omega), hb 6 (by omega), hb 7 (by omega), hb 8 (by omega)]
    refine ⟨rfl, ?_, ?_⟩
    · show GoodF _ _ _ (_ :: _ :: _ :: _ :: _ :: _ :: _ :: _ :: _) (8 * k + 7 + 1)
      refine GoodF.cons (n := 8 * k + 7) (by omega) ?_ _ ((k0_off5_eq ⟨k, hkt⟩ 7).trans (vec2_eq (by show 256 * k + 32 * 7 = _; omega) rfl)) _ rfl
      refine GoodF.cons (n := 8 * k + 6) (by omega) ?_ _ ((k0_off5_eq ⟨k, hkt⟩ 6).trans (vec2_eq (by show 256 * k + 32 * 6 = _; omega) rfl)) _ rfl
      refine GoodF.cons (n := 8 * k + 5) (by omega) ?_ _ ((k0_off5_eq ⟨k, hkt⟩ 5).trans (vec2_eq (by show 256 * k + 32 * 5 = _; omega) rfl)) _ rfl
      refine GoodF.cons (n := 8 * k + 4) (by omega) ?_ _ ((k0_off5_eq ⟨k, hkt⟩ 4).trans (vec2_eq (by show 256 * k + 32 * 4 = _; omega) rfl)) _ rfl
      refine GoodF.cons (n := 8 * k + 3) (by omega) ?_ _ ((k0_off5_eq ⟨k, hkt⟩ 3).trans (vec2_eq (by show 256 * k + 32 * 3 = _; omega) rfl)) _ rfl
      refine GoodF.cons (n := 8 * k + 2) (by omega) ?_ _ ((k0_off5_eq ⟨k, hkt⟩ 2).trans (vec2_eq (by show 256 * k + 32 * 2 = _; omega) rfl)) _ rfl
      refine GoodF.cons (n := 8 * k + 1) (by omega) ?_ _ ((k0_off5_eq ⟨k, hkt⟩ 1).trans (vec2_eq (by show 256 * k + 32 * 1 = _; omega) rfl)) _ rfl
      refine GoodF.cons (n := 8 * k + 0) (by omega) ?_ _ ((k0_off5_eq ⟨k, hkt⟩ 0).trans (vec2_eq (by show 256 * k + 32 * 0 = _; omega) rfl)) _ rfl
      exact hF
    · show GoodB _ _ _ (_ :: _ :: _ :: _ :: _ :: _ :: _ :: _ :: _) (8 * k + 7 + 1)
      refine GoodB.cons (n := 8 * k + 7) (by omega) ?_ _ ((k0_off10_eq ⟨k, hkt⟩ 7).trans (vec2_eq (by show 992 - (256 * k + 32 * 7) = _; omega) rfl)) _ rfl
      refine GoodB.cons (n := 8 * k + 6) (by omega) ?_ _ ((k0_off10_eq ⟨k, hkt⟩ 6).trans (vec2_eq (by show 992 - (256 * k + 32 * 6) = _; omega) rfl)) _ rfl
      refine GoodB.cons (n := 8 * k + 5) (by omega) ?_ _ ((k0_off10_eq ⟨k, hkt⟩ 5).trans (vec2_eq (by show 992 - (256 * k + 32 * 5) = _; omega) rfl)) _ rfl
      refine GoodB.cons (n := 8 * k + 4) (by omega) ?_ _ ((k0_off10_eq ⟨k, hkt⟩ 4).trans (vec2_eq (by show 992 - (256 * k + 32 * 4) = _; omega) rfl)) _ rfl
      refine GoodB.cons (n := 8 * k + 3) (by omega) ?_ _ ((k0_off10_eq ⟨k, hkt⟩ 3).trans (vec2_eq (by show 992 - (256 * k + 32 * 3) = _; omega) rfl)) _ rfl
      refine GoodB.cons (n := 8 * k + 2) (by omega) ?_ _ ((k0_off10_eq ⟨k, hkt⟩ 2).trans (vec2_eq (by show 992 - (256 * k + 32 * 2) = _; omega) rfl)) _ rfl
      refine GoodB.cons (n := 8 * k + 1) (by omega) ?_ _ ((k0_off10_eq ⟨k, hkt⟩ 1).trans (vec2_eq (by show 992 - (256 * k + 32 * 1) = _; omega) rfl)) _ rfl
      refine GoodB.cons (n := 8 * k + 0) (by omega) ?_ _ ((k0_off10_eq ⟨k, hkt⟩ 0).trans (vec2_eq (by show 992 - (256 * k + 32 * 0) = _; omega) rfl)) _ rfl
      exact hB

end Cert.Kernel2Ideal.Gen

end
-- ==== Proof.Hand.First.Body.lean ====
module

public import proofs.«01_k».proof.Proof.Hand.First.Cell
public import proofs.«01_k».proof.Proof.Gen.Kernel2Ideal.Frame
/- The layer kernel's body run once per case of its one branch. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (its one branch), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x32x32x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
abbrev scM0_1 : Memref sig .tc .vmem S1024x2048 .bf16 := Memref.whole cc0_scratch1
abbrev scM0_2 : Memref sig .tc .vmem S2x32x512 .f32 := Memref.whole cc0_scratch2
abbrev scM0_3 : Memref sig .tc .vmem S2x32x512 .f32 := Memref.whole cc0_scratch3
/-- The scratch `arg10` the kernel carries between points, as a view: what it holds is stated through it. -/
abbrev VS0_2 : View sig .tc .vmem S2x32x512 .f32 := scM0_2.view
/-- The scratch `arg11` the kernel carries between points, as a view: what it holds is stated through it. -/
abbrev VS0_3 : View sig .tc .vmem S2x32x512 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 2000000 in
/-- The body at the first grid point, where it first resets the carried state: the
    pieces it leaves in the two outputs and in the carried state. -/
noncomputable def layerRun_A (c : Dev nD) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (hc0 : cond0_0 i)
    (x0 : Vec F S1x32x32x1024 .bf16) (x1 : Vec F S1x32x32x1024 .bf16) (x2 : Vec F S2x1024x2048 .bf16) (x3 : Vec F S2x512x2048 .bf16) (x4 : Vec F S2x1x2048 .f32) :
    Σ' (L8 : List (View.Piece (Elt F) S1024x512 .bf16)) (L9 : List (View.Piece (Elt F) S1024x512 .bf16)) (LS2 : List (View.Piece (Elt F) S2x32x512 .f32)), { LS3 : List (View.Piece (Elt F) S2x32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L8) ∗ (∃ f, arg7.view.loc (c : Thread nD τ) ↦[arg7.view.set]{fullShare} arg7.view.writes (Elt F) f L9) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__lstm_layer_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__lstm_layer_kernel_eq_skeleton]; unfold cc0__lstm_layer_kernel_skel
    simp only [k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

set_option maxHeartbeats 2000000 in
/-- The body at a later grid point, from the carried state the point before left: the
    pieces it leaves in the two outputs and in the carried state. -/
noncomputable def layerRun_B (c : Dev nD) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (hc0 : ¬cond0_0 i)
    (x0 : Vec F S1x32x32x1024 .bf16) (x1 : Vec F S1x32x32x1024 .bf16) (x2 : Vec F S2x1024x2048 .bf16) (x3 : Vec F S2x512x2048 .bf16) (x4 : Vec F S2x1x2048 .f32) (xs2 : Vec F S2x32x512 .f32) (xs3 : Vec F S2x32x512 .f32) :
    Σ' (L8 : List (View.Piece (Elt F) S1024x512 .bf16)) (L9 : List (View.Piece (Elt F) S1024x512 .bf16)) (LS2 : List (View.Piece (Elt F) S2x32x512 .f32)), { LS3 : List (View.Piece (Elt F) S2x32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L8) ∗ (∃ f, arg7.view.loc (c : Thread nD τ) ↦[arg7.view.set]{fullShare} arg7.view.writes (Elt F) f L9) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__lstm_layer_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__lstm_layer_kernel_eq_skeleton]; unfold cc0__lstm_layer_kernel_skel
    simp only [k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%fs2, %hfs2, HS2⟩, ⟨%fs3, %hfs3, HS3⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg10.eq_unread hfs2
    obtain rfl := harg11.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.Kernel2Ideal.Gen

end
-- ==== Proof.Hand.First.Block.lean ====
module

public import proofs.«01_k».proof.Proof.Hand.First.Loop
public import proofs.«01_k».proof.Proof.Hand.First.Body
/- What one grid point of the layer kernel leaves, as functions of what it reads: the blocks of inputs, the weights,
   the bias and the state carried from the grid point before. -/
@[expose] public section

set_option maxRecDepth 16384

noncomputable section

namespace Cert.Kernel2Ideal.Gen

open Idealize.ShloMosaic Idealize.ShloMosaic.TcCoe

variable {F : FTy → Type} [FloatOps F]

/-- One direction's half of a pair of states. -/
def half (s : FVec F S2x32x512 .f32) (d : Fin 2) : FVec F S32x512 .f32 :=
  fun i => s (ValueIdx.ix3 d (⟨(i 0).val, (i 0).isLt⟩ : Fin 32) (⟨(i 1).val, (i 1).isLt⟩ : Fin 512))

/-- Two directions' states side by side. -/
def stk (a b : FVec F S32x512 .f32) : FVec F S2x32x512 .f32 :=
  fun y => if (y 0).val = 0 then a (ValueIdx.ix2 (⟨(y 1).val, (y 1).isLt⟩ : Fin 32) (⟨(y 2).val, (y 2).isLt⟩ : Fin 512))
    else b (ValueIdx.ix2 (⟨(y 1).val, (y 1).isLt⟩ : Fin 32) (⟨(y 2).val, (y 2).isLt⟩ : Fin 512))

theorem half_stk_0 (a b : FVec F S32x512 .f32) : half (stk a b) 0 = a :=
  funext fun i => congrArg a (ValueIdx.eq_ix2 (i : (a : Fin 2) → Fin (S32x512.size a))).symm

theorem half_stk_1 (a b : FVec F S32x512 .f32) : half (stk a b) 1 = b :=
  funext fun i => congrArg b (ValueIdx.eq_ix2 (i : (a : Fin 2) → Fin (S32x512.size a))).symm

/-- The zero pair of states. -/
def zst : FVec F S2x32x512 .f32 := fun _ => Scalar.ofBits .f32 0#32

/-- The input weights of direction `d`. -/
def wxsl (wx : FVec F S2x1024x2048 .bf16) (d : Fin 2) : FVec F S1024x2048 .bf16 :=
  fun i => wx (ValueIdx.ix3 d (⟨(i 0).val, (i 0).isLt⟩ : Fin 1024) (⟨(i 1).val, (i 1).isLt⟩ : Fin 2048))

/-- A block of inputs with its time and batch axes made one. -/
def flat (x : FVec F S1x32x32x1024 .bf16) : FVec F S1024x1024 .bf16 :=
  shapeCast S1024x1024 (shapeCast S32x32x1024 x shapeCasts_S1x32x32x1024_S32x32x1024) shapeCasts_S32x32x1024_S1024x1024

/-- The bias of direction `d`, the same in every row. -/
def bbc (b : FVec F S2x1x2048 .f32) (d : Fin 2) : FVec F S1024x2048 .f32 :=
  fun i => b (ValueIdx.ix3 d (0 : Fin 1) (⟨(i 1).val, (i 1).isLt⟩ : Fin 2048))

/-- The input projections of a block. -/
def proj (x : FVec F S1x32x32x1024 .bf16) (wx : FVec F S2x1024x2048 .bf16) (b : FVec F S2x1x2048 .f32) (d : Fin 2) : FVec F S1024x2048 .bf16 :=
  truncf .bf16 (addf (matmul dot_S1024x1024_S1024x2048_S1024x2048_1_0_0_1_n_n none (flat x) (wxsl wx d) (constant S1024x2048 .f32 0#32)) (bbc b d)) bitsLt_bf16_f32

theorem read5_eq (arg3 : Memref sig .tc .vmem S2x1024x2048 .bf16) (harg3 : arg3.IsWhole) (x2 : FVec F S2x1024x2048 .bf16) (d : Fin 2)
    (off : Fin 3 → ℕ) (inb : ∀ a, off a + S1x1024x2048.size a ≤ S2x1024x2048.size a) (h : off = ![d.val, 0, 0]) :
    shapeCast S1024x2048 (View.readAt (Elt F) arg3.view (Rect.unit (s := S2x1024x2048) off S1x1024x2048.size inb).toLoadRect (harg3.unread x2) : S1x1024x2048.Idx → Elt F .bf16) shapeCasts_S1x1024x2048_S1024x2048
      = wxsl x2 d := by
  subst h
  rw [View.readAt_eq_ld, harg3.read_unread]
  funext i
  refine (shapeCast_dropUnit_apply (n := 2) ![1024, 2048] _ _ i).trans (congrArg x2 (funext fun a => Fin.ext ?_))
  rw [Rect.idx_unit_val]
  match a with
  | ⟨0, _⟩ => rfl
  | ⟨1, _⟩ => exact Nat.zero_add _
  | ⟨2, _⟩ => exact Nat.zero_add _

theorem read7_eq (arg5 : Memref sig .tc .vmem S2x1x2048 .f32) (harg5 : arg5.IsWhole) (x4 : FVec F S2x1x2048 .f32) (d : Fin 2)
    (off : Fin 3 → ℕ) (inb : ∀ a, off a + S1x1x2048.size a ≤ S2x1x2048.size a) (h : off = ![d.val, 0, 0]) :
    broadcastTo S1024x2048 (shapeCast S1x2048 (View.readAt (Elt F) arg5.view (Rect.unit (s := S2x1x2048) off S1x1x2048.size inb).toLoadRect (harg5.unread x4) : S1x1x2048.Idx → Elt F .f32) shapeCasts_S1x1x2048_S1x2048) broadcasts_S1x2048_S1024x2048
      = bbc x4 d := by
  subst h
  rw [View.readAt_eq_ld, harg5.read_unread]
  funext i
  refine (broadcastTo_apply _ _ _ (ValueIdx.ix2 (0 : Fin 1) (⟨(i 1).val, (i 1).isLt⟩ : Fin 2048)) fun a => ?_).trans ?_
  · match a with
    | ⟨0, _⟩ => rfl
    | ⟨1, _⟩ => rfl
  refine (shapeCast_dropUnit_apply (n := 2) ![1, 2048] _ _ _).trans (congrArg x4 (funext fun a => Fin.ext ?_))
  rw [Rect.idx_unit_val]
  match a with
  | ⟨0, _⟩ => rfl
  | ⟨1, _⟩ => rfl
  | ⟨2, _⟩ => exact Nat.zero_add _

theorem read_whole (arg : Memref sig .tc .vmem S1x32x32x1024 .bf16) (harg : arg.IsWhole) (x : FVec F S1x32x32x1024 .bf16)
    (off : Fin 4 → ℕ) (inb : ∀ a, off a + S1x32x32x1024.size a ≤ S1x32x32x1024.size a) (h : off = fun _ => 0) :
    (View.readAt (Elt F) arg.view (Rect.unit (s := S1x32x32x1024) off S1x32x32x1024.size inb).toLoadRect (harg.unread x) : S1x32x32x1024.Idx → Elt F .bf16) = x := by
  rw [View.readAt_eq_ld, harg.read_unread, View.ld_unit_zero h]

theorem vec4_zero : (![0, 0, 0, 0] : Fin 4 → ℕ) = fun _ => 0 := funext fun a => match a with | ⟨0, _⟩ => rfl | ⟨1, _⟩ => rfl | ⟨2, _⟩ => rfl | ⟨3, _⟩ => rfl

theorem vec2_zero : (![0, 0] : Fin 2 → ℕ) = fun _ => 0 := funext fun a => match a with | ⟨0, _⟩ => rfl | ⟨1, _⟩ => rfl

theorem vec3_zero : (![0, 0, 0] : Fin 3 → ℕ) = fun _ => 0 := funext fun a => match a with | ⟨0, _⟩ => rfl | ⟨1, _⟩ => rfl | ⟨2, _⟩ => rfl

/-- Two states stored one under the other read back side by side, whatever was there. -/
theorem canon_stk (u v : FVec F S32x512 .f32) (inb : ∀ a, (![1, 0, 0] : Fin 3 → ℕ) a + S1x32x512.size a ≤ S2x32x512.size a)
    (inb' : ∀ a, (![0, 0, 0] : Fin 3 → ℕ) a + S1x32x512.size a ≤ S2x32x512.size a) (L : List (View.Piece (Elt F) S2x32x512 .f32)) :
    View.canon ((⟨Rect.unit (s := S2x32x512) ![1, 0, 0] S1x32x512.size inb, shapeCast S1x32x512 v shapeCasts_S32x512_S1x32x512⟩ : View.Piece (Elt F) S2x32x512 .f32)
      :: (⟨Rect.unit (s := S2x32x512) ![0, 0, 0] S1x32x512.size inb', shapeCast S1x32x512 u shapeCasts_S32x512_S1x32x512⟩ : View.Piece (Elt F) S2x32x512 .f32) :: L) = stk u v := by
  funext y
  have h0 : (y 0).val < 2 := (y 0).isLt
  by_cases h : (y 0).val = 0
  · rw [View.canon_cons_of_not_mem]
    · have ey : y = (Rect.unit (s := S2x32x512) ![0, 0, 0] S1x32x512.size inb').emb (ValueIdx.ix3 (0 : Fin 1) (⟨(y 1).val, (y 1).isLt⟩ : Fin 32) (⟨(y 2).val, (y 2).isLt⟩ : Fin 512)) := by
        funext a
        refine Fin.ext ((?_ : _ = _).trans (Rect.idx_unit_val (s := S2x32x512) ![0, 0, 0] S1x32x512.size inb' _ a).symm)
        match a with
        | ⟨0, _⟩ => exact h
        | ⟨1, _⟩ => exact (Nat.zero_add _).symm
        | ⟨2, _⟩ => exact (Nat.zero_add _).symm
      have es : stk u v y = u (ValueIdx.ix2 (⟨(y 1).val, (y 1).isLt⟩ : Fin 32) (⟨(y 2).val, (y 2).isLt⟩ : Fin 512)) := if_pos h
      rw [es]
      refine (congrArg _ ey).trans ((View.canon_cons_emb _ _ _ _).trans ((shapeCast_addUnit_apply (n := 2) ![32, 512] _ _ _).trans (congrArg u (funext fun a => ?_))))
      match a with
      | ⟨0, _⟩ => rfl
      | ⟨1, _⟩ => rfl
    · intro hm
      have := (Rect.mem_set_unit (inb := inb)).mp hm (0 : Fin 3)
      have h1 : 1 ≤ (y 0).val := this.1
      omega
  · have ey : y = (Rect.unit (s := S2x32x512) ![1, 0, 0] S1x32x512.size inb).emb (ValueIdx.ix3 (0 : Fin 1) (⟨(y 1).val, (y 1).isLt⟩ : Fin 32) (⟨(y 2).val, (y 2).isLt⟩ : Fin 512)) := by
      funext a
      refine Fin.ext ((?_ : _ = _).trans (Rect.idx_unit_val (s := S2x32x512) ![1, 0, 0] S1x32x512.size inb _ a).symm)
      match a with
      | ⟨0, _⟩ => exact (show (y 0).val = 1 + 0 by omega)
      | ⟨1, _⟩ => exact (Nat.zero_add _).symm
      | ⟨2, _⟩ => exact (Nat.zero_add _).symm
    have es : stk u v y = v (ValueIdx.ix2 (⟨(y 1).val, (y 1).isLt⟩ : Fin 32) (⟨(y 2).val, (y 2).isLt⟩ : Fin 512)) := if_neg h
    rw [es]
    refine (congrArg _ ey).trans ((View.canon_cons_emb _ _ _ _).trans ((shapeCast_addUnit_apply (n := 2) ![32, 512] _ _ _).trans (congrArg v (funext fun a => ?_))))
    match a with
    | ⟨0, _⟩ => rfl
    | ⟨1, _⟩ => rfl

/-- A half of the carried state read back. -/
theorem readH (arg : Memref sig .tc .vmem S2x32x512 .f32) (harg : arg.IsWhole) (xs : FVec F S2x32x512 .f32) (d : Fin 2)
    (off : Fin 3 → ℕ) (inb : ∀ a, off a + S1x32x512.size a ≤ S2x32x512.size a) (h : off = ![d.val, 0, 0]) :
    shapeCast S32x512 (View.readAt (Elt F) arg.view (Rect.unit (s := S2x32x512) off S1x32x512.size inb).toLoadRect (harg.unread xs) : S1x32x512.Idx → Elt F .f32) shapeCasts_S1x32x512_S32x512
      = half xs d := by
  subst h
  rw [View.readAt_eq_ld, harg.read_unread]
  funext i
  refine (shapeCast_dropUnit_apply (n := 2) ![32, 512] _ _ i).trans (congrArg xs (funext fun a => Fin.ext ?_))
  rw [Rect.idx_unit_val]
  match a with
  | ⟨0, _⟩ => rfl
  | ⟨1, _⟩ => exact Nat.zero_add _
  | ⟨2, _⟩ => exact Nat.zero_add _

/-- A half of the state just reset is zero. -/
theorem readZ (arg : Memref sig .tc .vmem S2x32x512 .f32) (d : Fin 2)
    (off : Fin 3 → ℕ) (inb : ∀ a, off a + S1x32x512.size a ≤ S2x32x512.size a) (_ : off = ![d.val, 0, 0]) :
    shapeCast S32x512 (arg.view.readCov [(⟨Rect.unit (s := S2x32x512) ![0, 0, 0] S2x32x512.size inb_S2x32x512_S2x32x512_0_0_0, k0_pay1⟩ : View.Piece (Elt F) S2x32x512 .f32)]
      (Rect.unit (s := S2x32x512) off S1x32x512.size inb).toLoadRect : S1x32x512.Idx → Elt F .f32) shapeCasts_S1x32x512_S32x512
      = half zst d := by
  rw [View.readCov_eq_canon', View.canon_unit_zero vec3_zero]
  rfl

theorem projF_read (arg8 : Memref sig .tc .vmem S1024x2048 .bf16) (arg1 : Memref sig .tc .vmem S1x32x32x1024 .bf16) (harg1 : arg1.IsWhole)
    (arg3 : Memref sig .tc .vmem S2x1024x2048 .bf16) (harg3 : arg3.IsWhole) (arg5 : Memref sig .tc .vmem S2x1x2048 .f32) (harg5 : arg5.IsWhole)
    (x0 : FVec F S1x32x32x1024 .bf16) (x2 : FVec F S2x1024x2048 .bf16) (x4 : FVec F S2x1x2048 .f32) :
    arg8.view.read (Elt F) (arg8.view.writes (Elt F) arg8.view.junk [(⟨Rect.unit (s := S1024x2048) ![0, 0] S1024x2048.size inb_S1024x2048_S1024x2048_0_0,
      k0_pay110 (View.readAt (Elt F) arg1.view (Rect.unit (s := S1x32x32x1024) ![0, 0, 0, 0] S1x32x32x1024.size inb_S1x32x32x1024_S1x32x32x1024_0_0_0_0).toLoadRect (harg1.unread x0))
        (View.readAt (Elt F) arg3.view (Rect.unit (s := S2x1024x2048) ![0, 0, 0] S1x1024x2048.size inb_S2x1024x2048_S1x1024x2048_0_0_0).toLoadRect (harg3.unread x2))
        (View.readAt (Elt F) arg5.view (Rect.unit (s := S2x1x2048) ![0, 0, 0] S1x1x2048.size inb_S2x1x2048_S1x1x2048_0_0_0).toLoadRect (harg5.unread x4))⟩ : View.Piece (Elt F) S1024x2048 .bf16)])
      = proj x0 x2 x4 0 := by
  rw [View.read_writes_junk_eq_canon, View.canon_unit_zero vec2_zero]
  unfold k0_pay110
  dsimp only
  rw [read_whole arg1 harg1 x0 _ _ vec4_zero, read5_eq arg3 harg3 x2 0 ![0, 0, 0] inb_S2x1024x2048_S1x1024x2048_0_0_0 rfl, read7_eq arg5 harg5 x4 0 ![0, 0, 0] inb_S2x1x2048_S1x1x2048_0_0_0 rfl]
  repeat rw [shapeCast_self]
  rfl

theorem projB_read (arg9 : Memref sig .tc .vmem S1024x2048 .bf16) (arg2 : Memref sig .tc .vmem S1x32x32x1024 .bf16) (harg2 : arg2.IsWhole)
    (arg3 : Memref sig .tc .vmem S2x1024x2048 .bf16) (harg3 : arg3.IsWhole) (arg5 : Memref sig .tc .vmem S2x1x2048 .f32) (harg5 : arg5.IsWhole)
    (x1 : FVec F S1x32x32x1024 .bf16) (x2 : FVec F S2x1024x2048 .bf16) (x4 : FVec F S2x1x2048 .f32) :
    arg9.view.read (Elt F) (arg9.view.writes (Elt F) arg9.view.junk [(⟨Rect.unit (s := S1024x2048) ![0, 0] S1024x2048.size inb_S1024x2048_S1024x2048_0_0,
      k0_pay111 (View.readAt (Elt F) arg2.view (Rect.unit (s := S1x32x32x1024) ![0, 0, 0, 0] S1x32x32x1024.size inb_S1x32x32x1024_S1x32x32x1024_0_0_0_0).toLoadRect (harg2.unread x1))
        (View.readAt (Elt F) arg3.view (Rect.unit (s := S2x1024x2048) ![1, 0, 0] S1x1024x2048.size inb_S2x1024x2048_S1x1024x2048_1_0_0).toLoadRect (harg3.unread x2))
        (View.readAt (Elt F) arg5.view (Rect.unit (s := S2x1x2048) ![1, 0, 0] S1x1x2048.size inb_S2x1x2048_S1x1x2048_1_0_0).toLoadRect (harg5.unread x4))⟩ : View.Piece (Elt F) S1024x2048 .bf16)])
      = proj x1 x2 x4 1 := by
  rw [View.read_writes_junk_eq_canon, View.canon_unit_zero vec2_zero]
  unfold k0_pay111
  dsimp only
  rw [read_whole arg2 harg2 x1 _ _ vec4_zero, read5_eq arg3 harg3 x2 1 ![1, 0, 0] inb_S2x1024x2048_S1x1024x2048_1_0_0 rfl, read7_eq arg5 harg5 x4 1 ![1, 0, 0] inb_S2x1x2048_S1x1x2048_1_0_0 rfl]
  repeat rw [shapeCast_self]
  rfl

/-- Right pieces that cover read back as the block of outputs. -/
theorem GoodF.read {W : FVec F S2x512x2048 .bf16} {x : FVec F S1024x2048 .bf16} {p : CH F} {L : List (View.Piece (Elt F) S1024x512 .bf16)}
    (h : GoodF W x p L 32) (v : View sig .tc .vmem S1024x512 .bf16) (f : BufTy.Contents (Elt F) v.ty) : v.read (Elt F) (v.writes (Elt F) f L) = outF W x p := by
  have hc : ∀ y : S1024x512.Idx, ∃ q ∈ L, y ∈ q.1.set := fun y => h.2 y (by have : (y 0).val < 1024 := (y 0).isLt; omega)
  rw [View.read_writes_eq_canon v f L hc]
  exact funext fun y => View.canon_apply_of_pieces (outF W x p) L h.1 y (hc y)

theorem GoodB.read {W : FVec F S2x512x2048 .bf16} {x : FVec F S1024x2048 .bf16} {p : CH F} {L : List (View.Piece (Elt F) S1024x512 .bf16)}
    (h : GoodB W x p L 32) (v : View sig .tc .vmem S1024x512 .bf16) (f : BufTy.Contents (Elt F) v.ty) : v.read (Elt F) (v.writes (Elt F) f L) = outB W x p := by
  have hc : ∀ y : S1024x512.Idx, ∃ q ∈ L, y ∈ q.1.set := fun y => h.2 y (by have : (y 0).val < 1024 := (y 0).isLt; omega)
  rw [View.read_writes_eq_canon v f L hc]
  exact funext fun y => View.canon_apply_of_pieces (outB W x p) L h.1 y (hc y)

/-- The whole loop: the states it ends with and the stores it makes. -/
theorem loop_out (𝒱 : Variants) (c : Dev nD) (bd : Option 𝒱.V) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (X4 : BufTy.Contents (Elt F) arg4.view.ty) (X8 : BufTy.Contents (Elt F) arg8.view.ty) (X9 : BufTy.Contents (Elt F) arg9.view.ty)
    (W : FVec F S2x512x2048 .bf16) (xf xb : FVec F S1024x2048 .bf16) (a0 a1 a2 a3 : FVec F S32x512 .f32)
    (hW : arg4.view.read (Elt F) X4 = W) (hx : arg8.view.read (Elt F) X8 = xf) (hy : arg9.view.read (Elt F) X9 = xb)
    {b0 b1 b2 b3 : FVec F S32x512 .f32} (h0 : b0 = a0) (h1 : b1 = a1) (h2 : b2 = a2) (h3 : b3 = a3) :
    let st := st_k0_t1 (F := F) 𝒱 c bd i arg1 harg1 arg2 harg2 arg3 harg3 arg4 harg4 arg5 harg5 arg6 harg6 arg7 harg7 arg8 harg8 arg9 harg9 arg10 harg10 arg11 harg11 X4 X8 X9 (b0, b1, b2, b3) (Scf.trips 0#32 (Scalar.addi 0#32 4#32) 1#32)
    st.1 = ((fwdAt W xf (a0, a1) 32).1, (fwdAt W xf (a0, a1) 32).2, (bwdAt W xb (a2, a3) 32).1, (bwdAt W xb (a2, a3) 32).2)
      ∧ GoodF W xf (a0, a1) st.2.1 32 ∧ GoodB W xb (a2, a3) st.2.2 32 := by
  intro st
  have e4 : Scf.trips 0#32 (Scalar.addi 0#32 4#32) 1#32 = 4 := by decide
  have h := st_good 𝒱 c bd i arg1 harg1 arg2 harg2 arg3 harg3 arg4 harg4 arg5 harg5 arg6 harg6 arg7 harg7 arg8 harg8 arg9 harg9 arg10 harg10 arg11 harg11 X4 X8 X9 (b0, b1, b2, b3) 4 (le_refl 4)
  subst h0 h1 h2 h3
  rw [hW, hx, hy] at h
  show (st_k0_t1 (F := F) 𝒱 c bd i arg1 harg1 arg2 harg2 arg3 harg3 arg4 harg4 arg5 harg5 arg6 harg6 arg7 harg7 arg8 harg8 arg9 harg9 arg10 harg10 arg11 harg11 X4 X8 X9 (b0, b1, b2, b3) (Scf.trips 0#32 (Scalar.addi 0#32 4#32) 1#32)).1 = _ ∧ _
  dsimp only [st]
  rw [e4]
  exact h

set_option maxHeartbeats 2000000 in
/-- What the body leaves at the first grid point: the two blocks of outputs and the two directions' states. -/
theorem runA_good (c : Dev nD) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (hc0 : cond0_0 i)
    (x0 : Vec F S1x32x32x1024 .bf16) (x1 : Vec F S1x32x32x1024 .bf16) (x2 : Vec F S2x1024x2048 .bf16) (x3 : Vec F S2x512x2048 .bf16) (x4 : Vec F S2x1x2048 .f32) :
    GoodF x3 (proj x0 x2 x4 0) (half zst 0, half zst 0) (layerRun_A c i arg1 harg1 arg2 harg2 arg3 harg3 arg4 harg4 arg5 harg5 arg6 harg6 arg7 harg7 arg8 harg8 arg9 harg9 arg10 harg10 arg11 harg11 hc0 x0 x1 x2 x3 x4).1 32 ∧ GoodB x3 (proj x1 x2 x4 1) (half zst 1, half zst 1) (layerRun_A c i arg1 harg1 arg2 harg2 arg3 harg3 arg4 harg4 arg5 harg5 arg6 harg6 arg7 harg7 arg8 harg8 arg9 harg9 arg10 harg10 arg11 harg11 hc0 x0 x1 x2 x3 x4).2.1 32
      ∧ View.canon (layerRun_A c i arg1 harg1 arg2 harg2 arg3 harg3 arg4 harg4 arg5 harg5 arg6 harg6 arg7 harg7 arg8 harg8 arg9 harg9 arg10 harg10 arg11 harg11 hc0 x0 x1 x2 x3 x4).2.2.1 = stk (fwdAt x3 (proj x0 x2 x4 0) (half zst 0, half zst 0) 32).1 (bwdAt x3 (proj x1 x2 x4 1) (half zst 1, half zst 1) 32).1
      ∧ View.canon (layerRun_A c i arg1 harg1 arg2 harg2 arg3 harg3 arg4 harg4 arg5 harg5 arg6 harg6 arg7 harg7 arg8 harg8 arg9 harg9 arg10 harg10 arg11 harg11 hc0 x0 x1 x2 x3 x4).2.2.2.1 = stk (fwdAt x3 (proj x0 x2 x4 0) (half zst 0, half zst 0) 32).2 (bwdAt x3 (proj x1 x2 x4 1) (half zst 1, half zst 1) 32).2 := by
  unfold layerRun_A
  dsimp only
  have e := loop_out Variants.none c none i arg1 harg1 arg2 harg2 arg3 harg3 arg4 harg4 arg5 harg5 arg6 harg6 arg7 harg7 arg8 harg8 arg9 harg9 arg10 harg10 arg11 harg11 (harg4.unread x3)
    (arg8.view.writes (Elt F) arg8.view.junk (layerRun_A.sl.HS0_1 c arg1 harg1 arg3 harg3 arg5 harg5 x0 x2 x4))
    (arg9.view.writes (Elt F) arg9.view.junk (layerRun_A.sl.HS1_1 c arg2 harg2 arg3 harg3 arg5 harg5 x1 x2 x4))
    x3 (proj x0 x2 x4 0) (proj x1 x2 x4 1) (half zst 0) (half zst 0) (half zst 1) (half zst 1)
    (harg4.read_unread x3)
    (projF_read arg8 arg1 harg1 arg3 harg3 arg5 harg5 x0 x2 x4)
    (projB_read arg9 arg2 harg2 arg3 harg3 arg5 harg5 x1 x2 x4)
    (readZ arg10 0 ![0, 0, 0] inb_S2x32x512_S1x32x512_0_0_0 rfl) (readZ arg11 0 ![0, 0, 0] inb_S2x32x512_S1x32x512_0_0_0 rfl)
    (readZ arg10 1 ![1, 0, 0] inb_S2x32x512_S1x32x512_1_0_0 rfl) (readZ arg11 1 ![1, 0, 0] inb_S2x32x512_S1x32x512_1_0_0 rfl)
  exact ⟨e.2.1, e.2.2,
    (canon_stk _ _ _ _ _).trans (congrArg₂ stk (congrArg (fun q => q.1) e.1) (congrArg (fun q => q.2.2.1) e.1)),
    (canon_stk _ _ _ _ _).trans (congrArg₂ stk (congrArg (fun q => q.2.1) e.1) (congrArg (fun q => q.2.2.2) e.1))⟩

set_option maxHeartbeats 2000000 in
/-- What the body leaves at a later grid point: the two blocks of outputs and the two directions' states. -/
theorem runB_good (c : Dev nD) (i : grid0.Coords) (arg1 : Memref sig .tc .vmem S1x32x32x1024 .bf16) (harg1 : arg1.IsWhole) (arg2 : Memref sig .tc .vmem S1x32x32x1024 .bf16) (harg2 : arg2.IsWhole) (arg3 : Memref sig .tc .vmem S2x1024x2048 .bf16) (harg3 : arg3.IsWhole) (arg4 : Memref sig .tc .vmem S2x512x2048 .bf16) (harg4 : arg4.IsWhole) (arg5 : Memref sig .tc .vmem S2x1x2048 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x32x512 .f32) (harg10 : arg10.IsWhole) (arg11 : Memref sig .tc .vmem S2x32x512 .f32) (harg11 : arg11.IsWhole) (hc0 : ¬cond0_0 i)
    (x0 : Vec F S1x32x32x1024 .bf16) (x1 : Vec F S1x32x32x1024 .bf16) (x2 : Vec F S2x1024x2048 .bf16) (x3 : Vec F S2x512x2048 .bf16) (x4 : Vec F S2x1x2048 .f32) (xs2 : Vec F S2x32x512 .f32) (xs3 : Vec F S2x32x512 .f32) :
    GoodF x3 (proj x0 x2 x4 0) (half xs2 0, half xs3 0) (layerRun_B c i arg1 harg1 arg2 harg2 arg3 harg3 arg4 harg4 arg5 harg5 arg6 harg6 arg7 harg7 arg8 harg8 arg9 harg9 arg10 harg10 arg11 harg11 hc0 x0 x1 x2 x3 x4 xs2 xs3).1 32 ∧ GoodB x3 (proj x1 x2 x4 1) (half xs2 1, half xs3 1) (layerRun_B c i arg1 harg1 arg2 harg2 arg3 harg3 arg4 harg4 arg5 harg5 arg6 harg6 arg7 harg7 arg8 harg8 arg9 harg9 arg10 harg10 arg11 harg11 hc0 x0 x1 x2 x3 x4 xs2 xs3).2.1 32
      ∧ View.canon (layerRun_B c i arg1 harg1 arg2 harg2 arg3 harg3 arg4 harg4 arg5 harg5 arg6 harg6 arg7 harg7 arg8 harg8 arg9 harg9 arg10 harg10 arg11 harg11 hc0 x0 x1 x2 x3 x4 xs2 xs3).2.2.1 = stk (fwdAt x3 (proj x0 x2 x4 0) (half xs2 0, half xs3 0) 32).1 (bwdAt x3 (proj x1 x2 x4 1) (half xs2 1, half xs3 1) 32).1
      ∧ View.canon (layerRun_B c i arg1 harg1 arg2 harg2 arg3 harg3 arg4 harg4 arg5 harg5 arg6 harg6 arg7 harg7 arg8 harg8 arg9 harg9 arg10 harg10 arg11 harg11 hc0 x0 x1 x2 x3 x4 xs2 xs3).2.2.2.1 = stk (fwdAt x3 (proj x0 x2 x4 0) (half xs2 0, half xs3 0) 32).2 (bwdAt x3 (proj x1 x2 x4 1) (half xs2 1, half xs3 1) 32).2 := by
  unfold layerRun_B
  dsimp only
  have e := loop_out Variants.none c none i arg1 harg1 arg2 harg2 arg3 harg3 arg4 harg4 arg5 harg5 arg6 harg6 arg7 harg7 arg8 harg8 arg9 harg9 arg10 harg10 arg11 harg11 (harg4.unread x3)
    (arg8.view.writes (Elt F) arg8.view.junk (layerRun_B.sl.HS0_1 c arg1 harg1 arg3 harg3 arg5 harg5 x0 x2 x4))
    (arg9.view.writes (Elt F) arg9.view.junk (layerRun_B.sl.HS1_1 c arg2 harg2 arg3 harg3 arg5 harg5 x1 x2 x4))
    x3 (proj x0 x2 x4 0) (proj x1 x2 x4 1) (half xs2 0) (half xs3 0) (half xs2 1) (half xs3 1)
    (harg4.read_unread x3)
    (projF_read arg8 arg1 harg1 arg3 harg3 arg5 harg5 x0 x2 x4)
    (projB_read arg9 arg2 harg2 arg3 harg3 arg5 harg5 x1 x2 x4)
    (readH arg10 harg10 xs2 0 ![0, 0, 0] inb_S2x32x512_S1x32x512_0_0_0 rfl) (readH arg11 harg11 xs3 0 ![0, 0, 0] inb_S2x32x512_S1x32x512_0_0_0 rfl)
    (readH arg10 harg10 xs2 1 ![1, 0, 0] inb_S2x32x512_S1x32x512_1_0_0 rfl) (readH arg11 harg11 xs3 1 ![1, 0, 0] inb_S2x32x512_S1x32x512_1_0_0 rfl)
  exact ⟨e.2.1, e.2.2,
    (canon_stk _ _ _ _ _).trans (congrArg₂ stk (congrArg (fun q => q.1) e.1) (congrArg (fun q => q.2.2.1) e.1)),
    (canon_stk _ _ _ _ _).trans (congrArg₂ stk (congrArg (fun q => q.2.1) e.1) (congrArg (fun q => q.2.2.2) e.1))⟩

end Cert.Kernel2Ideal.Gen

end
-- ==== Proof.Hand.First.Run.lean ====
module

public import proofs.«01_k».proof.Proof.Hand.First.Block
/- The layer kernel's pipeline run: the state carried from grid point to grid point, the blocks it writes, the body's
   triple at every grid point, and the run of the whole program. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % cfg0.N, Nat.mod_lt _ (by rw [show cfg0.N = 32 from N_0]; decide)⟩

theorem pt_val (t : Fin cfg0.N) : pt t.val = t := Fin.ext (Nat.mod_eq_of_lt t.isLt)

/-- The forward projections of the block read at a point. -/
def pjF (c : Dev nD) (t : Fin cfg0.N) : FVec F S1024x2048 .bf16 := proj (iblk m c 0 t) (iblk m c 2 t) (iblk m c 4 t) 0

/-- The backward projections of the block read at a point. -/
def pjB (c : Dev nD) (t : Fin cfg0.N) : FVec F S1024x2048 .bf16 := proj (iblk m c 1 t) (iblk m c 2 t) (iblk m c 4 t) 1

/-- The recurrent weights read at a point. -/
def whAt (c : Dev nD) (t : Fin cfg0.N) : FVec F S2x512x2048 .bf16 := iblk m c 3 t

/-- The two carried buffers (cell and hidden state, both directions) after `n` grid points. -/
def stAt (c : Dev nD) : ℕ → FVec F S2x32x512 .f32 × FVec F S2x32x512 .f32
  | 0 => (zst, zst)
  | n + 1 =>
    let s := stAt c n
    let f := fwdAt (whAt m c (pt n)) (pjF m c (pt n)) (half s.1 0, half s.2 0) 32
    let b := bwdAt (whAt m c (pt n)) (pjB m c (pt n)) (half s.1 1, half s.2 1) 32
    (stk f.1 b.1, stk f.2 b.2)

theorem stAt_succ (c : Dev nD) (t : Fin cfg0.N) : stAt m c (t.val + 1) =
    (stk (fwdAt (whAt m c t) (pjF m c t) (half (stAt m c t.val).1 0, half (stAt m c t.val).2 0) 32).1
        (bwdAt (whAt m c t) (pjB m c t) (half (stAt m c t.val).1 1, half (stAt m c t.val).2 1) 32).1,
      stk (fwdAt (whAt m c t) (pjF m c t) (half (stAt m c t.val).1 0, half (stAt m c t.val).2 0) 32).2
        (bwdAt (whAt m c t) (pjB m c t) (half (stAt m c t.val).1 1, half (stAt m c t.val).2 1) 32).2) := by
  rw [stAt, pt_val]

/-- What the forward output's buffer holds after a point. -/
def oF (c : Dev nD) (t : Fin cfg0.N) : FVec F S1024x512 .bf16 :=
  outF (whAt m c t) (pjF m c t) (half (stAt m c t.val).1 0, half (stAt m c t.val).2 0)

/-- What the backward output's buffer holds after a point. -/
def oB (c : Dev nD) (t : Fin cfg0.N) : FVec F S1024x512 .bf16 :=
  outB (whAt m c t) (pjB m c t) (half (stAt m c t.val).1 1, half (stAt m c t.val).2 1)

/-- What the kernel holds before position `n`: at first every buffer of its own at anything; afterwards the carried
    state of the points so far. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ (∃ d, owns (c : Thread nD τ) scM0_1 fullShare d) ∗ owns (c : Thread nD τ) scM0_2 fullShare (stAt m c (n + 1)).1 ∗ owns (c : Thread nD τ) scM0_3 fullShare (stAt m c (n + 1)).2) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (stAt m c n).1 ∗ owns (c : Thread nD τ) scM0_3 fullShare (stAt m c n).2) ∗ (∃ r, prngReg c r)) := by
  cases n with
  | zero => exact absurd rfl hz
  | succ n => rfl

/-- The pipeline's data: each input's buffer at its block, each output's at what the body leaves, the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oF m c t
    | ⟨6, _⟩ => oB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = oF m c t := by dsimp only [dats]
theorem after0_6 (c : Dev nD) (t : Fin cfg0.N) : (dats m 0 c).after 6 t = oB m c t := by dsimp only [dats]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The pieces stored into a carried buffer cover it. -/
theorem stk_cover (u v : FVec F S1x32x512 .f32) (inb : ∀ a, (![1, 0, 0] : Fin 3 → ℕ) a + S1x32x512.size a ≤ S2x32x512.size a)
    (inb' : ∀ a, (![0, 0, 0] : Fin 3 → ℕ) a + S1x32x512.size a ≤ S2x32x512.size a) (L : List (View.Piece (Elt F) S2x32x512 .f32)) (y : S2x32x512.Idx) :
    ∃ q ∈ ((⟨Rect.unit (s := S2x32x512) ![1, 0, 0] S1x32x512.size inb, v⟩ : View.Piece (Elt F) S2x32x512 .f32)
      :: (⟨Rect.unit (s := S2x32x512) ![0, 0, 0] S1x32x512.size inb', u⟩ : View.Piece (Elt F) S2x32x512 .f32) :: L), y ∈ q.1.set := by
  have h0 : (y 0).val < 2 := (y 0).isLt
  have h1 : (y 1).val < 32 := (y 1).isLt
  have h2 : (y 2).val < 512 := (y 2).isLt
  by_cases h : (y 0).val = 0
  · refine ⟨_, List.mem_cons_of_mem _ List.mem_cons_self, (Rect.mem_set_unit (inb := inb')).mpr fun a => ?_⟩
    match a with
    | ⟨0, _⟩ => exact (show 0 ≤ (y 0).val ∧ (y 0).val < 0 + 1 by omega)
    | ⟨1, _⟩ => exact (show 0 ≤ (y 1).val ∧ (y 1).val < 0 + 32 by omega)
    | ⟨2, _⟩ => exact (show 0 ≤ (y 2).val ∧ (y 2).val < 0 + 512 by omega)
  · refine ⟨_, List.mem_cons_self, (Rect.mem_set_unit (inb := inb)).mpr fun a => ?_⟩
    match a with
    | ⟨0, _⟩ => exact (show 1 ≤ (y 0).val ∧ (y 0).val < 1 + 1 by omega)
    | ⟨1, _⟩ => exact (show 0 ≤ (y 1).val ∧ (y 1).val < 0 + 32 by omega)
    | ⟨2, _⟩ => exact (show 0 ≤ (y 2).val ∧ (y 2).val < 0 + 512 by omega)

set_option maxHeartbeats 9600000 in
/-- The body at any point: from the blocks and the state the points before left, it leaves the two output blocks and the
    next state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_pos m c (t.val + 1) _ (Nat.succ_ne_zero _)]
  have hN : t.val < 32 := lt_of_lt_of_eq t.isLt (show cfg0.N = 32 from N_0)
  by_cases hz : t.val = 0
  · rw [PhiS_castSucc m c t, PhiS_zero m c _ _ hz, PhiA0_eq]
    have hs : stAt m c t.val = (zst, zst) := by rw [hz]; rfl
    have h0 : t.val % 32 = 0 := by omega
    have G := runA_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)
    have ES := stAt_succ m c t
    rw [hs] at ES
    have E5 : outF (whAt m c t) (pjF m c t) (half zst 0, half zst 0) = oF m c t := by unfold oF; rw [hs]
    have E6 : outB (whAt m c t) (pjB m c t) (half zst 1, half zst 1) = oB m c t := by unfold oB; rw [hs]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((layerRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%e5, H5⟩, ⟨%e6, H6⟩, HS0, HS1, ⟨%es2, HS2⟩, ⟨%es3, HS3⟩⟩
    isplitl [HS0 HS1 HS2 HS3 Hg]
    · isplitl [HS0 HS1 HS2 HS3]
      · isplitl [HS0]
        · iexact HS0
        isplitl [HS1]
        · iexact HS1
        isplitl [HS2]
        · unfold owns; iexists _; isplitr
          swap; · iexact HS2
          ipureintro; exact (View.read_writes_eq_canon _ _ _ (by unfold layerRun_A; exact stk_cover _ _ _ _ _)).trans (G.2.2.1.trans (congrArg Prod.fst ES).symm)
        unfold owns; iexists _; isplitr
        swap; · iexact HS3
        ipureintro; exact (View.read_writes_eq_canon _ _ _ (by unfold layerRun_A; exact stk_cover _ _ _ _ _)).trans (G.2.2.2.trans (congrArg Prod.snd ES).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (G.1.read _ _).trans E5
    unfold owns; iexists _; isplitr
    swap; · iexact H6
    ipureintro; exact (G.2.1.read _ _).trans E6
  · rw [PhiS_castSucc m c t, PhiS_pos m c _ _ hz]
    have h0 : ¬t.val % 32 = 0 := by omega
    have G := runB_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (stAt m c t.val).1 (stAt m c t.val).2
    have ES := stAt_succ m c t
    have E5 : outF (whAt m c t) (pjF m c t) (half (stAt m c t.val).1 0, half (stAt m c t.val).2 0) = oF m c t := rfl
    have E6 : outB (whAt m c t) (pjB m c t) (half (stAt m c t.val).1 1, half (stAt m c t.val).2 1) = oB m c t := rfl
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((layerRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (stAt m c t.val).1 (stAt m c t.val).2).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%e5, H5⟩, ⟨%e6, H6⟩, HS0, HS1, ⟨%es2, HS2⟩, ⟨%es3, HS3⟩⟩
    isplitl [HS0 HS1 HS2 HS3 Hg]
    · isplitl [HS0 HS1 HS2 HS3]
      · isplitl [HS0]
        · iexact HS0
        isplitl [HS1]
        · iexact HS1
        isplitl [HS2]
        · unfold owns; iexists _; isplitr
          swap; · iexact HS2
          ipureintro; exact (View.read_writes_eq_canon _ _ _ (by unfold layerRun_B; exact stk_cover _ _ _ _ _)).trans (G.2.2.1.trans (congrArg Prod.fst ES).symm)
        unfold owns; iexists _; isplitr
        swap; · iexact HS3
        ipureintro; exact (View.read_writes_eq_canon _ _ _ (by unfold layerRun_B; exact stk_cover _ _ _ _ _)).trans (G.2.2.2.trans (congrArg Prod.snd ES).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (G.1.read _ _).trans E5
    unfold owns; iexists _; isplitr
    swap; · iexact H6
    ipureintro; exact (G.2.1.read _ _).trans E6

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

set_option backward.isDefEq.respectTransparency.types false in
/-- Every run of the program ends, with the arrays at what the pipeline leaves and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The run's two results, as what the pipeline leaves, and the argument arrays as launched. -/
theorem run_values : θ_run defs (onTc (τ := τ) (main (F := F))) ⟨m, fun _ => 0, ρ⟩ (fun r => ∀ c : Dev nD,
      r.2.mem ((c.tc : Thread nD τ).loc main_v1_0) = (dats m 0 c).arrAt 5 cfg0.N
      ∧ r.2.mem ((c.tc : Thread nD τ).loc main_v1_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 5, (h.1 c).1 6, h.2 c⟩)
    (θ_run_and (run_main m ρ) (frame_of m ρ (dats m) (A_eq m) (run_main m ρ)))

end Cert.Kernel2Ideal.Gen

end
-- ==== Proof.Hand.BitsFrame.lean ====
module

public import proofs.«01_k».proof.Proof.Gen.Kernel
public import proofs.«01_k».proof.Proof.Gen.Kernel2
public import proofs.«01_k».proof.Proof.Hand.Run
public import proofs.«01_k».proof.Proof.Hand.First.Run
/- The frames of the two layer calls over machine words. The call and its idealization are the same program, and the
   idealization's frame is shown for any float values, so it is the call's own at the words. -/

@[expose] public section

set_option maxRecDepth 16384

noncomputable section

namespace Cert.BitsFrame

open Idealize.ShloMosaic Idealize.ShloMosaic.TcCoe Idealize.SL.Sem

/-- The layer call's body is its idealization's. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

section
open Cert.KernelIdeal

/-- The layer call's frame over words. -/
theorem frame (m : (ℓ : Loc nD τ sig) → Buf (Elt Bits) ℓ) (ρ : Dev nD → PrngReg) :
    θ_run (Cert.Kernel.defs (F := Bits)) (onTc (τ := τ) (Cert.Kernel.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  unfold Cert.Kernel.defs
  rw [bodies_eq]
  exact Cert.KernelIdeal.Gen.frame (F := Bits) m ρ
end

/-- The first layer's call's body is its idealization's. -/
theorem bodies_eq_first : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => ?_)
  match l with
  | 0 => rfl
  | ⟨_ + 1, h⟩ => exact absurd h (Nat.not_lt.2 (Nat.le_add_left _ _))

section
open Cert.Kernel2Ideal

/-- The first layer's call's frame over words. -/
theorem frame_first (m : (ℓ : Loc nD τ sig) → Buf (Elt Bits) ℓ) (ρ : Dev nD → PrngReg) :
    θ_run (Cert.Kernel2.defs (F := Bits)) (onTc (τ := τ) (Cert.Kernel2.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  unfold Cert.Kernel2.defs
  rw [bodies_eq_first]
  exact Cert.Kernel2Ideal.Gen.frame (F := Bits) m ρ
end

end Cert.BitsFrame

end
-- ==== Proof.Hand.Math.lean ====
module

public import Idealize.ShloMosaic.Lib.Pointwise.Tactic
/- The LSTM recurrence of one direction over the extended reals, on plain functions of batch entry and unit: what both
   programs are shown to compute. -/

@[expose] public section

noncomputable section

namespace Cert.Lstm

open Idealize.ShloMosaic

/-- Unit `j` of gate `g` among the 2048 pre-activations (input, forget, candidate, output). -/
def col (g : Fin 4) (j : Fin 512) : Fin 2048 := ⟨512 * g.val + j.val, by omega⟩

/-- A cell state and a hidden state. -/
abbrev St := (Fin 32 → Fin 512 → EReal) × (Fin 32 → Fin 512 → EReal)

/-- A pre-activation: the input's part plus the hidden state times the recurrent weights. -/
def pre (W : Fin 512 → Fin 2048 → EReal) (x : Fin 32 → Fin 2048 → EReal) (h : Fin 32 → Fin 512 → EReal) (b : Fin 32) (q : Fin 2048) : EReal :=
  x b q + ∑ k : Fin 512, h b k * W k q

/-- The new cell state. -/
def newC (W : Fin 512 → Fin 2048 → EReal) (x : Fin 32 → Fin 2048 → EReal) (p : St) (b : Fin 32) (j : Fin 512) : EReal :=
  Ideal.logistic (pre W x p.2 b (col 1 j)) * p.1 b j + Ideal.logistic (pre W x p.2 b (col 0 j)) * Ideal.tanh (pre W x p.2 b (col 2 j))

/-- One step. -/
def lstm (W : Fin 512 → Fin 2048 → EReal) (x : Fin 32 → Fin 2048 → EReal) (p : St) : St :=
  (newC W x p, fun b j => Ideal.logistic (pre W x p.2 b (col 3 j)) * Ideal.tanh (newC W x p b j))

/-- The state after `n` steps from zero, `X n` the input's part at step `n`. -/
def run (W : Fin 512 → Fin 2048 → EReal) (X : ℕ → Fin 32 → Fin 2048 → EReal) : ℕ → St
  | 0 => (fun _ _ => 0, fun _ _ => 0)
  | n + 1 => lstm W (X n) (run W X n)

/-- The steps depend only on the inputs they read. -/
theorem run_congr (W : Fin 512 → Fin 2048 → EReal) (X Y : ℕ → Fin 32 → Fin 2048 → EReal) (n : ℕ) (h : ∀ k, k < n → X k = Y k) :
    run W X n = run W Y n := by
  induction n with
  | zero => rfl
  | succ n ih => rw [run, run, ih fun k hk => h k (by omega), h n (by omega)]

/-- The input's part: the input times the input weights, plus the bias. -/
def inProj (Wx : Fin 1024 → Fin 2048 → EReal) (bias : Fin 2048 → EReal) (x : Fin 1024 → EReal) (q : Fin 2048) : EReal :=
  (∑ k : Fin 1024, x k * Wx k q) + bias q

/-- The flattened sequences (row = 32 * time + batch entry) of the two previous directions, joined along the features. -/
def seq (l r : (⟨2, ![32768, 512]⟩ : Shape).Idx → EReal) (t : ℕ) (b : Fin 32) (k : Fin 1024) : EReal :=
  if h : k.val < 512 then l (ValueIdx.ix2 (⟨(32 * t + b.val) % 32768, Nat.mod_lt _ (by decide)⟩ : Fin 32768) (⟨k.val, h⟩ : Fin 512))
  else r (ValueIdx.ix2 (⟨(32 * t + b.val) % 32768, Nat.mod_lt _ (by decide)⟩ : Fin 32768) (⟨k.val - 512, by omega⟩ : Fin 512))

/-- The input's part of direction `d` at time `t`. -/
def xpart (l r : (⟨2, ![32768, 512]⟩ : Shape).Idx → EReal) (wx : (⟨3, ![2, 1024, 2048]⟩ : Shape).Idx → EReal)
    (bias : (⟨2, ![2, 2048]⟩ : Shape).Idx → EReal) (d : Fin 2) (t : ℕ) : Fin 32 → Fin 2048 → EReal :=
  fun b q => inProj (fun k q => wx (ValueIdx.ix3 d k q)) (fun q => bias (ValueIdx.ix2 d q)) (seq l r t b) q

/-- The recurrent weights of direction `d`. -/
def wrec (wh : (⟨3, ![2, 512, 2048]⟩ : Shape).Idx → EReal) (d : Fin 2) : Fin 512 → Fin 2048 → EReal := fun k q => wh (ValueIdx.ix3 d k q)

/-- The forward direction's hidden states: row `32 t + b` holds the state after the inputs of times `0` to `t`. -/
def outFwd (l r : (⟨2, ![32768, 512]⟩ : Shape).Idx → EReal) (wx : (⟨3, ![2, 1024, 2048]⟩ : Shape).Idx → EReal)
    (wh : (⟨3, ![2, 512, 2048]⟩ : Shape).Idx → EReal) (bias : (⟨2, ![2, 2048]⟩ : Shape).Idx → EReal) :
    (⟨2, ![32768, 512]⟩ : Shape).Idx → EReal :=
  fun y => (run (wrec wh 0) (xpart l r wx bias 0) ((y 0).val / 32 + 1)).2 (⟨(y 0).val % 32, Nat.mod_lt _ (by decide)⟩ : Fin 32)
    (⟨(y 1).val, (y 1).isLt⟩ : Fin 512)

/-- The backward direction's hidden states: row `32 t + b` holds the state after the inputs of times `1023` down to `t`. -/
def outBwd (l r : (⟨2, ![32768, 512]⟩ : Shape).Idx → EReal) (wx : (⟨3, ![2, 1024, 2048]⟩ : Shape).Idx → EReal)
    (wh : (⟨3, ![2, 512, 2048]⟩ : Shape).Idx → EReal) (bias : (⟨2, ![2, 2048]⟩ : Shape).Idx → EReal) :
    (⟨2, ![32768, 512]⟩ : Shape).Idx → EReal :=
  fun y => (run (wrec wh 1) (fun n => xpart l r wx bias 1 (1023 - n)) (1024 - (y 0).val / 32)).2
    (⟨(y 0).val % 32, Nat.mod_lt _ (by decide)⟩ : Fin 32) (⟨(y 1).val, (y 1).isLt⟩ : Fin 512)

end Cert.Lstm

end
-- ==== Proof.Hand.KernelMath.lean ====
module

public import proofs.«01_k».proof.Proof.Hand.Run
public import proofs.«01_k».proof.Proof.Hand.Math
/- The layer kernel's blocks over the extended reals: the recurrence of Math.lean. -/

@[expose] public section

set_option maxRecDepth 16384

noncomputable section

namespace Cert.KernelIdeal.Gen

open Idealize.ShloMosaic Idealize.ShloMosaic.TcCoe

/-- A state by batch entry and unit. -/
def toM (p : CH Ideal) : Lstm.St := (fun b j => p.1 (ValueIdx.ix2 b j), fun b j => p.2 (ValueIdx.ix2 b j))

/-- The recurrent weights of a direction. -/
def whM (W : FVec Ideal S2x512x2048 .bf16) (d : Fin 2) : Fin 512 → Fin 2048 → EReal := fun k q => W (ValueIdx.ix3 d k q)

/-- Step `n`'s rows of a block. -/
def rowsM (x : FVec Ideal S1024x2048 .bf16) (n : ℕ) : Fin 32 → Fin 2048 → EReal :=
  fun b q => x (ValueIdx.ix2 (⟨(32 * n + b.val) % 1024, Nat.mod_lt _ (by decide)⟩ : Fin 1024) q)

theorem gate_apply (W : FVec Ideal S2x512x2048 .bf16) (d : Fin 2) (x : FVec Ideal S1024x2048 .bf16) (n : ℕ) (g : Fin 4)
    (h : FVec Ideal S32x512 .f32) (b : Fin 32) (j : Fin 512) :
    gate (wsl W d g) (xsl x n g) h (ValueIdx.ix2 b j)
      = Lstm.pre (whM W d) (rowsM x n) (fun b j => h (ValueIdx.ix2 b j)) b (Lstm.col g j) := by
  unfold gate wsl xsl Lstm.pre whM rowsM Lstm.col
  pointwise
  exact add_comm _ _

theorem cellAt_toM (W : FVec Ideal S2x512x2048 .bf16) (d : Fin 2) (x : FVec Ideal S1024x2048 .bf16) (n : ℕ) (p : CH Ideal) :
    toM (cellAt W d x n p) = Lstm.lstm (whM W d) (rowsM x n) (toM p) := by
  refine Prod.ext (funext fun b => funext fun j => ?_) (funext fun b => funext fun j => ?_)
  · unfold toM cellAt cell Lstm.lstm Lstm.newC
    dsimp only
    pointwise
    rw [gate_apply, gate_apply, gate_apply]
  · unfold toM cellAt cell Lstm.lstm Lstm.newC
    dsimp only
    pointwise
    rw [gate_apply, gate_apply, gate_apply, gate_apply]

/-- Forward: a block entered with the recurrence's state after `32 i` steps, its row groups the inputs of the next 32. -/
theorem fwdAt_toM (W : FVec Ideal S2x512x2048 .bf16) (x : FVec Ideal S1024x2048 .bf16) (X : ℕ → Fin 32 → Fin 2048 → EReal) (i : ℕ)
    (p : CH Ideal) (hp : toM p = Lstm.run (whM W 0) X (32 * i)) (hx : ∀ k, k < 32 → rowsM x k = X (32 * i + k)) (n : ℕ) (hn : n ≤ 32) :
    toM (fwdAt W x p n) = Lstm.run (whM W 0) X (32 * i + n) := by
  induction n with
  | zero => exact hp
  | succ n ih => rw [fwdAt, cellAt_toM, ih (by omega), hx n (by omega), ← Nat.add_assoc, Lstm.run]

/-- Backward: the same, the row groups taken from the last to the first. -/
theorem bwdAt_toM (W : FVec Ideal S2x512x2048 .bf16) (x : FVec Ideal S1024x2048 .bf16) (X : ℕ → Fin 32 → Fin 2048 → EReal) (i : ℕ)
    (p : CH Ideal) (hp : toM p = Lstm.run (whM W 1) X (32 * i)) (hx : ∀ k, k < 32 → rowsM x (31 - k) = X (32 * i + k)) (n : ℕ) (hn : n ≤ 32) :
    toM (bwdAt W x p n) = Lstm.run (whM W 1) X (32 * i + n) := by
  induction n with
  | zero => exact hp
  | succ n ih => rw [bwdAt, cellAt_toM, ih (by omega), hx n (by omega), ← Nat.add_assoc, Lstm.run]

/-- A block's projections at a row and column. -/
theorem proj_apply (l r : FVec Ideal S1024x512 .bf16) (wx : FVec Ideal S2x1024x2048 .bf16) (bb : FVec Ideal S2x1x2048 .f32) (d : Fin 2)
    (row : Fin 1024) (q : Fin 2048) :
    proj l r wx bb d (ValueIdx.ix2 row q)
      = Lstm.inProj (fun k q => wx (ValueIdx.ix3 d k q)) (fun q => bb (ValueIdx.ix3 d 0 q))
          (fun k => if h : k.val < 512 then l (ValueIdx.ix2 row ⟨k.val, h⟩) else r (ValueIdx.ix2 row ⟨k.val - 512, by omega⟩)) q := by
  unfold proj wxsl bbc Lstm.inProj
  rw [Fin.sum_univ_two_halves 512 512 rfl]
  pointwise
  rfl

end Cert.KernelIdeal.Gen

end
-- ==== Proof.Hand.KernelValue.lean ====
module

public import proofs.«01_k».proof.Proof.Hand.KernelMath
/- The layer kernel's result arrays over the extended reals: every block it reads and writes by its place in the
   arrays, and the two result arrays as the hidden states of Math.lean. -/

@[expose] public section

set_option maxRecDepth 16384

noncomputable section

namespace Cert.KernelIdeal.Gen

open Idealize.ShloMosaic Idealize.ShloMosaic.TcCoe Idealize.ShloMosaic.Pipeline

variable (m : (ℓ : Loc nD τ sig) → Buf (Elt Ideal) ℓ)

theorem index_0 : ∀ t : Fin cfg0.N, (cfg0.win 0).index t = ![t.val, 0] := (by decide +kernel : ∀ t : Fin grid0.N, win0_0.index t = ![t.val, 0])

theorem iblk_0 (c : Dev nD) (t : Fin cfg0.N) (r : Fin 1024) (k : Fin 512) :
    iblk m c 0 t (ValueIdx.ix2 r k) = m ((c : Thread nD τ).loc main_arg0)
      (ValueIdx.ix2 (⟨(1024 * (t.val) + r.val) % 32768, Nat.mod_lt _ (by decide)⟩ : Fin 32768) k) := by
  rw [← V_main_arg0 m c]
  show V m c main_arg0 ((win0_0.rect t).emb (ValueIdx.ix2 r k)) = _
  refine congrArg (V m c main_arg0) (Shape.idx_ext₂ ?_ ?_)
  · rw [Window.rect_emb_val win0_0 t _ 0, show win0_0.index t = ![t.val, 0] from index_0 t]
    have ht : t.val < 32 := Nat.lt_of_lt_of_eq t.isLt N_0
    have hr := r.isLt
    show (t.val) * 1024 + r.val = (1024 * (t.val) + r.val) % 32768
    omega
  · rw [Window.rect_emb_val win0_0 t _ 1, show win0_0.index t = ![t.val, 0] from index_0 t]
    show 0 * 512 + k.val = k.val
    omega

theorem index_1 : ∀ t : Fin cfg0.N, (cfg0.win 1).index t = ![t.val, 0] := (by decide +kernel : ∀ t : Fin grid0.N, win0_1.index t = ![t.val, 0])

theorem iblk_1 (c : Dev nD) (t : Fin cfg0.N) (r : Fin 1024) (k : Fin 512) :
    iblk m c 1 t (ValueIdx.ix2 r k) = m ((c : Thread nD τ).loc main_arg1)
      (ValueIdx.ix2 (⟨(1024 * (t.val) + r.val) % 32768, Nat.mod_lt _ (by decide)⟩ : Fin 32768) k) := by
  rw [← V_main_arg1 m c]
  show V m c main_arg1 ((win0_1.rect t).emb (ValueIdx.ix2 r k)) = _
  refine congrArg (V m c main_arg1) (Shape.idx_ext₂ ?_ ?_)
  · rw [Window.rect_emb_val win0_1 t _ 0, show win0_1.index t = ![t.val, 0] from index_1 t]
    have ht : t.val < 32 := Nat.lt_of_lt_of_eq t.isLt N_0
    have hr := r.isLt
    show (t.val) * 1024 + r.val = (1024 * (t.val) + r.val) % 32768
    omega
  · rw [Window.rect_emb_val win0_1 t _ 1, show win0_1.index t = ![t.val, 0] from index_1 t]
    show 0 * 512 + k.val = k.val
    omega

theorem index_2 : ∀ t : Fin cfg0.N, (cfg0.win 2).index t = ![31 - t.val, 0] := (by decide +kernel : ∀ t : Fin grid0.N, win0_2.index t = ![31 - t.val, 0])

theorem iblk_2 (c : Dev nD) (t : Fin cfg0.N) (r : Fin 1024) (k : Fin 512) :
    iblk m c 2 t (ValueIdx.ix2 r k) = m ((c : Thread nD τ).loc main_arg2)
      (ValueIdx.ix2 (⟨(1024 * (31 - t.val) + r.val) % 32768, Nat.mod_lt _ (by decide)⟩ : Fin 32768) k) := by
  rw [← V_main_arg2 m c]
  show V m c main_arg2 ((win0_2.rect t).emb (ValueIdx.ix2 r k)) = _
  refine congrArg (V m c main_arg2) (Shape.idx_ext₂ ?_ ?_)
  · rw [Window.rect_emb_val win0_2 t _ 0, show win0_2.index t = ![31 - t.val, 0] from index_2 t]
    have ht : t.val < 32 := Nat.lt_of_lt_of_eq t.isLt N_0
    have hr := r.isLt
    show (31 - t.val) * 1024 + r.val = (1024 * (31 - t.val) + r.val) % 32768
    omega
  · rw [Window.rect_emb_val win0_2 t _ 1, show win0_2.index t = ![31 - t.val, 0] from index_2 t]
    show 0 * 512 + k.val = k.val
    omega

theorem index_3 : ∀ t : Fin cfg0.N, (cfg0.win 3).index t = ![31 - t.val, 0] := (by decide +kernel : ∀ t : Fin grid0.N, win0_3.index t = ![31 - t.val, 0])

theorem iblk_3 (c : Dev nD) (t : Fin cfg0.N) (r : Fin 1024) (k : Fin 512) :
    iblk m c 3 t (ValueIdx.ix2 r k) = m ((c : Thread nD τ).loc main_arg3)
      (ValueIdx.ix2 (⟨(1024 * (31 - t.val) + r.val) % 32768, Nat.mod_lt _ (by decide)⟩ : Fin 32768) k) := by
  rw [← V_main_arg3 m c]
  show V m c main_arg3 ((win0_3.rect t).emb (ValueIdx.ix2 r k)) = _
  refine congrArg (V m c main_arg3) (Shape.idx_ext₂ ?_ ?_)
  · rw [Window.rect_emb_val win0_3 t _ 0, show win0_3.index t = ![31 - t.val, 0] from index_3 t]
    have ht : t.val < 32 := Nat.lt_of_lt_of_eq t.isLt N_0
    have hr := r.isLt
    show (31 - t.val) * 1024 + r.val = (1024 * (31 - t.val) + r.val) % 32768
    omega
  · rw [Window.rect_emb_val win0_3 t _ 1, show win0_3.index t = ![31 - t.val, 0] from index_3 t]
    show 0 * 512 + k.val = k.val
    omega

theorem index_4 : ∀ t : Fin cfg0.N, (cfg0.win 4).index t = ![0, 0, 0] := (by decide +kernel : ∀ t : Fin grid0.N, win0_4.index t = ![0, 0, 0])

theorem iblk_4 (c : Dev nD) (t : Fin cfg0.N) : iblk m c 4 t = V m c main_arg4 := by
  funext y
  show V m c main_arg4 ((win0_4.rect t).emb y) = _
  refine congrArg (V m c main_arg4) (funext fun a => Fin.ext ?_)
  refine Window.rect_emb_val_of_index_zero win0_4 t a ?_ y
  rw [show win0_4.index t = ![0, 0, 0] from index_4 t]
  match a with
  | ⟨0, _⟩ => rfl
  | ⟨1, _⟩ => rfl
  | ⟨2, _⟩ => rfl

theorem index_5 : ∀ t : Fin cfg0.N, (cfg0.win 5).index t = ![0, 0, 0] := (by decide +kernel : ∀ t : Fin grid0.N, win0_5.index t = ![0, 0, 0])

theorem iblk_5 (c : Dev nD) (t : Fin cfg0.N) : iblk m c 5 t = V m c main_arg5 := by
  funext y
  show V m c main_arg5 ((win0_5.rect t).emb y) = _
  refine congrArg (V m c main_arg5) (funext fun a => Fin.ext ?_)
  refine Window.rect_emb_val_of_index_zero win0_5 t a ?_ y
  rw [show win0_5.index t = ![0, 0, 0] from index_5 t]
  match a with
  | ⟨0, _⟩ => rfl
  | ⟨1, _⟩ => rfl
  | ⟨2, _⟩ => rfl

theorem index_6 : ∀ t : Fin cfg0.N, (cfg0.win 6).index t = ![0, 0, 0] := (by decide +kernel : ∀ t : Fin grid0.N, win0_6.index t = ![0, 0, 0])

theorem iblk_6 (c : Dev nD) (t : Fin cfg0.N) : iblk m c 6 t = V m c main_v0 := by
  funext y
  show V m c main_v0 ((win0_6.rect t).emb y) = _
  refine congrArg (V m c main_v0) (funext fun a => Fin.ext ?_)
  refine Window.rect_emb_val_of_index_zero win0_6 t a ?_ y
  rw [show win0_6.index t = ![0, 0, 0] from index_6 t]
  match a with
  | ⟨0, _⟩ => rfl
  | ⟨1, _⟩ => rfl
  | ⟨2, _⟩ => rfl

theorem index_7 : ∀ t : Fin cfg0.N, (cfg0.win 7).index t = ![t.val, 0] := (by decide +kernel : ∀ t : Fin grid0.N, win0_7.index t = ![t.val, 0])

theorem emb_7 (t : Fin cfg0.N) (r : Fin 1024) (k : Fin 512) :
    ((win0_7.rect t).emb (ValueIdx.ix2 r k) : S32768x512.Idx)
      = ValueIdx.ix2 (⟨(1024 * (t.val) + r.val) % 32768, Nat.mod_lt _ (by decide)⟩ : Fin 32768) k := by
  refine Shape.idx_ext₂ ?_ ?_
  · rw [Window.rect_emb_val win0_7 t _ 0, show win0_7.index t = ![t.val, 0] from index_7 t]
    have ht : t.val < 32 := Nat.lt_of_lt_of_eq t.isLt N_0
    have hr := r.isLt
    show (t.val) * 1024 + r.val = (1024 * (t.val) + r.val) % 32768
    omega
  · rw [Window.rect_emb_val win0_7 t _ 1, show win0_7.index t = ![t.val, 0] from index_7 t]
    show 0 * 512 + k.val = k.val
    omega

theorem index_8 : ∀ t : Fin cfg0.N, (cfg0.win 8).index t = ![31 - t.val, 0] := (by decide +kernel : ∀ t : Fin grid0.N, win0_8.index t = ![31 - t.val, 0])

theorem emb_8 (t : Fin cfg0.N) (r : Fin 1024) (k : Fin 512) :
    ((win0_8.rect t).emb (ValueIdx.ix2 r k) : S32768x512.Idx)
      = ValueIdx.ix2 (⟨(1024 * (31 - t.val) + r.val) % 32768, Nat.mod_lt _ (by decide)⟩ : Fin 32768) k := by
  refine Shape.idx_ext₂ ?_ ?_
  · rw [Window.rect_emb_val win0_8 t _ 0, show win0_8.index t = ![31 - t.val, 0] from index_8 t]
    have ht : t.val < 32 := Nat.lt_of_lt_of_eq t.isLt N_0
    have hr := r.isLt
    show (31 - t.val) * 1024 + r.val = (1024 * (31 - t.val) + r.val) % 32768
    omega
  · rw [Window.rect_emb_val win0_8 t _ 1, show win0_8.index t = ![31 - t.val, 0] from index_8 t]
    show 0 * 512 + k.val = k.val
    omega

theorem V_v0 (c : Dev nD) : V m c main_v0 = broadcastInDim S2x1x2048 ![0, 2] bcast_S2x2048_S2x1x2048_0_2 (m ((c : Thread nD τ).loc main_arg6)) := by
  unfold V
  after_results

/-- Row group `n` of the projections of a block. -/
theorem rowsM_pjF (c : Dev nD) (t : Fin cfg0.N) (n : ℕ) (hn : n < 32) :
    rowsM (pjF m c t) n = Lstm.xpart (m ((c : Thread nD τ).loc main_arg0)) (m ((c : Thread nD τ).loc main_arg1)) (m ((c : Thread nD τ).loc main_arg4))
      (m ((c : Thread nD τ).loc main_arg6)) 0 (32 * (t.val) + n) := by
  have ht : t.val < 32 := Nat.lt_of_lt_of_eq t.isLt N_0
  funext b q
  unfold rowsM pjF Lstm.xpart
  rw [proj_apply, iblk_4, iblk_6, V_main_arg4]
  have hb : ∀ q : Fin 2048, V m c main_v0 (ValueIdx.ix3 0 0 q) = m ((c : Thread nD τ).loc main_arg6) (ValueIdx.ix2 0 q) := by
    intro q; rw [V_v0]; pointwise; rfl
  refine congrArg₂ (fun f g => Lstm.inProj _ f g q) (funext hb) (funext fun k => ?_)
  unfold Lstm.seq
  have hb' := b.isLt
  have e : ((1024 * (t.val) + (32 * n + b.val) % 1024) % 32768) = (32 * (32 * (t.val) + n) + b.val) % 32768 := by omega
  refine dite_congr rfl (fun h => ?_) (fun h => ?_)
  · rw [iblk_0]; exact congrArg _ (Shape.idx_ext₂ e rfl)
  · rw [iblk_1]; exact congrArg _ (Shape.idx_ext₂ e rfl)

/-- Row group `n` of the projections of a block. -/
theorem rowsM_pjB (c : Dev nD) (t : Fin cfg0.N) (n : ℕ) (hn : n < 32) :
    rowsM (pjB m c t) n = Lstm.xpart (m ((c : Thread nD τ).loc main_arg2)) (m ((c : Thread nD τ).loc main_arg3)) (m ((c : Thread nD τ).loc main_arg4))
      (m ((c : Thread nD τ).loc main_arg6)) 1 (32 * (31 - t.val) + n) := by
  have ht : t.val < 32 := Nat.lt_of_lt_of_eq t.isLt N_0
  funext b q
  unfold rowsM pjB Lstm.xpart
  rw [proj_apply, iblk_4, iblk_6, V_main_arg4]
  have hb : ∀ q : Fin 2048, V m c main_v0 (ValueIdx.ix3 1 0 q) = m ((c : Thread nD τ).loc main_arg6) (ValueIdx.ix2 1 q) := by
    intro q; rw [V_v0]; pointwise; rfl
  refine congrArg₂ (fun f g => Lstm.inProj _ f g q) (funext hb) (funext fun k => ?_)
  unfold Lstm.seq
  have hb' := b.isLt
  have e : ((1024 * (31 - t.val) + (32 * n + b.val) % 1024) % 32768) = (32 * (32 * (31 - t.val) + n) + b.val) % 32768 := by omega
  refine dite_congr rfl (fun h => ?_) (fun h => ?_)
  · rw [iblk_2]; exact congrArg _ (Shape.idx_ext₂ e rfl)
  · rw [iblk_3]; exact congrArg _ (Shape.idx_ext₂ e rfl)

/-- What step `n` of direction 0 adds from the input. -/
def inpF (c : Dev nD) : ℕ → Fin 32 → Fin 2048 → EReal := fun n => Lstm.xpart (m ((c : Thread nD τ).loc main_arg0)) (m ((c : Thread nD τ).loc main_arg1)) (m ((c : Thread nD τ).loc main_arg4)) (m ((c : Thread nD τ).loc main_arg6)) 0 n

theorem whM_F (c : Dev nD) (t : Fin cfg0.N) : whM (whAt m c t) 0 = Lstm.wrec (m ((c : Thread nD τ).loc main_arg5)) 0 := by
  unfold whM whAt Lstm.wrec
  rw [iblk_5, V_main_arg5]

theorem half_zst_F : toM (half zst 0, half zst 0) = (fun _ _ => 0, fun _ _ => 0) := by
  unfold toM half zst
  refine Prod.ext (funext fun b => funext fun j => ?_) (funext fun b => funext fun j => ?_)
  · exact Ideal.ofBits_zero_f32
  · exact Ideal.ofBits_zero_f32

/-- The carried state before a point is the recurrence's after 32 steps per point. -/
theorem stAt_F (c : Dev nD) : ∀ n, n ≤ 32 → toM (half (stAt m c n).1 0, half (stAt m c n).2 0) = Lstm.run (Lstm.wrec (m ((c : Thread nD τ).loc main_arg5)) 0) (inpF m c) (32 * n)
  | 0, _ => half_zst_F
  | n + 1, hn => by
    have ih := stAt_F c n (by omega)
    have hN : n < cfg0.N := Nat.lt_of_lt_of_eq (by omega : n < 32) N_0.symm
    have hs := stAt_succ m c ⟨n, hN⟩
    dsimp only at hs
    rw [hs, half_stk_0, half_stk_0]
    rw [← whM_F m c ⟨n, hN⟩] at ih ⊢
    refine (fwdAt_toM (whAt m c ⟨n, hN⟩) (pjF m c ⟨n, hN⟩) (inpF m c) n _ ih (fun k hk => ?_) 32 le_rfl).trans (by rw [Nat.mul_succ])
    rw [rowsM_pjF m c ⟨n, hN⟩ _ (by omega)]
    unfold inpF
    dsimp only

theorem oF_apply (c : Dev nD) (t : Fin cfg0.N) (r : Fin 1024) (k : Fin 512) :
    oF m c t (ValueIdx.ix2 r k) = Lstm.outFwd (m ((c : Thread nD τ).loc main_arg0)) (m ((c : Thread nD τ).loc main_arg1)) (m ((c : Thread nD τ).loc main_arg4)) (m ((c : Thread nD τ).loc main_arg5)) (m ((c : Thread nD τ).loc main_arg6))
      (ValueIdx.ix2 (⟨(1024 * (t.val) + r.val) % 32768, Nat.mod_lt _ (by decide)⟩ : Fin 32768) k) := by
  have ht : t.val < 32 := Nat.lt_of_lt_of_eq t.isLt N_0
  have hr := r.isLt
  have hst := stAt_F m c t.val (by omega)
  rw [← whM_F m c t] at hst
  have h := fwdAt_toM (whAt m c t) (pjF m c t) (inpF m c) t.val _ hst (fun k hk => by
    rw [rowsM_pjF m c t _ (by omega)]
    unfold inpF
    dsimp only)
    (r.val / 32 + 1) (by omega)
  rw [whM_F m c t] at h
  have h2 := congrFun (congrFun (congrArg Prod.snd h) (⟨r.val % 32, Nat.mod_lt _ (by decide)⟩ : Fin 32)) k
  refine Eq.trans ?_ (h2.trans ?_)
  · rfl
  · unfold Lstm.outFwd
    dsimp only [ValueIdx.ix2]
    refine congr (congr (congrArg Prod.snd (congrArg (Lstm.run _ _) ?_)) ?_) ?_
    · show _ = (1024 * (t.val) + r.val) % 32768 / 32 + 1
      omega
    · refine Fin.ext ?_
      show r.val % 32 = (1024 * (t.val) + r.val) % 32768 % 32
      omega
    · rfl

/-- The result array of direction 0. -/
theorem arr_F (c : Dev nD) : (dats m 0 c).arrAt 7 cfg0.N = Lstm.outFwd (m ((c : Thread nD τ).loc main_arg0)) (m ((c : Thread nD τ).loc main_arg1)) (m ((c : Thread nD τ).loc main_arg4)) (m ((c : Thread nD τ).loc main_arg5)) (m ((c : Thread nD τ).loc main_arg6)) := by
  refine Dat.arrAt_eq_of_cover (dats m 0 c) 7 _ (fun t _ => ?_) (fun i => ?_)
  · refine Eq.trans (b := oF m c t) rfl ?_
    funext y
    refine (congrArg (oF m c t) (ValueIdx.eq_ix2 (y : (a : Fin 2) → Fin (S1024x512.size a)))).trans ((oF_apply m c t _ _).trans ?_)
    show _ = Lstm.outFwd (m ((c : Thread nD τ).loc main_arg0)) (m ((c : Thread nD τ).loc main_arg1)) (m ((c : Thread nD τ).loc main_arg4)) (m ((c : Thread nD τ).loc main_arg5)) (m ((c : Thread nD τ).loc main_arg6)) ((win0_7.rect t).emb y)
    refine congrArg _ ((emb_7 t (y 0) (y 1)).symm.trans (congrArg (win0_7.rect t).emb (ValueIdx.eq_ix2 (y : (a : Fin 2) → Fin (S1024x512.size a))).symm))
  · have hi : (i 0).val < 32768 := (i 0).isLt
    have hN : (i 0).val / 1024 < cfg0.N := Nat.lt_of_lt_of_eq (by omega : _ < 32) N_0.symm
    refine ⟨⟨(i 0).val / 1024, hN⟩, flush0_7 _, ?_⟩
    have e := emb_7 ⟨_, hN⟩ (⟨(i 0).val % 1024, Nat.mod_lt _ (by decide)⟩ : Fin 1024) (⟨(i 1).val, (i 1).isLt⟩ : Fin 512)
    have e2 : i = ((cfg0.win 7).blk ⟨_, hN⟩).view.emb (ValueIdx.ix2 (⟨(i 0).val % 1024, Nat.mod_lt _ (by decide)⟩ : Fin 1024) (⟨(i 1).val, (i 1).isLt⟩ : Fin 512)) := by
      refine Eq.trans ?_ e.symm
      refine Shape.idx_ext₂ ?_ rfl
      show (i 0).val = (1024 * ((i 0).val / 1024) + (i 0).val % 1024) % 32768
      omega
    have hm := View.emb_mem_set ((cfg0.win 7).blk ⟨_, hN⟩).view (ValueIdx.ix2 (⟨(i 0).val % 1024, Nat.mod_lt _ (by decide)⟩ : Fin 1024) (⟨(i 1).val, (i 1).isLt⟩ : Fin 512))
    rw [← e2] at hm
    exact hm

/-- What step `n` of direction 1 adds from the input. -/
def inpB (c : Dev nD) : ℕ → Fin 32 → Fin 2048 → EReal := fun n => Lstm.xpart (m ((c : Thread nD τ).loc main_arg2)) (m ((c : Thread nD τ).loc main_arg3)) (m ((c : Thread nD τ).loc main_arg4)) (m ((c : Thread nD τ).loc main_arg6)) 1 (1023 - n)

theorem whM_B (c : Dev nD) (t : Fin cfg0.N) : whM (whAt m c t) 1 = Lstm.wrec (m ((c : Thread nD τ).loc main_arg5)) 1 := by
  unfold whM whAt Lstm.wrec
  rw [iblk_5, V_main_arg5]

theorem half_zst_B : toM (half zst 1, half zst 1) = (fun _ _ => 0, fun _ _ => 0) := by
  unfold toM half zst
  refine Prod.ext (funext fun b => funext fun j => ?_) (funext fun b => funext fun j => ?_)
  · exact Ideal.ofBits_zero_f32
  · exact Ideal.ofBits_zero_f32

/-- The carried state before a point is the recurrence's after 32 steps per point. -/
theorem stAt_B (c : Dev nD) : ∀ n, n ≤ 32 → toM (half (stAt m c n).1 1, half (stAt m c n).2 1) = Lstm.run (Lstm.wrec (m ((c : Thread nD τ).loc main_arg5)) 1) (inpB m c) (32 * n)
  | 0, _ => half_zst_B
  | n + 1, hn => by
    have ih := stAt_B c n (by omega)
    have hN : n < cfg0.N := Nat.lt_of_lt_of_eq (by omega : n < 32) N_0.symm
    have hs := stAt_succ m c ⟨n, hN⟩
    dsimp only at hs
    rw [hs, half_stk_1, half_stk_1]
    rw [← whM_B m c ⟨n, hN⟩] at ih ⊢
    refine (bwdAt_toM (whAt m c ⟨n, hN⟩) (pjB m c ⟨n, hN⟩) (inpB m c) n _ ih (fun k hk => ?_) 32 le_rfl).trans (by rw [Nat.mul_succ])
    rw [rowsM_pjB m c ⟨n, hN⟩ _ (by omega)]
    unfold inpB
    dsimp only
    rw [show 32 * (31 - n) + (31 - k) = 1023 - (32 * n + k) by omega]

theorem oB_apply (c : Dev nD) (t : Fin cfg0.N) (r : Fin 1024) (k : Fin 512) :
    oB m c t (ValueIdx.ix2 r k) = Lstm.outBwd (m ((c : Thread nD τ).loc main_arg2)) (m ((c : Thread nD τ).loc main_arg3)) (m ((c : Thread nD τ).loc main_arg4)) (m ((c : Thread nD τ).loc main_arg5)) (m ((c : Thread nD τ).loc main_arg6))
      (ValueIdx.ix2 (⟨(1024 * (31 - t.val) + r.val) % 32768, Nat.mod_lt _ (by decide)⟩ : Fin 32768) k) := by
  have ht : t.val < 32 := Nat.lt_of_lt_of_eq t.isLt N_0
  have hr := r.isLt
  have hst := stAt_B m c t.val (by omega)
  rw [← whM_B m c t] at hst
  have h := bwdAt_toM (whAt m c t) (pjB m c t) (inpB m c) t.val _ hst (fun k hk => by
    rw [rowsM_pjB m c t _ (by omega)]
    unfold inpB
    rw [show 32 * (31 - t.val) + (31 - k) = 1023 - (32 * t.val + k) by omega])
    (32 - r.val / 32) (by omega)
  rw [whM_B m c t] at h
  have h2 := congrFun (congrFun (congrArg Prod.snd h) (⟨r.val % 32, Nat.mod_lt _ (by decide)⟩ : Fin 32)) k
  refine Eq.trans ?_ (h2.trans ?_)
  · rfl
  · unfold Lstm.outBwd
    dsimp only [ValueIdx.ix2]
    refine congr (congr (congrArg Prod.snd (congrArg (Lstm.run _ _) ?_)) ?_) ?_
    · show _ = 1024 - (1024 * (31 - t.val) + r.val) % 32768 / 32
      omega
    · refine Fin.ext ?_
      show r.val % 32 = (1024 * (31 - t.val) + r.val) % 32768 % 32
      omega
    · rfl

/-- The result array of direction 1. -/
theorem arr_B (c : Dev nD) : (dats m 0 c).arrAt 8 cfg0.N = Lstm.outBwd (m ((c : Thread nD τ).loc main_arg2)) (m ((c : Thread nD τ).loc main_arg3)) (m ((c : Thread nD τ).loc main_arg4)) (m ((c : Thread nD τ).loc main_arg5)) (m ((c : Thread nD τ).loc main_arg6)) := by
  refine Dat.arrAt_eq_of_cover (dats m 0 c) 8 _ (fun t _ => ?_) (fun i => ?_)
  · refine Eq.trans (b := oB m c t) rfl ?_
    funext y
    refine (congrArg (oB m c t) (ValueIdx.eq_ix2 (y : (a : Fin 2) → Fin (S1024x512.size a)))).trans ((oB_apply m c t _ _).trans ?_)
    show _ = Lstm.outBwd (m ((c : Thread nD τ).loc main_arg2)) (m ((c : Thread nD τ).loc main_arg3)) (m ((c : Thread nD τ).loc main_arg4)) (m ((c : Thread nD τ).loc main_arg5)) (m ((c : Thread nD τ).loc main_arg6)) ((win0_8.rect t).emb y)
    refine congrArg _ ((emb_8 t (y 0) (y 1)).symm.trans (congrArg (win0_8.rect t).emb (ValueIdx.eq_ix2 (y : (a : Fin 2) → Fin (S1024x512.size a))).symm))
  · have hi : (i 0).val < 32768 := (i 0).isLt
    have hN : 31 - (i 0).val / 1024 < cfg0.N := Nat.lt_of_lt_of_eq (by omega : _ < 32) N_0.symm
    refine ⟨⟨31 - (i 0).val / 1024, hN⟩, flush0_8 _, ?_⟩
    have e := emb_8 ⟨_, hN⟩ (⟨(i 0).val % 1024, Nat.mod_lt _ (by decide)⟩ : Fin 1024) (⟨(i 1).val, (i 1).isLt⟩ : Fin 512)
    have e2 : i = ((cfg0.win 8).blk ⟨_, hN⟩).view.emb (ValueIdx.ix2 (⟨(i 0).val % 1024, Nat.mod_lt _ (by decide)⟩ : Fin 1024) (⟨(i 1).val, (i 1).isLt⟩ : Fin 512)) := by
      refine Eq.trans ?_ e.symm
      refine Shape.idx_ext₂ ?_ rfl
      show (i 0).val = (1024 * (31 - (31 - (i 0).val / 1024)) + (i 0).val % 1024) % 32768
      omega
    have hm := View.emb_mem_set ((cfg0.win 8).blk ⟨_, hN⟩).view (ValueIdx.ix2 (⟨(i 0).val % 1024, Nat.mod_lt _ (by decide)⟩ : Fin 1024) (⟨(i 1).val, (i 1).isLt⟩ : Fin 512))
    rw [← e2] at hm
    exact hm

end Cert.KernelIdeal.Gen

end
-- ==== Proof.Hand.RefRun.lean ====
/- The reference's run over one trip of its scan. A valuation of the buffers HOLDS a state when the carried buffers, the
   scan's constants and its counters are that state's; under it every value of a trip is the one `Step.lean` names, so a
   trip takes a held state to the next one, and the results are read off the state after the last trip. Trip values
   follow the text of the reference one lemma each; the two output updates are closed by the statement itself. -/
module

public import proofs.«01_k».proof.Proof.Gen.ReferenceIdeal.Run
public import proofs.«01_k».proof.Proof.Gen.ReferenceIdeal.Step

@[expose] public section

set_option maxRecDepth 8192

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What a buffer holds. -/
abbrev Cont (F : FTy → Type) (b : Ref sig .tc) : Type := (Proc.devRef .tc b : DevRef τ sig).ty.Contents (Elt F)

variable (V0 : Valuation τ sig (Elt F)) (s : State F) (j : ℕ)

/-- The valuation holds the state, the set-up values and the trip's number. -/
structure Holds : Prop where
  f_4 : V0 (Proc.devRef .tc main_v28_4) = s.main_v28_4
  f_5 : V0 (Proc.devRef .tc main_v28_5) = s.main_v28_5
  f_6 : V0 (Proc.devRef .tc main_v28_6) = s.main_v28_6
  f_7 : V0 (Proc.devRef .tc main_v28_7) = s.main_v28_7
  f_8 : V0 (Proc.devRef .tc main_v28_8) = s.main_v28_8
  f_9 : V0 (Proc.devRef .tc main_v28_9) = s.main_v28_9
  f_0 : V0 (Proc.devRef .tc main_v28_0) = s.main_v28_0
  f_1 : V0 (Proc.devRef .tc main_v28_1) = s.main_v28_1
  f_2 : V0 (Proc.devRef .tc main_v28_2) = s.main_v28_2
  n_3 : V0 (Proc.devRef .tc main_v28_3) = constantI S_ 32 (BitVec.ofNat 32 j)

variable {V0 s j}

theorem al_0 (h : Holds V0 s j) : (constantI S_ 32 0#32 : Cont F main_while0b_call0_c) = Step.b0 j s := by
  unfold Step.b0
  rfl
theorem al_1 (h : Holds V0 s j) : (constantI S_ 32 0#32 : Cont F main_while0b_call0_c_0) = Step.b1 j s := by
  unfold Step.b1
  rfl
theorem al_2 (h : Holds V0 s j) : (Host.dynamicSlice S1x32x2048 (V0 (Proc.devRef .tc main_v28_0)) (fun k => (((![V0 (Proc.devRef .tc main_v28_3), constantI S_ 32 0#32, constantI S_ 32 0#32] : Fin 3 → (⟨S_, .i32⟩ : BufTy).Contents (Elt F))) k (Shape.Idx.first h_S_)).toInt) sliceFits_S1024x32x2048_S1x32x2048 : Cont F main_while0b_call0_v0) = Step.b2 j s := by
  unfold Step.b2
  rw [← al_0 h, ← al_1 h, h.f_0, h.n_3]
  try rfl
theorem al_3 (h : Holds V0 s j) : (shapeCast S32x2048 (Host.dynamicSlice S1x32x2048 (V0 (Proc.devRef .tc main_v28_0)) (fun k => (((![V0 (Proc.devRef .tc main_v28_3), constantI S_ 32 0#32, constantI S_ 32 0#32] : Fin 3 → (⟨S_, .i32⟩ : BufTy).Contents (Elt F))) k (Shape.Idx.first h_S_)).toInt) sliceFits_S1024x32x2048_S1x32x2048) shapeCasts_S1x32x2048_S32x2048 : Cont F main_while0b_v34) = Step.b3 j s := by
  unfold Step.b3
  rw [← al_2 h]
  try rfl
theorem al_4 (h : Holds V0 s j) : (constantI S_ 32 0#32 : Cont F main_while0b_call1_c) = Step.b4 j s := by
  unfold Step.b4
  rfl
theorem al_5 (h : Holds V0 s j) : (constantI S_ 32 0#32 : Cont F main_while0b_call1_c_0) = Step.b5 j s := by
  unfold Step.b5
  rfl
theorem al_6 (h : Holds V0 s j) : (Host.dynamicSlice S1x32x2048 (V0 (Proc.devRef .tc main_v28_1)) (fun k => (((![V0 (Proc.devRef .tc main_v28_3), constantI S_ 32 0#32, constantI S_ 32 0#32] : Fin 3 → (⟨S_, .i32⟩ : BufTy).Contents (Elt F))) k (Shape.Idx.first h_S_)).toInt) sliceFits_S1024x32x2048_S1x32x2048 : Cont F main_while0b_call1_v0) = Step.b6 j s := by
  unfold Step.b6
  rw [← al_4 h, ← al_5 h, h.f_1, h.n_3]
  try rfl
theorem al_7 (h : Holds V0 s j) : (shapeCast S32x2048 (Host.dynamicSlice S1x32x2048 (V0 (Proc.devRef .tc main_v28_1)) (fun k => (((![V0 (Proc.devRef .tc main_v28_3), constantI S_ 32 0#32, constantI S_ 32 0#32] : Fin 3 → (⟨S_, .i32⟩ : BufTy).Contents (Elt F))) k (Shape.Idx.first h_S_)).toInt) sliceFits_S1024x32x2048_S1x32x2048) shapeCasts_S1x32x2048_S32x2048 : Cont F main_while0b_v35) = Step.b7 j s := by
  unfold Step.b7
  rw [← al_6 h]
  try rfl
theorem al_8 (h : Holds V0 s j) : (extractStridedSlice S1x512x2048 ![0, 0, 0] (V0 (Proc.devRef .tc main_v28_2)) slices_S2x512x2048_S1x512x2048_0_0_0 : Cont F main_while0b_v36) = Step.b8 j s := by
  unfold Step.b8
  rw [h.f_2]
  try rfl
theorem al_9 (h : Holds V0 s j) : (shapeCast S512x2048 (extractStridedSlice S1x512x2048 ![0, 0, 0] (V0 (Proc.devRef .tc main_v28_2)) slices_S2x512x2048_S1x512x2048_0_0_0) shapeCasts_S1x512x2048_S512x2048 : Cont F main_while0b_v37) = Step.b9 j s := by
  unfold Step.b9
  rw [← al_8 h]
  try rfl
theorem al_10 (h : Holds V0 s j) : (Host.dotGeneral dot_S32x512_S512x2048_S32x2048_1_0_0_1_n_n none (V0 (Proc.devRef .tc main_v28_5)) (shapeCast S512x2048 (extractStridedSlice S1x512x2048 ![0, 0, 0] (V0 (Proc.devRef .tc main_v28_2)) slices_S2x512x2048_S1x512x2048_0_0_0) shapeCasts_S1x512x2048_S512x2048) : Cont F main_while0b_v38) = Step.b10 j s := by
  unfold Step.b10
  rw [← al_9 h, h.f_5]
  try rfl
theorem al_11 (h : Holds V0 s j) : (res_main_while0b_v39 V0 : Cont F main_while0b_v39) = Step.b11 j s := by
  unfold res_main_while0b_v39 Step.b11
  rw [← al_3 h, ← al_10 h]
  try rfl
theorem al_12 (h : Holds V0 s j) : (extractStridedSlice S32x512 ![0, 0] (res_main_while0b_v39 V0) slices_S32x2048_S32x512_0_0 : Cont F main_while0b_v40) = Step.b12 j s := by
  unfold Step.b12
  rw [← al_11 h]
  try rfl
theorem al_13 (h : Holds V0 s j) : (extractStridedSlice S32x512 ![0, 512] (res_main_while0b_v39 V0) slices_S32x2048_S32x512_0_512 : Cont F main_while0b_v41) = Step.b13 j s := by
  unfold Step.b13
  rw [← al_11 h]
  try rfl
theorem al_14 (h : Holds V0 s j) : (extractStridedSlice S32x512 ![0, 1024] (res_main_while0b_v39 V0) slices_S32x2048_S32x512_0_1024 : Cont F main_while0b_v42) = Step.b14 j s := by
  unfold Step.b14
  rw [← al_11 h]
  try rfl
theorem al_15 (h : Holds V0 s j) : (extractStridedSlice S32x512 ![0, 1536] (res_main_while0b_v39 V0) slices_S32x2048_S32x512_0_1536 : Cont F main_while0b_v43) = Step.b15 j s := by
  unfold Step.b15
  rw [← al_11 h]
  try rfl
theorem al_16 (h : Holds V0 s j) : (Host.negf (extractStridedSlice S32x512 ![0, 512] (res_main_while0b_v39 V0) slices_S32x2048_S32x512_0_512) : Cont F main_while0b_v44) = Step.b16 j s := by
  unfold Step.b16
  rw [← al_13 h]
  try rfl
theorem al_17 (h : Holds V0 s j) : (Host.exp (Host.negf (extractStridedSlice S32x512 ![0, 512] (res_main_while0b_v39 V0) slices_S32x2048_S32x512_0_512)) : Cont F main_while0b_v45) = Step.b17 j s := by
  unfold Step.b17
  rw [← al_16 h]
  try rfl
theorem al_18 (h : Holds V0 s j) : (constant S_ .f32 0x3F800000#32 : Cont F main_while0b_cst_11) = Step.b18 j s := by
  unfold Step.b18
  rfl
theorem al_19 (h : Holds V0 s j) : (broadcastInDim S32x512 ![] bcast_S_S32x512 (constant S_ .f32 0x3F800000#32) : Cont F main_while0b_v46) = Step.b19 j s := by
  unfold Step.b19
  rw [← al_18 h]
  try rfl
theorem al_20 (h : Holds V0 s j) : (addf (broadcastInDim S32x512 ![] bcast_S_S32x512 (constant S_ .f32 0x3F800000#32)) (Host.exp (Host.negf (extractStridedSlice S32x512 ![0, 512] (res_main_while0b_v39 V0) slices_S32x2048_S32x512_0_512))) : Cont F main_while0b_v47) = Step.b20 j s := by
  unfold Step.b20
  rw [← al_19 h, ← al_17 h]
  try rfl
theorem al_21 (h : Holds V0 s j) : (constant S_ .f32 0x3F800000#32 : Cont F main_while0b_cst_12) = Step.b21 j s := by
  unfold Step.b21
  rfl
theorem al_22 (h : Holds V0 s j) : (broadcastInDim S32x512 ![] bcast_S_S32x512 (constant S_ .f32 0x3F800000#32) : Cont F main_while0b_v48) = Step.b22 j s := by
  unfold Step.b22
  rw [← al_21 h]
  try rfl
theorem al_23 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v39 V0) slices_S32x2048_S32x512_0_512)))) : Cont F main_while0b_v49) = Step.b23 j s := by
  unfold Step.b23
  rw [← al_22 h, ← al_20 h]
  try rfl
theorem al_24 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v39 V0) slices_S32x2048_S32x512_0_512))))) (V0 (Proc.devRef .tc main_v28_4)) : Cont F main_while0b_v50) = Step.b24 j s := by
  unfold Step.b24
  rw [← al_23 h, h.f_4]
  try rfl
theorem al_25 (h : Holds V0 s j) : (Host.negf (extractStridedSlice S32x512 ![0, 0] (res_main_while0b_v39 V0) slices_S32x2048_S32x512_0_0) : Cont F main_while0b_v51) = Step.b25 j s := by
  unfold Step.b25
  rw [← al_12 h]
  try rfl
theorem al_26 (h : Holds V0 s j) : (Host.exp (Host.negf (extractStridedSlice S32x512 ![0, 0] (res_main_while0b_v39 V0) slices_S32x2048_S32x512_0_0)) : Cont F main_while0b_v52) = Step.b26 j s := by
  unfold Step.b26
  rw [← al_25 h]
  try rfl
theorem al_27 (h : Holds V0 s j) : (constant S_ .f32 0x3F800000#32 : Cont F main_while0b_cst_13) = Step.b27 j s := by
  unfold Step.b27
  rfl
theorem al_28 (h : Holds V0 s j) : (broadcastInDim S32x512 ![] bcast_S_S32x512 (constant S_ .f32 0x3F800000#32) : Cont F main_while0b_v53) = Step.b28 j s := by
  unfold Step.b28
  rw [← al_27 h]
  try rfl
theorem al_29 (h : Holds V0 s j) : (addf (broadcastInDim S32x512 ![] bcast_S_S32x512 (constant S_ .f32 0x3F800000#32)) (Host.exp (Host.negf (extractStridedSlice S32x512 ![0, 0] (res_main_while0b_v39 V0) slices_S32x2048_S32x512_0_0))) : Cont F main_while0b_v54) = Step.b29 j s := by
  unfold Step.b29
  rw [← al_28 h, ← al_26 h]
  try rfl
theorem al_30 (h : Holds V0 s j) : (constant S_ .f32 0x3F800000#32 : Cont F main_while0b_cst_14) = Step.b30 j s := by
  unfold Step.b30
  rfl
theorem al_31 (h : Holds V0 s j) : (broadcastInDim S32x512 ![] bcast_S_S32x512 (constant S_ .f32 0x3F800000#32) : Cont F main_while0b_v55) = Step.b31 j s := by
  unfold Step.b31
  rw [← al_30 h]
  try rfl
theorem al_32 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v39 V0) slices_S32x2048_S32x512_0_0)))) : Cont F main_while0b_v56) = Step.b32 j s := by
  unfold Step.b32
  rw [← al_31 h, ← al_29 h]
  try rfl
theorem al_33 (h : Holds V0 s j) : (Host.tanh (extractStridedSlice S32x512 ![0, 1024] (res_main_while0b_v39 V0) slices_S32x2048_S32x512_0_1024) : Cont F main_while0b_v57) = Step.b33 j s := by
  unfold Step.b33
  rw [← al_14 h]
  try rfl
theorem al_34 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v39 V0) slices_S32x2048_S32x512_0_0))))) (Host.tanh (extractStridedSlice S32x512 ![0, 1024] (res_main_while0b_v39 V0) slices_S32x2048_S32x512_0_1024)) : Cont F main_while0b_v58) = Step.b34 j s := by
  unfold Step.b34
  rw [← al_32 h, ← al_33 h]
  try rfl
theorem al_35 (h : Holds V0 s j) : (res_main_while0b_v59 V0 : Cont F main_while0b_v59) = Step.b35 j s := by
  unfold res_main_while0b_v59 Step.b35
  rw [← al_24 h, ← al_34 h]
  try rfl
theorem al_36 (h : Holds V0 s j) : (Host.negf (extractStridedSlice S32x512 ![0, 1536] (res_main_while0b_v39 V0) slices_S32x2048_S32x512_0_1536) : Cont F main_while0b_v60) = Step.b36 j s := by
  unfold Step.b36
  rw [← al_15 h]
  try rfl
theorem al_37 (h : Holds V0 s j) : (Host.exp (Host.negf (extractStridedSlice S32x512 ![0, 1536] (res_main_while0b_v39 V0) slices_S32x2048_S32x512_0_1536)) : Cont F main_while0b_v61) = Step.b37 j s := by
  unfold Step.b37
  rw [← al_36 h]
  try rfl
theorem al_38 (h : Holds V0 s j) : (constant S_ .f32 0x3F800000#32 : Cont F main_while0b_cst_15) = Step.b38 j s := by
  unfold Step.b38
  rfl
theorem al_39 (h : Holds V0 s j) : (broadcastInDim S32x512 ![] bcast_S_S32x512 (constant S_ .f32 0x3F800000#32) : Cont F main_while0b_v62) = Step.b39 j s := by
  unfold Step.b39
  rw [← al_38 h]
  try rfl
theorem al_40 (h : Holds V0 s j) : (addf (broadcastInDim S32x512 ![] bcast_S_S32x512 (constant S_ .f32 0x3F800000#32)) (Host.exp (Host.negf (extractStridedSlice S32x512 ![0, 1536] (res_main_while0b_v39 V0) slices_S32x2048_S32x512_0_1536))) : Cont F main_while0b_v63) = Step.b40 j s := by
  unfold Step.b40
  rw [← al_39 h, ← al_37 h]
  try rfl
theorem al_41 (h : Holds V0 s j) : (constant S_ .f32 0x3F800000#32 : Cont F main_while0b_cst_16) = Step.b41 j s := by
  unfold Step.b41
  rfl
theorem al_42 (h : Holds V0 s j) : (broadcastInDim S32x512 ![] bcast_S_S32x512 (constant S_ .f32 0x3F800000#32) : Cont F main_while0b_v64) = Step.b42 j s := by
  unfold Step.b42
  rw [← al_41 h]
  try rfl
theorem al_43 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 1536] (res_main_while0b_v39 V0) slices_S32x2048_S32x512_0_1536)))) : Cont F main_while0b_v65) = Step.b43 j s := by
  unfold Step.b43
  rw [← al_42 h, ← al_40 h]
  try rfl
theorem al_44 (h : Holds V0 s j) : (Host.tanh (res_main_while0b_v59 V0) : Cont F main_while0b_v66) = Step.b44 j s := by
  unfold Step.b44
  rw [← al_35 h]
  try rfl
theorem al_45 (h : Holds V0 s j) : (res_main_while0b_v67 V0 : Cont F main_while0b_v67) = Step.b45 j s := by
  unfold res_main_while0b_v67 Step.b45
  rw [← al_43 h, ← al_44 h]
  try rfl
theorem al_46 (h : Holds V0 s j) : (extractStridedSlice S1x512x2048 ![1, 0, 0] (V0 (Proc.devRef .tc main_v28_2)) slices_S2x512x2048_S1x512x2048_1_0_0 : Cont F main_while0b_v68) = Step.b46 j s := by
  unfold Step.b46
  rw [h.f_2]
  try rfl
theorem al_47 (h : Holds V0 s j) : (shapeCast S512x2048 (extractStridedSlice S1x512x2048 ![1, 0, 0] (V0 (Proc.devRef .tc main_v28_2)) slices_S2x512x2048_S1x512x2048_1_0_0) shapeCasts_S1x512x2048_S512x2048 : Cont F main_while0b_v69) = Step.b47 j s := by
  unfold Step.b47
  rw [← al_46 h]
  try rfl
theorem al_48 (h : Holds V0 s j) : (Host.dotGeneral dot_S32x512_S512x2048_S32x2048_1_0_0_1_n_n none (V0 (Proc.devRef .tc main_v28_7)) (shapeCast S512x2048 (extractStridedSlice S1x512x2048 ![1, 0, 0] (V0 (Proc.devRef .tc main_v28_2)) slices_S2x512x2048_S1x512x2048_1_0_0) shapeCasts_S1x512x2048_S512x2048) : Cont F main_while0b_v70) = Step.b48 j s := by
  unfold Step.b48
  rw [← al_47 h, h.f_7]
  try rfl
theorem al_49 (h : Holds V0 s j) : (res_main_while0b_v71 V0 : Cont F main_while0b_v71) = Step.b49 j s := by
  unfold res_main_while0b_v71 Step.b49
  rw [← al_7 h, ← al_48 h]
  try rfl
theorem al_50 (h : Holds V0 s j) : (extractStridedSlice S32x512 ![0, 0] (res_main_while0b_v71 V0) slices_S32x2048_S32x512_0_0 : Cont F main_while0b_v72) = Step.b50 j s := by
  unfold Step.b50
  rw [← al_49 h]
  try rfl
theorem al_51 (h : Holds V0 s j) : (extractStridedSlice S32x512 ![0, 512] (res_main_while0b_v71 V0) slices_S32x2048_S32x512_0_512 : Cont F main_while0b_v73) = Step.b51 j s := by
  unfold Step.b51
  rw [← al_49 h]
  try rfl
theorem al_52 (h : Holds V0 s j) : (extractStridedSlice S32x512 ![0, 1024] (res_main_while0b_v71 V0) slices_S32x2048_S32x512_0_1024 : Cont F main_while0b_v74) = Step.b52 j s := by
  unfold Step.b52
  rw [← al_49 h]
  try rfl
theorem al_53 (h : Holds V0 s j) : (extractStridedSlice S32x512 ![0, 1536] (res_main_while0b_v71 V0) slices_S32x2048_S32x512_0_1536 : Cont F main_while0b_v75) = Step.b53 j s := by
  unfold Step.b53
  rw [← al_49 h]
  try rfl
theorem al_54 (h : Holds V0 s j) : (Host.negf (extractStridedSlice S32x512 ![0, 512] (res_main_while0b_v71 V0) slices_S32x2048_S32x512_0_512) : Cont F main_while0b_v76) = Step.b54 j s := by
  unfold Step.b54
  rw [← al_51 h]
  try rfl
theorem al_55 (h : Holds V0 s j) : (Host.exp (Host.negf (extractStridedSlice S32x512 ![0, 512] (res_main_while0b_v71 V0) slices_S32x2048_S32x512_0_512)) : Cont F main_while0b_v77) = Step.b55 j s := by
  unfold Step.b55
  rw [← al_54 h]
  try rfl
theorem al_56 (h : Holds V0 s j) : (constant S_ .f32 0x3F800000#32 : Cont F main_while0b_cst_17) = Step.b56 j s := by
  unfold Step.b56
  rfl
theorem al_57 (h : Holds V0 s j) : (broadcastInDim S32x512 ![] bcast_S_S32x512 (constant S_ .f32 0x3F800000#32) : Cont F main_while0b_v78) = Step.b57 j s := by
  unfold Step.b57
  rw [← al_56 h]
  try rfl
theorem al_58 (h : Holds V0 s j) : (addf (broadcastInDim S32x512 ![] bcast_S_S32x512 (constant S_ .f32 0x3F800000#32)) (Host.exp (Host.negf (extractStridedSlice S32x512 ![0, 512] (res_main_while0b_v71 V0) slices_S32x2048_S32x512_0_512))) : Cont F main_while0b_v79) = Step.b58 j s := by
  unfold Step.b58
  rw [← al_57 h, ← al_55 h]
  try rfl
theorem al_59 (h : Holds V0 s j) : (constant S_ .f32 0x3F800000#32 : Cont F main_while0b_cst_18) = Step.b59 j s := by
  unfold Step.b59
  rfl
theorem al_60 (h : Holds V0 s j) : (broadcastInDim S32x512 ![] bcast_S_S32x512 (constant S_ .f32 0x3F800000#32) : Cont F main_while0b_v80) = Step.b60 j s := by
  unfold Step.b60
  rw [← al_59 h]
  try rfl
theorem al_61 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v71 V0) slices_S32x2048_S32x512_0_512)))) : Cont F main_while0b_v81) = Step.b61 j s := by
  unfold Step.b61
  rw [← al_60 h, ← al_58 h]
  try rfl
theorem al_62 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v71 V0) slices_S32x2048_S32x512_0_512))))) (V0 (Proc.devRef .tc main_v28_6)) : Cont F main_while0b_v82) = Step.b62 j s := by
  unfold Step.b62
  rw [← al_61 h, h.f_6]
  try rfl
theorem al_63 (h : Holds V0 s j) : (Host.negf (extractStridedSlice S32x512 ![0, 0] (res_main_while0b_v71 V0) slices_S32x2048_S32x512_0_0) : Cont F main_while0b_v83) = Step.b63 j s := by
  unfold Step.b63
  rw [← al_50 h]
  try rfl
theorem al_64 (h : Holds V0 s j) : (Host.exp (Host.negf (extractStridedSlice S32x512 ![0, 0] (res_main_while0b_v71 V0) slices_S32x2048_S32x512_0_0)) : Cont F main_while0b_v84) = Step.b64 j s := by
  unfold Step.b64
  rw [← al_63 h]
  try rfl
theorem al_65 (h : Holds V0 s j) : (constant S_ .f32 0x3F800000#32 : Cont F main_while0b_cst_19) = Step.b65 j s := by
  unfold Step.b65
  rfl
theorem al_66 (h : Holds V0 s j) : (broadcastInDim S32x512 ![] bcast_S_S32x512 (constant S_ .f32 0x3F800000#32) : Cont F main_while0b_v85) = Step.b66 j s := by
  unfold Step.b66
  rw [← al_65 h]
  try rfl
theorem al_67 (h : Holds V0 s j) : (addf (broadcastInDim S32x512 ![] bcast_S_S32x512 (constant S_ .f32 0x3F800000#32)) (Host.exp (Host.negf (extractStridedSlice S32x512 ![0, 0] (res_main_while0b_v71 V0) slices_S32x2048_S32x512_0_0))) : Cont F main_while0b_v86) = Step.b67 j s := by
  unfold Step.b67
  rw [← al_66 h, ← al_64 h]
  try rfl
theorem al_68 (h : Holds V0 s j) : (constant S_ .f32 0x3F800000#32 : Cont F main_while0b_cst_20) = Step.b68 j s := by
  unfold Step.b68
  rfl
theorem al_69 (h : Holds V0 s j) : (broadcastInDim S32x512 ![] bcast_S_S32x512 (constant S_ .f32 0x3F800000#32) : Cont F main_while0b_v87) = Step.b69 j s := by
  unfold Step.b69
  rw [← al_68 h]
  try rfl
theorem al_70 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v71 V0) slices_S32x2048_S32x512_0_0)))) : Cont F main_while0b_v88) = Step.b70 j s := by
  unfold Step.b70
  rw [← al_69 h, ← al_67 h]
  try rfl
theorem al_71 (h : Holds V0 s j) : (Host.tanh (extractStridedSlice S32x512 ![0, 1024] (res_main_while0b_v71 V0) slices_S32x2048_S32x512_0_1024) : Cont F main_while0b_v89) = Step.b71 j s := by
  unfold Step.b71
  rw [← al_52 h]
  try rfl
theorem al_72 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v71 V0) slices_S32x2048_S32x512_0_0))))) (Host.tanh (extractStridedSlice S32x512 ![0, 1024] (res_main_while0b_v71 V0) slices_S32x2048_S32x512_0_1024)) : Cont F main_while0b_v90) = Step.b72 j s := by
  unfold Step.b72
  rw [← al_70 h, ← al_71 h]
  try rfl
theorem al_73 (h : Holds V0 s j) : (res_main_while0b_v91 V0 : Cont F main_while0b_v91) = Step.b73 j s := by
  unfold res_main_while0b_v91 Step.b73
  rw [← al_62 h, ← al_72 h]
  try rfl
theorem al_74 (h : Holds V0 s j) : (Host.negf (extractStridedSlice S32x512 ![0, 1536] (res_main_while0b_v71 V0) slices_S32x2048_S32x512_0_1536) : Cont F main_while0b_v92) = Step.b74 j s := by
  unfold Step.b74
  rw [← al_53 h]
  try rfl
theorem al_75 (h : Holds V0 s j) : (Host.exp (Host.negf (extractStridedSlice S32x512 ![0, 1536] (res_main_while0b_v71 V0) slices_S32x2048_S32x512_0_1536)) : Cont F main_while0b_v93) = Step.b75 j s := by
  unfold Step.b75
  rw [← al_74 h]
  try rfl
theorem al_76 (h : Holds V0 s j) : (constant S_ .f32 0x3F800000#32 : Cont F main_while0b_cst_21) = Step.b76 j s := by
  unfold Step.b76
  rfl
theorem al_77 (h : Holds V0 s j) : (broadcastInDim S32x512 ![] bcast_S_S32x512 (constant S_ .f32 0x3F800000#32) : Cont F main_while0b_v94) = Step.b77 j s := by
  unfold Step.b77
  rw [← al_76 h]
  try rfl
theorem al_78 (h : Holds V0 s j) : (addf (broadcastInDim S32x512 ![] bcast_S_S32x512 (constant S_ .f32 0x3F800000#32)) (Host.exp (Host.negf (extractStridedSlice S32x512 ![0, 1536] (res_main_while0b_v71 V0) slices_S32x2048_S32x512_0_1536))) : Cont F main_while0b_v95) = Step.b78 j s := by
  unfold Step.b78
  rw [← al_77 h, ← al_75 h]
  try rfl
theorem al_79 (h : Holds V0 s j) : (constant S_ .f32 0x3F800000#32 : Cont F main_while0b_cst_22) = Step.b79 j s := by
  unfold Step.b79
  rfl
theorem al_80 (h : Holds V0 s j) : (broadcastInDim S32x512 ![] bcast_S_S32x512 (constant S_ .f32 0x3F800000#32) : Cont F main_while0b_v96) = Step.b80 j s := by
  unfold Step.b80
  rw [← al_79 h]
  try rfl
theorem al_81 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 1536] (res_main_while0b_v71 V0) slices_S32x2048_S32x512_0_1536)))) : Cont F main_while0b_v97) = Step.b81 j s := by
  unfold Step.b81
  rw [← al_80 h, ← al_78 h]
  try rfl
theorem al_82 (h : Holds V0 s j) : (Host.tanh (res_main_while0b_v91 V0) : Cont F main_while0b_v98) = Step.b82 j s := by
  unfold Step.b82
  rw [← al_73 h]
  try rfl
theorem al_83 (h : Holds V0 s j) : (res_main_while0b_v99 V0 : Cont F main_while0b_v99) = Step.b83 j s := by
  unfold res_main_while0b_v99 Step.b83
  rw [← al_81 h, ← al_82 h]
  try rfl
theorem al_84 (h : Holds V0 s j) : (broadcastInDim S1x32x512 ![1, 2] bcast_S32x512_S1x32x512_1_2 (res_main_while0b_v67 V0) : Cont F main_while0b_call2_v0) = Step.b84 j s := by
  unfold Step.b84
  rw [← al_45 h]
  try rfl
theorem al_85 (h : Holds V0 s j) : (constantI S_ 32 0#32 : Cont F main_while0b_call2_c) = Step.b85 j s := by
  unfold Step.b85
  rfl
theorem al_86 (h : Holds V0 s j) : (constantI S_ 32 0#32 : Cont F main_while0b_call2_c_0) = Step.b86 j s := by
  unfold Step.b86
  rfl
theorem al_87 (h : Holds V0 s j) : (Host.dynamicUpdateSlice (V0 (Proc.devRef .tc main_v28_8)) (broadcastInDim S1x32x512 ![1, 2] bcast_S32x512_S1x32x512_1_2 (res_main_while0b_v67 V0)) (fun k => (((![V0 (Proc.devRef .tc main_v28_3), constantI S_ 32 0#32, constantI S_ 32 0#32] : Fin 3 → (⟨S_, .i32⟩ : BufTy).Contents (Elt F))) k (Shape.Idx.first h_S_)).toInt) updateFits_S1024x32x512_S1x32x512 : Cont F main_while0b_v100) = Step.b87 j s := by
  unfold Step.b87
  rw [← al_84 h, ← al_85 h, ← al_86 h, h.f_8, h.n_3]
  try rfl
theorem al_88 (h : Holds V0 s j) : (broadcastInDim S1x32x512 ![1, 2] bcast_S32x512_S1x32x512_1_2 (res_main_while0b_v99 V0) : Cont F main_while0b_call3_v0) = Step.b88 j s := by
  unfold Step.b88
  rw [← al_83 h]
  try rfl
theorem al_89 (h : Holds V0 s j) : (constantI S_ 32 0#32 : Cont F main_while0b_call3_c) = Step.b89 j s := by
  unfold Step.b89
  rfl
theorem al_90 (h : Holds V0 s j) : (constantI S_ 32 0#32 : Cont F main_while0b_call3_c_0) = Step.b90 j s := by
  unfold Step.b90
  rfl
theorem al_91 (h : Holds V0 s j) : (Host.dynamicUpdateSlice (V0 (Proc.devRef .tc main_v28_9)) (broadcastInDim S1x32x512 ![1, 2] bcast_S32x512_S1x32x512_1_2 (res_main_while0b_v99 V0)) (fun k => (((![V0 (Proc.devRef .tc main_v28_3), constantI S_ 32 0#32, constantI S_ 32 0#32] : Fin 3 → (⟨S_, .i32⟩ : BufTy).Contents (Elt F))) k (Shape.Idx.first h_S_)).toInt) updateFits_S1024x32x512_S1x32x512 : Cont F main_while0b_v101) = Step.b91 j s := by
  unfold Step.b91
  rw [← al_88 h, ← al_89 h, ← al_90 h, h.f_9, h.n_3]
  try rfl

/-! One trip's step of the carried values is `step`, field by field; a counter steps to the next number. -/

theorem step_4 (h : Holds V0 s j) : step_main_v28_4 V0 = (step j s).main_v28_4 := by
  unfold step_main_v28_4 Step.step
  show id (res_main_while0b_v59 V0) = _
  rw [al_35 h]
  try rfl
theorem step_5 (h : Holds V0 s j) : step_main_v28_5 V0 = (step j s).main_v28_5 := by
  unfold step_main_v28_5 Step.step
  show id (res_main_while0b_v67 V0) = _
  rw [al_45 h]
  try rfl
theorem step_6 (h : Holds V0 s j) : step_main_v28_6 V0 = (step j s).main_v28_6 := by
  unfold step_main_v28_6 Step.step
  show id (res_main_while0b_v91 V0) = _
  rw [al_73 h]
  try rfl
theorem step_7 (h : Holds V0 s j) : step_main_v28_7 V0 = (step j s).main_v28_7 := by
  unfold step_main_v28_7 Step.step
  show id (res_main_while0b_v99 V0) = _
  rw [al_83 h]
  try rfl
theorem step_8 (h : Holds V0 s j) : step_main_v28_8 V0 = (step j s).main_v28_8 := by
  unfold step_main_v28_8 Step.step
  exact al_87 h
theorem step_9 (h : Holds V0 s j) : step_main_v28_9 V0 = (step j s).main_v28_9 := by
  unfold step_main_v28_9 Step.step
  exact al_91 h
theorem step_3 (h : Holds V0 s j) : step_main_v28_3 V0 = constantI S_ 32 (BitVec.ofNat 32 (j + 1)) := by
  unfold step_main_v28_3
  rw [h.n_3]
  funext i
  show BitVec.ofNat 32 j + 1#32 = BitVec.ofNat 32 (j + 1)
  simp only [BitVec.ofNat_add]

theorem out_main_v30_holds (h : Holds V0 s j) : out_main_v30 V0 = Step.R_main_v30 s := by
  unfold out_main_v30 Step.R_main_v30
  rw [h.f_8]
  try rfl

theorem out_main_v33_holds (h : Holds V0 s j) : out_main_v33 V0 = Step.R_main_v33 s := by
  unfold out_main_v33 Step.R_main_v33
  rw [h.f_9]
  try rfl

/-- One trip keeps the valuation holding: `step` of the state, the same set-up values, the next number. -/
theorem holds_step (h : Holds V0 s j) : Holds (STEP V0) (step j s) (j + 1) where
  f_4 := (STEP_main_v28_4 V0).trans (step_4 h)
  f_5 := (STEP_main_v28_5 V0).trans (step_5 h)
  f_6 := (STEP_main_v28_6 V0).trans (step_6 h)
  f_7 := (STEP_main_v28_7 V0).trans (step_7 h)
  f_8 := (STEP_main_v28_8 V0).trans (step_8 h)
  f_9 := (STEP_main_v28_9 V0).trans (step_9 h)
  n_3 := (STEP_main_v28_3 V0).trans (step_3 h)
  f_0 := (STEP_main_v28_0 V0).trans h.f_0
  f_1 := (STEP_main_v28_1 V0).trans h.f_1
  f_2 := (STEP_main_v28_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v30) = Step.R_main_v30 (it c 1024)
      ∧ r.2.mem ((c.tc : Thread nD τ).loc main_v33) = Step.R_main_v33 (it c 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 1024
    ⟨(h c).1.trans (out_main_v30_holds hk), (h c).2.1.trans (out_main_v33_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.RefRun

end
-- ==== Proof.Hand.RefValue.lean ====
module

public import proofs.«01_k».proof.Proof.Hand.RefRun
public import proofs.«01_k».proof.Proof.Hand.Math
public import Idealize.ShloMosaic.Lib.DynamicIndex
public import Idealize.ShloMosaic.Lib.Pointwise
public import Idealize.ShloMosaic.Lib.Pipeline.Value
/- The reference's scan over the extended reals: each trip is one step of Math.lean's recurrence in each direction, and
   the two output arrays collect the hidden states. -/

@[expose] public section

set_option maxRecDepth 16384

noncomputable section

namespace Cert.ReferenceIdeal.Step

open Idealize.ShloMosaic Cert.ReferenceIdeal Cert.ReferenceIdeal.Gen

theorem slices_at (j : ℕ) (hj : j < 1024) : S1024x32x2048.Slices ![j, 0, 0] S1x32x2048 :=
  ⟨rfl, fun a => by
    match a with
    | ⟨0, _⟩ => show j + 1 ≤ 1024; omega
    | ⟨1, _⟩ => show 0 + 32 ≤ 32; omega
    | ⟨2, _⟩ => show 0 + 2048 ≤ 2048; omega⟩

theorem slicesO_at (j : ℕ) (hj : j < 1024) : S1024x32x512.Slices ![j, 0, 0] S1x32x512 :=
  ⟨rfl, fun a => by
    match a with
    | ⟨0, _⟩ => show j + 1 ≤ 1024; omega
    | ⟨1, _⟩ => show 0 + 32 ≤ 32; omega
    | ⟨2, _⟩ => show 0 + 512 ≤ 512; omega⟩

/-- The starts of a trip's slice: the trip's number on the time axis, zero on the others. -/
theorem starts_at (j : ℕ) (hj : j < 1024) (a : Fin 3) :
    (((![(constantI S_ 32 (BitVec.ofNat 32 j) : (⟨S_, .i32⟩ : BufTy).Contents (Elt Ideal)), (constantI S_ 32 0#32), (constantI S_ 32 0#32)] : Fin 3 → (⟨S_, .i32⟩ : BufTy).Contents (Elt Ideal))) a (Shape.Idx.first h_S_)).toInt
      = ((![j, 0, 0] : Fin 3 → ℕ) a : Int) := by
  match a with
  | ⟨0, _⟩ => exact toInt_ofNat_of_lt (by omega)
  | ⟨1, _⟩ => rfl
  | ⟨2, _⟩ => rfl

theorem clamp_at (j : ℕ) (hj : j < 1024) (a : Fin 3) :
    (min (max ((((![(constantI S_ 32 (BitVec.ofNat 32 j) : (⟨S_, .i32⟩ : BufTy).Contents (Elt Ideal)), (constantI S_ 32 0#32), (constantI S_ 32 0#32)] : Fin 3 → (⟨S_, .i32⟩ : BufTy).Contents (Elt Ideal))) a (Shape.Idx.first h_S_)).toInt) 0)
      ((S1024x32x512.size a - S1x32x512.size a : Nat) : Int)).toNat = (![j, 0, 0] : Fin 3 → ℕ) a := by
  rw [starts_at j hj a]
  have h := (slicesO_at j hj).2 a
  have h' : (![j, 0, 0] : Fin 3 → ℕ) a + S1x32x512.size a ≤ S1024x32x512.size a := h
  omega

theorem row_x (x : FVec Ideal S1x32x2048 .f32) (h : S1x32x2048.ShapeCasts S32x2048) (b : Fin 32) (q : Fin 2048) :
    shapeCast S32x2048 x h (ValueIdx.ix2 b q) = x (ValueIdx.ix3 0 b q) := by
  pointwise
  rfl

theorem row_w (x : FVec Ideal S1x512x2048 .f32) (h : S1x512x2048.ShapeCasts S512x2048) (k : Fin 512) (q : Fin 2048) :
    shapeCast S512x2048 x h (ValueIdx.ix2 k q) = x (ValueIdx.ix3 0 k q) := by
  pointwise
  rfl

theorem dot_h (h : FVec Ideal S32x512 .f32) (w : FVec Ideal S512x2048 .f32) (b : Fin 32) (q : Fin 2048) :
    Host.dotGeneral dot_S32x512_S512x2048_S32x2048_1_0_0_1_n_n none h w (ValueIdx.ix2 b q)
      = ∑ k : Fin 512, h (ValueIdx.ix2 b k) * w (ValueIdx.ix2 k q) := by
  pointwise
  rfl

theorem split_rows (x : FVec Ideal S32768x1024 .f32) (h : S32768x1024.ShapeCasts S1024x32x1024) (t : Fin 1024) (b : Fin 32) (k : Fin 1024) :
    shapeCast S1024x32x1024 x h (ValueIdx.ix3 t b k) = x (ValueIdx.ix2 (⟨32 * t.val + b.val, by omega⟩ : Fin 32768) k) := by
  refine shapeCast_apply x h _ _ ?_
  rw [Shape.rowMajor_val_two, Shape.rowMajor_val_three]
  show (32 * t.val + b.val) * 1024 + k.val = (t.val * 32 + b.val) * 1024 + k.val
  omega

theorem cat_cols (l r : FVec Ideal S32768x512 .bf16) (row : Fin 32768) (k : Fin 1024) :
    (extf .f32 (concatenate S32768x1024 1 [⟨S32768x512, l⟩, ⟨S32768x512, r⟩] concatenates_S32768x512_S32768x512_S32768x1024_d1 : FVec Ideal S32768x1024 .bf16) bitsLt_bf16_f32 : FVec Ideal S32768x1024 .f32)
      (ValueIdx.ix2 row k)
      = if h : k.val < 512 then l (ValueIdx.ix2 row (⟨k.val, h⟩ : Fin 512)) else r (ValueIdx.ix2 row (⟨k.val - 512, by omega⟩ : Fin 512)) := by
  pointwise
  rfl

theorem rev_rows (x : FVec Ideal S1024x32x1024 .f32) (t : Fin 1024) (b : Fin 32) (k : Fin 1024) :
    Host.reverse [0] x (ValueIdx.ix3 t b k) = x (ValueIdx.ix3 (⟨1023 - t.val, by omega⟩ : Fin 1024) b k) := by
  pointwise
  refine congrArg x (funext fun a => Fin.ext ?_)
  match a with
  | ⟨0, _⟩ => show 1024 - (t.val + 1) = 1023 - t.val; omega
  | ⟨1, _⟩ => rfl
  | ⟨2, _⟩ => rfl

theorem rev_out (x : FVec Ideal S1024x32x512 .f32) (t : Fin 1024) (b : Fin 32) (k : Fin 512) :
    Host.reverse [0] x (ValueIdx.ix3 t b k) = x (ValueIdx.ix3 (⟨1023 - t.val, by omega⟩ : Fin 1024) b k) := by
  pointwise
  refine congrArg x (funext fun a => Fin.ext ?_)
  match a with
  | ⟨0, _⟩ => show 1024 - (t.val + 1) = 1023 - t.val; omega
  | ⟨1, _⟩ => rfl
  | ⟨2, _⟩ => rfl

theorem join_rows (x : FVec Ideal S1024x32x512 .f32) (h : S1024x32x512.ShapeCasts S32768x512) (y : S32768x512.Idx) :
    shapeCast S32768x512 x h y = x (ValueIdx.ix3 (⟨(y 0).val / 32, by have : (y 0).val < 32768 := (y 0).isLt; omega⟩ : Fin 1024)
      (⟨(y 0).val % 32, Nat.mod_lt _ (by decide)⟩ : Fin 32) (⟨(y 1).val, (y 1).isLt⟩ : Fin 512)) := by
  refine shapeCast_apply x h _ _ ?_
  rw [Shape.rowMajor_val_two, Shape.rowMajor_val_three]
  show ((y 0).val / 32 * 32 + (y 0).val % 32) * 512 + (y 1).val = (y 0).val * 512 + (y 1).val
  omega

theorem row_wx (x : FVec Ideal S1x1024x2048 .f32) (h : S1x1024x2048.ShapeCasts S1024x2048) (k : Fin 1024) (q : Fin 2048) :
    shapeCast S1024x2048 x h (ValueIdx.ix2 k q) = x (ValueIdx.ix3 0 k q) := by
  pointwise
  rfl

theorem dot_x (x : FVec Ideal S1024x32x1024 .f32) (w : FVec Ideal S1024x2048 .f32) (t : Fin 1024) (b : Fin 32) (q : Fin 2048) :
    Host.dotGeneral dot_S1024x32x1024_S1024x2048_S1024x32x2048_2_0_01_1_n_n none x w (ValueIdx.ix3 t b q)
      = ∑ k : Fin 1024, x (ValueIdx.ix3 t b k) * w (ValueIdx.ix2 k q) := by
  pointwise
  rfl

theorem bias_0 (a : FVec Ideal S2x2048 .f32) (t : Fin 1024) (b : Fin 32) (q : Fin 2048) :
    broadcastInDim S1024x32x2048 ![0, 1, 2] bcast_S1x1x2048_S1024x32x2048_0_1_2 (broadcastInDim S1x1x2048 ![2] bcast_S2048_S1x1x2048_2
      (shapeCast S2048 (extractStridedSlice S1x2048 ![0, 0] a slices_S2x2048_S1x2048_0_0) shapeCasts_S1x2048_S2048)) (ValueIdx.ix3 t b q)
      = a (ValueIdx.ix2 0 q) := by
  pointwise
  rfl

theorem bias_1 (a : FVec Ideal S2x2048 .f32) (t : Fin 1024) (b : Fin 32) (q : Fin 2048) :
    broadcastInDim S1024x32x2048 ![0, 1, 2] bcast_S1x1x2048_S1024x32x2048_0_1_2 (broadcastInDim S1x1x2048 ![2] bcast_S2048_S1x1x2048_2
      (shapeCast S2048 (extractStridedSlice S1x2048 ![1, 0] a slices_S2x2048_S1x2048_1_0) shapeCasts_S1x2048_S2048)) (ValueIdx.ix3 t b q)
      = a (ValueIdx.ix2 1 q) := by
  pointwise
  rfl

/-- Step `j`'s rows of the input part. -/
theorem xrow_F (j : ℕ) (hj : j < 1024) (s : State Ideal) (b : Fin 32) (q : Fin 2048) :
    b3 j s (ValueIdx.ix2 b q) = s.main_v28_0 (ValueIdx.ix3 (⟨j, hj⟩ : Fin 1024) b q) := by
  unfold b3 b2 b0 b1
  rw [Host.dynamicSlice_eq_extractStridedSlice S1x32x2048 s.main_v28_0 _ ![j, 0, 0] _ (slices_at j hj) (starts_at j hj)]
  refine (row_x _ _ b q).trans ?_
  pointwise
  rfl

theorem pre_F (j : ℕ) (hj : j < 1024) (s : State Ideal) (b : Fin 32) (q : Fin 2048) :
    b11 j s (ValueIdx.ix2 b q) = Lstm.pre (Lstm.wrec s.main_v28_2 0) (fun b q => s.main_v28_0 (ValueIdx.ix3 (⟨j, hj⟩ : Fin 1024) b q))
      (fun b k => s.main_v28_5 (ValueIdx.ix2 b k)) b q := by
  unfold b11 b10 Lstm.pre Lstm.wrec
  rw [ValueIdx.addf_apply, xrow_F j hj]
  refine congrArg (s.main_v28_0 (ValueIdx.ix3 (⟨j, hj⟩ : Fin 1024) b q) + ·) ((dot_h _ _ b q).trans ?_)
  refine Finset.sum_congr rfl fun k _ => congrArg (s.main_v28_5 (ValueIdx.ix2 b k) * ·) ?_
  unfold b9 b8
  refine (row_w _ _ k q).trans ?_
  pointwise
  rfl

theorem newC_F (j : ℕ) (hj : j < 1024) (s : State Ideal) (b : Fin 32) (k : Fin 512) :
    b35 j s (ValueIdx.ix2 b k) = Lstm.newC (Lstm.wrec s.main_v28_2 0) (fun b q => s.main_v28_0 (ValueIdx.ix3 (⟨j, hj⟩ : Fin 1024) b q))
      (fun b k => s.main_v28_4 (ValueIdx.ix2 b k), fun b k => s.main_v28_5 (ValueIdx.ix2 b k)) b k := by
  unfold Lstm.newC
  rw [← pre_F j hj, ← pre_F j hj, ← pre_F j hj]
  unfold b35 b34 b33 b32 b31 b30 b29 b28 b27 b26 b25 b24 b23 b22 b21 b20 b19 b18 b17 b16 b14 b13 b12 Lstm.col Ideal.logistic
  pointwise
  rfl

theorem newH_F (j : ℕ) (hj : j < 1024) (s : State Ideal) (b : Fin 32) (k : Fin 512) :
    b45 j s (ValueIdx.ix2 b k) = (Lstm.lstm (Lstm.wrec s.main_v28_2 0) (fun b q => s.main_v28_0 (ValueIdx.ix3 (⟨j, hj⟩ : Fin 1024) b q))
      (fun b k => s.main_v28_4 (ValueIdx.ix2 b k), fun b k => s.main_v28_5 (ValueIdx.ix2 b k))).2 b k := by
  unfold Lstm.lstm
  dsimp only
  rw [← pre_F j hj, ← newC_F j hj]
  unfold b45 b44 b43 b42 b41 b40 b39 b38 b37 b36 b15 Lstm.col Ideal.logistic
  pointwise
  rfl

/-- Step `j` writes row `j` of the outputs and keeps the others. -/
theorem out_F (j : ℕ) (hj : j < 1024) (s : State Ideal) (t : Fin 1024) (b : Fin 32) (k : Fin 512) :
    b87 j s (ValueIdx.ix3 t b k) = if t.val = j then b45 j s (ValueIdx.ix2 b k) else s.main_v28_8 (ValueIdx.ix3 t b k) := by
  unfold b87 b84 b85 b86
  rw [Host.dynamicUpdateSlice_eq_updateSlice s.main_v28_8 _ _ _ ![j, 0, 0] (clamp_at j hj) (slicesO_at j hj), updateSlice_apply]
  by_cases h : t.val = j
  · rw [if_pos h, dif_pos (by
      intro a
      match a with
      | ⟨0, _⟩ => exact ⟨Nat.le_of_eq h.symm, by show t.val < j + 1; omega⟩
      | ⟨1, _⟩ => exact ⟨Nat.zero_le _, by show b.val < 0 + 32; omega⟩
      | ⟨2, _⟩ => exact ⟨Nat.zero_le _, by show k.val < 0 + 512; omega⟩)]
    pointwise
    rfl
  · rw [if_neg h, dif_neg (fun hin => h (by
      have h0 : j ≤ t.val ∧ t.val < j + 1 := hin 0
      omega))]

/-- The states after `n` trips, of any sequence that goes on by `step`: the recurrence, and its hidden states so far. -/
theorem iter_F (it : ℕ → State Ideal) (hs : ∀ n, it (n + 1) = step n (it n)) (X : ℕ → Fin 32 → Fin 2048 → EReal) (W : Fin 512 → Fin 2048 → EReal)
    (hW : ∀ n, Lstm.wrec (it n).main_v28_2 0 = W)
    (hX : ∀ n (j : ℕ) (hj : j < 1024), (fun b q => (it n).main_v28_0 (ValueIdx.ix3 (⟨j, hj⟩ : Fin 1024) b q)) = X j)
    (h0 : ((fun b k => (it 0).main_v28_4 (ValueIdx.ix2 b k), fun b k => (it 0).main_v28_5 (ValueIdx.ix2 b k)) : Lstm.St) = (fun _ _ => 0, fun _ _ => 0)) :
    ∀ n, n ≤ 1024 → ((fun b k => (it n).main_v28_4 (ValueIdx.ix2 b k), fun b k => (it n).main_v28_5 (ValueIdx.ix2 b k)) : Lstm.St) = Lstm.run W X n
      ∧ ∀ (t : Fin 1024) (b : Fin 32) (k : Fin 512), t.val < n → (it n).main_v28_8 (ValueIdx.ix3 t b k) = (Lstm.run W X (t.val + 1)).2 b k
  | 0, _ => ⟨h0, fun t b k h => absurd h (Nat.not_lt_zero _)⟩
  | n + 1, hn => by
    obtain ⟨ih1, ih2⟩ := iter_F it hs X W hW hX h0 n (by omega)
    have hj : n < 1024 := by omega
    have hc : ∀ b k, (it (n + 1)).main_v28_4 (ValueIdx.ix2 b k) = (Lstm.run W X (n + 1)).1 b k := by
      intro b k
      rw [hs, step_main_v28_4, newC_F n hj, hW, hX n n hj, ih1]
      rfl
    have hh : ∀ b k, b45 n (it n) (ValueIdx.ix2 b k) = (Lstm.run W X (n + 1)).2 b k := by
      intro b k
      rw [newH_F n hj, hW, hX n n hj, ih1]
      rfl
    refine ⟨Prod.ext (funext fun b => funext fun k => hc b k) (funext fun b => funext fun k => ?_), fun t b k ht => ?_⟩
    · dsimp only
      rw [hs, step_main_v28_5, hh]
    · rw [hs, step_main_v28_8, out_F n hj]
      by_cases h : t.val = n
      · rw [if_pos h, hh, h]
      · rw [if_neg h, ih2 t b k (by omega)]

/-- Step `j`'s rows of the input part. -/
theorem xrow_B (j : ℕ) (hj : j < 1024) (s : State Ideal) (b : Fin 32) (q : Fin 2048) :
    b7 j s (ValueIdx.ix2 b q) = s.main_v28_1 (ValueIdx.ix3 (⟨j, hj⟩ : Fin 1024) b q) := by
  unfold b7 b6 b4 b5
  rw [Host.dynamicSlice_eq_extractStridedSlice S1x32x2048 s.main_v28_1 _ ![j, 0, 0] _ (slices_at j hj) (starts_at j hj)]
  refine (row_x _ _ b q).trans ?_
  pointwise
  rfl

theorem pre_B (j : ℕ) (hj : j < 1024) (s : State Ideal) (b : Fin 32) (q : Fin 2048) :
    b49 j s (ValueIdx.ix2 b q) = Lstm.pre (Lstm.wrec s.main_v28_2 1) (fun b q => s.main_v28_1 (ValueIdx.ix3 (⟨j, hj⟩ : Fin 1024) b q))
      (fun b k => s.main_v28_7 (ValueIdx.ix2 b k)) b q := by
  unfold b49 b48 Lstm.pre Lstm.wrec
  rw [ValueIdx.addf_apply, xrow_B j hj]
  refine congrArg (s.main_v28_1 (ValueIdx.ix3 (⟨j, hj⟩ : Fin 1024) b q) + ·) ((dot_h _ _ b q).trans ?_)
  refine Finset.sum_congr rfl fun k _ => congrArg (s.main_v28_7 (ValueIdx.ix2 b k) * ·) ?_
  unfold b47 b46
  refine (row_w _ _ k q).trans ?_
  pointwise
  rfl

theorem newC_B (j : ℕ) (hj : j < 1024) (s : State Ideal) (b : Fin 32) (k : Fin 512) :
    b73 j s (ValueIdx.ix2 b k) = Lstm.newC (Lstm.wrec s.main_v28_2 1) (fun b q => s.main_v28_1 (ValueIdx.ix3 (⟨j, hj⟩ : Fin 1024) b q))
      (fun b k => s.main_v28_6 (ValueIdx.ix2 b k), fun b k => s.main_v28_7 (ValueIdx.ix2 b k)) b k := by
  unfold Lstm.newC
  rw [← pre_B j hj, ← pre_B j hj, ← pre_B j hj]
  unfold b73 b72 b71 b70 b69 b68 b67 b66 b65 b64 b63 b62 b61 b60 b59 b58 b57 b56 b55 b54 b52 b51 b50 Lstm.col Ideal.logistic
  pointwise
  rfl

theorem newH_B (j : ℕ) (hj : j < 1024) (s : State Ideal) (b : Fin 32) (k : Fin 512) :
    b83 j s (ValueIdx.ix2 b k) = (Lstm.lstm (Lstm.wrec s.main_v28_2 1) (fun b q => s.main_v28_1 (ValueIdx.ix3 (⟨j, hj⟩ : Fin 1024) b q))
      (fun b k => s.main_v28_6 (ValueIdx.ix2 b k), fun b k => s.main_v28_7 (ValueIdx.ix2 b k))).2 b k := by
  unfold Lstm.lstm
  dsimp only
  rw [← pre_B j hj, ← newC_B j hj]
  unfold b83 b82 b81 b80 b79 b78 b77 b76 b75 b74 b53 Lstm.col Ideal.logistic
  pointwise
  rfl

/-- Step `j` writes row `j` of the outputs and keeps the others. -/
theorem out_B (j : ℕ) (hj : j < 1024) (s : State Ideal) (t : Fin 1024) (b : Fin 32) (k : Fin 512) :
    b91 j s (ValueIdx.ix3 t b k) = if t.val = j then b83 j s (ValueIdx.ix2 b k) else s.main_v28_9 (ValueIdx.ix3 t b k) := by
  unfold b91 b88 b89 b90
  rw [Host.dynamicUpdateSlice_eq_updateSlice s.main_v28_9 _ _ _ ![j, 0, 0] (clamp_at j hj) (slicesO_at j hj), updateSlice_apply]
  by_cases h : t.val = j
  · rw [if_pos h, dif_pos (by
      intro a
      match a with
      | ⟨0, _⟩ => exact ⟨Nat.le_of_eq h.symm, by show t.val < j + 1; omega⟩
      | ⟨1, _⟩ => exact ⟨Nat.zero_le _, by show b.val < 0 + 32; omega⟩
      | ⟨2, _⟩ => exact ⟨Nat.zero_le _, by show k.val < 0 + 512; omega⟩)]
    pointwise
    rfl
  · rw [if_neg h, dif_neg (fun hin => h (by
      have h0 : j ≤ t.val ∧ t.val < j + 1 := hin 0
      omega))]

/-- The states after `n` trips, of any sequence that goes on by `step`: the recurrence, and its hidden states so far. -/
theorem iter_B (it : ℕ → State Ideal) (hs : ∀ n, it (n + 1) = step n (it n)) (X : ℕ → Fin 32 → Fin 2048 → EReal) (W : Fin 512 → Fin 2048 → EReal)
    (hW : ∀ n, Lstm.wrec (it n).main_v28_2 1 = W)
    (hX : ∀ n (j : ℕ) (hj : j < 1024), (fun b q => (it n).main_v28_1 (ValueIdx.ix3 (⟨j, hj⟩ : Fin 1024) b q)) = X j)
    (h0 : ((fun b k => (it 0).main_v28_6 (ValueIdx.ix2 b k), fun b k => (it 0).main_v28_7 (ValueIdx.ix2 b k)) : Lstm.St) = (fun _ _ => 0, fun _ _ => 0)) :
    ∀ n, n ≤ 1024 → ((fun b k => (it n).main_v28_6 (ValueIdx.ix2 b k), fun b k => (it n).main_v28_7 (ValueIdx.ix2 b k)) : Lstm.St) = Lstm.run W X n
      ∧ ∀ (t : Fin 1024) (b : Fin 32) (k : Fin 512), t.val < n → (it n).main_v28_9 (ValueIdx.ix3 t b k) = (Lstm.run W X (t.val + 1)).2 b k
  | 0, _ => ⟨h0, fun t b k h => absurd h (Nat.not_lt_zero _)⟩
  | n + 1, hn => by
    obtain ⟨ih1, ih2⟩ := iter_B it hs X W hW hX h0 n (by omega)
    have hj : n < 1024 := by omega
    have hc : ∀ b k, (it (n + 1)).main_v28_6 (ValueIdx.ix2 b k) = (Lstm.run W X (n + 1)).1 b k := by
      intro b k
      rw [hs, step_main_v28_6, newC_B n hj, hW, hX n n hj, ih1]
      rfl
    have hh : ∀ b k, b83 n (it n) (ValueIdx.ix2 b k) = (Lstm.run W X (n + 1)).2 b k := by
      intro b k
      rw [newH_B n hj, hW, hX n n hj, ih1]
      rfl
    refine ⟨Prod.ext (funext fun b => funext fun k => hc b k) (funext fun b => funext fun k => ?_), fun t b k ht => ?_⟩
    · dsimp only
      rw [hs, step_main_v28_7, hh]
    · rw [hs, step_main_v28_9, out_B n hj]
      by_cases h : t.val = n
      · rw [if_pos h, hh, h]
      · rw [if_neg h, ih2 t b k (by omega)]

theorem cat_F (a0 a1 a2 a3 : FVec Ideal S32768x512 .bf16) (a4 : FVec Ideal S2x1024x2048 .bf16) (a5 : FVec Ideal S2x512x2048 .bf16) (a6 : FVec Ideal S2x2048 .f32) (t : Fin 1024) (b : Fin 32) (k : Fin 1024) :
    A_main_v4 (F := Ideal) a0 a1 a2 a3 a4 a5 a6 (ValueIdx.ix3 t b k) = Lstm.seq a0 a1 t.val b k := by
  have ht := t.isLt
  have hb := b.isLt
  unfold A_main_v4 A_main_v3 A_main_v2
  refine (split_rows _ _ t b k).trans ((cat_cols a0 a1 _ k).trans ?_)
  unfold Lstm.seq
  refine dite_congr rfl (fun h => ?_) (fun h => ?_)
  · exact congrArg _ (Shape.idx_ext₂ (show 32 * t.val + b.val = (32 * t.val + b.val) % 32768 by omega) rfl)
  · exact congrArg _ (Shape.idx_ext₂ (show 32 * t.val + b.val = (32 * t.val + b.val) % 32768 by omega) rfl)

/-- The input part of every time step. -/
theorem inp_F (a0 a1 a2 a3 : FVec Ideal S32768x512 .bf16) (a4 : FVec Ideal S2x1024x2048 .bf16) (a5 : FVec Ideal S2x512x2048 .bf16) (a6 : FVec Ideal S2x2048 .f32) (t : Fin 1024) (b : Fin 32) (q : Fin 2048) :
    A_main_v15 (F := Ideal) a0 a1 a2 a3 a4 a5 a6 (ValueIdx.ix3 t b q) = Lstm.xpart a0 a1 a4 a6 0 (t.val) b q := by
  unfold A_main_v15 A_main_v10 Lstm.xpart Lstm.inProj
  refine congrArg₂ (· + ·) ((dot_x _ _ t b q).trans (Finset.sum_congr rfl fun k _ => congrArg₂ (· * ·) ?_ ?_)) ?_
  · exact cat_F a0 a1 a2 a3 a4 a5 a6 t b k
  · unfold A_main_v9 A_main_v8 A_main_v0
    refine (row_wx _ _ k q).trans ?_
    pointwise
    rfl
  · unfold A_main_v14 A_main_v13 A_main_v12 A_main_v11
    exact bias_0 a6 t b q

theorem cat_B (a0 a1 a2 a3 : FVec Ideal S32768x512 .bf16) (a4 : FVec Ideal S2x1024x2048 .bf16) (a5 : FVec Ideal S2x512x2048 .bf16) (a6 : FVec Ideal S2x2048 .f32) (t : Fin 1024) (b : Fin 32) (k : Fin 1024) :
    A_main_v7 (F := Ideal) a0 a1 a2 a3 a4 a5 a6 (ValueIdx.ix3 t b k) = Lstm.seq a2 a3 t.val b k := by
  have ht := t.isLt
  have hb := b.isLt
  unfold A_main_v7 A_main_v6 A_main_v5
  refine (split_rows _ _ t b k).trans ((cat_cols a2 a3 _ k).trans ?_)
  unfold Lstm.seq
  refine dite_congr rfl (fun h => ?_) (fun h => ?_)
  · exact congrArg _ (Shape.idx_ext₂ (show 32 * t.val + b.val = (32 * t.val + b.val) % 32768 by omega) rfl)
  · exact congrArg _ (Shape.idx_ext₂ (show 32 * t.val + b.val = (32 * t.val + b.val) % 32768 by omega) rfl)

/-- The input part of every time step. -/
theorem inp_B (a0 a1 a2 a3 : FVec Ideal S32768x512 .bf16) (a4 : FVec Ideal S2x1024x2048 .bf16) (a5 : FVec Ideal S2x512x2048 .bf16) (a6 : FVec Ideal S2x2048 .f32) (t : Fin 1024) (b : Fin 32) (q : Fin 2048) :
    A_main_v24 (F := Ideal) a0 a1 a2 a3 a4 a5 a6 (ValueIdx.ix3 t b q) = Lstm.xpart a2 a3 a4 a6 1 (1023 - t.val) b q := by
  unfold A_main_v24 A_main_v19 Lstm.xpart Lstm.inProj
  refine congrArg₂ (· + ·) ((dot_x _ _ t b q).trans (Finset.sum_congr rfl fun k _ => congrArg₂ (· * ·) ?_ ?_)) ?_
  · unfold A_main_v16; exact (rev_rows _ t b k).trans (cat_B a0 a1 a2 a3 a4 a5 a6 _ b k)
  · unfold A_main_v18 A_main_v17 A_main_v0
    refine (row_wx _ _ k q).trans ?_
    pointwise
    rfl
  · unfold A_main_v23 A_main_v22 A_main_v21 A_main_v20
    exact bias_1 a6 t b q

/-- The states of the scan. -/
def states (s0 : State Ideal) : ℕ → State Ideal
  | 0 => s0
  | n + 1 => step n (states s0 n)

theorem states_0 (s0 : State Ideal) : ∀ n, (states s0 n).main_v28_0 = s0.main_v28_0
  | 0 => rfl
  | n + 1 => states_0 s0 n

theorem states_1 (s0 : State Ideal) : ∀ n, (states s0 n).main_v28_1 = s0.main_v28_1
  | 0 => rfl
  | n + 1 => states_1 s0 n

theorem states_2 (s0 : State Ideal) : ∀ n, (states s0 n).main_v28_2 = s0.main_v28_2
  | 0 => rfl
  | n + 1 => states_2 s0 n

theorem zero_st (b : Fin 32) (k : Fin 512) : K_main_v25 (F := Ideal) (ValueIdx.ix2 b k) = (0 : EReal) := Ideal.ofBits_zero_f32

theorem result_F (a0 a1 a2 a3 : FVec Ideal S32768x512 .bf16) (a4 : FVec Ideal S2x1024x2048 .bf16) (a5 : FVec Ideal S2x512x2048 .bf16) (a6 : FVec Ideal S2x2048 .f32) :
    R_main_v30 (states (init a0 a1 a2 a3 a4 a5 a6) 1024) = Lstm.outFwd a0 a1 a4 a5 a6 := by
  funext y
  have h := (iter_F (states (init a0 a1 a2 a3 a4 a5 a6)) (fun _ => rfl) (fun n => Lstm.xpart a0 a1 a4 a6 0 n) (Lstm.wrec a5 0)
    (fun n => by rw [states_2]; rfl)
    (fun n j hj => by rw [states_0]; exact funext fun b => funext fun q => inp_F a0 a1 a2 a3 a4 a5 a6 ⟨j, hj⟩ b q)
    (Prod.ext (funext fun b => funext fun k => zero_st b k) (funext fun b => funext fun k => zero_st b k)) 1024 le_rfl).2
  unfold R_main_v30
  rw [ValueIdx.truncf_apply]
  refine (join_rows _ _ y).trans ?_
  have hy : (y 0).val < 32768 := (y 0).isLt
  rw [h _ _ _ (show (y 0).val / 32 < 1024 by omega)]
  rfl

theorem result_B (a0 a1 a2 a3 : FVec Ideal S32768x512 .bf16) (a4 : FVec Ideal S2x1024x2048 .bf16) (a5 : FVec Ideal S2x512x2048 .bf16) (a6 : FVec Ideal S2x2048 .f32) :
    R_main_v33 (states (init a0 a1 a2 a3 a4 a5 a6) 1024) = Lstm.outBwd a2 a3 a4 a5 a6 := by
  funext y
  have h := (iter_B (states (init a0 a1 a2 a3 a4 a5 a6)) (fun _ => rfl) (fun n => Lstm.xpart a2 a3 a4 a6 1 (1023 - n)) (Lstm.wrec a5 1)
    (fun n => by rw [states_2]; rfl)
    (fun n j hj => by rw [states_1]; exact funext fun b => funext fun q => inp_B a0 a1 a2 a3 a4 a5 a6 ⟨j, hj⟩ b q)
    (Prod.ext (funext fun b => funext fun k => zero_st b k) (funext fun b => funext fun k => zero_st b k)) 1024 le_rfl).2
  have hy : (y 0).val < 32768 := (y 0).isLt
  unfold R_main_v33
  rw [ValueIdx.truncf_apply]
  refine (join_rows _ _ y).trans ((rev_out _ _ _ _).trans ?_)
  rw [h _ _ _ (show 1023 - (y 0).val / 32 < 1024 by omega)]
  unfold Lstm.outBwd
  rw [show 1023 - (y 0).val / 32 + 1 = 1024 - (y 0).val / 32 by omega]

end Cert.ReferenceIdeal.Step

end
-- ==== Proof.Hand.First.Math.lean ====
module

public import proofs.«01_k».proof.Proof.Hand.Math
/- The first layer over the extended reals: the recurrence of Math.lean on an input that holds the two directions'
   sequences one after the other. -/

@[expose] public section

noncomputable section

namespace Cert.Lstm

open Idealize.ShloMosaic

/-- The features direction `d` reads at time `t`. -/
def seq1 (x : (⟨4, ![2, 1024, 32, 1024]⟩ : Shape).Idx → EReal) (d : Fin 2) (t : ℕ) (b : Fin 32) (k : Fin 1024) : EReal :=
  x (ValueIdx.ix4 d (⟨t % 1024, Nat.mod_lt _ (by decide)⟩ : Fin 1024) b k)

/-- The input's part of direction `d` at time `t`. -/
def xpart1 (x : (⟨4, ![2, 1024, 32, 1024]⟩ : Shape).Idx → EReal) (wx : (⟨3, ![2, 1024, 2048]⟩ : Shape).Idx → EReal)
    (bias : (⟨2, ![2, 2048]⟩ : Shape).Idx → EReal) (d : Fin 2) (t : ℕ) : Fin 32 → Fin 2048 → EReal :=
  fun b q => inProj (fun k q => wx (ValueIdx.ix3 d k q)) (fun q => bias (ValueIdx.ix2 d q)) (seq1 x d t b) q

/-- The forward direction's hidden states: row `32 t + b` holds the state after the inputs of times `0` to `t`. -/
def outFwd1 (x : (⟨4, ![2, 1024, 32, 1024]⟩ : Shape).Idx → EReal) (wx : (⟨3, ![2, 1024, 2048]⟩ : Shape).Idx → EReal)
    (wh : (⟨3, ![2, 512, 2048]⟩ : Shape).Idx → EReal) (bias : (⟨2, ![2, 2048]⟩ : Shape).Idx → EReal) :
    (⟨2, ![32768, 512]⟩ : Shape).Idx → EReal :=
  fun y => (run (wrec wh 0) (xpart1 x wx bias 0) ((y 0).val / 32 + 1)).2 (⟨(y 0).val % 32, Nat.mod_lt _ (by decide)⟩ : Fin 32)
    (⟨(y 1).val, (y 1).isLt⟩ : Fin 512)

/-- The backward direction's hidden states: row `32 t + b` holds the state after the inputs of times `1023` down to `t`. -/
def outBwd1 (x : (⟨4, ![2, 1024, 32, 1024]⟩ : Shape).Idx → EReal) (wx : (⟨3, ![2, 1024, 2048]⟩ : Shape).Idx → EReal)
    (wh : (⟨3, ![2, 512, 2048]⟩ : Shape).Idx → EReal) (bias : (⟨2, ![2, 2048]⟩ : Shape).Idx → EReal) :
    (⟨2, ![32768, 512]⟩ : Shape).Idx → EReal :=
  fun y => (run (wrec wh 1) (fun n => xpart1 x wx bias 1 (1023 - n)) (1024 - (y 0).val / 32)).2
    (⟨(y 0).val % 32, Nat.mod_lt _ (by decide)⟩ : Fin 32) (⟨(y 1).val, (y 1).isLt⟩ : Fin 512)

end Cert.Lstm

end
-- ==== Proof.Hand.First.KernelMath.lean ====
module

public import proofs.«01_k».proof.Proof.Hand.First.Run
public import proofs.«01_k».proof.Proof.Hand.First.Math
/- The first layer's blocks over the extended reals: the recurrence of Math.lean. -/

@[expose] public section

set_option maxRecDepth 16384

noncomputable section

namespace Cert.Kernel2Ideal.Gen

open Idealize.ShloMosaic Idealize.ShloMosaic.TcCoe

/-- A state by batch entry and unit. -/
def toM (p : CH Ideal) : Lstm.St := (fun b j => p.1 (ValueIdx.ix2 b j), fun b j => p.2 (ValueIdx.ix2 b j))

/-- The recurrent weights of a direction. -/
def whM (W : FVec Ideal S2x512x2048 .bf16) (d : Fin 2) : Fin 512 → Fin 2048 → EReal := fun k q => W (ValueIdx.ix3 d k q)

/-- Step `n`'s rows of a block. -/
def rowsM (x : FVec Ideal S1024x2048 .bf16) (n : ℕ) : Fin 32 → Fin 2048 → EReal :=
  fun b q => x (ValueIdx.ix2 (⟨(32 * n + b.val) % 1024, Nat.mod_lt _ (by decide)⟩ : Fin 1024) q)

theorem gate_apply (W : FVec Ideal S2x512x2048 .bf16) (d : Fin 2) (x : FVec Ideal S1024x2048 .bf16) (n : ℕ) (g : Fin 4)
    (h : FVec Ideal S32x512 .f32) (b : Fin 32) (j : Fin 512) :
    gate (wsl W d g) (xsl x n g) h (ValueIdx.ix2 b j)
      = Lstm.pre (whM W d) (rowsM x n) (fun b j => h (ValueIdx.ix2 b j)) b (Lstm.col g j) := by
  unfold gate wsl xsl Lstm.pre whM rowsM Lstm.col
  pointwise
  exact add_comm _ _

theorem cellAt_toM (W : FVec Ideal S2x512x2048 .bf16) (d : Fin 2) (x : FVec Ideal S1024x2048 .bf16) (n : ℕ) (p : CH Ideal) :
    toM (cellAt W d x n p) = Lstm.lstm (whM W d) (rowsM x n) (toM p) := by
  refine Prod.ext (funext fun b => funext fun j => ?_) (funext fun b => funext fun j => ?_)
  · unfold toM cellAt cell Lstm.lstm Lstm.newC
    dsimp only
    pointwise
    rw [gate_apply, gate_apply, gate_apply]
  · unfold toM cellAt cell Lstm.lstm Lstm.newC
    dsimp only
    pointwise
    rw [gate_apply, gate_apply, gate_apply, gate_apply]

/-- Forward: a block entered with the recurrence's state after `32 i` steps, its row groups the inputs of the next 32. -/
theorem fwdAt_toM (W : FVec Ideal S2x512x2048 .bf16) (x : FVec Ideal S1024x2048 .bf16) (X : ℕ → Fin 32 → Fin 2048 → EReal) (i : ℕ)
    (p : CH Ideal) (hp : toM p = Lstm.run (whM W 0) X (32 * i)) (hx : ∀ k, k < 32 → rowsM x k = X (32 * i + k)) (n : ℕ) (hn : n ≤ 32) :
    toM (fwdAt W x p n) = Lstm.run (whM W 0) X (32 * i + n) := by
  induction n with
  | zero => exact hp
  | succ n ih => rw [fwdAt, cellAt_toM, ih (by omega), hx n (by omega), ← Nat.add_assoc, Lstm.run]

/-- Backward: the same, the row groups taken from the last to the first. -/
theorem bwdAt_toM (W : FVec Ideal S2x512x2048 .bf16) (x : FVec Ideal S1024x2048 .bf16) (X : ℕ → Fin 32 → Fin 2048 → EReal) (i : ℕ)
    (p : CH Ideal) (hp : toM p = Lstm.run (whM W 1) X (32 * i)) (hx : ∀ k, k < 32 → rowsM x (31 - k) = X (32 * i + k)) (n : ℕ) (hn : n ≤ 32) :
    toM (bwdAt W x p n) = Lstm.run (whM W 1) X (32 * i + n) := by
  induction n with
  | zero => exact hp
  | succ n ih => rw [bwdAt, cellAt_toM, ih (by omega), hx n (by omega), ← Nat.add_assoc, Lstm.run]

/-- Row `r` of a block read as one matrix: time step `r / 32` of the block, batch entry `r % 32`. -/
theorem flat_apply (x : FVec Ideal S1x32x32x1024 .bf16) (row : Fin 1024) (k : Fin 1024) :
    flat x (ValueIdx.ix2 row k)
      = x (ValueIdx.ix4 0 (⟨row.val / 32, by omega⟩ : Fin 32) (⟨row.val % 32, Nat.mod_lt _ (by decide)⟩ : Fin 32) k) := by
  unfold flat
  refine (shapeCast_apply _ _ _ (ValueIdx.ix3 (⟨row.val / 32, by omega⟩ : Fin 32) (⟨row.val % 32, Nat.mod_lt _ (by decide)⟩ : Fin 32) k) ?_).trans
    (shapeCast_apply _ _ _ _ ?_)
  · rw [Shape.rowMajor_val_two, Shape.rowMajor_val_three]
    show (row.val / 32 * 32 + row.val % 32) * 1024 + k.val = row.val * 1024 + k.val
    omega
  · rw [Shape.rowMajor_val_three, Shape.rowMajor_val_four]
    show ((0 * 32 + row.val / 32) * 32 + row.val % 32) * 1024 + k.val = (row.val / 32 * 32 + row.val % 32) * 1024 + k.val
    omega

/-- A block's projections at a row and column. -/
theorem proj_apply (x : FVec Ideal S1x32x32x1024 .bf16) (wx : FVec Ideal S2x1024x2048 .bf16) (bb : FVec Ideal S2x1x2048 .f32) (d : Fin 2)
    (row : Fin 1024) (q : Fin 2048) :
    proj x wx bb d (ValueIdx.ix2 row q)
      = Lstm.inProj (fun k q => wx (ValueIdx.ix3 d k q)) (fun q => bb (ValueIdx.ix3 d 0 q))
          (fun k => flat x (ValueIdx.ix2 row k)) q := by
  unfold proj wxsl bbc Lstm.inProj
  pointwise
  rfl

end Cert.Kernel2Ideal.Gen

end
-- ==== Proof.Hand.First.KernelValue.lean ====
module

public import proofs.«01_k».proof.Proof.Hand.First.KernelMath
/- The first layer's result arrays over the extended reals: every block it reads and writes by its place in the
   arrays, and the two result arrays as the hidden states of Math.lean. -/

@[expose] public section

set_option maxRecDepth 16384

noncomputable section

namespace Cert.Kernel2Ideal.Gen

open Idealize.ShloMosaic Idealize.ShloMosaic.TcCoe Idealize.ShloMosaic.Pipeline

variable (m : (ℓ : Loc nD τ sig) → Buf (Elt Ideal) ℓ)

theorem index_0 : ∀ t : Fin cfg0.N, (cfg0.win 0).index t = ![0, t.val, 0, 0] := (by decide +kernel : ∀ t : Fin grid0.N, win0_0.index t = ![0, t.val, 0, 0])

theorem iblk_0 (c : Dev nD) (t : Fin cfg0.N) (i : Fin 32) (b : Fin 32) (k : Fin 1024) :
    iblk m c 0 t (ValueIdx.ix4 0 i b k) = m ((c : Thread nD τ).loc main_arg0)
      (ValueIdx.ix4 (⟨0, by decide⟩ : Fin 2) (⟨(32 * (t.val) + i.val) % 1024, Nat.mod_lt _ (by decide)⟩ : Fin 1024) b k) := by
  rw [← V_main_arg0 m c]
  show V m c main_arg0 ((win0_0.rect t).emb (ValueIdx.ix4 0 i b k)) = _
  have hi : win0_0.index t = ![0, t.val, 0, 0] := index_0 t
  have ht : t.val < 32 := Nat.lt_of_lt_of_eq t.isLt N_0
  refine congrArg (V m c main_arg0) (funext fun a => Fin.ext ?_)
  refine (Window.rect_emb_val win0_0 t _ a).trans ?_
  rw [hi]
  match a with
  | ⟨0, _⟩ => rfl
  | ⟨1, _⟩ =>
    have := i.isLt
    show (t.val) * 32 + i.val = (32 * (t.val) + i.val) % 1024
    omega
  | ⟨2, _⟩ => show 0 * 32 + b.val = b.val; omega
  | ⟨3, _⟩ => show 0 * 1024 + k.val = k.val; omega

theorem index_1 : ∀ t : Fin cfg0.N, (cfg0.win 1).index t = ![1, 31 - t.val, 0, 0] := (by decide +kernel : ∀ t : Fin grid0.N, win0_1.index t = ![1, 31 - t.val, 0, 0])

theorem iblk_1 (c : Dev nD) (t : Fin cfg0.N) (i : Fin 32) (b : Fin 32) (k : Fin 1024) :
    iblk m c 1 t (ValueIdx.ix4 0 i b k) = m ((c : Thread nD τ).loc main_arg0)
      (ValueIdx.ix4 (⟨1, by decide⟩ : Fin 2) (⟨(32 * (31 - t.val) + i.val) % 1024, Nat.mod_lt _ (by decide)⟩ : Fin 1024) b k) := by
  rw [← V_main_arg0 m c]
  show V m c main_arg0 ((win0_1.rect t).emb (ValueIdx.ix4 0 i b k)) = _
  have hi : win0_1.index t = ![1, 31 - t.val, 0, 0] := index_1 t
  have ht : t.val < 32 := Nat.lt_of_lt_of_eq t.isLt N_0
  refine congrArg (V m c main_arg0) (funext fun a => Fin.ext ?_)
  refine (Window.rect_emb_val win0_1 t _ a).trans ?_
  rw [hi]
  match a with
  | ⟨0, _⟩ => rfl
  | ⟨1, _⟩ =>
    have := i.isLt
    show (31 - t.val) * 32 + i.val = (32 * (31 - t.val) + i.val) % 1024
    omega
  | ⟨2, _⟩ => show 0 * 32 + b.val = b.val; omega
  | ⟨3, _⟩ => show 0 * 1024 + k.val = k.val; omega

theorem index_2 : ∀ t : Fin cfg0.N, (cfg0.win 2).index t = ![0, 0, 0] := (by decide +kernel : ∀ t : Fin grid0.N, win0_2.index t = ![0, 0, 0])

theorem iblk_2 (c : Dev nD) (t : Fin cfg0.N) : iblk m c 2 t = V m c main_arg1 := by
  funext y
  show V m c main_arg1 ((win0_2.rect t).emb y) = _
  refine congrArg (V m c main_arg1) (funext fun a => Fin.ext ?_)
  refine Window.rect_emb_val_of_index_zero win0_2 t a ?_ y
  rw [show win0_2.index t = ![0, 0, 0] from index_2 t]
  match a with
  | ⟨0, _⟩ => rfl
  | ⟨1, _⟩ => rfl
  | ⟨2, _⟩ => rfl

theorem index_3 : ∀ t : Fin cfg0.N, (cfg0.win 3).index t = ![0, 0, 0] := (by decide +kernel : ∀ t : Fin grid0.N, win0_3.index t = ![0, 0, 0])

theorem iblk_3 (c : Dev nD) (t : Fin cfg0.N) : iblk m c 3 t = V m c main_arg2 := by
  funext y
  show V m c main_arg2 ((win0_3.rect t).emb y) = _
  refine congrArg (V m c main_arg2) (funext fun a => Fin.ext ?_)
  refine Window.rect_emb_val_of_index_zero win0_3 t a ?_ y
  rw [show win0_3.index t = ![0, 0, 0] from index_3 t]
  match a with
  | ⟨0, _⟩ => rfl
  | ⟨1, _⟩ => rfl
  | ⟨2, _⟩ => rfl

theorem index_4 : ∀ t : Fin cfg0.N, (cfg0.win 4).index t = ![0, 0, 0] := (by decide +kernel : ∀ t : Fin grid0.N, win0_4.index t = ![0, 0, 0])

theorem iblk_4 (c : Dev nD) (t : Fin cfg0.N) : iblk m c 4 t = V m c main_v0 := by
  funext y
  show V m c main_v0 ((win0_4.rect t).emb y) = _
  refine congrArg (V m c main_v0) (funext fun a => Fin.ext ?_)
  refine Window.rect_emb_val_of_index_zero win0_4 t a ?_ y
  rw [show win0_4.index t = ![0, 0, 0] from index_4 t]
  match a with
  | ⟨0, _⟩ => rfl
  | ⟨1, _⟩ => rfl
  | ⟨2, _⟩ => rfl

theorem index_5 : ∀ t : Fin cfg0.N, (cfg0.win 5).index t = ![t.val, 0] := (by decide +kernel : ∀ t : Fin grid0.N, win0_5.index t = ![t.val, 0])

theorem emb_5 (t : Fin cfg0.N) (r : Fin 1024) (k : Fin 512) :
    ((win0_5.rect t).emb (ValueIdx.ix2 r k) : S32768x512.Idx)
      = ValueIdx.ix2 (⟨(1024 * (t.val) + r.val) % 32768, Nat.mod_lt _ (by decide)⟩ : Fin 32768) k := by
  refine Shape.idx_ext₂ ?_ ?_
  · rw [Window.rect_emb_val win0_5 t _ 0, show win0_5.index t = ![t.val, 0] from index_5 t]
    have ht : t.val < 32 := Nat.lt_of_lt_of_eq t.isLt N_0
    have hr := r.isLt
    show (t.val) * 1024 + r.val = (1024 * (t.val) + r.val) % 32768
    omega
  · rw [Window.rect_emb_val win0_5 t _ 1, show win0_5.index t = ![t.val, 0] from index_5 t]
    show 0 * 512 + k.val = k.val
    omega

theorem index_6 : ∀ t : Fin cfg0.N, (cfg0.win 6).index t = ![31 - t.val, 0] := (by decide +kernel : ∀ t : Fin grid0.N, win0_6.index t = ![31 - t.val, 0])

theorem emb_6 (t : Fin cfg0.N) (r : Fin 1024) (k : Fin 512) :
    ((win0_6.rect t).emb (ValueIdx.ix2 r k) : S32768x512.Idx)
      = ValueIdx.ix2 (⟨(1024 * (31 - t.val) + r.val) % 32768, Nat.mod_lt _ (by decide)⟩ : Fin 32768) k := by
  refine Shape.idx_ext₂ ?_ ?_
  · rw [Window.rect_emb_val win0_6 t _ 0, show win0_6.index t = ![31 - t.val, 0] from index_6 t]
    have ht : t.val < 32 := Nat.lt_of_lt_of_eq t.isLt N_0
    have hr := r.isLt
    show (31 - t.val) * 1024 + r.val = (1024 * (31 - t.val) + r.val) % 32768
    omega
  · rw [Window.rect_emb_val win0_6 t _ 1, show win0_6.index t = ![31 - t.val, 0] from index_6 t]
    show 0 * 512 + k.val = k.val
    omega

theorem V_v0 (c : Dev nD) : V m c main_v0 = broadcastInDim S2x1x2048 ![0, 2] bcast_S2x2048_S2x1x2048_0_2 (m ((c : Thread nD τ).loc main_arg3)) := by
  unfold V
  after_results

/-- Row group `n` of the projections of a block. -/
theorem rowsM_pjF (c : Dev nD) (t : Fin cfg0.N) (n : ℕ) (hn : n < 32) :
    rowsM (pjF m c t) n = Lstm.xpart1 (m ((c : Thread nD τ).loc main_arg0)) (m ((c : Thread nD τ).loc main_arg1))
      (m ((c : Thread nD τ).loc main_arg3)) 0 (32 * (t.val) + n) := by
  have ht : t.val < 32 := Nat.lt_of_lt_of_eq t.isLt N_0
  funext b q
  unfold rowsM pjF Lstm.xpart1
  rw [proj_apply, iblk_2, iblk_4, V_main_arg1]
  have hb : ∀ q : Fin 2048, V m c main_v0 (ValueIdx.ix3 0 0 q) = m ((c : Thread nD τ).loc main_arg3) (ValueIdx.ix2 0 q) := by
    intro q; rw [V_v0]; pointwise; rfl
  refine congrArg₂ (fun f g => Lstm.inProj _ f g q) (funext hb) (funext fun k => ?_)
  rw [flat_apply]
  unfold Lstm.seq1
  have hb' := b.isLt
  rw [iblk_0]
  refine congrArg _ (funext fun a => ?_)
  match a with
  | ⟨0, _⟩ => rfl
  | ⟨1, _⟩ =>
    refine Fin.ext ?_
    show (32 * (t.val) + (32 * n + b.val) % 1024 / 32) % 1024 = (32 * (t.val) + n) % 1024
    omega
  | ⟨2, _⟩ =>
    refine Fin.ext ?_
    show (32 * n + b.val) % 1024 % 32 = b.val
    omega
  | ⟨3, _⟩ => rfl

/-- Row group `n` of the projections of a block. -/
theorem rowsM_pjB (c : Dev nD) (t : Fin cfg0.N) (n : ℕ) (hn : n < 32) :
    rowsM (pjB m c t) n = Lstm.xpart1 (m ((c : Thread nD τ).loc main_arg0)) (m ((c : Thread nD τ).loc main_arg1))
      (m ((c : Thread nD τ).loc main_arg3)) 1 (32 * (31 - t.val) + n) := by
  have ht : t.val < 32 := Nat.lt_of_lt_of_eq t.isLt N_0
  funext b q
  unfold rowsM pjB Lstm.xpart1
  rw [proj_apply, iblk_2, iblk_4, V_main_arg1]
  have hb : ∀ q : Fin 2048, V m c main_v0 (ValueIdx.ix3 1 0 q) = m ((c : Thread nD τ).loc main_arg3) (ValueIdx.ix2 1 q) := by
    intro q; rw [V_v0]; pointwise; rfl
  refine congrArg₂ (fun f g => Lstm.inProj _ f g q) (funext hb) (funext fun k => ?_)
  rw [flat_apply]
  unfold Lstm.seq1
  have hb' := b.isLt
  rw [iblk_1]
  refine congrArg _ (funext fun a => ?_)
  match a with
  | ⟨0, _⟩ => rfl
  | ⟨1, _⟩ =>
    refine Fin.ext ?_
    show (32 * (31 - t.val) + (32 * n + b.val) % 1024 / 32) % 1024 = (32 * (31 - t.val) + n) % 1024
    omega
  | ⟨2, _⟩ =>
    refine Fin.ext ?_
    show (32 * n + b.val) % 1024 % 32 = b.val
    omega
  | ⟨3, _⟩ => rfl

/-- What step `n` of direction 0 adds from the input. -/
def inpF (c : Dev nD) : ℕ → Fin 32 → Fin 2048 → EReal := fun n => Lstm.xpart1 (m ((c : Thread nD τ).loc main_arg0)) (m ((c : Thread nD τ).loc main_arg1)) (m ((c : Thread nD τ).loc main_arg3)) 0 n

theorem whM_F (c : Dev nD) (t : Fin cfg0.N) : whM (whAt m c t) 0 = Lstm.wrec (m ((c : Thread nD τ).loc main_arg2)) 0 := by
  unfold whM whAt Lstm.wrec
  rw [iblk_3, V_main_arg2]

theorem half_zst_F : toM (half zst 0, half zst 0) = (fun _ _ => 0, fun _ _ => 0) := by
  unfold toM half zst
  refine Prod.ext (funext fun b => funext fun j => ?_) (funext fun b => funext fun j => ?_)
  · exact Ideal.ofBits_zero_f32
  · exact Ideal.ofBits_zero_f32

/-- The carried state before a point is the recurrence's after 32 steps per point. -/
theorem stAt_F (c : Dev nD) : ∀ n, n ≤ 32 → toM (half (stAt m c n).1 0, half (stAt m c n).2 0) = Lstm.run (Lstm.wrec (m ((c : Thread nD τ).loc main_arg2)) 0) (inpF m c) (32 * n)
  | 0, _ => half_zst_F
  | n + 1, hn => by
    have ih := stAt_F c n (by omega)
    have hN : n < cfg0.N := Nat.lt_of_lt_of_eq (by omega : n < 32) N_0.symm
    have hs := stAt_succ m c ⟨n, hN⟩
    dsimp only at hs
    rw [hs, half_stk_0, half_stk_0]
    rw [← whM_F m c ⟨n, hN⟩] at ih ⊢
    refine (fwdAt_toM (whAt m c ⟨n, hN⟩) (pjF m c ⟨n, hN⟩) (inpF m c) n _ ih (fun k hk => ?_) 32 le_rfl).trans (by rw [Nat.mul_succ])
    rw [rowsM_pjF m c ⟨n, hN⟩ _ (by omega)]
    unfold inpF
    dsimp only

theorem oF_apply (c : Dev nD) (t : Fin cfg0.N) (r : Fin 1024) (k : Fin 512) :
    oF m c t (ValueIdx.ix2 r k) = Lstm.outFwd1 (m ((c : Thread nD τ).loc main_arg0)) (m ((c : Thread nD τ).loc main_arg1)) (m ((c : Thread nD τ).loc main_arg2)) (m ((c : Thread nD τ).loc main_arg3))
      (ValueIdx.ix2 (⟨(1024 * (t.val) + r.val) % 32768, Nat.mod_lt _ (by decide)⟩ : Fin 32768) k) := by
  have ht : t.val < 32 := Nat.lt_of_lt_of_eq t.isLt N_0
  have hr := r.isLt
  have hst := stAt_F m c t.val (by omega)
  rw [← whM_F m c t] at hst
  have h := fwdAt_toM (whAt m c t) (pjF m c t) (inpF m c) t.val _ hst (fun k hk => by
    rw [rowsM_pjF m c t _ (by omega)]
    unfold inpF
    dsimp only)
    (r.val / 32 + 1) (by omega)
  rw [whM_F m c t] at h
  have h2 := congrFun (congrFun (congrArg Prod.snd h) (⟨r.val % 32, Nat.mod_lt _ (by decide)⟩ : Fin 32)) k
  refine Eq.trans ?_ (h2.trans ?_)
  · rfl
  · unfold Lstm.outFwd1
    dsimp only [ValueIdx.ix2]
    refine congr (congr (congrArg Prod.snd (congrArg (Lstm.run _ _) ?_)) ?_) ?_
    · show _ = (1024 * (t.val) + r.val) % 32768 / 32 + 1
      omega
    · refine Fin.ext ?_
      show r.val % 32 = (1024 * (t.val) + r.val) % 32768 % 32
      omega
    · rfl

/-- The result array of direction 0. -/
theorem arr_F (c : Dev nD) : (dats m 0 c).arrAt 5 cfg0.N = Lstm.outFwd1 (m ((c : Thread nD τ).loc main_arg0)) (m ((c : Thread nD τ).loc main_arg1)) (m ((c : Thread nD τ).loc main_arg2)) (m ((c : Thread nD τ).loc main_arg3)) := by
  refine Dat.arrAt_eq_of_cover (dats m 0 c) 5 _ (fun t _ => ?_) (fun i => ?_)
  · refine Eq.trans (b := oF m c t) rfl ?_
    funext y
    refine (congrArg (oF m c t) (ValueIdx.eq_ix2 (y : (a : Fin 2) → Fin (S1024x512.size a)))).trans ((oF_apply m c t _ _).trans ?_)
    show _ = Lstm.outFwd1 (m ((c : Thread nD τ).loc main_arg0)) (m ((c : Thread nD τ).loc main_arg1)) (m ((c : Thread nD τ).loc main_arg2)) (m ((c : Thread nD τ).loc main_arg3)) ((win0_5.rect t).emb y)
    refine congrArg _ ((emb_5 t (y 0) (y 1)).symm.trans (congrArg (win0_5.rect t).emb (ValueIdx.eq_ix2 (y : (a : Fin 2) → Fin (S1024x512.size a))).symm))
  · have hi : (i 0).val < 32768 := (i 0).isLt
    have hN : (i 0).val / 1024 < cfg0.N := Nat.lt_of_lt_of_eq (by omega : _ < 32) N_0.symm
    refine ⟨⟨(i 0).val / 1024, hN⟩, flush0_5 _, ?_⟩
    have e := emb_5 ⟨_, hN⟩ (⟨(i 0).val % 1024, Nat.mod_lt _ (by decide)⟩ : Fin 1024) (⟨(i 1).val, (i 1).isLt⟩ : Fin 512)
    have e2 : i = ((cfg0.win 5).blk ⟨_, hN⟩).view.emb (ValueIdx.ix2 (⟨(i 0).val % 1024, Nat.mod_lt _ (by decide)⟩ : Fin 1024) (⟨(i 1).val, (i 1).isLt⟩ : Fin 512)) := by
      refine Eq.trans ?_ e.symm
      refine Shape.idx_ext₂ ?_ rfl
      show (i 0).val = (1024 * ((i 0).val / 1024) + (i 0).val % 1024) % 32768
      omega
    have hm := View.emb_mem_set ((cfg0.win 5).blk ⟨_, hN⟩).view (ValueIdx.ix2 (⟨(i 0).val % 1024, Nat.mod_lt _ (by decide)⟩ : Fin 1024) (⟨(i 1).val, (i 1).isLt⟩ : Fin 512))
    rw [← e2] at hm
    exact hm

/-- What step `n` of direction 1 adds from the input. -/
def inpB (c : Dev nD) : ℕ → Fin 32 → Fin 2048 → EReal := fun n => Lstm.xpart1 (m ((c : Thread nD τ).loc main_arg0)) (m ((c : Thread nD τ).loc main_arg1)) (m ((c : Thread nD τ).loc main_arg3)) 1 (1023 - n)

theorem whM_B (c : Dev nD) (t : Fin cfg0.N) : whM (whAt m c t) 1 = Lstm.wrec (m ((c : Thread nD τ).loc main_arg2)) 1 := by
  unfold whM whAt Lstm.wrec
  rw [iblk_3, V_main_arg2]

theorem half_zst_B : toM (half zst 1, half zst 1) = (fun _ _ => 0, fun _ _ => 0) := by
  unfold toM half zst
  refine Prod.ext (funext fun b => funext fun j => ?_) (funext fun b => funext fun j => ?_)
  · exact Ideal.ofBits_zero_f32
  · exact Ideal.ofBits_zero_f32

/-- The carried state before a point is the recurrence's after 32 steps per point. -/
theorem stAt_B (c : Dev nD) : ∀ n, n ≤ 32 → toM (half (stAt m c n).1 1, half (stAt m c n).2 1) = Lstm.run (Lstm.wrec (m ((c : Thread nD τ).loc main_arg2)) 1) (inpB m c) (32 * n)
  | 0, _ => half_zst_B
  | n + 1, hn => by
    have ih := stAt_B c n (by omega)
    have hN : n < cfg0.N := Nat.lt_of_lt_of_eq (by omega : n < 32) N_0.symm
    have hs := stAt_succ m c ⟨n, hN⟩
    dsimp only at hs
    rw [hs, half_stk_1, half_stk_1]
    rw [← whM_B m c ⟨n, hN⟩] at ih ⊢
    refine (bwdAt_toM (whAt m c ⟨n, hN⟩) (pjB m c ⟨n, hN⟩) (inpB m c) n _ ih (fun k hk => ?_) 32 le_rfl).trans (by rw [Nat.mul_succ])
    rw [rowsM_pjB m c ⟨n, hN⟩ _ (by omega)]
    unfold inpB
    dsimp only
    rw [show 32 * (31 - n) + (31 - k) = 1023 - (32 * n + k) by omega]

theorem oB_apply (c : Dev nD) (t : Fin cfg0.N) (r : Fin 1024) (k : Fin 512) :
    oB m c t (ValueIdx.ix2 r k) = Lstm.outBwd1 (m ((c : Thread nD τ).loc main_arg0)) (m ((c : Thread nD τ).loc main_arg1)) (m ((c : Thread nD τ).loc main_arg2)) (m ((c : Thread nD τ).loc main_arg3))
      (ValueIdx.ix2 (⟨(1024 * (31 - t.val) + r.val) % 32768, Nat.mod_lt _ (by decide)⟩ : Fin 32768) k) := by
  have ht : t.val < 32 := Nat.lt_of_lt_of_eq t.isLt N_0
  have hr := r.isLt
  have hst := stAt_B m c t.val (by omega)
  rw [← whM_B m c t] at hst
  have h := bwdAt_toM (whAt m c t) (pjB m c t) (inpB m c) t.val _ hst (fun k hk => by
    rw [rowsM_pjB m c t _ (by omega)]
    unfold inpB
    rw [show 32 * (31 - t.val) + (31 - k) = 1023 - (32 * t.val + k) by omega])
    (32 - r.val / 32) (by omega)
  rw [whM_B m c t] at h
  have h2 := congrFun (congrFun (congrArg Prod.snd h) (⟨r.val % 32, Nat.mod_lt _ (by decide)⟩ : Fin 32)) k
  refine Eq.trans ?_ (h2.trans ?_)
  · rfl
  · unfold Lstm.outBwd1
    dsimp only [ValueIdx.ix2]
    refine congr (congr (congrArg Prod.snd (congrArg (Lstm.run _ _) ?_)) ?_) ?_
    · show _ = 1024 - (1024 * (31 - t.val) + r.val) % 32768 / 32
      omega
    · refine Fin.ext ?_
      show r.val % 32 = (1024 * (31 - t.val) + r.val) % 32768 % 32
      omega
    · rfl

/-- The result array of direction 1. -/
theorem arr_B (c : Dev nD) : (dats m 0 c).arrAt 6 cfg0.N = Lstm.outBwd1 (m ((c : Thread nD τ).loc main_arg0)) (m ((c : Thread nD τ).loc main_arg1)) (m ((c : Thread nD τ).loc main_arg2)) (m ((c : Thread nD τ).loc main_arg3)) := by
  refine Dat.arrAt_eq_of_cover (dats m 0 c) 6 _ (fun t _ => ?_) (fun i => ?_)
  · refine Eq.trans (b := oB m c t) rfl ?_
    funext y
    refine (congrArg (oB m c t) (ValueIdx.eq_ix2 (y : (a : Fin 2) → Fin (S1024x512.size a)))).trans ((oB_apply m c t _ _).trans ?_)
    show _ = Lstm.outBwd1 (m ((c : Thread nD τ).loc main_arg0)) (m ((c : Thread nD τ).loc main_arg1)) (m ((c : Thread nD τ).loc main_arg2)) (m ((c : Thread nD τ).loc main_arg3)) ((win0_6.rect t).emb y)
    refine congrArg _ ((emb_6 t (y 0) (y 1)).symm.trans (congrArg (win0_6.rect t).emb (ValueIdx.eq_ix2 (y : (a : Fin 2) → Fin (S1024x512.size a))).symm))
  · have hi : (i 0).val < 32768 := (i 0).isLt
    have hN : 31 - (i 0).val / 1024 < cfg0.N := Nat.lt_of_lt_of_eq (by omega : _ < 32) N_0.symm
    refine ⟨⟨31 - (i 0).val / 1024, hN⟩, flush0_6 _, ?_⟩
    have e := emb_6 ⟨_, hN⟩ (⟨(i 0).val % 1024, Nat.mod_lt _ (by decide)⟩ : Fin 1024) (⟨(i 1).val, (i 1).isLt⟩ : Fin 512)
    have e2 : i = ((cfg0.win 6).blk ⟨_, hN⟩).view.emb (ValueIdx.ix2 (⟨(i 0).val % 1024, Nat.mod_lt _ (by decide)⟩ : Fin 1024) (⟨(i 1).val, (i 1).isLt⟩ : Fin 512)) := by
      refine Eq.trans ?_ e.symm
      refine Shape.idx_ext₂ ?_ rfl
      show (i 0).val = (1024 * (31 - (31 - (i 0).val / 1024)) + (i 0).val % 1024) % 32768
      omega
    have hm := View.emb_mem_set ((cfg0.win 6).blk ⟨_, hN⟩).view (ValueIdx.ix2 (⟨(i 0).val % 1024, Nat.mod_lt _ (by decide)⟩ : Fin 1024) (⟨(i 1).val, (i 1).isLt⟩ : Fin 512))
    rw [← e2] at hm
    exact hm

end Cert.Kernel2Ideal.Gen

end
-- ==== Proof.Hand.First.RefRun.lean ====
/- The first layer's reference run over one trip of its scan. A valuation of the buffers HOLDS a state when the carried
   buffers, the scan's constants and its counters are that state's; under it every value of a trip is the one `Step.lean`
   names, so a trip takes a held state to the next one, and the results are read off the state after the last trip. Trip
   values follow the text of the reference one lemma each; the two output updates are closed by the statement itself. -/
module

public import proofs.«01_k».proof.Proof.Gen.Reference2Ideal.Run
public import proofs.«01_k».proof.Proof.Gen.Reference2Ideal.Step

@[expose] public section

set_option maxRecDepth 8192

noncomputable section

namespace Cert.Reference2Ideal.RefRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

variable {F : FTy → Type} [FloatOps F]

/-- What a buffer holds. -/
abbrev Cont (F : FTy → Type) (b : Ref sig .tc) : Type := (Proc.devRef .tc b : DevRef τ sig).ty.Contents (Elt F)

variable (V0 : Valuation τ sig (Elt F)) (s : State F) (j : ℕ)

/-- The valuation holds the state, the set-up values and the trip's number. -/
structure Holds : Prop where
  f_4 : V0 (Proc.devRef .tc main_v27_4) = s.main_v27_4
  f_5 : V0 (Proc.devRef .tc main_v27_5) = s.main_v27_5
  f_6 : V0 (Proc.devRef .tc main_v27_6) = s.main_v27_6
  f_7 : V0 (Proc.devRef .tc main_v27_7) = s.main_v27_7
  f_8 : V0 (Proc.devRef .tc main_v27_8) = s.main_v27_8
  f_9 : V0 (Proc.devRef .tc main_v27_9) = s.main_v27_9
  f_0 : V0 (Proc.devRef .tc main_v27_0) = s.main_v27_0
  f_1 : V0 (Proc.devRef .tc main_v27_1) = s.main_v27_1
  f_2 : V0 (Proc.devRef .tc main_v27_2) = s.main_v27_2
  n_3 : V0 (Proc.devRef .tc main_v27_3) = constantI S_ 32 (BitVec.ofNat 32 j)

variable {V0 s j}

theorem al_0 (h : Holds V0 s j) : (constantI S_ 32 0#32 : Cont F main_while0b_call0_c) = Step.b0 j s := by
  unfold Step.b0
  rfl
theorem al_1 (h : Holds V0 s j) : (constantI S_ 32 0#32 : Cont F main_while0b_call0_c_0) = Step.b1 j s := by
  unfold Step.b1
  rfl
theorem al_2 (h : Holds V0 s j) : (Host.dynamicSlice S1x32x2048 (V0 (Proc.devRef .tc main_v27_0)) (fun k => (((![V0 (Proc.devRef .tc main_v27_3), constantI S_ 32 0#32, constantI S_ 32 0#32] : Fin 3 → (⟨S_, .i32⟩ : BufTy).Contents (Elt F))) k (Shape.Idx.first h_S_)).toInt) sliceFits_S1024x32x2048_S1x32x2048 : Cont F main_while0b_call0_v0) = Step.b2 j s := by
  unfold Step.b2
  rw [← al_0 h, ← al_1 h, h.f_0, h.n_3]
  try rfl
theorem al_3 (h : Holds V0 s j) : (shapeCast S32x2048 (Host.dynamicSlice S1x32x2048 (V0 (Proc.devRef .tc main_v27_0)) (fun k => (((![V0 (Proc.devRef .tc main_v27_3), constantI S_ 32 0#32, constantI S_ 32 0#32] : Fin 3 → (⟨S_, .i32⟩ : BufTy).Contents (Elt F))) k (Shape.Idx.first h_S_)).toInt) sliceFits_S1024x32x2048_S1x32x2048) shapeCasts_S1x32x2048_S32x2048 : Cont F main_while0b_v33) = Step.b3 j s := by
  unfold Step.b3
  rw [← al_2 h]
  try rfl
theorem al_4 (h : Holds V0 s j) : (constantI S_ 32 0#32 : Cont F main_while0b_call1_c) = Step.b4 j s := by
  unfold Step.b4
  rfl
theorem al_5 (h : Holds V0 s j) : (constantI S_ 32 0#32 : Cont F main_while0b_call1_c_0) = Step.b5 j s := by
  unfold Step.b5
  rfl
theorem al_6 (h : Holds V0 s j) : (Host.dynamicSlice S1x32x2048 (V0 (Proc.devRef .tc main_v27_1)) (fun k => (((![V0 (Proc.devRef .tc main_v27_3), constantI S_ 32 0#32, constantI S_ 32 0#32] : Fin 3 → (⟨S_, .i32⟩ : BufTy).Contents (Elt F))) k (Shape.Idx.first h_S_)).toInt) sliceFits_S1024x32x2048_S1x32x2048 : Cont F main_while0b_call1_v0) = Step.b6 j s := by
  unfold Step.b6
  rw [← al_4 h, ← al_5 h, h.f_1, h.n_3]
  try rfl
theorem al_7 (h : Holds V0 s j) : (shapeCast S32x2048 (Host.dynamicSlice S1x32x2048 (V0 (Proc.devRef .tc main_v27_1)) (fun k => (((![V0 (Proc.devRef .tc main_v27_3), constantI S_ 32 0#32, constantI S_ 32 0#32] : Fin 3 → (⟨S_, .i32⟩ : BufTy).Contents (Elt F))) k (Shape.Idx.first h_S_)).toInt) sliceFits_S1024x32x2048_S1x32x2048) shapeCasts_S1x32x2048_S32x2048 : Cont F main_while0b_v34) = Step.b7 j s := by
  unfold Step.b7
  rw [← al_6 h]
  try rfl
theorem al_8 (h : Holds V0 s j) : (extractStridedSlice S1x512x2048 ![0, 0, 0] (V0 (Proc.devRef .tc main_v27_2)) slices_S2x512x2048_S1x512x2048_0_0_0 : Cont F main_while0b_v35) = Step.b8 j s := by
  unfold Step.b8
  rw [h.f_2]
  try rfl
theorem al_9 (h : Holds V0 s j) : (shapeCast S512x2048 (extractStridedSlice S1x512x2048 ![0, 0, 0] (V0 (Proc.devRef .tc main_v27_2)) slices_S2x512x2048_S1x512x2048_0_0_0) shapeCasts_S1x512x2048_S512x2048 : Cont F main_while0b_v36) = Step.b9 j s := by
  unfold Step.b9
  rw [← al_8 h]
  try rfl
theorem al_10 (h : Holds V0 s j) : (Host.dotGeneral dot_S32x512_S512x2048_S32x2048_1_0_0_1_n_n none (V0 (Proc.devRef .tc main_v27_5)) (shapeCast S512x2048 (extractStridedSlice S1x512x2048 ![0, 0, 0] (V0 (Proc.devRef .tc main_v27_2)) slices_S2x512x2048_S1x512x2048_0_0_0) shapeCasts_S1x512x2048_S512x2048) : Cont F main_while0b_v37) = Step.b10 j s := by
  unfold Step.b10
  rw [← al_9 h, h.f_5]
  try rfl
theorem al_11 (h : Holds V0 s j) : (res_main_while0b_v38 V0 : Cont F main_while0b_v38) = Step.b11 j s := by
  unfold res_main_while0b_v38 Step.b11
  rw [← al_3 h, ← al_10 h]
  try rfl
theorem al_12 (h : Holds V0 s j) : (extractStridedSlice S32x512 ![0, 0] (res_main_while0b_v38 V0) slices_S32x2048_S32x512_0_0 : Cont F main_while0b_v39) = Step.b12 j s := by
  unfold Step.b12
  rw [← al_11 h]
  try rfl
theorem al_13 (h : Holds V0 s j) : (extractStridedSlice S32x512 ![0, 512] (res_main_while0b_v38 V0) slices_S32x2048_S32x512_0_512 : Cont F main_while0b_v40) = Step.b13 j s := by
  unfold Step.b13
  rw [← al_11 h]
  try rfl
theorem al_14 (h : Holds V0 s j) : (extractStridedSlice S32x512 ![0, 1024] (res_main_while0b_v38 V0) slices_S32x2048_S32x512_0_1024 : Cont F main_while0b_v41) = Step.b14 j s := by
  unfold Step.b14
  rw [← al_11 h]
  try rfl
theorem al_15 (h : Holds V0 s j) : (extractStridedSlice S32x512 ![0, 1536] (res_main_while0b_v38 V0) slices_S32x2048_S32x512_0_1536 : Cont F main_while0b_v42) = Step.b15 j s := by
  unfold Step.b15
  rw [← al_11 h]
  try rfl
theorem al_16 (h : Holds V0 s j) : (Host.negf (extractStridedSlice S32x512 ![0, 512] (res_main_while0b_v38 V0) slices_S32x2048_S32x512_0_512) : Cont F main_while0b_v43) = Step.b16 j s := by
  unfold Step.b16
  rw [← al_13 h]
  try rfl
theorem al_17 (h : Holds V0 s j) : (Host.exp (Host.negf (extractStridedSlice S32x512 ![0, 512] (res_main_while0b_v38 V0) slices_S32x2048_S32x512_0_512)) : Cont F main_while0b_v44) = Step.b17 j s := by
  unfold Step.b17
  rw [← al_16 h]
  try rfl
theorem al_18 (h : Holds V0 s j) : (constant S_ .f32 0x3F800000#32 : Cont F main_while0b_cst_11) = Step.b18 j s := by
  unfold Step.b18
  rfl
theorem al_19 (h : Holds V0 s j) : (broadcastInDim S32x512 ![] bcast_S_S32x512 (constant S_ .f32 0x3F800000#32) : Cont F main_while0b_v45) = Step.b19 j s := by
  unfold Step.b19
  rw [← al_18 h]
  try rfl
theorem al_20 (h : Holds V0 s j) : (addf (broadcastInDim S32x512 ![] bcast_S_S32x512 (constant S_ .f32 0x3F800000#32)) (Host.exp (Host.negf (extractStridedSlice S32x512 ![0, 512] (res_main_while0b_v38 V0) slices_S32x2048_S32x512_0_512))) : Cont F main_while0b_v46) = Step.b20 j s := by
  unfold Step.b20
  rw [← al_19 h, ← al_17 h]
  try rfl
theorem al_21 (h : Holds V0 s j) : (constant S_ .f32 0x3F800000#32 : Cont F main_while0b_cst_12) = Step.b21 j s := by
  unfold Step.b21
  rfl
theorem al_22 (h : Holds V0 s j) : (broadcastInDim S32x512 ![] bcast_S_S32x512 (constant S_ .f32 0x3F800000#32) : Cont F main_while0b_v47) = Step.b22 j s := by
  unfold Step.b22
  rw [← al_21 h]
  try rfl
theorem al_23 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v38 V0) slices_S32x2048_S32x512_0_512)))) : Cont F main_while0b_v48) = Step.b23 j s := by
  unfold Step.b23
  rw [← al_22 h, ← al_20 h]
  try rfl
theorem al_24 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v38 V0) slices_S32x2048_S32x512_0_512))))) (V0 (Proc.devRef .tc main_v27_4)) : Cont F main_while0b_v49) = Step.b24 j s := by
  unfold Step.b24
  rw [← al_23 h, h.f_4]
  try rfl
theorem al_25 (h : Holds V0 s j) : (Host.negf (extractStridedSlice S32x512 ![0, 0] (res_main_while0b_v38 V0) slices_S32x2048_S32x512_0_0) : Cont F main_while0b_v50) = Step.b25 j s := by
  unfold Step.b25
  rw [← al_12 h]
  try rfl
theorem al_26 (h : Holds V0 s j) : (Host.exp (Host.negf (extractStridedSlice S32x512 ![0, 0] (res_main_while0b_v38 V0) slices_S32x2048_S32x512_0_0)) : Cont F main_while0b_v51) = Step.b26 j s := by
  unfold Step.b26
  rw [← al_25 h]
  try rfl
theorem al_27 (h : Holds V0 s j) : (constant S_ .f32 0x3F800000#32 : Cont F main_while0b_cst_13) = Step.b27 j s := by
  unfold Step.b27
  rfl
theorem al_28 (h : Holds V0 s j) : (broadcastInDim S32x512 ![] bcast_S_S32x512 (constant S_ .f32 0x3F800000#32) : Cont F main_while0b_v52) = Step.b28 j s := by
  unfold Step.b28
  rw [← al_27 h]
  try rfl
theorem al_29 (h : Holds V0 s j) : (addf (broadcastInDim S32x512 ![] bcast_S_S32x512 (constant S_ .f32 0x3F800000#32)) (Host.exp (Host.negf (extractStridedSlice S32x512 ![0, 0] (res_main_while0b_v38 V0) slices_S32x2048_S32x512_0_0))) : Cont F main_while0b_v53) = Step.b29 j s := by
  unfold Step.b29
  rw [← al_28 h, ← al_26 h]
  try rfl
theorem al_30 (h : Holds V0 s j) : (constant S_ .f32 0x3F800000#32 : Cont F main_while0b_cst_14) = Step.b30 j s := by
  unfold Step.b30
  rfl
theorem al_31 (h : Holds V0 s j) : (broadcastInDim S32x512 ![] bcast_S_S32x512 (constant S_ .f32 0x3F800000#32) : Cont F main_while0b_v54) = Step.b31 j s := by
  unfold Step.b31
  rw [← al_30 h]
  try rfl
theorem al_32 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v38 V0) slices_S32x2048_S32x512_0_0)))) : Cont F main_while0b_v55) = Step.b32 j s := by
  unfold Step.b32
  rw [← al_31 h, ← al_29 h]
  try rfl
theorem al_33 (h : Holds V0 s j) : (Host.tanh (extractStridedSlice S32x512 ![0, 1024] (res_main_while0b_v38 V0) slices_S32x2048_S32x512_0_1024) : Cont F main_while0b_v56) = Step.b33 j s := by
  unfold Step.b33
  rw [← al_14 h]
  try rfl
theorem al_34 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v38 V0) slices_S32x2048_S32x512_0_0))))) (Host.tanh (extractStridedSlice S32x512 ![0, 1024] (res_main_while0b_v38 V0) slices_S32x2048_S32x512_0_1024)) : Cont F main_while0b_v57) = Step.b34 j s := by
  unfold Step.b34
  rw [← al_32 h, ← al_33 h]
  try rfl
theorem al_35 (h : Holds V0 s j) : (res_main_while0b_v58 V0 : Cont F main_while0b_v58) = Step.b35 j s := by
  unfold res_main_while0b_v58 Step.b35
  rw [← al_24 h, ← al_34 h]
  try rfl
theorem al_36 (h : Holds V0 s j) : (Host.negf (extractStridedSlice S32x512 ![0, 1536] (res_main_while0b_v38 V0) slices_S32x2048_S32x512_0_1536) : Cont F main_while0b_v59) = Step.b36 j s := by
  unfold Step.b36
  rw [← al_15 h]
  try rfl
theorem al_37 (h : Holds V0 s j) : (Host.exp (Host.negf (extractStridedSlice S32x512 ![0, 1536] (res_main_while0b_v38 V0) slices_S32x2048_S32x512_0_1536)) : Cont F main_while0b_v60) = Step.b37 j s := by
  unfold Step.b37
  rw [← al_36 h]
  try rfl
theorem al_38 (h : Holds V0 s j) : (constant S_ .f32 0x3F800000#32 : Cont F main_while0b_cst_15) = Step.b38 j s := by
  unfold Step.b38
  rfl
theorem al_39 (h : Holds V0 s j) : (broadcastInDim S32x512 ![] bcast_S_S32x512 (constant S_ .f32 0x3F800000#32) : Cont F main_while0b_v61) = Step.b39 j s := by
  unfold Step.b39
  rw [← al_38 h]
  try rfl
theorem al_40 (h : Holds V0 s j) : (addf (broadcastInDim S32x512 ![] bcast_S_S32x512 (constant S_ .f32 0x3F800000#32)) (Host.exp (Host.negf (extractStridedSlice S32x512 ![0, 1536] (res_main_while0b_v38 V0) slices_S32x2048_S32x512_0_1536))) : Cont F main_while0b_v62) = Step.b40 j s := by
  unfold Step.b40
  rw [← al_39 h, ← al_37 h]
  try rfl
theorem al_41 (h : Holds V0 s j) : (constant S_ .f32 0x3F800000#32 : Cont F main_while0b_cst_16) = Step.b41 j s := by
  unfold Step.b41
  rfl
theorem al_42 (h : Holds V0 s j) : (broadcastInDim S32x512 ![] bcast_S_S32x512 (constant S_ .f32 0x3F800000#32) : Cont F main_while0b_v63) = Step.b42 j s := by
  unfold Step.b42
  rw [← al_41 h]
  try rfl
theorem al_43 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 1536] (res_main_while0b_v38 V0) slices_S32x2048_S32x512_0_1536)))) : Cont F main_while0b_v64) = Step.b43 j s := by
  unfold Step.b43
  rw [← al_42 h, ← al_40 h]
  try rfl
theorem al_44 (h : Holds V0 s j) : (Host.tanh (res_main_while0b_v58 V0) : Cont F main_while0b_v65) = Step.b44 j s := by
  unfold Step.b44
  rw [← al_35 h]
  try rfl
theorem al_45 (h : Holds V0 s j) : (res_main_while0b_v66 V0 : Cont F main_while0b_v66) = Step.b45 j s := by
  unfold res_main_while0b_v66 Step.b45
  rw [← al_43 h, ← al_44 h]
  try rfl
theorem al_46 (h : Holds V0 s j) : (extractStridedSlice S1x512x2048 ![1, 0, 0] (V0 (Proc.devRef .tc main_v27_2)) slices_S2x512x2048_S1x512x2048_1_0_0 : Cont F main_while0b_v67) = Step.b46 j s := by
  unfold Step.b46
  rw [h.f_2]
  try rfl
theorem al_47 (h : Holds V0 s j) : (shapeCast S512x2048 (extractStridedSlice S1x512x2048 ![1, 0, 0] (V0 (Proc.devRef .tc main_v27_2)) slices_S2x512x2048_S1x512x2048_1_0_0) shapeCasts_S1x512x2048_S512x2048 : Cont F main_while0b_v68) = Step.b47 j s := by
  unfold Step.b47
  rw [← al_46 h]
  try rfl
theorem al_48 (h : Holds V0 s j) : (Host.dotGeneral dot_S32x512_S512x2048_S32x2048_1_0_0_1_n_n none (V0 (Proc.devRef .tc main_v27_7)) (shapeCast S512x2048 (extractStridedSlice S1x512x2048 ![1, 0, 0] (V0 (Proc.devRef .tc main_v27_2)) slices_S2x512x2048_S1x512x2048_1_0_0) shapeCasts_S1x512x2048_S512x2048) : Cont F main_while0b_v69) = Step.b48 j s := by
  unfold Step.b48
  rw [← al_47 h, h.f_7]
  try rfl
theorem al_49 (h : Holds V0 s j) : (res_main_while0b_v70 V0 : Cont F main_while0b_v70) = Step.b49 j s := by
  unfold res_main_while0b_v70 Step.b49
  rw [← al_7 h, ← al_48 h]
  try rfl
theorem al_50 (h : Holds V0 s j) : (extractStridedSlice S32x512 ![0, 0] (res_main_while0b_v70 V0) slices_S32x2048_S32x512_0_0 : Cont F main_while0b_v71) = Step.b50 j s := by
  unfold Step.b50
  rw [← al_49 h]
  try rfl
theorem al_51 (h : Holds V0 s j) : (extractStridedSlice S32x512 ![0, 512] (res_main_while0b_v70 V0) slices_S32x2048_S32x512_0_512 : Cont F main_while0b_v72) = Step.b51 j s := by
  unfold Step.b51
  rw [← al_49 h]
  try rfl
theorem al_52 (h : Holds V0 s j) : (extractStridedSlice S32x512 ![0, 1024] (res_main_while0b_v70 V0) slices_S32x2048_S32x512_0_1024 : Cont F main_while0b_v73) = Step.b52 j s := by
  unfold Step.b52
  rw [← al_49 h]
  try rfl
theorem al_53 (h : Holds V0 s j) : (extractStridedSlice S32x512 ![0, 1536] (res_main_while0b_v70 V0) slices_S32x2048_S32x512_0_1536 : Cont F main_while0b_v74) = Step.b53 j s := by
  unfold Step.b53
  rw [← al_49 h]
  try rfl
theorem al_54 (h : Holds V0 s j) : (Host.negf (extractStridedSlice S32x512 ![0, 512] (res_main_while0b_v70 V0) slices_S32x2048_S32x512_0_512) : Cont F main_while0b_v75) = Step.b54 j s := by
  unfold Step.b54
  rw [← al_51 h]
  try rfl
theorem al_55 (h : Holds V0 s j) : (Host.exp (Host.negf (extractStridedSlice S32x512 ![0, 512] (res_main_while0b_v70 V0) slices_S32x2048_S32x512_0_512)) : Cont F main_while0b_v76) = Step.b55 j s := by
  unfold Step.b55
  rw [← al_54 h]
  try rfl
theorem al_56 (h : Holds V0 s j) : (constant S_ .f32 0x3F800000#32 : Cont F main_while0b_cst_17) = Step.b56 j s := by
  unfold Step.b56
  rfl
theorem al_57 (h : Holds V0 s j) : (broadcastInDim S32x512 ![] bcast_S_S32x512 (constant S_ .f32 0x3F800000#32) : Cont F main_while0b_v77) = Step.b57 j s := by
  unfold Step.b57
  rw [← al_56 h]
  try rfl
theorem al_58 (h : Holds V0 s j) : (addf (broadcastInDim S32x512 ![] bcast_S_S32x512 (constant S_ .f32 0x3F800000#32)) (Host.exp (Host.negf (extractStridedSlice S32x512 ![0, 512] (res_main_while0b_v70 V0) slices_S32x2048_S32x512_0_512))) : Cont F main_while0b_v78) = Step.b58 j s := by
  unfold Step.b58
  rw [← al_57 h, ← al_55 h]
  try rfl
theorem al_59 (h : Holds V0 s j) : (constant S_ .f32 0x3F800000#32 : Cont F main_while0b_cst_18) = Step.b59 j s := by
  unfold Step.b59
  rfl
theorem al_60 (h : Holds V0 s j) : (broadcastInDim S32x512 ![] bcast_S_S32x512 (constant S_ .f32 0x3F800000#32) : Cont F main_while0b_v79) = Step.b60 j s := by
  unfold Step.b60
  rw [← al_59 h]
  try rfl
theorem al_61 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v70 V0) slices_S32x2048_S32x512_0_512)))) : Cont F main_while0b_v80) = Step.b61 j s := by
  unfold Step.b61
  rw [← al_60 h, ← al_58 h]
  try rfl
theorem al_62 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 512] (res_main_while0b_v70 V0) slices_S32x2048_S32x512_0_512))))) (V0 (Proc.devRef .tc main_v27_6)) : Cont F main_while0b_v81) = Step.b62 j s := by
  unfold Step.b62
  rw [← al_61 h, h.f_6]
  try rfl
theorem al_63 (h : Holds V0 s j) : (Host.negf (extractStridedSlice S32x512 ![0, 0] (res_main_while0b_v70 V0) slices_S32x2048_S32x512_0_0) : Cont F main_while0b_v82) = Step.b63 j s := by
  unfold Step.b63
  rw [← al_50 h]
  try rfl
theorem al_64 (h : Holds V0 s j) : (Host.exp (Host.negf (extractStridedSlice S32x512 ![0, 0] (res_main_while0b_v70 V0) slices_S32x2048_S32x512_0_0)) : Cont F main_while0b_v83) = Step.b64 j s := by
  unfold Step.b64
  rw [← al_63 h]
  try rfl
theorem al_65 (h : Holds V0 s j) : (constant S_ .f32 0x3F800000#32 : Cont F main_while0b_cst_19) = Step.b65 j s := by
  unfold Step.b65
  rfl
theorem al_66 (h : Holds V0 s j) : (broadcastInDim S32x512 ![] bcast_S_S32x512 (constant S_ .f32 0x3F800000#32) : Cont F main_while0b_v84) = Step.b66 j s := by
  unfold Step.b66
  rw [← al_65 h]
  try rfl
theorem al_67 (h : Holds V0 s j) : (addf (broadcastInDim S32x512 ![] bcast_S_S32x512 (constant S_ .f32 0x3F800000#32)) (Host.exp (Host.negf (extractStridedSlice S32x512 ![0, 0] (res_main_while0b_v70 V0) slices_S32x2048_S32x512_0_0))) : Cont F main_while0b_v85) = Step.b67 j s := by
  unfold Step.b67
  rw [← al_66 h, ← al_64 h]
  try rfl
theorem al_68 (h : Holds V0 s j) : (constant S_ .f32 0x3F800000#32 : Cont F main_while0b_cst_20) = Step.b68 j s := by
  unfold Step.b68
  rfl
theorem al_69 (h : Holds V0 s j) : (broadcastInDim S32x512 ![] bcast_S_S32x512 (constant S_ .f32 0x3F800000#32) : Cont F main_while0b_v86) = Step.b69 j s := by
  unfold Step.b69
  rw [← al_68 h]
  try rfl
theorem al_70 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v70 V0) slices_S32x2048_S32x512_0_0)))) : Cont F main_while0b_v87) = Step.b70 j s := by
  unfold Step.b70
  rw [← al_69 h, ← al_67 h]
  try rfl
theorem al_71 (h : Holds V0 s j) : (Host.tanh (extractStridedSlice S32x512 ![0, 1024] (res_main_while0b_v70 V0) slices_S32x2048_S32x512_0_1024) : Cont F main_while0b_v88) = Step.b71 j s := by
  unfold Step.b71
  rw [← al_52 h]
  try rfl
theorem al_72 (h : Holds V0 s j) : (mulf (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 0] (res_main_while0b_v70 V0) slices_S32x2048_S32x512_0_0))))) (Host.tanh (extractStridedSlice S32x512 ![0, 1024] (res_main_while0b_v70 V0) slices_S32x2048_S32x512_0_1024)) : Cont F main_while0b_v89) = Step.b72 j s := by
  unfold Step.b72
  rw [← al_70 h, ← al_71 h]
  try rfl
theorem al_73 (h : Holds V0 s j) : (res_main_while0b_v90 V0 : Cont F main_while0b_v90) = Step.b73 j s := by
  unfold res_main_while0b_v90 Step.b73
  rw [← al_62 h, ← al_72 h]
  try rfl
theorem al_74 (h : Holds V0 s j) : (Host.negf (extractStridedSlice S32x512 ![0, 1536] (res_main_while0b_v70 V0) slices_S32x2048_S32x512_0_1536) : Cont F main_while0b_v91) = Step.b74 j s := by
  unfold Step.b74
  rw [← al_53 h]
  try rfl
theorem al_75 (h : Holds V0 s j) : (Host.exp (Host.negf (extractStridedSlice S32x512 ![0, 1536] (res_main_while0b_v70 V0) slices_S32x2048_S32x512_0_1536)) : Cont F main_while0b_v92) = Step.b75 j s := by
  unfold Step.b75
  rw [← al_74 h]
  try rfl
theorem al_76 (h : Holds V0 s j) : (constant S_ .f32 0x3F800000#32 : Cont F main_while0b_cst_21) = Step.b76 j s := by
  unfold Step.b76
  rfl
theorem al_77 (h : Holds V0 s j) : (broadcastInDim S32x512 ![] bcast_S_S32x512 (constant S_ .f32 0x3F800000#32) : Cont F main_while0b_v93) = Step.b77 j s := by
  unfold Step.b77
  rw [← al_76 h]
  try rfl
theorem al_78 (h : Holds V0 s j) : (addf (broadcastInDim S32x512 ![] bcast_S_S32x512 (constant S_ .f32 0x3F800000#32)) (Host.exp (Host.negf (extractStridedSlice S32x512 ![0, 1536] (res_main_while0b_v70 V0) slices_S32x2048_S32x512_0_1536))) : Cont F main_while0b_v94) = Step.b78 j s := by
  unfold Step.b78
  rw [← al_77 h, ← al_75 h]
  try rfl
theorem al_79 (h : Holds V0 s j) : (constant S_ .f32 0x3F800000#32 : Cont F main_while0b_cst_22) = Step.b79 j s := by
  unfold Step.b79
  rfl
theorem al_80 (h : Holds V0 s j) : (broadcastInDim S32x512 ![] bcast_S_S32x512 (constant S_ .f32 0x3F800000#32) : Cont F main_while0b_v95) = Step.b80 j s := by
  unfold Step.b80
  rw [← al_79 h]
  try rfl
theorem al_81 (h : Holds V0 s j) : (Host.divf (broadcastInDim S32x512 ![] bcast_S_S32x512 (constant S_ .f32 0x3F800000#32)) (addf (broadcastInDim S32x512 ![] bcast_S_S32x512 (constant S_ .f32 0x3F800000#32)) (Host.exp (Host.negf (extractStridedSlice S32x512 ![0, 1536] (res_main_while0b_v70 V0) slices_S32x2048_S32x512_0_1536)))) : Cont F main_while0b_v96) = Step.b81 j s := by
  unfold Step.b81
  rw [← al_80 h, ← al_78 h]
  try rfl
theorem al_82 (h : Holds V0 s j) : (Host.tanh (res_main_while0b_v90 V0) : Cont F main_while0b_v97) = Step.b82 j s := by
  unfold Step.b82
  rw [← al_73 h]
  try rfl
theorem al_83 (h : Holds V0 s j) : (res_main_while0b_v98 V0 : Cont F main_while0b_v98) = Step.b83 j s := by
  unfold res_main_while0b_v98 Step.b83
  rw [← al_81 h, ← al_82 h]
  try rfl
theorem al_84 (h : Holds V0 s j) : (broadcastInDim S1x32x512 ![1, 2] bcast_S32x512_S1x32x512_1_2 (res_main_while0b_v66 V0) : Cont F main_while0b_call2_v0) = Step.b84 j s := by
  unfold Step.b84
  rw [← al_45 h]
  try rfl
theorem al_85 (h : Holds V0 s j) : (constantI S_ 32 0#32 : Cont F main_while0b_call2_c) = Step.b85 j s := by
  unfold Step.b85
  rfl
theorem al_86 (h : Holds V0 s j) : (constantI S_ 32 0#32 : Cont F main_while0b_call2_c_0) = Step.b86 j s := by
  unfold Step.b86
  rfl
theorem al_87 (h : Holds V0 s j) : (Host.dynamicUpdateSlice (V0 (Proc.devRef .tc main_v27_8)) (broadcastInDim S1x32x512 ![1, 2] bcast_S32x512_S1x32x512_1_2 (res_main_while0b_v66 V0)) (fun k => (((![V0 (Proc.devRef .tc main_v27_3), constantI S_ 32 0#32, constantI S_ 32 0#32] : Fin 3 → (⟨S_, .i32⟩ : BufTy).Contents (Elt F))) k (Shape.Idx.first h_S_)).toInt) updateFits_S1024x32x512_S1x32x512 : Cont F main_while0b_v99) = Step.b87 j s := by
  unfold Step.b87
  rw [← al_84 h, ← al_85 h, ← al_86 h, h.f_8, h.n_3]
  try rfl
theorem al_88 (h : Holds V0 s j) : (broadcastInDim S1x32x512 ![1, 2] bcast_S32x512_S1x32x512_1_2 (res_main_while0b_v98 V0) : Cont F main_while0b_call3_v0) = Step.b88 j s := by
  unfold Step.b88
  rw [← al_83 h]
  try rfl
theorem al_89 (h : Holds V0 s j) : (constantI S_ 32 0#32 : Cont F main_while0b_call3_c) = Step.b89 j s := by
  unfold Step.b89
  rfl
theorem al_90 (h : Holds V0 s j) : (constantI S_ 32 0#32 : Cont F main_while0b_call3_c_0) = Step.b90 j s := by
  unfold Step.b90
  rfl
theorem al_91 (h : Holds V0 s j) : (Host.dynamicUpdateSlice (V0 (Proc.devRef .tc main_v27_9)) (broadcastInDim S1x32x512 ![1, 2] bcast_S32x512_S1x32x512_1_2 (res_main_while0b_v98 V0)) (fun k => (((![V0 (Proc.devRef .tc main_v27_3), constantI S_ 32 0#32, constantI S_ 32 0#32] : Fin 3 → (⟨S_, .i32⟩ : BufTy).Contents (Elt F))) k (Shape.Idx.first h_S_)).toInt) updateFits_S1024x32x512_S1x32x512 : Cont F main_while0b_v100) = Step.b91 j s := by
  unfold Step.b91
  rw [← al_88 h, ← al_89 h, ← al_90 h, h.f_9, h.n_3]
  try rfl

/-! One trip's step of the carried values is `step`, field by field; a counter steps to the next number. -/

theorem step_4 (h : Holds V0 s j) : step_main_v27_4 V0 = (step j s).main_v27_4 := by
  unfold step_main_v27_4 Step.step
  show id (res_main_while0b_v58 V0) = _
  rw [al_35 h]
  try rfl
theorem step_5 (h : Holds V0 s j) : step_main_v27_5 V0 = (step j s).main_v27_5 := by
  unfold step_main_v27_5 Step.step
  show id (res_main_while0b_v66 V0) = _
  rw [al_45 h]
  try rfl
theorem step_6 (h : Holds V0 s j) : step_main_v27_6 V0 = (step j s).main_v27_6 := by
  unfold step_main_v27_6 Step.step
  show id (res_main_while0b_v90 V0) = _
  rw [al_73 h]
  try rfl
theorem step_7 (h : Holds V0 s j) : step_main_v27_7 V0 = (step j s).main_v27_7 := by
  unfold step_main_v27_7 Step.step
  show id (res_main_while0b_v98 V0) = _
  rw [al_83 h]
  try rfl
theorem step_8 (h : Holds V0 s j) : step_main_v27_8 V0 = (step j s).main_v27_8 := by
  unfold step_main_v27_8 Step.step
  exact al_87 h
theorem step_9 (h : Holds V0 s j) : step_main_v27_9 V0 = (step j s).main_v27_9 := by
  unfold step_main_v27_9 Step.step
  exact al_91 h
theorem step_3 (h : Holds V0 s j) : step_main_v27_3 V0 = constantI S_ 32 (BitVec.ofNat 32 (j + 1)) := by
  unfold step_main_v27_3
  rw [h.n_3]
  funext i
  show BitVec.ofNat 32 j + 1#32 = BitVec.ofNat 32 (j + 1)
  simp only [BitVec.ofNat_add]

theorem out_main_v29_holds (h : Holds V0 s j) : out_main_v29 V0 = Step.R_main_v29 s := by
  unfold out_main_v29 Step.R_main_v29
  rw [h.f_8]
  try rfl

theorem out_main_v32_holds (h : Holds V0 s j) : out_main_v32 V0 = Step.R_main_v32 s := by
  unfold out_main_v32 Step.R_main_v32
  rw [h.f_9]
  try rfl

/-- One trip keeps the valuation holding: `step` of the state, the same set-up values, the next number. -/
theorem holds_step (h : Holds V0 s j) : Holds (STEP V0) (step j s) (j + 1) where
  f_4 := (STEP_main_v27_4 V0).trans (step_4 h)
  f_5 := (STEP_main_v27_5 V0).trans (step_5 h)
  f_6 := (STEP_main_v27_6 V0).trans (step_6 h)
  f_7 := (STEP_main_v27_7 V0).trans (step_7 h)
  f_8 := (STEP_main_v27_8 V0).trans (step_8 h)
  f_9 := (STEP_main_v27_9 V0).trans (step_9 h)
  n_3 := (STEP_main_v27_3 V0).trans (step_3 h)
  f_0 := (STEP_main_v27_0 V0).trans h.f_0
  f_1 := (STEP_main_v27_1 V0).trans h.f_1
  f_2 := (STEP_main_v27_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference2Ideal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v29) = Step.R_main_v29 (it c 1024)
      ∧ r.2.mem ((c.tc : Thread nD τ).loc main_v32) = Step.R_main_v32 (it c 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 1024
    ⟨(h c).1.trans (out_main_v29_holds hk), (h c).2.1.trans (out_main_v32_holds hk), (h c).2.2.1, (h c).2.2.2.1, (h c).2.2.2.2.1, (h c).2.2.2.2.2⟩) (Value.run m ρ)

end Cert.Reference2Ideal.RefRun

end
-- ==== Proof.Hand.First.RefValue.lean ====
module

public import proofs.«01_k».proof.Proof.Hand.First.RefRun
public import proofs.«01_k».proof.Proof.Hand.First.Math
public import Idealize.ShloMosaic.Lib.DynamicIndex
public import Idealize.ShloMosaic.Lib.Pointwise
public import Idealize.ShloMosaic.Lib.Pipeline.Value
/- The reference's scan over the extended reals: each trip is one step of Math.lean's recurrence in each direction, and
   the two output arrays collect the hidden states. -/

@[expose] public section

set_option maxRecDepth 16384

noncomputable section

namespace Cert.Reference2Ideal.Step

open Idealize.ShloMosaic Cert.Reference2Ideal Cert.Reference2Ideal.Gen

theorem slices_at (j : ℕ) (hj : j < 1024) : S1024x32x2048.Slices ![j, 0, 0] S1x32x2048 :=
  ⟨rfl, fun a => by
    match a with
    | ⟨0, _⟩ => show j + 1 ≤ 1024; omega
    | ⟨1, _⟩ => show 0 + 32 ≤ 32; omega
    | ⟨2, _⟩ => show 0 + 2048 ≤ 2048; omega⟩

theorem slicesO_at (j : ℕ) (hj : j < 1024) : S1024x32x512.Slices ![j, 0, 0] S1x32x512 :=
  ⟨rfl, fun a => by
    match a with
    | ⟨0, _⟩ => show j + 1 ≤ 1024; omega
    | ⟨1, _⟩ => show 0 + 32 ≤ 32; omega
    | ⟨2, _⟩ => show 0 + 512 ≤ 512; omega⟩

/-- The starts of a trip's slice: the trip's number on the time axis, zero on the others. -/
theorem starts_at (j : ℕ) (hj : j < 1024) (a : Fin 3) :
    (((![(constantI S_ 32 (BitVec.ofNat 32 j) : (⟨S_, .i32⟩ : BufTy).Contents (Elt Ideal)), (constantI S_ 32 0#32), (constantI S_ 32 0#32)] : Fin 3 → (⟨S_, .i32⟩ : BufTy).Contents (Elt Ideal))) a (Shape.Idx.first h_S_)).toInt
      = ((![j, 0, 0] : Fin 3 → ℕ) a : Int) := by
  match a with
  | ⟨0, _⟩ => exact toInt_ofNat_of_lt (by omega)
  | ⟨1, _⟩ => rfl
  | ⟨2, _⟩ => rfl

theorem clamp_at (j : ℕ) (hj : j < 1024) (a : Fin 3) :
    (min (max ((((![(constantI S_ 32 (BitVec.ofNat 32 j) : (⟨S_, .i32⟩ : BufTy).Contents (Elt Ideal)), (constantI S_ 32 0#32), (constantI S_ 32 0#32)] : Fin 3 → (⟨S_, .i32⟩ : BufTy).Contents (Elt Ideal))) a (Shape.Idx.first h_S_)).toInt) 0)
      ((S1024x32x512.size a - S1x32x512.size a : Nat) : Int)).toNat = (![j, 0, 0] : Fin 3 → ℕ) a := by
  rw [starts_at j hj a]
  have h := (slicesO_at j hj).2 a
  have h' : (![j, 0, 0] : Fin 3 → ℕ) a + S1x32x512.size a ≤ S1024x32x512.size a := h
  omega

theorem row_x (x : FVec Ideal S1x32x2048 .f32) (h : S1x32x2048.ShapeCasts S32x2048) (b : Fin 32) (q : Fin 2048) :
    shapeCast S32x2048 x h (ValueIdx.ix2 b q) = x (ValueIdx.ix3 0 b q) := by
  pointwise
  rfl

theorem row_w (x : FVec Ideal S1x512x2048 .f32) (h : S1x512x2048.ShapeCasts S512x2048) (k : Fin 512) (q : Fin 2048) :
    shapeCast S512x2048 x h (ValueIdx.ix2 k q) = x (ValueIdx.ix3 0 k q) := by
  pointwise
  rfl

theorem dot_h (h : FVec Ideal S32x512 .f32) (w : FVec Ideal S512x2048 .f32) (b : Fin 32) (q : Fin 2048) :
    Host.dotGeneral dot_S32x512_S512x2048_S32x2048_1_0_0_1_n_n none h w (ValueIdx.ix2 b q)
      = ∑ k : Fin 512, h (ValueIdx.ix2 b k) * w (ValueIdx.ix2 k q) := by
  pointwise
  rfl

theorem drop_dir (x : FVec Ideal S1x1024x32x1024 .f32) (h : S1x1024x32x1024.ShapeCasts S1024x32x1024) (t : Fin 1024) (b : Fin 32) (k : Fin 1024) :
    shapeCast S1024x32x1024 x h (ValueIdx.ix3 t b k) = x (ValueIdx.ix4 0 t b k) := by
  pointwise
  rfl

theorem rev_rows (x : FVec Ideal S1024x32x1024 .f32) (t : Fin 1024) (b : Fin 32) (k : Fin 1024) :
    Host.reverse [0] x (ValueIdx.ix3 t b k) = x (ValueIdx.ix3 (⟨1023 - t.val, by omega⟩ : Fin 1024) b k) := by
  pointwise
  refine congrArg x (funext fun a => Fin.ext ?_)
  match a with
  | ⟨0, _⟩ => show 1024 - (t.val + 1) = 1023 - t.val; omega
  | ⟨1, _⟩ => rfl
  | ⟨2, _⟩ => rfl

theorem rev_out (x : FVec Ideal S1024x32x512 .f32) (t : Fin 1024) (b : Fin 32) (k : Fin 512) :
    Host.reverse [0] x (ValueIdx.ix3 t b k) = x (ValueIdx.ix3 (⟨1023 - t.val, by omega⟩ : Fin 1024) b k) := by
  pointwise
  refine congrArg x (funext fun a => Fin.ext ?_)
  match a with
  | ⟨0, _⟩ => show 1024 - (t.val + 1) = 1023 - t.val; omega
  | ⟨1, _⟩ => rfl
  | ⟨2, _⟩ => rfl

theorem join_rows (x : FVec Ideal S1024x32x512 .f32) (h : S1024x32x512.ShapeCasts S32768x512) (y : S32768x512.Idx) :
    shapeCast S32768x512 x h y = x (ValueIdx.ix3 (⟨(y 0).val / 32, by have : (y 0).val < 32768 := (y 0).isLt; omega⟩ : Fin 1024)
      (⟨(y 0).val % 32, Nat.mod_lt _ (by decide)⟩ : Fin 32) (⟨(y 1).val, (y 1).isLt⟩ : Fin 512)) := by
  refine shapeCast_apply x h _ _ ?_
  rw [Shape.rowMajor_val_two, Shape.rowMajor_val_three]
  show ((y 0).val / 32 * 32 + (y 0).val % 32) * 512 + (y 1).val = (y 0).val * 512 + (y 1).val
  omega

theorem row_wx (x : FVec Ideal S1x1024x2048 .f32) (h : S1x1024x2048.ShapeCasts S1024x2048) (k : Fin 1024) (q : Fin 2048) :
    shapeCast S1024x2048 x h (ValueIdx.ix2 k q) = x (ValueIdx.ix3 0 k q) := by
  pointwise
  rfl

theorem dot_x (x : FVec Ideal S1024x32x1024 .f32) (w : FVec Ideal S1024x2048 .f32) (t : Fin 1024) (b : Fin 32) (q : Fin 2048) :
    Host.dotGeneral dot_S1024x32x1024_S1024x2048_S1024x32x2048_2_0_01_1_n_n none x w (ValueIdx.ix3 t b q)
      = ∑ k : Fin 1024, x (ValueIdx.ix3 t b k) * w (ValueIdx.ix2 k q) := by
  pointwise
  rfl

theorem bias_0 (a : FVec Ideal S2x2048 .f32) (t : Fin 1024) (b : Fin 32) (q : Fin 2048) :
    broadcastInDim S1024x32x2048 ![0, 1, 2] bcast_S1x1x2048_S1024x32x2048_0_1_2 (broadcastInDim S1x1x2048 ![2] bcast_S2048_S1x1x2048_2
      (shapeCast S2048 (extractStridedSlice S1x2048 ![0, 0] a slices_S2x2048_S1x2048_0_0) shapeCasts_S1x2048_S2048)) (ValueIdx.ix3 t b q)
      = a (ValueIdx.ix2 0 q) := by
  pointwise
  rfl

theorem bias_1 (a : FVec Ideal S2x2048 .f32) (t : Fin 1024) (b : Fin 32) (q : Fin 2048) :
    broadcastInDim S1024x32x2048 ![0, 1, 2] bcast_S1x1x2048_S1024x32x2048_0_1_2 (broadcastInDim S1x1x2048 ![2] bcast_S2048_S1x1x2048_2
      (shapeCast S2048 (extractStridedSlice S1x2048 ![1, 0] a slices_S2x2048_S1x2048_1_0) shapeCasts_S1x2048_S2048)) (ValueIdx.ix3 t b q)
      = a (ValueIdx.ix2 1 q) := by
  pointwise
  rfl

/-- Step `j`'s rows of the input part. -/
theorem xrow_F (j : ℕ) (hj : j < 1024) (s : State Ideal) (b : Fin 32) (q : Fin 2048) :
    b3 j s (ValueIdx.ix2 b q) = s.main_v27_0 (ValueIdx.ix3 (⟨j, hj⟩ : Fin 1024) b q) := by
  unfold b3 b2 b0 b1
  rw [Host.dynamicSlice_eq_extractStridedSlice S1x32x2048 s.main_v27_0 _ ![j, 0, 0] _ (slices_at j hj) (starts_at j hj)]
  refine (row_x _ _ b q).trans ?_
  pointwise
  rfl

theorem pre_F (j : ℕ) (hj : j < 1024) (s : State Ideal) (b : Fin 32) (q : Fin 2048) :
    b11 j s (ValueIdx.ix2 b q) = Lstm.pre (Lstm.wrec s.main_v27_2 0) (fun b q => s.main_v27_0 (ValueIdx.ix3 (⟨j, hj⟩ : Fin 1024) b q))
      (fun b k => s.main_v27_5 (ValueIdx.ix2 b k)) b q := by
  unfold b11 b10 Lstm.pre Lstm.wrec
  rw [ValueIdx.addf_apply, xrow_F j hj]
  refine congrArg (s.main_v27_0 (ValueIdx.ix3 (⟨j, hj⟩ : Fin 1024) b q) + ·) ((dot_h _ _ b q).trans ?_)
  refine Finset.sum_congr rfl fun k _ => congrArg (s.main_v27_5 (ValueIdx.ix2 b k) * ·) ?_
  unfold b9 b8
  refine (row_w _ _ k q).trans ?_
  pointwise
  rfl

theorem newC_F (j : ℕ) (hj : j < 1024) (s : State Ideal) (b : Fin 32) (k : Fin 512) :
    b35 j s (ValueIdx.ix2 b k) = Lstm.newC (Lstm.wrec s.main_v27_2 0) (fun b q => s.main_v27_0 (ValueIdx.ix3 (⟨j, hj⟩ : Fin 1024) b q))
      (fun b k => s.main_v27_4 (ValueIdx.ix2 b k), fun b k => s.main_v27_5 (ValueIdx.ix2 b k)) b k := by
  unfold Lstm.newC
  rw [← pre_F j hj, ← pre_F j hj, ← pre_F j hj]
  unfold b35 b34 b33 b32 b31 b30 b29 b28 b27 b26 b25 b24 b23 b22 b21 b20 b19 b18 b17 b16 b14 b13 b12 Lstm.col Ideal.logistic
  pointwise
  rfl

theorem newH_F (j : ℕ) (hj : j < 1024) (s : State Ideal) (b : Fin 32) (k : Fin 512) :
    b45 j s (ValueIdx.ix2 b k) = (Lstm.lstm (Lstm.wrec s.main_v27_2 0) (fun b q => s.main_v27_0 (ValueIdx.ix3 (⟨j, hj⟩ : Fin 1024) b q))
      (fun b k => s.main_v27_4 (ValueIdx.ix2 b k), fun b k => s.main_v27_5 (ValueIdx.ix2 b k))).2 b k := by
  unfold Lstm.lstm
  dsimp only
  rw [← pre_F j hj, ← newC_F j hj]
  unfold b45 b44 b43 b42 b41 b40 b39 b38 b37 b36 b15 Lstm.col Ideal.logistic
  pointwise
  rfl

/-- Step `j` writes row `j` of the outputs and keeps the others. -/
theorem out_F (j : ℕ) (hj : j < 1024) (s : State Ideal) (t : Fin 1024) (b : Fin 32) (k : Fin 512) :
    b87 j s (ValueIdx.ix3 t b k) = if t.val = j then b45 j s (ValueIdx.ix2 b k) else s.main_v27_8 (ValueIdx.ix3 t b k) := by
  unfold b87 b84 b85 b86
  rw [Host.dynamicUpdateSlice_eq_updateSlice s.main_v27_8 _ _ _ ![j, 0, 0] (clamp_at j hj) (slicesO_at j hj), updateSlice_apply]
  by_cases h : t.val = j
  · rw [if_pos h, dif_pos (by
      intro a
      match a with
      | ⟨0, _⟩ => exact ⟨Nat.le_of_eq h.symm, by show t.val < j + 1; omega⟩
      | ⟨1, _⟩ => exact ⟨Nat.zero_le _, by show b.val < 0 + 32; omega⟩
      | ⟨2, _⟩ => exact ⟨Nat.zero_le _, by show k.val < 0 + 512; omega⟩)]
    pointwise
    rfl
  · rw [if_neg h, dif_neg (fun hin => h (by
      have h0 : j ≤ t.val ∧ t.val < j + 1 := hin 0
      omega))]

/-- The states after `n` trips, of any sequence that goes on by `step`: the recurrence, and its hidden states so far. -/
theorem iter_F (it : ℕ → State Ideal) (hs : ∀ n, it (n + 1) = step n (it n)) (X : ℕ → Fin 32 → Fin 2048 → EReal) (W : Fin 512 → Fin 2048 → EReal)
    (hW : ∀ n, Lstm.wrec (it n).main_v27_2 0 = W)
    (hX : ∀ n (j : ℕ) (hj : j < 1024), (fun b q => (it n).main_v27_0 (ValueIdx.ix3 (⟨j, hj⟩ : Fin 1024) b q)) = X j)
    (h0 : ((fun b k => (it 0).main_v27_4 (ValueIdx.ix2 b k), fun b k => (it 0).main_v27_5 (ValueIdx.ix2 b k)) : Lstm.St) = (fun _ _ => 0, fun _ _ => 0)) :
    ∀ n, n ≤ 1024 → ((fun b k => (it n).main_v27_4 (ValueIdx.ix2 b k), fun b k => (it n).main_v27_5 (ValueIdx.ix2 b k)) : Lstm.St) = Lstm.run W X n
      ∧ ∀ (t : Fin 1024) (b : Fin 32) (k : Fin 512), t.val < n → (it n).main_v27_8 (ValueIdx.ix3 t b k) = (Lstm.run W X (t.val + 1)).2 b k
  | 0, _ => ⟨h0, fun t b k h => absurd h (Nat.not_lt_zero _)⟩
  | n + 1, hn => by
    obtain ⟨ih1, ih2⟩ := iter_F it hs X W hW hX h0 n (by omega)
    have hj : n < 1024 := by omega
    have hc : ∀ b k, (it (n + 1)).main_v27_4 (ValueIdx.ix2 b k) = (Lstm.run W X (n + 1)).1 b k := by
      intro b k
      rw [hs, step_main_v27_4, newC_F n hj, hW, hX n n hj, ih1]
      rfl
    have hh : ∀ b k, b45 n (it n) (ValueIdx.ix2 b k) = (Lstm.run W X (n + 1)).2 b k := by
      intro b k
      rw [newH_F n hj, hW, hX n n hj, ih1]
      rfl
    refine ⟨Prod.ext (funext fun b => funext fun k => hc b k) (funext fun b => funext fun k => ?_), fun t b k ht => ?_⟩
    · dsimp only
      rw [hs, step_main_v27_5, hh]
    · rw [hs, step_main_v27_8, out_F n hj]
      by_cases h : t.val = n
      · rw [if_pos h, hh, h]
      · rw [if_neg h, ih2 t b k (by omega)]

/-- Step `j`'s rows of the input part. -/
theorem xrow_B (j : ℕ) (hj : j < 1024) (s : State Ideal) (b : Fin 32) (q : Fin 2048) :
    b7 j s (ValueIdx.ix2 b q) = s.main_v27_1 (ValueIdx.ix3 (⟨j, hj⟩ : Fin 1024) b q) := by
  unfold b7 b6 b4 b5
  rw [Host.dynamicSlice_eq_extractStridedSlice S1x32x2048 s.main_v27_1 _ ![j, 0, 0] _ (slices_at j hj) (starts_at j hj)]
  refine (row_x _ _ b q).trans ?_
  pointwise
  rfl

theorem pre_B (j : ℕ) (hj : j < 1024) (s : State Ideal) (b : Fin 32) (q : Fin 2048) :
    b49 j s (ValueIdx.ix2 b q) = Lstm.pre (Lstm.wrec s.main_v27_2 1) (fun b q => s.main_v27_1 (ValueIdx.ix3 (⟨j, hj⟩ : Fin 1024) b q))
      (fun b k => s.main_v27_7 (ValueIdx.ix2 b k)) b q := by
  unfold b49 b48 Lstm.pre Lstm.wrec
  rw [ValueIdx.addf_apply, xrow_B j hj]
  refine congrArg (s.main_v27_1 (ValueIdx.ix3 (⟨j, hj⟩ : Fin 1024) b q) + ·) ((dot_h _ _ b q).trans ?_)
  refine Finset.sum_congr rfl fun k _ => congrArg (s.main_v27_7 (ValueIdx.ix2 b k) * ·) ?_
  unfold b47 b46
  refine (row_w _ _ k q).trans ?_
  pointwise
  rfl

theorem newC_B (j : ℕ) (hj : j < 1024) (s : State Ideal) (b : Fin 32) (k : Fin 512) :
    b73 j s (ValueIdx.ix2 b k) = Lstm.newC (Lstm.wrec s.main_v27_2 1) (fun b q => s.main_v27_1 (ValueIdx.ix3 (⟨j, hj⟩ : Fin 1024) b q))
      (fun b k => s.main_v27_6 (ValueIdx.ix2 b k), fun b k => s.main_v27_7 (ValueIdx.ix2 b k)) b k := by
  unfold Lstm.newC
  rw [← pre_B j hj, ← pre_B j hj, ← pre_B j hj]
  unfold b73 b72 b71 b70 b69 b68 b67 b66 b65 b64 b63 b62 b61 b60 b59 b58 b57 b56 b55 b54 b52 b51 b50 Lstm.col Ideal.logistic
  pointwise
  rfl

theorem newH_B (j : ℕ) (hj : j < 1024) (s : State Ideal) (b : Fin 32) (k : Fin 512) :
    b83 j s (ValueIdx.ix2 b k) = (Lstm.lstm (Lstm.wrec s.main_v27_2 1) (fun b q => s.main_v27_1 (ValueIdx.ix3 (⟨j, hj⟩ : Fin 1024) b q))
      (fun b k => s.main_v27_6 (ValueIdx.ix2 b k), fun b k => s.main_v27_7 (ValueIdx.ix2 b k))).2 b k := by
  unfold Lstm.lstm
  dsimp only
  rw [← pre_B j hj, ← newC_B j hj]
  unfold b83 b82 b81 b80 b79 b78 b77 b76 b75 b74 b53 Lstm.col Ideal.logistic
  pointwise
  rfl

/-- Step `j` writes row `j` of the outputs and keeps the others. -/
theorem out_B (j : ℕ) (hj : j < 1024) (s : State Ideal) (t : Fin 1024) (b : Fin 32) (k : Fin 512) :
    b91 j s (ValueIdx.ix3 t b k) = if t.val = j then b83 j s (ValueIdx.ix2 b k) else s.main_v27_9 (ValueIdx.ix3 t b k) := by
  unfold b91 b88 b89 b90
  rw [Host.dynamicUpdateSlice_eq_updateSlice s.main_v27_9 _ _ _ ![j, 0, 0] (clamp_at j hj) (slicesO_at j hj), updateSlice_apply]
  by_cases h : t.val = j
  · rw [if_pos h, dif_pos (by
      intro a
      match a with
      | ⟨0, _⟩ => exact ⟨Nat.le_of_eq h.symm, by show t.val < j + 1; omega⟩
      | ⟨1, _⟩ => exact ⟨Nat.zero_le _, by show b.val < 0 + 32; omega⟩
      | ⟨2, _⟩ => exact ⟨Nat.zero_le _, by show k.val < 0 + 512; omega⟩)]
    pointwise
    rfl
  · rw [if_neg h, dif_neg (fun hin => h (by
      have h0 : j ≤ t.val ∧ t.val < j + 1 := hin 0
      omega))]

/-- The states after `n` trips, of any sequence that goes on by `step`: the recurrence, and its hidden states so far. -/
theorem iter_B (it : ℕ → State Ideal) (hs : ∀ n, it (n + 1) = step n (it n)) (X : ℕ → Fin 32 → Fin 2048 → EReal) (W : Fin 512 → Fin 2048 → EReal)
    (hW : ∀ n, Lstm.wrec (it n).main_v27_2 1 = W)
    (hX : ∀ n (j : ℕ) (hj : j < 1024), (fun b q => (it n).main_v27_1 (ValueIdx.ix3 (⟨j, hj⟩ : Fin 1024) b q)) = X j)
    (h0 : ((fun b k => (it 0).main_v27_6 (ValueIdx.ix2 b k), fun b k => (it 0).main_v27_7 (ValueIdx.ix2 b k)) : Lstm.St) = (fun _ _ => 0, fun _ _ => 0)) :
    ∀ n, n ≤ 1024 → ((fun b k => (it n).main_v27_6 (ValueIdx.ix2 b k), fun b k => (it n).main_v27_7 (ValueIdx.ix2 b k)) : Lstm.St) = Lstm.run W X n
      ∧ ∀ (t : Fin 1024) (b : Fin 32) (k : Fin 512), t.val < n → (it n).main_v27_9 (ValueIdx.ix3 t b k) = (Lstm.run W X (t.val + 1)).2 b k
  | 0, _ => ⟨h0, fun t b k h => absurd h (Nat.not_lt_zero _)⟩
  | n + 1, hn => by
    obtain ⟨ih1, ih2⟩ := iter_B it hs X W hW hX h0 n (by omega)
    have hj : n < 1024 := by omega
    have hc : ∀ b k, (it (n + 1)).main_v27_6 (ValueIdx.ix2 b k) = (Lstm.run W X (n + 1)).1 b k := by
      intro b k
      rw [hs, step_main_v27_6, newC_B n hj, hW, hX n n hj, ih1]
      rfl
    have hh : ∀ b k, b83 n (it n) (ValueIdx.ix2 b k) = (Lstm.run W X (n + 1)).2 b k := by
      intro b k
      rw [newH_B n hj, hW, hX n n hj, ih1]
      rfl
    refine ⟨Prod.ext (funext fun b => funext fun k => hc b k) (funext fun b => funext fun k => ?_), fun t b k ht => ?_⟩
    · dsimp only
      rw [hs, step_main_v27_7, hh]
    · rw [hs, step_main_v27_9, out_B n hj]
      by_cases h : t.val = n
      · rw [if_pos h, hh, h]
      · rw [if_neg h, ih2 t b k (by omega)]

theorem dir_F (a0 : FVec Ideal S2x1024x32x1024 .bf16) (a1 : FVec Ideal S2x1024x2048 .bf16) (a2 : FVec Ideal S2x512x2048 .bf16) (a3 : FVec Ideal S2x2048 .f32) (t : Fin 1024) (b : Fin 32) (k : Fin 1024) :
    A_main_v4 (F := Ideal) a0 a1 a2 a3 (ValueIdx.ix3 t b k) = Lstm.seq1 a0 0 t.val b k := by
  unfold A_main_v4 A_main_v3 A_main_v2 Lstm.seq1
  refine (drop_dir _ _ t b k).trans ?_
  pointwise
  refine congrArg a0 (funext fun a => Fin.ext ?_)
  have ht := t.isLt
  match a with
  | ⟨0, _⟩ => rfl
  | ⟨1, _⟩ => show t.val = t.val % 1024; omega
  | ⟨2, _⟩ => rfl
  | ⟨3, _⟩ => rfl

/-- The input part of every time step. -/
theorem inp_F (a0 : FVec Ideal S2x1024x32x1024 .bf16) (a1 : FVec Ideal S2x1024x2048 .bf16) (a2 : FVec Ideal S2x512x2048 .bf16) (a3 : FVec Ideal S2x2048 .f32) (t : Fin 1024) (b : Fin 32) (q : Fin 2048) :
    A_main_v12 (F := Ideal) a0 a1 a2 a3 (ValueIdx.ix3 t b q) = Lstm.xpart1 a0 a1 a3 0 (t.val) b q := by
  unfold A_main_v12 A_main_v7 Lstm.xpart1 Lstm.inProj
  refine congrArg₂ (· + ·) ((dot_x _ _ t b q).trans (Finset.sum_congr rfl fun k _ => congrArg₂ (· * ·) ?_ ?_)) ?_
  · exact dir_F a0 a1 a2 a3 t b k
  · unfold A_main_v6 A_main_v5 A_main_v0
    refine (row_wx _ _ k q).trans ?_
    pointwise
    rfl
  · unfold A_main_v11 A_main_v10 A_main_v9 A_main_v8
    exact bias_0 a3 t b q

theorem dir_B (a0 : FVec Ideal S2x1024x32x1024 .bf16) (a1 : FVec Ideal S2x1024x2048 .bf16) (a2 : FVec Ideal S2x512x2048 .bf16) (a3 : FVec Ideal S2x2048 .f32) (t : Fin 1024) (b : Fin 32) (k : Fin 1024) :
    A_main_v14 (F := Ideal) a0 a1 a2 a3 (ValueIdx.ix3 t b k) = Lstm.seq1 a0 1 t.val b k := by
  unfold A_main_v14 A_main_v13 A_main_v2 Lstm.seq1
  refine (drop_dir _ _ t b k).trans ?_
  pointwise
  refine congrArg a0 (funext fun a => Fin.ext ?_)
  have ht := t.isLt
  match a with
  | ⟨0, _⟩ => rfl
  | ⟨1, _⟩ => show t.val = t.val % 1024; omega
  | ⟨2, _⟩ => rfl
  | ⟨3, _⟩ => rfl

/-- The input part of every time step. -/
theorem inp_B (a0 : FVec Ideal S2x1024x32x1024 .bf16) (a1 : FVec Ideal S2x1024x2048 .bf16) (a2 : FVec Ideal S2x512x2048 .bf16) (a3 : FVec Ideal S2x2048 .f32) (t : Fin 1024) (b : Fin 32) (q : Fin 2048) :
    A_main_v23 (F := Ideal) a0 a1 a2 a3 (ValueIdx.ix3 t b q) = Lstm.xpart1 a0 a1 a3 1 (1023 - t.val) b q := by
  unfold A_main_v23 A_main_v18 Lstm.xpart1 Lstm.inProj
  refine congrArg₂ (· + ·) ((dot_x _ _ t b q).trans (Finset.sum_congr rfl fun k _ => congrArg₂ (· * ·) ?_ ?_)) ?_
  · unfold A_main_v15; exact (rev_rows _ t b k).trans (dir_B a0 a1 a2 a3 _ b k)
  · unfold A_main_v17 A_main_v16 A_main_v0
    refine (row_wx _ _ k q).trans ?_
    pointwise
    rfl
  · unfold A_main_v22 A_main_v21 A_main_v20 A_main_v19
    exact bias_1 a3 t b q

/-- The states of the scan. -/
def states (s0 : State Ideal) : ℕ → State Ideal
  | 0 => s0
  | n + 1 => step n (states s0 n)

theorem states_0 (s0 : State Ideal) : ∀ n, (states s0 n).main_v27_0 = s0.main_v27_0
  | 0 => rfl
  | n + 1 => states_0 s0 n

theorem states_1 (s0 : State Ideal) : ∀ n, (states s0 n).main_v27_1 = s0.main_v27_1
  | 0 => rfl
  | n + 1 => states_1 s0 n

theorem states_2 (s0 : State Ideal) : ∀ n, (states s0 n).main_v27_2 = s0.main_v27_2
  | 0 => rfl
  | n + 1 => states_2 s0 n

theorem zero_st (b : Fin 32) (k : Fin 512) : K_main_v24 (F := Ideal) (ValueIdx.ix2 b k) = (0 : EReal) := Ideal.ofBits_zero_f32

theorem result_F (a0 : FVec Ideal S2x1024x32x1024 .bf16) (a1 : FVec Ideal S2x1024x2048 .bf16) (a2 : FVec Ideal S2x512x2048 .bf16) (a3 : FVec Ideal S2x2048 .f32) :
    R_main_v29 (states (init a0 a1 a2 a3) 1024) = Lstm.outFwd1 a0 a1 a2 a3 := by
  funext y
  have h := (iter_F (states (init a0 a1 a2 a3)) (fun _ => rfl) (fun n => Lstm.xpart1 a0 a1 a3 0 n) (Lstm.wrec a2 0)
    (fun n => by rw [states_2]; rfl)
    (fun n j hj => by rw [states_0]; exact funext fun b => funext fun q => inp_F a0 a1 a2 a3 ⟨j, hj⟩ b q)
    (Prod.ext (funext fun b => funext fun k => zero_st b k) (funext fun b => funext fun k => zero_st b k)) 1024 le_rfl).2
  unfold R_main_v29
  rw [ValueIdx.truncf_apply]
  refine (join_rows _ _ y).trans ?_
  have hy : (y 0).val < 32768 := (y 0).isLt
  rw [h _ _ _ (show (y 0).val / 32 < 1024 by omega)]
  rfl

theorem result_B (a0 : FVec Ideal S2x1024x32x1024 .bf16) (a1 : FVec Ideal S2x1024x2048 .bf16) (a2 : FVec Ideal S2x512x2048 .bf16) (a3 : FVec Ideal S2x2048 .f32) :
    R_main_v32 (states (init a0 a1 a2 a3) 1024) = Lstm.outBwd1 a0 a1 a2 a3 := by
  funext y
  have h := (iter_B (states (init a0 a1 a2 a3)) (fun _ => rfl) (fun n => Lstm.xpart1 a0 a1 a3 1 (1023 - n)) (Lstm.wrec a2 1)
    (fun n => by rw [states_2]; rfl)
    (fun n j hj => by rw [states_1]; exact funext fun b => funext fun q => inp_B a0 a1 a2 a3 ⟨j, hj⟩ b q)
    (Prod.ext (funext fun b => funext fun k => zero_st b k) (funext fun b => funext fun k => zero_st b k)) 1024 le_rfl).2
  have hy : (y 0).val < 32768 := (y 0).isLt
  unfold R_main_v32
  rw [ValueIdx.truncf_apply]
  refine (join_rows _ _ y).trans ((rev_out _ _ _ _).trans ?_)
  rw [h _ _ _ (show 1023 - (y 0).val / 32 < 1024 by omega)]
  unfold Lstm.outBwd1
  rw [show 1023 - (y 0).val / 32 + 1 = 1024 - (y 0).val / 32 by omega]

end Cert.Reference2Ideal.Step

end
-- ==== Proof.Hand.Roll.Math.lean ====
module

public import Idealize.ShloMosaic.Lib.Pointwise.Tactic
public import Idealize.ShloMosaic.Lib.Affine
public import Idealize.ShloMosaic.Lib.ValueIdxCore
/- A roll in time by a start per batch entry: what the roll call and its reference are both shown to compute. -/

@[expose] public section

noncomputable section

namespace Roll

open Idealize.ShloMosaic

/-- Every start lies among the 1024 times. -/
def InRange (s : IVec ⟨1, ![32]⟩ 32) : Prop := ∀ b : Fin 32, (s (ValueIdx.ix1 b)).toNat < 1024

/-- Time `t` of batch entry `b` after the roll: the entry's values at `t` plus its start, round the end. -/
def rolled {n : ℕ} (v : FVec Ideal ⟨3, ![1024, 32, n]⟩ .bf16) (s : IVec ⟨1, ![32]⟩ 32) (t : Fin 1024) (b : Fin 32) (k : Fin n) : EReal :=
  v (ValueIdx.ix3 (⟨(t.val + (s (ValueIdx.ix1 b)).toNat) % 1024, Nat.mod_lt _ (by decide)⟩ : Fin 1024) b k)

/-- A word at least 0 and below 1024 in signed reading is below 1024 in unsigned reading. -/
theorem toNat_lt_of_signed {x : BitVec 32} (h0 : 0 ≤ x.toInt) (h1 : x.toInt < 1024) : x.toNat < 1024 := by
  rw [BitVec.toInt_eq_toNat_cond] at h0 h1
  have := x.isLt
  split at h0 <;> split at h1 <;> omega

/-- A word below 1024 reads the same signed and unsigned. -/
theorem toInt_of_lt {x : BitVec 32} (h : x.toNat < 1024) : x.toInt = (x.toNat : Int) :=
  BitVec.toInt_eq_toNat_of_lt (by omega)

/-- The remainder by 1024 of a small number's word. -/
theorem remsi_ofNat (u : ArithUnit) {a : ℕ} (ha : a < 2048) :
    IntOp.remsi u (BitVec.ofNat 32 a) 1024#32 = BitVec.ofNat 32 (a % 1024) := by
  refine BitVec.eq_of_toNat_eq ?_
  have e : (BitVec.ofNat 32 a).toNat = a := by rw [BitVec.toNat_ofNat]; omega
  rw [show (1024#32 : BitVec 32) = BitVec.ofNat 32 1024 from rfl,
    IntOp.toNat_remsi u (x := BitVec.ofNat 32 a) (by omega) 1024 (by decide) (by decide), e, BitVec.toNat_ofNat]
  omega

end Roll

end
-- ==== Proof.Hand.Roll.Kernel.lean ====
module

public import proofs.«01_k».proof.Proof.Gen.Kernel3Ideal.Frame
public import proofs.«01_k».proof.Proof.Hand.Roll.Math
public import Idealize.ShloMosaic.Lib.Pointwise
public import Idealize.ShloMosaic.Lib.Pipeline.ValueKit
public import Idealize.ShloMosaic.Lib.Pipeline.Value
public import Idealize.ShloMosaic.Lib.ValueIdxCore
public import Idealize.ShloMosaic.PureOps.IdealRules
/- What the roll call's body leaves at each grid point, over the extended reals: the block of one batch entry, rolled. -/

@[expose] public section

set_option maxRecDepth 16384

noncomputable section

namespace Cert.Kernel3Ideal.Gen

open Idealize.ShloMosaic Idealize.ShloMosaic.TcCoe Idealize.ShloMosaic.Pipeline

/-- The carried table at time `t` and source time `u`: how far `u` lies after `t`, round the end. -/
theorem diff_apply (t u : Fin 1024) :
    k0_pay1 (F := Ideal) (ValueIdx.ix2 t u) = ((((BitVec.ofNat 32 ((u.val + 1024 - t.val) % 1024)).toInt : ℝ)) : EReal) := by
  have ht := t.isLt
  have hu := u.isLt
  unfold k0_pay1
  pointwise
  have e : IntOp.addi (IntOp.subi (BitVec.ofNat 32 u.val) (BitVec.ofNat 32 t.val)) 1024#32 = BitVec.ofNat 32 (u.val + 1024 - t.val) := by
    refine BitVec.eq_of_toNat_eq ?_
    show (BitVec.ofNat 32 u.val - BitVec.ofNat 32 t.val + 1024#32).toNat = _
    simp only [BitVec.toNat_add, BitVec.toNat_sub, BitVec.toNat_ofNat]
    omega
  refine congrArg (FloatOps.sitofp (F := Ideal) FTy.f32) ((congrArg (fun x => IntOp.remsi .vector x 1024#32) e).trans ?_)
  exact Roll.remsi_ofNat .vector (by omega)

/-- The row of one time: the indicator of the source time that lies the start after it. -/
theorem sel_apply (w : BitVec 32) (hw : w.toNat < 1024) (t u : Fin 1024) :
    k0_pay2 (F := Ideal) w (k0_pay1 (F := Ideal)) (ValueIdx.ix2 t u) = if u = ⟨(t.val + w.toNat) % 1024, Nat.mod_lt _ (by decide)⟩ then 1 else 0 := by
  have ht := t.isLt
  have hu := u.isLt
  unfold k0_pay2
  pointwise
  rw [diff_apply]
  have e : (((BitVec.ofNat 32 ((u.val + 1024 - t.val) % 1024)).toInt : ℝ) : EReal) = ((w.toInt : ℝ) : EReal)
      ↔ u = ⟨(t.val + w.toNat) % 1024, Nat.mod_lt _ (by decide)⟩ := by
    have hn : (BitVec.ofNat 32 ((u.val + 1024 - t.val) % 1024)).toNat = (u.val + 1024 - t.val) % 1024 := by
      rw [BitVec.toNat_ofNat]; omega
    rw [Roll.toInt_of_lt hw, Roll.toInt_of_lt (x := BitVec.ofNat 32 _) (by rw [hn]; omega), hn, EReal.coe_eq_coe_iff, Int.cast_inj, Int.natCast_inj,
      Fin.ext_iff]
    dsimp only
    omega
  simp only [e]

/-- The block of one batch entry, rolled by its start. -/
theorem block_apply (w : BitVec 32) (hw : w.toNat < 1024) (x : FVec Ideal S1024x512 .bf16) (t : Fin 1024) (k : Fin 512) :
    k0_pay3 (F := Ideal) (k0_pay2 (F := Ideal) w (k0_pay1 (F := Ideal))) x (ValueIdx.ix2 t k)
      = x (ValueIdx.ix2 (⟨(t.val + w.toNat) % 1024, Nat.mod_lt _ (by decide)⟩ : Fin 1024) k) := by
  unfold k0_pay3
  pointwise
  refine (Finset.sum_eq_single (⟨(t.val + w.toNat) % 1024, Nat.mod_lt _ (by decide)⟩ : Fin 1024) (fun u _ hu => ?_)
    (fun h => absurd (Finset.mem_univ _) h)).trans ?_
  · exact (congrArg (· * _) ((sel_apply w hw t u).trans (if_neg hu))).trans (zero_mul _)
  · exact (congrArg (· * _) ((sel_apply w hw t _).trans (if_pos rfl))).trans (one_mul _)

variable (m : (ℓ : Loc nD τ sig) → Buf (Elt Ideal) ℓ)

/-- The carried table after every point. -/
theorem table_eq (hO : Ok m) (c : Dev nD) : ∀ (n : ℕ) (hn : n < (cfgM m hO).N), (outsAt0 m hO c n hn).2 = k0_pay1 (F := Ideal)
  | 0, hn => by
    refine (congrArg Prod.snd (outsAt0_A m hO c ⟨0, hn⟩ rfl)).trans ?_
    dsimp only
    frame_out
  | n + 1, hn => by
    have hN : n + 1 < 32 := lt_of_lt_of_eq hn N_0
    refine (congrArg Prod.snd (outsAt0_B m hO c ⟨n + 1, hn⟩ (by dsimp only; omega))).trans ?_
    exact table_eq hO c n _

/-- The place of the start the body reads at a point: its batch entry's. -/
theorem coords_val : ∀ t : Fin grid0.N, k0_off1 (grid0.coords t) 0 = t.val := by decide +kernel

/-- The block a point leaves. -/
theorem out_eq (hO : Ok m) (c : Dev nD) (t : Fin (cfgM m hO).N) :
    (outsAt0 m hO c t.val t.isLt).1
      = k0_pay3 (F := Ideal) (k0_pay2 (F := Ideal) (tbl m 0 (ValueIdx.ix1 (⟨t.val, lt_of_lt_of_eq t.isLt N_0⟩ : Fin 32))) (k0_pay1 (F := Ideal))) (iblk m hO c 0 t) := by
  have hw : ∀ (r : S32.Idx), (r 0).val = t.val → r = ValueIdx.ix1 (⟨t.val, lt_of_lt_of_eq t.isLt N_0⟩ : Fin 32) := fun r h =>
    funext fun a => by obtain rfl : a = 0 := Subsingleton.elim _ _; exact Fin.ext h
  by_cases h0 : t.val % 32 = 0
  · rw [outsAt0_A m hO c t h0]
    dsimp only
    frame_out
    exact congrArg₂ (fun w x => k0_pay3 (F := Ideal) (k0_pay2 (F := Ideal) w (k0_pay1 (F := Ideal))) x)
      (congrArg (tbl m 0) (hw _ (coords_val t))) ((hs0_0 m hO t).read_unread _)
  · rw [outsAt0_B m hO c t h0]
    dsimp only
    frame_out
    have hs : ∀ X : Vec Ideal S1024x1024 .f32, X = k0_pay1 (F := Ideal) →
        View.read (Elt Ideal) (View.whole cc0_scratch0) ((Memref.isWhole_whole cc0_scratch0).unread X) = k0_pay1 (F := Ideal) := fun X h =>
      ((Memref.isWhole_whole cc0_scratch0).read_unread X).trans h
    exact congr (congrArg₂ (fun w s x => k0_pay3 (F := Ideal) (k0_pay2 (F := Ideal) w s) x)
      (congrArg (tbl m 0) (hw _ (coords_val t))) (hs _ (table_eq m hO c _ _))) ((hs0_0 m hO t).read_unread _)

end Cert.Kernel3Ideal.Gen

end
-- ==== Proof.Hand.Roll.KernelValue.lean ====
module

public import proofs.«01_k».proof.Proof.Hand.Roll.Kernel
/- The roll call's result over the extended reals: every block it reads and writes by its place in the arrays. -/

@[expose] public section

set_option maxRecDepth 16384

noncomputable section

namespace Cert.Kernel3Ideal.Gen

open Idealize.ShloMosaic Idealize.ShloMosaic.TcCoe Idealize.ShloMosaic.Pipeline

variable (m : (ℓ : Loc nD τ sig) → Buf (Elt Ideal) ℓ) (ρ : Dev nD → PrngReg)

/-- The reshape before the call. -/
theorem V_v0_eq (c : Dev nD) :
    V m c main_v0 = shapeCast S1024x16384 (m ((c : Thread nD τ).loc main_arg0) : FVec Ideal S1024x32x512 .bf16) shapeCasts_S1024x32x512_S1024x16384 := by
  show StableHlo.after hostOps0 (fun b => m (c, b)) (Proc.devRef .tc main_v0) = _
  after_results
  rfl

/-- The array the call reads: the batch entries side by side. -/
theorem V_v0 (c : Dev nD) (u : Fin 1024) (b : Fin 32) (k : Fin 512) :
    (V m c main_v0 : FVec Ideal S1024x16384 .bf16) (ValueIdx.ix2 u (⟨512 * b.val + k.val, by omega⟩ : Fin 16384))
      = (m ((c : Thread nD τ).loc main_arg0) : FVec Ideal S1024x32x512 .bf16) (ValueIdx.ix3 u b k) := by
  refine (congrFun (V_v0_eq m c) _).trans (shapeCast_apply (s := S1024x32x512) (t := S1024x16384) _ _ _ _ ?_)
  rw [Shape.rowMajor_val_two, Shape.rowMajor_val_three]
  show (u.val * 32 + b.val) * 512 + k.val = u.val * 16384 + (512 * b.val + k.val)
  omega

/-- Grid point `t` reads batch entry `t`'s columns. -/
theorem index_0 (hO : Ok m) : ∀ t : Fin (cfgM m hO).N, ((cfgM m hO).win 0).index t = ![0, t.val] :=
  (by decide +kernel : ∀ t : Fin grid0.N, cc0_transform_0 (grid0.coords t) = ![0, t.val])

/-- Grid point `t` writes batch entry `t`'s columns. -/
theorem index_1 (hO : Ok m) : ∀ t : Fin (cfgM m hO).N, ((cfgM m hO).win 1).index t = ![0, t.val] :=
  (by decide +kernel : ∀ t : Fin grid0.N, cc0_transform_1 (grid0.coords t) = ![0, t.val])

/-- Where a written block's entry lies in the array. -/
theorem emb_1 (hO : Ok m) (t : Fin (cfgM m hO).N) (u : Fin 1024) (k : Fin 512) :
    ((((cfgM m hO).win 1).rect t).emb (ValueIdx.ix2 u k) : S1024x16384.Idx)
      = ValueIdx.ix2 u (⟨(512 * t.val + k.val) % 16384, Nat.mod_lt _ (by decide)⟩ : Fin 16384) := by
  have ht : t.val < 32 := Nat.lt_of_lt_of_eq t.isLt N_0
  refine Shape.idx_ext₂ ?_ ?_
  · refine (Window.rect_emb_val ((cfgM m hO).win 1) t _ (show Fin 2 from 0)).trans ?_
    rw [index_1 m hO t]
    show 0 * 1024 + u.val = u.val
    omega
  · refine (Window.rect_emb_val ((cfgM m hO).win 1) t _ (show Fin 2 from 1)).trans ?_
    rw [index_1 m hO t]
    have hk := k.isLt
    show t.val * 512 + k.val = (512 * t.val + k.val) % 16384
    omega

/-- The block read at a grid point: one batch entry of the argument. -/
theorem iblk_0 (hO : Ok m) (c : Dev nD) (t : Fin (cfgM m hO).N) (u : Fin 1024) (k : Fin 512) :
    iblk m hO c 0 t (ValueIdx.ix2 u k) = m ((c : Thread nD τ).loc main_arg0)
      (ValueIdx.ix3 u (⟨t.val, Nat.lt_of_lt_of_eq t.isLt N_0⟩ : Fin 32) k) := by
  have ht : t.val < 32 := Nat.lt_of_lt_of_eq t.isLt N_0
  refine Eq.trans ?_ (V_v0 m c u _ k)
  show V m c main_v0 ((((cfgM m hO).win 0).rect t).emb (ValueIdx.ix2 u k)) = _
  refine congrArg (V m c main_v0) (Shape.idx_ext₂ ?_ ?_)
  · refine (Window.rect_emb_val ((cfgM m hO).win 0) t _ (show Fin 2 from 0)).trans ?_
    rw [index_0 m hO t]
    show 0 * 1024 + u.val = u.val
    omega
  · refine (Window.rect_emb_val ((cfgM m hO).win 0) t _ (show Fin 2 from 1)).trans ?_
    rw [index_0 m hO t]
    show t.val * 512 + k.val = 512 * t.val + k.val
    omega

/-- The pipeline's result array: the batch entries side by side, each rolled by its start. -/
def flat (v : FVec Ideal S1024x32x512 .bf16) (s : IVec S32 32) : FVec Ideal S1024x16384 .bf16 := fun i =>
  Roll.rolled v s ⟨(i 0).val, (i 0).isLt⟩ ⟨(i 1).val / 512, by have : (i 1).val < 16384 := (i 1).isLt; omega⟩
    ⟨(i 1).val % 512, Nat.mod_lt _ (by decide)⟩

/-- The starts of the one device. -/
theorem tbl_eq (c : Dev nD) : tbl m 0 = m ((c : Thread nD τ).loc main_arg1) := (V_pre m c 0).symm.trans (V_main_arg1 m c)

/-- The block a grid point leaves, by its place in the result array. -/
theorem out_apply (hO : Ok m) (c : Dev nD) (hs : Roll.InRange (m ((c : Thread nD τ).loc main_arg1))) (t : Fin (cfgM m hO).N) (u : Fin 1024) (k : Fin 512) :
    (outsAt0 m hO c t.val t.isLt).1 (ValueIdx.ix2 u k)
      = flat (m ((c : Thread nD τ).loc main_arg0)) (m ((c : Thread nD τ).loc main_arg1))
          (ValueIdx.ix2 u (⟨(512 * t.val + k.val) % 16384, Nat.mod_lt _ (by decide)⟩ : Fin 16384)) := by
  have ht : t.val < 32 := Nat.lt_of_lt_of_eq t.isLt N_0
  have hk := k.isLt
  have e1 : (512 * t.val + k.val) % 16384 / 512 = t.val := by omega
  have e2 : (512 * t.val + k.val) % 16384 % 512 = k.val := by omega
  rw [out_eq, tbl_eq m c]
  refine (block_apply _ (hs _) _ u k).trans ((iblk_0 m hO c t _ k).trans ?_)
  unfold flat Roll.rolled
  dsimp only [ValueIdx.ix2]
  simp only [e1, e2]
  rfl

/-- The pipeline's result array. -/
theorem arr_eq (hO : Ok m) (c : Dev nD) (hs : Roll.InRange (m ((c : Thread nD τ).loc main_arg1))) :
    (dats m hO 0 c).arrAt 1 (cfgM m hO).N = flat (m ((c : Thread nD τ).loc main_arg0)) (m ((c : Thread nD τ).loc main_arg1)) := by
  refine Dat.arrAt_eq_of_cover (dats m hO 0 c) 1 _ (fun t _ => ?_) (fun (i : S1024x16384.Idx) => ?_)
  · refine Eq.trans (b := (outsAt0 m hO c t.val t.isLt).1) rfl ?_
    funext y
    refine (congrArg (outsAt0 m hO c t.val t.isLt).1 (ValueIdx.eq_ix2 (y : (a : Fin 2) → Fin (S1024x512.size a)))).trans ((out_apply m hO c hs t _ _).trans ?_)
    show _ = flat (m ((c : Thread nD τ).loc main_arg0)) (m ((c : Thread nD τ).loc main_arg1)) ((((cfgM m hO).win 1).rect t).emb y)
    refine congrArg _ ((emb_1 m hO t (y 0) (y 1)).symm.trans (congrArg (((cfgM m hO).win 1).rect t).emb (ValueIdx.eq_ix2 (y : (a : Fin 2) → Fin (S1024x512.size a))).symm))
  · have hi : (i 1).val < 16384 := (i 1).isLt
    have hN : (i 1).val / 512 < (cfgM m hO).N := Nat.lt_of_lt_of_eq (by omega : _ < 32) N_0.symm
    refine ⟨⟨(i 1).val / 512, hN⟩, flush0_1 _ _, ?_⟩
    have e := emb_1 m hO ⟨_, hN⟩ (⟨(i 0).val, (i 0).isLt⟩ : Fin 1024) (⟨(i 1).val % 512, Nat.mod_lt _ (by decide)⟩ : Fin 512)
    have e2 : i = (((cfgM m hO).win 1).blk ⟨_, hN⟩).view.emb (ValueIdx.ix2 (⟨(i 0).val, (i 0).isLt⟩ : Fin 1024) (⟨(i 1).val % 512, Nat.mod_lt _ (by decide)⟩ : Fin 512)) := by
      refine Eq.trans ?_ e.symm
      refine Shape.idx_ext₂ rfl ?_
      show (i 1).val = (512 * ((i 1).val / 512) + (i 1).val % 512) % 16384
      omega
    have hm := View.emb_mem_set (((cfgM m hO).win 1).blk ⟨_, hN⟩).view (ValueIdx.ix2 (⟨(i 0).val, (i 0).isLt⟩ : Fin 1024) (⟨(i 1).val % 512, Nat.mod_lt _ (by decide)⟩ : Fin 512))
    rw [← e2] at hm
    exact hm

/-- What the reshape after the call leaves. -/
theorem tail_eq (hO : Ok m) (c : Dev nD) :
    Pipeline.afterTail pcfgs (fun _ => adm m hO) (dats m hO) 0 (V0 m) [hostOps1] c main_v2
      = shapeCast S1024x32x512 ((dats m hO 0 c).arrAt 1 (cfgM m hO).N : FVec Ideal S1024x16384 .bf16) shapeCasts_S1024x16384_S1024x32x512 := by
  have hv1 : Pipeline.withArrays ((Pipeline.pin pcfgs fun _ => adm m hO) 0).spec c (V0 m c)
      (fun w => (dats m hO 0 c).arrAt w ((Pipeline.pin pcfgs fun _ => adm m hO) 0).N) (Proc.devRef .tc main_v1)
      = (dats m hO 0 c).arrAt 1 (cfgM m hO).N :=
    Pipeline.withArrays_arr spec0 (by decide) c (V0 m c) _ 1
  rw [← hv1]
  unfold Pipeline.afterTail
  show StableHlo.after hostOps1 _ (Proc.devRef .tc main_v2) = _
  after_results
  rfl

/-- The call's result, entry by entry. -/
theorem result_apply (hO : Ok m) (c : Dev nD) (hs : Roll.InRange (m ((c : Thread nD τ).loc main_arg1))) (t : Fin 1024) (b : Fin 32) (k : Fin 512) :
    (Pipeline.afterTail pcfgs (fun _ => adm m hO) (dats m hO) 0 (V0 m) [hostOps1] c main_v2 : FVec Ideal S1024x32x512 .bf16) (ValueIdx.ix3 t b k)
      = Roll.rolled (m ((c : Thread nD τ).loc main_arg0)) (m ((c : Thread nD τ).loc main_arg1)) t b k := by
  have hk := k.isLt
  have hb := b.isLt
  have e1 : (512 * b.val + k.val) / 512 = b.val := by omega
  have e2 : (512 * b.val + k.val) % 512 = k.val := by omega
  rw [tail_eq, arr_eq m hO c hs]
  refine (shapeCast_apply _ _ _ (ValueIdx.ix2 t (⟨512 * b.val + k.val, by omega⟩ : Fin 16384)) ?_).trans ?_
  · rw [Shape.rowMajor_val_two, Shape.rowMajor_val_three]
    show t.val * 16384 + (512 * b.val + k.val) = (t.val * 32 + b.val) * 512 + k.val
    omega
  · unfold flat
    dsimp only [ValueIdx.ix2]
    simp only [e1, e2]

/-- The call runs, ends with its result as above, leaves its arguments as they were and every counter at zero. -/
theorem run_values (hO : Ok m) (hs : ∀ c : Dev nD, Roll.InRange (m ((c : Thread nD τ).loc main_arg1))) :
    θ_run defs (onTc (τ := τ) (main (F := Ideal))) ⟨m, fun _ => 0, ρ⟩ (fun r => ∀ c : Dev nD,
      r.2.mem ((c.tc : Thread nD τ).loc main_v2) = (fun i : S1024x32x512.Idx =>
        Roll.rolled (m ((c : Thread nD τ).loc main_arg0)) (m ((c : Thread nD τ).loc main_arg1)) (⟨(i 0).val, (i 0).isLt⟩ : Fin 1024) (⟨(i 1).val, (i 1).isLt⟩ : Fin 32) (⟨(i 2).val, (i 2).isLt⟩ : Fin 512))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ hO)
  · refine ((h c).2 main_v2 (by decide : main_v2 ∈ Pipeline.restRefs sig spec0)).trans (funext fun i => ?_)
    exact (congrArg _ (ValueIdx.eq_ix3 (i : S1024x32x512.Idx))).trans (result_apply m hO c (hs c) _ _ _)
  · exact ((h c).2 main_arg0 (by decide : main_arg0 ∈ Pipeline.restRefs sig spec0)).trans (W_main_arg0 m hO (dats m hO) c)
  · exact ((h c).2 main_arg1 (by decide : main_arg1 ∈ Pipeline.restRefs sig spec0)).trans (W_main_arg1 m hO (dats m hO) c)

end Cert.Kernel3Ideal.Gen

end
-- ==== Proof.Hand.Roll.RefValue.lean ====
module

public import proofs.«01_k».proof.Proof.Gen.Reference3Ideal.Run
public import proofs.«01_k».proof.Proof.Hand.Roll.Math
public import Idealize.ShloMosaic.Lib.Pointwise
public import Idealize.ShloMosaic.Lib.ReduceAll
public import Idealize.ShloMosaic.Lib.WordCmp
/- The roll's reference over the extended reals: its take along the time axis, index by index. -/

@[expose] public section

set_option maxRecDepth 16384

noncomputable section

namespace Cert.Reference3Ideal.Roll

open Cert.Reference3Ideal Cert.Reference3Ideal.Gen Idealize.ShloMosaic Idealize.ShloMosaic.TcCoe

/-- The number of times, as the remainder takes it (1 in place of 0). -/
def modulus : IVec S_ 32 :=
  select (cmpi .eq (id (constantI S_ 32 1024#32)) (constantI S_ 32 0#32)) (constantI S_ 32 1#32) (id (constantI S_ 32 1024#32))

/-- The remainder of time plus start, with the sign of the dividend. -/
def rem0 (s : IVec S32 32) : IVec S1024x32 32 :=
  Host.remsi (addi (broadcastInDim S1024x32 ![0, 1] bcast_S1024x1_S1024x32_0_1 (broadcastInDim S1024x1 ![0] bcast_S1024_S1024x1_0 (iotaInDim S1024 32 0)))
    (broadcastInDim S1024x32 ![0, 1] bcast_S1x32_S1024x32_0_1 (broadcastInDim S1x32 ![1] bcast_S32_S1x32_1 s)))
    (broadcastInDim S1024x32 ![] bcast_S_S1024x32 modulus)

/-- The remainder with the sign of the divisor. -/
def idx (s : IVec S32 32) : IVec S1024x32 32 :=
  select (andi (cmpi .ne (cmpi .slt (rem0 s) (broadcastInDim S1024x32 ![] bcast_S_S1024x32 (constantI S_ 32 0#32)))
      (broadcastInDim S1024x32 ![] bcast_S_S1024x32 (cmpi .slt modulus (constantI S_ 32 0#32))))
      (cmpi .ne (rem0 s) (broadcastInDim S1024x32 ![] bcast_S_S1024x32 (constantI S_ 32 0#32))))
    (addi (rem0 s) (broadcastInDim S1024x32 ![] bcast_S_S1024x32 modulus)) (rem0 s)

/-- The same, with the unit axis the take asks for. -/
def idx3 (s : IVec S32 32) : IVec S1024x32x1 32 := broadcastInDim S1024x32x1 ![0, 1] bcast_S1024x32_S1024x32x1_0_1 (idx s)

/-- The index the take reads, a negative one counted from the end. -/
def idx4 (s : IVec S32 32) : IVec S1024x32x1 32 :=
  select (cmpi .slt (idx3 s) (broadcastInDim S1024x32x1 ![] bcast_S_S1024x32x1 (constantI S_ 32 0#32)))
    (addi (idx3 s) (broadcastInDim S1024x32x1 ![] bcast_S_S1024x32x1 (constantI S_ 32 1024#32))) (idx3 s)

/-- Whether the index lies in the array. -/
def inside (s : IVec S32 32) : IVec S1024x32x1 1 :=
  andi (cmpi .sge (idx4 s) (broadcastInDim S1024x32x1 ![] bcast_S_S1024x32x1 (constantI S_ 32 0#32)))
    (cmpi .sle (idx4 s) (broadcastInDim S1024x32x1 ![0, 1, 2] bcast_S1x1x1_S1024x32x1_0_1_2 (broadcastInDim S1x1x1 ![2] bcast_S1_S1x1x1_2 (constantI S1 32 1023#32))))

/-- The reference's result of its two arguments. -/
def res (v : FVec Ideal S1024x32x512 .bf16) (s : IVec S32 32) : FVec Ideal S1024x32x512 .bf16 :=
  select (broadcastInDim S1024x32x512 ![0, 1] bcast_S1024x32_S1024x32x512_0_1
      (Host.reduce IntOp.andi (inside s) (constantI S_ 1 1#1) reducesTo_S1024x32x1_S1024x32_d2 h_S_))
    (Host.gather gather_S1024x32x512_S1024x32x1_S1024x32x512_2_0_1_1_0_2_11512 v (idx4 s))
    (broadcastInDim S1024x32x512 ![] bcast_S_S1024x32x512 (constant S_ .bf16 0x7FC0#16))

/-- The reference's result in those terms. -/
theorem res_eq (m : (ℓ : Loc nD τ sig) → Buf (Elt Ideal) ℓ) (c : Dev nD) :
    Value.res_main_v8 m c = res (m ((c.tc : Thread nD τ).loc main_arg0)) (m ((c.tc : Thread nD τ).loc main_arg1)) := by
  unfold Value.res_main_v8
  rfl

/-- The modulus is 1024. -/
theorem modulus_eq : modulus = fun _ => 1024#32 := by
  funext i
  rfl

variable (s : IVec S32 32) (hs : Roll.InRange s)
include hs

/-- The remainder at a time and batch entry. -/
theorem rem0_apply (t : Fin 1024) (b : Fin 32) :
    rem0 s (ValueIdx.ix2 t b) = BitVec.ofNat 32 ((t.val + (s (ValueIdx.ix1 b)).toNat) % 1024) := by
  have h := hs b
  have ht := t.isLt
  unfold rem0
  rw [modulus_eq]
  pointwise
  rw [← Roll.remsi_ofNat .host (by omega : t.val + (s (ValueIdx.ix1 b)).toNat < 2048)]
  refine congrArg (fun x => IntOp.remsi .host x 1024#32) ?_
  show BitVec.ofNat 32 t.val + s (ValueIdx.ix1 b) = _
  rw [BitVec.ofNat_add, BitVec.ofNat_toNat, BitVec.setWidth_eq]

omit hs in
/-- A small number's word is not negative. -/
theorem slt_zero {a : ℕ} (ha : a < 1024) : IntOp.cmpi .slt (BitVec.ofNat 32 a) 0#32 = 0#1 := by
  have e : (BitVec.ofNat 32 a).toNat = a := by rw [BitVec.toNat_ofNat]; omega
  refine ValueIdx.eq_zero_of_ne_one ?_
  rw [IntOp.cmpi_slt, Roll.toInt_of_lt (by omega), e]
  have : (0#32 : BitVec 32).toInt = 0 := by decide
  omega

omit hs in
/-- A small number's word lies in the array. -/
theorem within {a : ℕ} (ha : a < 1024) :
    IntOp.andi (IntOp.cmpi .sge (BitVec.ofNat 32 a) 0#32) (IntOp.cmpi .sle (BitVec.ofNat 32 a) 1023#32) = 1#1 := by
  have e : (BitVec.ofNat 32 a).toNat = a := by rw [BitVec.toNat_ofNat]; omega
  rw [IntOp.andi_eq_one, IntOp.cmpi_sge, IntOp.cmpi_sle, Roll.toInt_of_lt (x := BitVec.ofNat 32 a) (by omega), e]
  have h0 : (0#32 : BitVec 32).toInt = 0 := by decide
  have h1 : (1023#32 : BitVec 32).toInt = 1023 := by decide
  omega

/-- It is not negative, so the sign correction leaves it. -/
theorem idx_apply (t : Fin 1024) (b : Fin 32) :
    idx s (ValueIdx.ix2 t b) = BitVec.ofNat 32 ((t.val + (s (ValueIdx.ix1 b)).toNat) % 1024) := by
  unfold idx
  rw [modulus_eq]
  pointwise
  rw [rem0_apply s hs, slt_zero (Nat.mod_lt _ (by decide)), show IntOp.cmpi .slt 1024#32 0#32 = 0#1 from rfl,
    show IntOp.cmpi .ne 0#1 0#1 = 0#1 from rfl]
  generalize IntOp.cmpi .ne (BitVec.ofNat 32 _) 0#32 = c
  have hc : IntOp.andi 0#1 c = 0#1 := by revert c; decide
  rw [hc]
  rfl

/-- Nor does the count from the end touch it. -/
theorem idx4_apply (t : Fin 1024) (b : Fin 32) :
    idx4 s (ValueIdx.ix3 t b 0) = BitVec.ofNat 32 ((t.val + (s (ValueIdx.ix1 b)).toNat) % 1024) := by
  have e : idx3 s (ValueIdx.ix3 t b 0) = idx s (ValueIdx.ix2 t b) := by
    unfold idx3
    pointwise
    rfl
  unfold idx4
  pointwise
  rw [e, idx_apply s hs, slt_zero (Nat.mod_lt _ (by decide))]
  rfl

/-- Every index read lies in the array. -/
theorem inside_apply₃ (t : Fin 1024) (b : Fin 32) : inside s (ValueIdx.ix3 t b 0) = 1#1 := by
  unfold inside
  pointwise
  rw [idx4_apply s hs]
  exact within (Nat.mod_lt _ (by decide))

theorem inside_apply (i : S1024x32x1.Idx) : inside s i = 1#1 := by
  have e : i = ValueIdx.ix3 (⟨(i 0).val, (i 0).isLt⟩ : Fin 1024) (⟨(i 1).val, (i 1).isLt⟩ : Fin 32) (0 : Fin 1) := by
    funext a
    match a with
    | ⟨0, _⟩ => rfl
    | ⟨1, _⟩ => rfl
    | ⟨2, _⟩ => exact Subsingleton.elim (α := Fin 1) _ _
  exact (congrArg (inside s) e).trans (inside_apply₃ s hs _ _)

omit hs in
/-- The take along the time axis at an index: the array at the read index, clamped into the array. -/
theorem gather_apply (v : FVec Ideal S1024x32x512 .bf16) (x : IVec S1024x32x1 32) (t : Fin 1024) (b : Fin 32) (k : Fin 512) :
    Host.gather gather_S1024x32x512_S1024x32x1_S1024x32x512_2_0_1_1_0_2_11512 v x (ValueIdx.ix3 t b k)
      = v (ValueIdx.ix3 ⟨min (x (ValueIdx.ix3 t b 0)).toInt.toNat 1023, by omega⟩ b k) := by
  unfold Host.gather
  refine congrArg v (funext fun a => Fin.ext ?_)
  show GatherDims.start _ _ _ a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.batchCoord_eq_zero _ _ _ (by decide), GatherDims.offCoord_eq_zero _ _ _ (by decide)]
    simp only [Nat.add_zero]
    unfold GatherDims.start
    rw [dif_pos (by decide)]
    have hsi : gather_S1024x32x512_S1024x32x1_S1024x32x512_2_0_1_1_0_2_11512.siIdx (ValueIdx.ix3 t b k) ⟨0, by decide⟩ = ValueIdx.ix3 t b 0 := by
      funext b; refine Fin.ext ?_
      match b with
      | ⟨0, _⟩ => rfl
      | ⟨1, _⟩ => rfl
      | ⟨2, _⟩ => rfl
    exact congrArg (fun i => min (x i).toInt.toNat 1023) hsi
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide)]
    unfold GatherDims.start GatherDims.offCoord
    rw [dif_neg (by decide), dif_pos (by decide)]
    simp only [Nat.zero_add]
    rfl

/-- The reference's result at an index: the array rolled. -/
theorem res_apply (v : FVec Ideal S1024x32x512 .bf16) (t : Fin 1024) (b : Fin 32) (k : Fin 512) :
    res v s (ValueIdx.ix3 t b k) = Roll.rolled v s t b k := by
  have hm : broadcastInDim S1024x32x512 ![0, 1] bcast_S1024x32_S1024x32x512_0_1
      (Host.reduce IntOp.andi (inside s) (constantI S_ 1 1#1) reducesTo_S1024x32x1_S1024x32_d2 h_S_) (ValueIdx.ix3 t b k) = 1#1 := by
    unfold broadcastInDim
    exact Host.reduce_andi_one _ _ _ _ _ rfl (inside_apply s hs)
  unfold res Roll.rolled
  show Scalar.select _ _ _ = _
  rw [hm]
  refine (gather_apply v (idx4 s) t b k).trans ?_
  have hlt := Nat.mod_lt (t.val + (s (ValueIdx.ix1 b)).toNat) (by decide : 1024 > 0)
  have e : (BitVec.ofNat 32 ((t.val + (s (ValueIdx.ix1 b)).toNat) % 1024)).toNat = (t.val + (s (ValueIdx.ix1 b)).toNat) % 1024 := by
    rw [BitVec.toNat_ofNat]; omega
  refine congrArg (fun u => v (ValueIdx.ix3 u b k)) (Fin.ext ?_)
  show min (idx4 s (ValueIdx.ix3 t b 0)).toInt.toNat 1023 = _
  rw [idx4_apply s hs, Roll.toInt_of_lt (by omega), e, Int.toNat_natCast]
  exact Nat.min_eq_left (by omega)

end Cert.Reference3Ideal.Roll

end
-- ==== Proof.Hand.Roll.Wide.Kernel.lean ====
module

public import proofs.«01_k».proof.Proof.Gen.Kernel4Ideal.Frame
public import proofs.«01_k».proof.Proof.Hand.Roll.Kernel
public import Idealize.ShloMosaic.Lib.Pointwise
public import Idealize.ShloMosaic.Lib.Pipeline.ValueKit
public import Idealize.ShloMosaic.Lib.Pipeline.Value
public import Idealize.ShloMosaic.Lib.ValueIdxCore
public import Idealize.ShloMosaic.PureOps.IdealRules
/- What the body of the roll of the layers' input leaves at each grid point, over the extended reals: its selection of times
   is the narrower roll's, on rows of 1024. -/

@[expose] public section

set_option maxRecDepth 16384

noncomputable section

namespace Cert.Kernel4Ideal.Gen

open Idealize.ShloMosaic Idealize.ShloMosaic.TcCoe Idealize.ShloMosaic.Pipeline

/-- The block of one batch entry, rolled by its start. -/
theorem block_apply (w : BitVec 32) (hw : w.toNat < 1024) (x : FVec Ideal S1024x1024 .bf16) (t : Fin 1024) (k : Fin 1024) :
    k0_pay3 (F := Ideal) (k0_pay2 (F := Ideal) w (k0_pay1 (F := Ideal))) x (ValueIdx.ix2 t k)
      = x (ValueIdx.ix2 (⟨(t.val + w.toNat) % 1024, Nat.mod_lt _ (by decide)⟩ : Fin 1024) k) := by
  unfold k0_pay3
  pointwise
  refine (Finset.sum_eq_single (⟨(t.val + w.toNat) % 1024, Nat.mod_lt _ (by decide)⟩ : Fin 1024) (fun u _ hu => ?_)
    (fun h => absurd (Finset.mem_univ _) h)).trans ?_
  · exact (congrArg (· * _) ((Cert.Kernel3Ideal.Gen.sel_apply w hw t u).trans (if_neg hu))).trans (zero_mul _)
  · exact (congrArg (· * _) ((Cert.Kernel3Ideal.Gen.sel_apply w hw t _).trans (if_pos rfl))).trans (one_mul _)

variable (m : (ℓ : Loc nD τ sig) → Buf (Elt Ideal) ℓ)

/-- The carried table after every point. -/
theorem table_eq (hO : Ok m) (c : Dev nD) (n : ℕ) (hn : n < (cfgM m hO).N) : (outsAt0 m hO c n hn).2 = k0_pay1 (F := Ideal) := by
  induction n with
  | zero =>
    refine (congrArg Prod.snd (outsAt0_A m hO c ⟨0, hn⟩ rfl)).trans ?_
    dsimp only
    frame_out
  | succ n ih =>
    have hN : n + 1 < 32 := lt_of_lt_of_eq hn N_0
    refine (congrArg Prod.snd (outsAt0_B m hO c ⟨n + 1, hn⟩ (by dsimp only; omega))).trans ?_
    dsimp only
    unfold sout0_B_0
    exact ih _

/-- The place of the start the body reads at a point: its batch entry's. -/
theorem coords_val : ∀ t : Fin grid0.N, k0_off1 (grid0.coords t) 0 = t.val := by decide +kernel

/-- The block a point leaves. -/
theorem out_eq (hO : Ok m) (c : Dev nD) (t : Fin (cfgM m hO).N) :
    (outsAt0 m hO c t.val t.isLt).1
      = k0_pay3 (F := Ideal) (k0_pay2 (F := Ideal) (tbl m 0 (ValueIdx.ix1 (⟨t.val, lt_of_lt_of_eq t.isLt N_0⟩ : Fin 32))) (k0_pay1 (F := Ideal))) (iblk m hO c 0 t) := by
  have hw : ∀ (r : S32.Idx), (r 0).val = t.val → r = ValueIdx.ix1 (⟨t.val, lt_of_lt_of_eq t.isLt N_0⟩ : Fin 32) := fun r h =>
    funext fun a => by obtain rfl : a = 0 := Subsingleton.elim _ _; exact Fin.ext h
  by_cases h0 : t.val % 32 = 0
  · rw [outsAt0_A m hO c t h0]
    dsimp only
    frame_out
    exact congrArg₂ (fun w x => k0_pay3 (F := Ideal) (k0_pay2 (F := Ideal) w (k0_pay1 (F := Ideal))) x)
      (congrArg (tbl m 0) (hw _ (coords_val t))) ((hs0_0 m hO t).read_unread _)
  · rw [outsAt0_B m hO c t h0]
    dsimp only
    frame_out
    have hs : ∀ X : Vec Ideal S1024x1024 .f32, X = k0_pay1 (F := Ideal) →
        View.read (Elt Ideal) (View.whole cc0_scratch0) ((Memref.isWhole_whole cc0_scratch0).unread X) = k0_pay1 (F := Ideal) := fun X h =>
      ((Memref.isWhole_whole cc0_scratch0).read_unread X).trans h
    exact congr (congrArg₂ (fun w s x => k0_pay3 (F := Ideal) (k0_pay2 (F := Ideal) w s) x)
      (congrArg (tbl m 0) (hw _ (coords_val t))) (hs _ (table_eq m hO c _ _))) ((hs0_0 m hO t).read_unread _)

end Cert.Kernel4Ideal.Gen

end
-- ==== Proof.Hand.Roll.Wide.KernelValue.lean ====
module

public import proofs.«01_k».proof.Proof.Hand.Roll.Wide.Kernel
/- The result of the roll of the layers' input over the extended reals: every block it reads and writes by its place in the arrays. -/

@[expose] public section

set_option maxRecDepth 16384

noncomputable section

namespace Cert.Kernel4Ideal.Gen

open Idealize.ShloMosaic Idealize.ShloMosaic.TcCoe Idealize.ShloMosaic.Pipeline

variable (m : (ℓ : Loc nD τ sig) → Buf (Elt Ideal) ℓ) (ρ : Dev nD → PrngReg)

/-- The reshape before the call. -/
theorem V_v0_eq (c : Dev nD) :
    V m c main_v0 = shapeCast S1024x32768 (m ((c : Thread nD τ).loc main_arg0) : FVec Ideal S1024x32x1024 .bf16) shapeCasts_S1024x32x1024_S1024x32768 := by
  show StableHlo.after hostOps0 (fun b => m (c, b)) (Proc.devRef .tc main_v0) = _
  after_results
  rfl

/-- The array the call reads: the batch entries side by side. -/
theorem V_v0 (c : Dev nD) (u : Fin 1024) (b : Fin 32) (k : Fin 1024) :
    (V m c main_v0 : FVec Ideal S1024x32768 .bf16) (ValueIdx.ix2 u (⟨1024 * b.val + k.val, by omega⟩ : Fin 32768))
      = (m ((c : Thread nD τ).loc main_arg0) : FVec Ideal S1024x32x1024 .bf16) (ValueIdx.ix3 u b k) := by
  refine (congrFun (V_v0_eq m c) _).trans (shapeCast_apply (s := S1024x32x1024) (t := S1024x32768) _ _ _ _ ?_)
  rw [Shape.rowMajor_val_two, Shape.rowMajor_val_three]
  show (u.val * 32 + b.val) * 1024 + k.val = u.val * 32768 + (1024 * b.val + k.val)
  omega

/-- Grid point `t` reads batch entry `t`'s columns. -/
theorem index_0 (hO : Ok m) : ∀ t : Fin (cfgM m hO).N, ((cfgM m hO).win 0).index t = ![0, t.val] :=
  (by decide +kernel : ∀ t : Fin grid0.N, cc0_transform_0 (grid0.coords t) = ![0, t.val])

/-- Grid point `t` writes batch entry `t`'s columns. -/
theorem index_1 (hO : Ok m) : ∀ t : Fin (cfgM m hO).N, ((cfgM m hO).win 1).index t = ![0, t.val] :=
  (by decide +kernel : ∀ t : Fin grid0.N, cc0_transform_1 (grid0.coords t) = ![0, t.val])

/-- Where a written block's entry lies in the array. -/
theorem emb_1 (hO : Ok m) (t : Fin (cfgM m hO).N) (u : Fin 1024) (k : Fin 1024) :
    ((((cfgM m hO).win 1).rect t).emb (ValueIdx.ix2 u k) : S1024x32768.Idx)
      = ValueIdx.ix2 u (⟨(1024 * t.val + k.val) % 32768, Nat.mod_lt _ (by decide)⟩ : Fin 32768) := by
  have ht : t.val < 32 := Nat.lt_of_lt_of_eq t.isLt N_0
  refine Shape.idx_ext₂ ?_ ?_
  · refine (Window.rect_emb_val ((cfgM m hO).win 1) t _ (show Fin 2 from 0)).trans ?_
    rw [index_1 m hO t]
    show 0 * 1024 + u.val = u.val
    omega
  · refine (Window.rect_emb_val ((cfgM m hO).win 1) t _ (show Fin 2 from 1)).trans ?_
    rw [index_1 m hO t]
    have hk := k.isLt
    show t.val * 1024 + k.val = (1024 * t.val + k.val) % 32768
    omega

/-- The block read at a grid point: one batch entry of the argument. -/
theorem iblk_0 (hO : Ok m) (c : Dev nD) (t : Fin (cfgM m hO).N) (u : Fin 1024) (k : Fin 1024) :
    iblk m hO c 0 t (ValueIdx.ix2 u k) = m ((c : Thread nD τ).loc main_arg0)
      (ValueIdx.ix3 u (⟨t.val, Nat.lt_of_lt_of_eq t.isLt N_0⟩ : Fin 32) k) := by
  have ht : t.val < 32 := Nat.lt_of_lt_of_eq t.isLt N_0
  refine Eq.trans ?_ (V_v0 m c u _ k)
  show V m c main_v0 ((((cfgM m hO).win 0).rect t).emb (ValueIdx.ix2 u k)) = _
  refine congrArg (V m c main_v0) (Shape.idx_ext₂ ?_ ?_)
  · refine (Window.rect_emb_val ((cfgM m hO).win 0) t _ (show Fin 2 from 0)).trans ?_
    rw [index_0 m hO t]
    show 0 * 1024 + u.val = u.val
    omega
  · refine (Window.rect_emb_val ((cfgM m hO).win 0) t _ (show Fin 2 from 1)).trans ?_
    rw [index_0 m hO t]
    show t.val * 1024 + k.val = 1024 * t.val + k.val
    omega

/-- The pipeline's result array: the batch entries side by side, each rolled by its start. -/
def flat (v : FVec Ideal S1024x32x1024 .bf16) (s : IVec S32 32) : FVec Ideal S1024x32768 .bf16 := fun i =>
  Roll.rolled v s ⟨(i 0).val, (i 0).isLt⟩ ⟨(i 1).val / 1024, by have : (i 1).val < 32768 := (i 1).isLt; omega⟩
    ⟨(i 1).val % 1024, Nat.mod_lt _ (by decide)⟩

/-- The starts of the one device. -/
theorem tbl_eq (c : Dev nD) : tbl m 0 = m ((c : Thread nD τ).loc main_arg1) := (V_pre m c 0).symm.trans (V_main_arg1 m c)

/-- The block a grid point leaves, by its place in the result array. -/
theorem out_apply (hO : Ok m) (c : Dev nD) (hs : Roll.InRange (m ((c : Thread nD τ).loc main_arg1))) (t : Fin (cfgM m hO).N) (u : Fin 1024) (k : Fin 1024) :
    (outsAt0 m hO c t.val t.isLt).1 (ValueIdx.ix2 u k)
      = flat (m ((c : Thread nD τ).loc main_arg0)) (m ((c : Thread nD τ).loc main_arg1))
          (ValueIdx.ix2 u (⟨(1024 * t.val + k.val) % 32768, Nat.mod_lt _ (by decide)⟩ : Fin 32768)) := by
  have ht : t.val < 32 := Nat.lt_of_lt_of_eq t.isLt N_0
  have hk := k.isLt
  have e1 : (1024 * t.val + k.val) % 32768 / 1024 = t.val := by omega
  have e2 : (1024 * t.val + k.val) % 32768 % 1024 = k.val := by omega
  rw [out_eq, tbl_eq m c]
  refine (block_apply _ (hs _) _ u k).trans ((iblk_0 m hO c t _ k).trans ?_)
  unfold flat Roll.rolled
  dsimp only [ValueIdx.ix2]
  simp only [e1, e2]
  rfl

/-- The pipeline's result array. -/
theorem arr_eq (hO : Ok m) (c : Dev nD) (hs : Roll.InRange (m ((c : Thread nD τ).loc main_arg1))) :
    (dats m hO 0 c).arrAt 1 (cfgM m hO).N = flat (m ((c : Thread nD τ).loc main_arg0)) (m ((c : Thread nD τ).loc main_arg1)) := by
  refine Dat.arrAt_eq_of_cover (dats m hO 0 c) 1 _ (fun t _ => ?_) (fun (i : S1024x32768.Idx) => ?_)
  · refine Eq.trans (b := (outsAt0 m hO c t.val t.isLt).1) rfl ?_
    funext y
    refine (congrArg (outsAt0 m hO c t.val t.isLt).1 (ValueIdx.eq_ix2 (y : (a : Fin 2) → Fin (S1024x1024.size a)))).trans ((out_apply m hO c hs t _ _).trans ?_)
    show _ = flat (m ((c : Thread nD τ).loc main_arg0)) (m ((c : Thread nD τ).loc main_arg1)) ((((cfgM m hO).win 1).rect t).emb y)
    refine congrArg _ ((emb_1 m hO t (y 0) (y 1)).symm.trans (congrArg (((cfgM m hO).win 1).rect t).emb (ValueIdx.eq_ix2 (y : (a : Fin 2) → Fin (S1024x1024.size a))).symm))
  · have hi : (i 1).val < 32768 := (i 1).isLt
    have hN : (i 1).val / 1024 < (cfgM m hO).N := Nat.lt_of_lt_of_eq (by omega : _ < 32) N_0.symm
    refine ⟨⟨(i 1).val / 1024, hN⟩, flush0_1 _ _, ?_⟩
    have e := emb_1 m hO ⟨_, hN⟩ (⟨(i 0).val, (i 0).isLt⟩ : Fin 1024) (⟨(i 1).val % 1024, Nat.mod_lt _ (by decide)⟩ : Fin 1024)
    have e2 : i = (((cfgM m hO).win 1).blk ⟨_, hN⟩).view.emb (ValueIdx.ix2 (⟨(i 0).val, (i 0).isLt⟩ : Fin 1024) (⟨(i 1).val % 1024, Nat.mod_lt _ (by decide)⟩ : Fin 1024)) := by
      refine Eq.trans ?_ e.symm
      refine Shape.idx_ext₂ rfl ?_
      show (i 1).val = (1024 * ((i 1).val / 1024) + (i 1).val % 1024) % 32768
      omega
    have hm := View.emb_mem_set (((cfgM m hO).win 1).blk ⟨_, hN⟩).view (ValueIdx.ix2 (⟨(i 0).val, (i 0).isLt⟩ : Fin 1024) (⟨(i 1).val % 1024, Nat.mod_lt _ (by decide)⟩ : Fin 1024))
    rw [← e2] at hm
    exact hm

/-- What the reshape after the call leaves. -/
theorem tail_eq (hO : Ok m) (c : Dev nD) :
    Pipeline.afterTail pcfgs (fun _ => adm m hO) (dats m hO) 0 (V0 m) [hostOps1] c main_v2
      = shapeCast S1024x32x1024 ((dats m hO 0 c).arrAt 1 (cfgM m hO).N : FVec Ideal S1024x32768 .bf16) shapeCasts_S1024x32768_S1024x32x1024 := by
  have hv1 : Pipeline.withArrays ((Pipeline.pin pcfgs fun _ => adm m hO) 0).spec c (V0 m c)
      (fun w => (dats m hO 0 c).arrAt w ((Pipeline.pin pcfgs fun _ => adm m hO) 0).N) (Proc.devRef .tc main_v1)
      = (dats m hO 0 c).arrAt 1 (cfgM m hO).N :=
    Pipeline.withArrays_arr spec0 (by decide) c (V0 m c) _ 1
  rw [← hv1]
  unfold Pipeline.afterTail
  show StableHlo.after hostOps1 _ (Proc.devRef .tc main_v2) = _
  after_results
  rfl

/-- The call's result, entry by entry. -/
theorem result_apply (hO : Ok m) (c : Dev nD) (hs : Roll.InRange (m ((c : Thread nD τ).loc main_arg1))) (t : Fin 1024) (b : Fin 32) (k : Fin 1024) :
    (Pipeline.afterTail pcfgs (fun _ => adm m hO) (dats m hO) 0 (V0 m) [hostOps1] c main_v2 : FVec Ideal S1024x32x1024 .bf16) (ValueIdx.ix3 t b k)
      = Roll.rolled (m ((c : Thread nD τ).loc main_arg0)) (m ((c : Thread nD τ).loc main_arg1)) t b k := by
  have hk := k.isLt
  have hb := b.isLt
  have e1 : (1024 * b.val + k.val) / 1024 = b.val := by omega
  have e2 : (1024 * b.val + k.val) % 1024 = k.val := by omega
  rw [tail_eq, arr_eq m hO c hs]
  refine (shapeCast_apply _ _ _ (ValueIdx.ix2 t (⟨1024 * b.val + k.val, by omega⟩ : Fin 32768)) ?_).trans ?_
  · rw [Shape.rowMajor_val_two, Shape.rowMajor_val_three]
    show t.val * 32768 + (1024 * b.val + k.val) = (t.val * 32 + b.val) * 1024 + k.val
    omega
  · unfold flat
    dsimp only [ValueIdx.ix2]
    simp only [e1, e2]

/-- The call runs, ends with its result as above, leaves its arguments as they were and every counter at zero. -/
theorem run_values (hO : Ok m) (hs : ∀ c : Dev nD, Roll.InRange (m ((c : Thread nD τ).loc main_arg1))) :
    θ_run defs (onTc (τ := τ) (main (F := Ideal))) ⟨m, fun _ => 0, ρ⟩ (fun r => ∀ c : Dev nD,
      r.2.mem ((c.tc : Thread nD τ).loc main_v2) = (fun i : S1024x32x1024.Idx =>
        Roll.rolled (m ((c : Thread nD τ).loc main_arg0)) (m ((c : Thread nD τ).loc main_arg1)) (⟨(i 0).val, (i 0).isLt⟩ : Fin 1024) (⟨(i 1).val, (i 1).isLt⟩ : Fin 32) (⟨(i 2).val, (i 2).isLt⟩ : Fin 1024))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ hO)
  · refine ((h c).2 main_v2 (by decide : main_v2 ∈ Pipeline.restRefs sig spec0)).trans (funext fun i => ?_)
    exact (congrArg _ (ValueIdx.eq_ix3 (i : S1024x32x1024.Idx))).trans (result_apply m hO c (hs c) _ _ _)
  · exact ((h c).2 main_arg0 (by decide : main_arg0 ∈ Pipeline.restRefs sig spec0)).trans (W_main_arg0 m hO (dats m hO) c)
  · exact ((h c).2 main_arg1 (by decide : main_arg1 ∈ Pipeline.restRefs sig spec0)).trans (W_main_arg1 m hO (dats m hO) c)

end Cert.Kernel4Ideal.Gen

end
-- ==== Proof.Hand.Roll.Wide.RefValue.lean ====
module

public import proofs.«01_k».proof.Proof.Gen.Reference4Ideal.Run
public import proofs.«01_k».proof.Proof.Hand.Roll.RefValue
public import Idealize.ShloMosaic.Lib.Pointwise
public import Idealize.ShloMosaic.Lib.ReduceAll
public import Idealize.ShloMosaic.Lib.WordCmp
/- The reference of the roll of the layers' input over the extended reals: its indices are the narrower roll's. -/

@[expose] public section

set_option maxRecDepth 16384

noncomputable section

namespace Cert.Reference4Ideal.Roll

open Cert.Reference3Ideal.Roll (idx4 idx4_apply inside inside_apply)
open Cert.Reference4Ideal Cert.Reference4Ideal.Gen Idealize.ShloMosaic Idealize.ShloMosaic.TcCoe

/-- The reference's result of its two arguments. -/
def res (v : FVec Ideal S1024x32x1024 .bf16) (s : IVec S32 32) : FVec Ideal S1024x32x1024 .bf16 :=
  select (broadcastInDim S1024x32x1024 ![0, 1] bcast_S1024x32_S1024x32x1024_0_1
      (Host.reduce IntOp.andi (inside s) (constantI S_ 1 1#1) reducesTo_S1024x32x1_S1024x32_d2 h_S_))
    (Host.gather gather_S1024x32x1024_S1024x32x1_S1024x32x1024_2_0_1_1_0_2_111024 v (idx4 s))
    (broadcastInDim S1024x32x1024 ![] bcast_S_S1024x32x1024 (constant S_ .bf16 0x7FC0#16))

/-- The reference's result in those terms. -/
theorem res_eq (m : (ℓ : Loc nD τ sig) → Buf (Elt Ideal) ℓ) (c : Dev nD) :
    Value.res_main_v8 m c = res (m ((c.tc : Thread nD τ).loc main_arg0)) (m ((c.tc : Thread nD τ).loc main_arg1)) := by
  unfold Value.res_main_v8
  rfl

variable (s : IVec S32 32) (hs : Roll.InRange s)
include hs

omit hs in
/-- The take along the time axis at an index: the array at the read index, clamped into the array. -/
theorem gather_apply (v : FVec Ideal S1024x32x1024 .bf16) (x : IVec S1024x32x1 32) (t : Fin 1024) (b : Fin 32) (k : Fin 1024) :
    Host.gather gather_S1024x32x1024_S1024x32x1_S1024x32x1024_2_0_1_1_0_2_111024 v x (ValueIdx.ix3 t b k)
      = v (ValueIdx.ix3 ⟨min (x (ValueIdx.ix3 t b 0)).toInt.toNat 1023, by omega⟩ b k) := by
  unfold Host.gather
  refine congrArg v (funext fun a => Fin.ext ?_)
  show GatherDims.start _ _ _ a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.batchCoord_eq_zero _ _ _ (by decide), GatherDims.offCoord_eq_zero _ _ _ (by decide)]
    simp only [Nat.add_zero]
    unfold GatherDims.start
    rw [dif_pos (by decide)]
    have hsi : gather_S1024x32x1024_S1024x32x1_S1024x32x1024_2_0_1_1_0_2_111024.siIdx (ValueIdx.ix3 t b k) ⟨0, by decide⟩ = ValueIdx.ix3 t b 0 := by
      funext b; refine Fin.ext ?_
      match b with
      | ⟨0, _⟩ => rfl
      | ⟨1, _⟩ => rfl
      | ⟨2, _⟩ => rfl
    exact congrArg (fun i => min (x i).toInt.toNat 1023) hsi
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide)]
    unfold GatherDims.start GatherDims.offCoord
    rw [dif_neg (by decide), dif_pos (by decide)]
    simp only [Nat.zero_add]
    rfl

/-- The reference's result at an index: the array rolled. -/
theorem res_apply (v : FVec Ideal S1024x32x1024 .bf16) (t : Fin 1024) (b : Fin 32) (k : Fin 1024) :
    res v s (ValueIdx.ix3 t b k) = Roll.rolled v s t b k := by
  have hm : broadcastInDim S1024x32x1024 ![0, 1] bcast_S1024x32_S1024x32x1024_0_1
      (Host.reduce IntOp.andi (inside s) (constantI S_ 1 1#1) reducesTo_S1024x32x1_S1024x32_d2 h_S_) (ValueIdx.ix3 t b k) = 1#1 := by
    unfold broadcastInDim
    exact Host.reduce_andi_one _ _ _ _ _ rfl (inside_apply s hs)
  unfold res Roll.rolled
  show Scalar.select _ _ _ = _
  rw [hm]
  refine (gather_apply v (idx4 s) t b k).trans ?_
  have hlt := Nat.mod_lt (t.val + (s (ValueIdx.ix1 b)).toNat) (by decide : 1024 > 0)
  have e : (BitVec.ofNat 32 ((t.val + (s (ValueIdx.ix1 b)).toNat) % 1024)).toNat = (t.val + (s (ValueIdx.ix1 b)).toNat) % 1024 := by
    rw [BitVec.toNat_ofNat]; omega
  refine congrArg (fun u => v (ValueIdx.ix3 u b k)) (Fin.ext ?_)
  show min (idx4 s (ValueIdx.ix3 t b 0)).toInt.toNat 1023 = _
  rw [idx4_apply s hs, Roll.toInt_of_lt (by omega), e, Int.toNat_natCast]
  exact Nat.min_eq_left (by omega)

end Cert.Reference4Ideal.Roll

end
-- ==== Proof.Hand.Roll.In.Kernel.lean ====
module

public import proofs.«01_k».proof.Proof.Gen.Kernel5Ideal.Frame
public import proofs.«01_k».proof.Proof.Hand.Roll.Wide.Kernel
public import Idealize.ShloMosaic.Lib.Pointwise
public import Idealize.ShloMosaic.Lib.Pipeline.ValueKit
public import Idealize.ShloMosaic.Lib.Pipeline.Value
public import Idealize.ShloMosaic.Lib.ValueIdxCore
public import Idealize.ShloMosaic.PureOps.IdealRules
/- What the roll's body leaves at each grid point in the making of the first layer's inputs: the block of the wide roll. -/

@[expose] public section

set_option maxRecDepth 16384

noncomputable section

namespace Cert.Kernel5Ideal.Gen

open Idealize.ShloMosaic Idealize.ShloMosaic.TcCoe Idealize.ShloMosaic.Pipeline

/-- The block of one batch entry, rolled by its start. -/
theorem block_apply (w : BitVec 32) (hw : w.toNat < 1024) (x : FVec Ideal S1024x1024 .bf16) (t : Fin 1024) (k : Fin 1024) :
    k0_pay3 (F := Ideal) (k0_pay2 (F := Ideal) w (k0_pay1 (F := Ideal))) x (ValueIdx.ix2 t k)
      = x (ValueIdx.ix2 (⟨(t.val + w.toNat) % 1024, Nat.mod_lt _ (by decide)⟩ : Fin 1024) k) :=
  Cert.Kernel4Ideal.Gen.block_apply w hw x t k

variable (m : (ℓ : Loc nD τ sig) → Buf (Elt Ideal) ℓ)

/-- The carried table after every point. -/
theorem table_eq (hO : Ok m) (c : Dev nD) (n : ℕ) (hn : n < (cfgM m hO).N) : (outsAt0 m hO c n hn).2 = k0_pay1 (F := Ideal) := by
  induction n with
  | zero =>
    refine (congrArg Prod.snd (outsAt0_A m hO c ⟨0, hn⟩ rfl)).trans ?_
    dsimp only
    frame_out
  | succ n ih =>
    have hN : n + 1 < 32 := lt_of_lt_of_eq hn N_0
    refine (congrArg Prod.snd (outsAt0_B m hO c ⟨n + 1, hn⟩ (by dsimp only; omega))).trans ?_
    dsimp only
    unfold sout0_B_0
    exact ih _

/-- The place of the start the body reads at a point: its batch entry's. -/
theorem coords_val : ∀ t : Fin grid0.N, k0_off1 (grid0.coords t) 0 = t.val := by decide +kernel

/-- The block a point leaves. -/
theorem out_eq (hO : Ok m) (c : Dev nD) (t : Fin (cfgM m hO).N) :
    (outsAt0 m hO c t.val t.isLt).1
      = k0_pay3 (F := Ideal) (k0_pay2 (F := Ideal) (tbl m 0 (ValueIdx.ix1 (⟨t.val, lt_of_lt_of_eq t.isLt N_0⟩ : Fin 32))) (k0_pay1 (F := Ideal))) (iblk m hO c 0 t) := by
  have hw : ∀ (r : S32.Idx), (r 0).val = t.val → r = ValueIdx.ix1 (⟨t.val, lt_of_lt_of_eq t.isLt N_0⟩ : Fin 32) := fun r h =>
    funext fun a => by obtain rfl : a = 0 := Subsingleton.elim _ _; exact Fin.ext h
  by_cases h0 : t.val % 32 = 0
  · rw [outsAt0_A m hO c t h0]
    dsimp only
    frame_out
    exact congrArg₂ (fun w x => k0_pay3 (F := Ideal) (k0_pay2 (F := Ideal) w (k0_pay1 (F := Ideal))) x)
      (congrArg (tbl m 0) (hw _ (coords_val t))) ((hs0_0 m hO t).read_unread _)
  · rw [outsAt0_B m hO c t h0]
    dsimp only
    frame_out
    have hs : ∀ X : Vec Ideal S1024x1024 .f32, X = k0_pay1 (F := Ideal) →
        View.read (Elt Ideal) (View.whole cc0_scratch0) ((Memref.isWhole_whole cc0_scratch0).unread X) = k0_pay1 (F := Ideal) := fun X h =>
      ((Memref.isWhole_whole cc0_scratch0).read_unread X).trans h
    exact congr (congrArg₂ (fun w s x => k0_pay3 (F := Ideal) (k0_pay2 (F := Ideal) w s) x)
      (congrArg (tbl m 0) (hw _ (coords_val t))) (hs _ (table_eq m hO c _ _))) ((hs0_0 m hO t).read_unread _)

end Cert.Kernel5Ideal.Gen

end
-- ==== Proof.Hand.Roll.Flip.lean ====
module

public import proofs.«01_k».proof.Proof.Hand.Roll.Math
/- The lengths of the sequences, and the flip of a sequence at its length: what the roll by a start taken from a length
   comes to when one of the two time orders is read from its end. -/

@[expose] public section

noncomputable section

namespace Roll

open Idealize.ShloMosaic

/-- Every length is at most the number of times. -/
def LengthsOk (l : IVec ⟨1, ![32]⟩ 32) : Prop := ∀ b : Fin 32, (l (ValueIdx.ix1 b)).toNat ≤ 1024

/-- A word between 0 and 1024 in signed reading is at most 1024 in unsigned reading. -/
theorem toNat_le_of_signed {x : BitVec 32} (h0 : 0 ≤ x.toInt) (h1 : x.toInt ≤ 1024) : x.toNat ≤ 1024 := by
  rw [BitVec.toInt_eq_toNat_cond] at h0 h1
  have := x.isLt
  split at h0 <;> split at h1 <;> omega

/-- The first layer's two inputs at an index: the sequences, and the sequences from the length on, round the end. -/
def firstInput (x : FVec Ideal ⟨3, ![32, 1024, 1024]⟩ .f32) (l : IVec ⟨1, ![32]⟩ 32) (d : Fin 2) (t : Fin 1024) (b : Fin 32) (k : Fin 1024) : EReal :=
  if d.val < 1 then x (ValueIdx.ix3 b t k)
  else x (ValueIdx.ix3 b (⟨(t.val + (l (ValueIdx.ix1 b)).toNat % 1024) % 1024, Nat.mod_lt _ (by decide)⟩ : Fin 1024) k)

/-- The kernel's result at an index: the forward states, and the backward states rolled back. -/
def lastOutput (f w : FVec Ideal ⟨3, ![1024, 32, 512]⟩ .bf16) (l : IVec ⟨1, ![32]⟩ 32) (b : Fin 32) (t : Fin 1024) (k : Fin 1024) : EReal :=
  if h : k.val < 512 then f (ValueIdx.ix3 t b (⟨k.val, h⟩ : Fin 512))
  else w (ValueIdx.ix3 (⟨(t.val + (1024 - (l (ValueIdx.ix1 b)).toNat) % 1024) % 1024, Nat.mod_lt _ (by decide)⟩ : Fin 1024) b
    (⟨k.val - 512, by omega⟩ : Fin 512))

/-- The start that flips a sequence read from its front into one read from its end: the length, round the end. -/
theorem toNat_start (l : BitVec 32) (h : l.toNat ≤ 1024) : (IntOp.remsi .host l 1024#32).toNat = l.toNat % 1024 := by
  have e : l = BitVec.ofNat 32 l.toNat := by rw [BitVec.ofNat_toNat, BitVec.setWidth_eq]
  rw [e, remsi_ofNat .host (by omega), BitVec.toNat_ofNat, BitVec.toNat_ofNat]
  omega

/-- The start that turns one read from its end into one read from its front: the rest of the times. -/
theorem toNat_start_rest (l : BitVec 32) (h : l.toNat ≤ 1024) :
    (IntOp.remsi .host (IntOp.subi 1024#32 l) 1024#32).toNat = (1024 - l.toNat) % 1024 := by
  have e : IntOp.subi 1024#32 l = BitVec.ofNat 32 (1024 - l.toNat) := by
    refine BitVec.eq_of_toNat_eq ?_
    show (1024#32 - l).toNat = _
    have := l.isLt
    simp only [BitVec.toNat_sub, BitVec.toNat_ofNat]
    omega
  rw [e, remsi_ofNat .host (by omega), BitVec.toNat_ofNat]
  omega

end Roll

end
-- ==== Proof.Hand.Roll.In.Index.lean ====
module

public import proofs.«01_k».proof.Proof.Gen.Reference5Ideal.Run
public import proofs.«01_k».proof.Proof.Hand.Roll.Flip
public import proofs.«01_k».proof.Proof.Hand.Roll.RefValue
/- The lengths over the extended reals, and the index the flip of a sequence takes along its time axis. -/

@[expose] public section

set_option maxRecDepth 16384

noncomputable section

namespace Cert.Reference5Ideal.Roll

open Cert.Reference5Ideal Cert.Reference5Ideal.Gen Idealize.ShloMosaic Idealize.ShloMosaic.TcCoe

/-- The lengths, from the paddings. -/
def lens (p : FVec Ideal S32x1024 .f32) : IVec S32 32 :=
  fptosi 32 (Host.reduceAdd (subf (broadcastInDim S32x1024 ![] bcast_S_S32x1024 (constant S_ .f32 0x3F800000#32)) p) (constant S_ .f32 0x00000000#32)
    reducesTo_S32x1024_S32_d1 h_S_)

/-- The number of times, as the remainder takes it (1 in place of 0). -/
def modulus : IVec S_ 32 :=
  select (cmpi .eq (id (constantI S_ 32 1024#32)) (constantI S_ 32 0#32)) (constantI S_ 32 1#32) (id (constantI S_ 32 1024#32))

/-- The remainder of the time from the end plus the length, with the sign of the dividend. -/
def rem0 (s : IVec S32 32) : IVec S32x1024 32 :=
  Host.remsi (addi (broadcastInDim S32x1024 ![0, 1] bcast_S1x1024_S32x1024_0_1 (broadcastInDim S1x1024 ![1] bcast_S1024_S1x1024_1
      (addi (broadcastInDim S1024 ![] bcast_S_S1024 (constantI S_ 32 1023#32))
        (muli (broadcastInDim S1024 ![] bcast_S_S1024 (constantI S_ 32 4294967295#32)) (iotaInDim S1024 32 0)))))
    (broadcastInDim S32x1024 ![0, 1] bcast_S32x1_S32x1024_0_1 (broadcastInDim S32x1 ![0] bcast_S32_S32x1_0 s)))
    (broadcastInDim S32x1024 ![] bcast_S_S32x1024 modulus)

/-- The remainder with the sign of the divisor. -/
def idx (s : IVec S32 32) : IVec S32x1024 32 :=
  select (andi (cmpi .ne (cmpi .slt (rem0 s) (broadcastInDim S32x1024 ![] bcast_S_S32x1024 (constantI S_ 32 0#32)))
      (broadcastInDim S32x1024 ![] bcast_S_S32x1024 (cmpi .slt modulus (constantI S_ 32 0#32))))
      (cmpi .ne (rem0 s) (broadcastInDim S32x1024 ![] bcast_S_S32x1024 (constantI S_ 32 0#32))))
    (addi (rem0 s) (broadcastInDim S32x1024 ![] bcast_S_S32x1024 modulus)) (rem0 s)

/-- The same, with the unit axis the take asks for. -/
def idx3 (s : IVec S32 32) : IVec S32x1024x1 32 := broadcastInDim S32x1024x1 ![0, 1] bcast_S32x1024_S32x1024x1_0_1 (idx s)

/-- The index the take reads, a negative one counted from the end. -/
def idx4 (s : IVec S32 32) : IVec S32x1024x1 32 :=
  select (cmpi .slt (idx3 s) (broadcastInDim S32x1024x1 ![] bcast_S_S32x1024x1 (constantI S_ 32 0#32)))
    (addi (idx3 s) (broadcastInDim S32x1024x1 ![] bcast_S_S32x1024x1 (constantI S_ 32 1024#32))) (idx3 s)

/-- Whether the index lies in the array. -/
def inside (s : IVec S32 32) : IVec S32x1024x1 1 :=
  andi (cmpi .sge (idx4 s) (broadcastInDim S32x1024x1 ![] bcast_S_S32x1024x1 (constantI S_ 32 0#32)))
    (cmpi .sle (idx4 s) (broadcastInDim S32x1024x1 ![0, 1, 2] bcast_S1x1x1_S32x1024x1_0_1_2 (broadcastInDim S1x1x1 ![2] bcast_S1_S1x1x1_2 (constantI S1 32 1023#32))))

/-- The modulus is 1024. -/
theorem modulus_eq : modulus = fun _ => 1024#32 := by
  funext i
  rfl

/-- The time from the end. -/
theorem rev_toNat (t : Fin 1024) : IntOp.addi 1023#32 (IntOp.muli 4294967295#32 (BitVec.ofNat 32 t.val)) = BitVec.ofNat 32 (1023 - t.val) := by
  have ht := t.isLt
  refine BitVec.eq_of_toNat_eq ?_
  show (1023#32 + 4294967295#32 * BitVec.ofNat 32 t.val).toNat = _
  simp only [BitVec.toNat_add, BitVec.toNat_mul, BitVec.toNat_ofNat]
  omega

variable (s : IVec S32 32) (hs : Roll.LengthsOk s)
include hs

/-- The remainder at a batch entry and time. -/
theorem rem0_apply (b : Fin 32) (t : Fin 1024) :
    rem0 s (ValueIdx.ix2 b t) = BitVec.ofNat 32 ((1023 - t.val + (s (ValueIdx.ix1 b)).toNat) % 1024) := by
  have h := hs b
  have ht := t.isLt
  unfold rem0
  rw [modulus_eq]
  pointwise
  rw [← Roll.remsi_ofNat .host (by omega : 1023 - t.val + (s (ValueIdx.ix1 b)).toNat < 2048)]
  refine congrArg (fun x => IntOp.remsi .host x 1024#32) ((congrArg (IntOp.addi · (s (ValueIdx.ix1 b))) (rev_toNat t)).trans ?_)
  show BitVec.ofNat 32 (1023 - t.val) + s (ValueIdx.ix1 b) = _
  rw [BitVec.ofNat_add, BitVec.ofNat_toNat, BitVec.setWidth_eq]

/-- It is not negative, so the sign correction leaves it. -/
theorem idx_apply (b : Fin 32) (t : Fin 1024) :
    idx s (ValueIdx.ix2 b t) = BitVec.ofNat 32 ((1023 - t.val + (s (ValueIdx.ix1 b)).toNat) % 1024) := by
  unfold idx
  rw [modulus_eq]
  pointwise
  rw [rem0_apply s hs, Cert.Reference3Ideal.Roll.slt_zero (Nat.mod_lt _ (by decide)), show IntOp.cmpi .slt 1024#32 0#32 = 0#1 from rfl,
    show IntOp.cmpi .ne 0#1 0#1 = 0#1 from rfl]
  generalize IntOp.cmpi .ne (BitVec.ofNat 32 _) 0#32 = c
  have hc : IntOp.andi 0#1 c = 0#1 := by revert c; decide
  rw [hc]
  rfl

/-- Nor does the count from the end touch it. -/
theorem idx4_apply (b : Fin 32) (t : Fin 1024) :
    idx4 s (ValueIdx.ix3 b t 0) = BitVec.ofNat 32 ((1023 - t.val + (s (ValueIdx.ix1 b)).toNat) % 1024) := by
  have e : idx3 s (ValueIdx.ix3 b t 0) = idx s (ValueIdx.ix2 b t) := by
    unfold idx3
    pointwise
    rfl
  unfold idx4
  pointwise
  rw [e, idx_apply s hs, Cert.Reference3Ideal.Roll.slt_zero (Nat.mod_lt _ (by decide))]
  rfl

/-- Every index read lies in the array. -/
theorem inside_apply₃ (b : Fin 32) (t : Fin 1024) : inside s (ValueIdx.ix3 b t 0) = 1#1 := by
  unfold inside
  pointwise
  rw [idx4_apply s hs]
  exact Cert.Reference3Ideal.Roll.within (Nat.mod_lt _ (by decide))

theorem inside_apply (i : S32x1024x1.Idx) : inside s i = 1#1 := by
  have e : i = ValueIdx.ix3 (⟨(i 0).val, (i 0).isLt⟩ : Fin 32) (⟨(i 1).val, (i 1).isLt⟩ : Fin 1024) (0 : Fin 1) := by
    funext a
    match a with
    | ⟨0, _⟩ => rfl
    | ⟨1, _⟩ => rfl
    | ⟨2, _⟩ => exact Subsingleton.elim (α := Fin 1) _ _
  exact (congrArg (inside s) e).trans (inside_apply₃ s hs _ _)

/-- Every batch entry and time passes the test. -/
theorem mask_apply (b : Fin 32) (t : Fin 1024) :
    Host.reduce IntOp.andi (inside s) (constantI S_ 1 1#1) reducesTo_S32x1024x1_S32x1024_d2 h_S_ (ValueIdx.ix2 b t) = 1#1 :=
  Host.reduce_andi_one _ _ _ _ _ rfl (inside_apply s hs)

/-- The time the take reads. -/
theorem read_eq (b : Fin 32) (t : Fin 1024) :
    min (idx4 s (ValueIdx.ix3 b t 0)).toInt.toNat 1023 = (1023 - t.val + (s (ValueIdx.ix1 b)).toNat) % 1024 := by
  have hlt := Nat.mod_lt (1023 - t.val + (s (ValueIdx.ix1 b)).toNat) (by decide : 1024 > 0)
  have e : (BitVec.ofNat 32 ((1023 - t.val + (s (ValueIdx.ix1 b)).toNat) % 1024)).toNat = (1023 - t.val + (s (ValueIdx.ix1 b)).toNat) % 1024 := by
    rw [BitVec.toNat_ofNat]; omega
  rw [idx4_apply s hs, Roll.toInt_of_lt (by omega), e, Int.toNat_natCast]
  exact Nat.min_eq_left (by omega)

end Cert.Reference5Ideal.Roll

end
-- ==== Proof.Hand.Roll.In.KernelValue.lean ====
module

public import proofs.«01_k».proof.Proof.Hand.Roll.In.Kernel
public import proofs.«01_k».proof.Proof.Hand.Roll.In.Index
/- The first layer's two inputs over the extended reals: the sequences time-major, and the same rolled by their lengths. -/

@[expose] public section

set_option maxRecDepth 16384

noncomputable section

namespace Cert.Kernel5Ideal.Gen

open Cert.Reference5Ideal.Roll (lens)
open Idealize.ShloMosaic Idealize.ShloMosaic.TcCoe Idealize.ShloMosaic.Pipeline

variable (m : (ℓ : Loc nD τ sig) → Buf (Elt Ideal) ℓ) (ρ : Dev nD → PrngReg)

/-- The starts: the lengths, round the end. -/
def starts (p : FVec Ideal S32x1024 .f32) : IVec S32 32 := Host.remsi (lens p) (broadcastInDim S32 ![] bcast_S_S32 (constantI S_ 32 1024#32))

/-- The sequences, time-major. -/
def timeMajor (x : FVec Ideal S32x1024x1024 .f32) : FVec Ideal S1024x32x1024 .bf16 :=
  truncf .bf16 (transpose S1024x32x1024 [1, 0, 2] x transposes_S32x1024x1024_S1024x32x1024_1_0_2) bitsLt_bf16_f32

theorem timeMajor_apply (x : FVec Ideal S32x1024x1024 .f32) (t : Fin 1024) (b : Fin 32) (k : Fin 1024) :
    timeMajor x (ValueIdx.ix3 t b k) = x (ValueIdx.ix3 b t k) := by
  unfold timeMajor
  pointwise
  rfl

theorem starts_toNat (p : FVec Ideal S32x1024 .f32) (hl : Roll.LengthsOk (lens p)) (b : Fin 32) :
    (starts p (ValueIdx.ix1 b)).toNat = (lens p (ValueIdx.ix1 b)).toNat % 1024 :=
  Roll.toNat_start _ (hl b)

theorem starts_inRange (p : FVec Ideal S32x1024 .f32) (hl : Roll.LengthsOk (lens p)) : Roll.InRange (starts p) := fun b => by
  rw [starts_toNat p hl]
  exact Nat.mod_lt _ (by decide)

/-- The sequences before the call. -/
theorem V_v7_eq (c : Dev nD) : V m c main_v7 = timeMajor (m ((c : Thread nD τ).loc main_arg0)) := by
  show StableHlo.after hostOps0 (fun b => m (c, b)) (Proc.devRef .tc main_v7) = _
  after_results
  rfl

/-- The reshape before the call. -/
theorem V_v8_eq (c : Dev nD) :
    V m c main_v8 = shapeCast S1024x32768 (timeMajor (m ((c : Thread nD τ).loc main_arg0))) shapeCasts_S1024x32x1024_S1024x32768 := by
  show StableHlo.after hostOps0 (fun b => m (c, b)) (Proc.devRef .tc main_v8) = _
  after_results
  rfl

/-- The starts before the call. -/
theorem V_v5_eq (c : Dev nD) : V m c main_v5 = starts (m ((c : Thread nD τ).loc main_arg1)) := by
  show StableHlo.after hostOps0 (fun b => m (c, b)) (Proc.devRef .tc main_v5) = _
  after_results
  rfl

/-- The array the call reads: the batch entries side by side. -/
theorem V_v8 (c : Dev nD) (u : Fin 1024) (b : Fin 32) (k : Fin 1024) :
    (V m c main_v8 : FVec Ideal S1024x32768 .bf16) (ValueIdx.ix2 u (⟨1024 * b.val + k.val, by omega⟩ : Fin 32768))
      = timeMajor (m ((c : Thread nD τ).loc main_arg0)) (ValueIdx.ix3 u b k) := by
  refine (congrFun (V_v8_eq m c) _).trans (shapeCast_apply (s := S1024x32x1024) (t := S1024x32768) _ _ _ _ ?_)
  rw [Shape.rowMajor_val_two, Shape.rowMajor_val_three]
  show (u.val * 32 + b.val) * 1024 + k.val = u.val * 32768 + (1024 * b.val + k.val)
  omega

/-- Grid point `t` reads batch entry `t`'s columns. -/
theorem index_0 (hO : Ok m) : ∀ t : Fin (cfgM m hO).N, ((cfgM m hO).win 0).index t = ![0, t.val] :=
  (by decide +kernel : ∀ t : Fin grid0.N, cc0_transform_0 (grid0.coords t) = ![0, t.val])

/-- Grid point `t` writes batch entry `t`'s columns. -/
theorem index_1 (hO : Ok m) : ∀ t : Fin (cfgM m hO).N, ((cfgM m hO).win 1).index t = ![0, t.val] :=
  (by decide +kernel : ∀ t : Fin grid0.N, cc0_transform_1 (grid0.coords t) = ![0, t.val])

/-- Where a written block's entry lies in the array. -/
theorem emb_1 (hO : Ok m) (t : Fin (cfgM m hO).N) (u : Fin 1024) (k : Fin 1024) :
    ((((cfgM m hO).win 1).rect t).emb (ValueIdx.ix2 u k) : S1024x32768.Idx)
      = ValueIdx.ix2 u (⟨(1024 * t.val + k.val) % 32768, Nat.mod_lt _ (by decide)⟩ : Fin 32768) := by
  have ht : t.val < 32 := Nat.lt_of_lt_of_eq t.isLt N_0
  refine Shape.idx_ext₂ ?_ ?_
  · refine (Window.rect_emb_val ((cfgM m hO).win 1) t _ (show Fin 2 from 0)).trans ?_
    rw [index_1 m hO t]
    show 0 * 1024 + u.val = u.val
    omega
  · refine (Window.rect_emb_val ((cfgM m hO).win 1) t _ (show Fin 2 from 1)).trans ?_
    rw [index_1 m hO t]
    have hk := k.isLt
    show t.val * 1024 + k.val = (1024 * t.val + k.val) % 32768
    omega

/-- The block read at a grid point: one batch entry of the argument. -/
theorem iblk_0 (hO : Ok m) (c : Dev nD) (t : Fin (cfgM m hO).N) (u : Fin 1024) (k : Fin 1024) :
    iblk m hO c 0 t (ValueIdx.ix2 u k) = timeMajor (m ((c : Thread nD τ).loc main_arg0))
      (ValueIdx.ix3 u (⟨t.val, Nat.lt_of_lt_of_eq t.isLt N_0⟩ : Fin 32) k) := by
  have ht : t.val < 32 := Nat.lt_of_lt_of_eq t.isLt N_0
  refine Eq.trans ?_ (V_v8 m c u _ k)
  show V m c main_v8 ((((cfgM m hO).win 0).rect t).emb (ValueIdx.ix2 u k)) = _
  refine congrArg (V m c main_v8) (Shape.idx_ext₂ ?_ ?_)
  · refine (Window.rect_emb_val ((cfgM m hO).win 0) t _ (show Fin 2 from 0)).trans ?_
    rw [index_0 m hO t]
    show 0 * 1024 + u.val = u.val
    omega
  · refine (Window.rect_emb_val ((cfgM m hO).win 0) t _ (show Fin 2 from 1)).trans ?_
    rw [index_0 m hO t]
    show t.val * 1024 + k.val = 1024 * t.val + k.val
    omega

/-- The pipeline's result array: the batch entries side by side, each rolled by its start. -/
def flat (v : FVec Ideal S1024x32x1024 .bf16) (s : IVec S32 32) : FVec Ideal S1024x32768 .bf16 := fun i =>
  Roll.rolled v s ⟨(i 0).val, (i 0).isLt⟩ ⟨(i 1).val / 1024, by have : (i 1).val < 32768 := (i 1).isLt; omega⟩
    ⟨(i 1).val % 1024, Nat.mod_lt _ (by decide)⟩

/-- The starts of the one device. -/
theorem tbl_eq (c : Dev nD) : tbl m 0 = starts (m ((c : Thread nD τ).loc main_arg1)) := (V_pre m c 0).symm.trans (V_v5_eq m c)

/-- The block a grid point leaves, by its place in the result array. -/
theorem out_apply (hO : Ok m) (c : Dev nD) (hs : Roll.LengthsOk (lens (m ((c : Thread nD τ).loc main_arg1)))) (t : Fin (cfgM m hO).N) (u : Fin 1024) (k : Fin 1024) :
    (outsAt0 m hO c t.val t.isLt).1 (ValueIdx.ix2 u k)
      = flat (timeMajor (m ((c : Thread nD τ).loc main_arg0))) (starts (m ((c : Thread nD τ).loc main_arg1)))
          (ValueIdx.ix2 u (⟨(1024 * t.val + k.val) % 32768, Nat.mod_lt _ (by decide)⟩ : Fin 32768)) := by
  have ht : t.val < 32 := Nat.lt_of_lt_of_eq t.isLt N_0
  have hk := k.isLt
  have e1 : (1024 * t.val + k.val) % 32768 / 1024 = t.val := by omega
  have e2 : (1024 * t.val + k.val) % 32768 % 1024 = k.val := by omega
  rw [out_eq, tbl_eq m c]
  refine (block_apply _ (starts_inRange _ hs _) _ u k).trans ((iblk_0 m hO c t _ k).trans ?_)
  unfold flat Roll.rolled
  dsimp only [ValueIdx.ix2]
  simp only [e1, e2]
  rfl

/-- The pipeline's result array. -/
theorem arr_eq (hO : Ok m) (c : Dev nD) (hs : Roll.LengthsOk (lens (m ((c : Thread nD τ).loc main_arg1)))) :
    (dats m hO 0 c).arrAt 1 (cfgM m hO).N = flat (timeMajor (m ((c : Thread nD τ).loc main_arg0))) (starts (m ((c : Thread nD τ).loc main_arg1))) := by
  refine Dat.arrAt_eq_of_cover (dats m hO 0 c) 1 _ (fun t _ => ?_) (fun (i : S1024x32768.Idx) => ?_)
  · refine Eq.trans (b := (outsAt0 m hO c t.val t.isLt).1) rfl ?_
    funext y
    refine (congrArg (outsAt0 m hO c t.val t.isLt).1 (ValueIdx.eq_ix2 (y : (a : Fin 2) → Fin (S1024x1024.size a)))).trans ((out_apply m hO c hs t _ _).trans ?_)
    show _ = flat (timeMajor (m ((c : Thread nD τ).loc main_arg0))) (starts (m ((c : Thread nD τ).loc main_arg1))) ((((cfgM m hO).win 1).rect t).emb y)
    refine congrArg _ ((emb_1 m hO t (y 0) (y 1)).symm.trans (congrArg (((cfgM m hO).win 1).rect t).emb (ValueIdx.eq_ix2 (y : (a : Fin 2) → Fin (S1024x1024.size a))).symm))
  · have hi : (i 1).val < 32768 := (i 1).isLt
    have hN : (i 1).val / 1024 < (cfgM m hO).N := Nat.lt_of_lt_of_eq (by omega : _ < 32) N_0.symm
    refine ⟨⟨(i 1).val / 1024, hN⟩, flush0_1 _ _, ?_⟩
    have e := emb_1 m hO ⟨_, hN⟩ (⟨(i 0).val, (i 0).isLt⟩ : Fin 1024) (⟨(i 1).val % 1024, Nat.mod_lt _ (by decide)⟩ : Fin 1024)
    have e2 : i = (((cfgM m hO).win 1).blk ⟨_, hN⟩).view.emb (ValueIdx.ix2 (⟨(i 0).val, (i 0).isLt⟩ : Fin 1024) (⟨(i 1).val % 1024, Nat.mod_lt _ (by decide)⟩ : Fin 1024)) := by
      refine Eq.trans ?_ e.symm
      refine Shape.idx_ext₂ rfl ?_
      show (i 1).val = (1024 * ((i 1).val / 1024) + (i 1).val % 1024) % 32768
      omega
    have hm := View.emb_mem_set (((cfgM m hO).win 1).blk ⟨_, hN⟩).view (ValueIdx.ix2 (⟨(i 0).val, (i 0).isLt⟩ : Fin 1024) (⟨(i 1).val % 1024, Nat.mod_lt _ (by decide)⟩ : Fin 1024))
    rw [← e2] at hm
    exact hm

/-- The first layer's two inputs: the sequences, and the rolled sequences. -/
def stack (x y : FVec Ideal S1024x32x1024 .bf16) : FVec Ideal S2x1024x32x1024 .bf16 :=
  concatenate S2x1024x32x1024 0 [⟨S1x1024x32x1024, broadcastInDim S1x1024x32x1024 ![1, 2, 3] bcast_S1024x32x1024_S1x1024x32x1024_1_2_3 x⟩,
    ⟨S1x1024x32x1024, broadcastInDim S1x1024x32x1024 ![1, 2, 3] bcast_S1024x32x1024_S1x1024x32x1024_1_2_3 y⟩]
    concatenates_S1x1024x32x1024_S1x1024x32x1024_S2x1024x32x1024_d0

theorem stack_apply (x y : FVec Ideal S1024x32x1024 .bf16) (d : Fin 2) (t : Fin 1024) (b : Fin 32) (k : Fin 1024) :
    stack x y (ValueIdx.ix4 d t b k) = if d.val < 1 then x (ValueIdx.ix3 t b k) else y (ValueIdx.ix3 t b k) := by
  unfold stack
  pointwise
  rfl

/-- The call's result, a row of features to each time and batch entry. -/
def rolledOf (a : FVec Ideal S1024x32768 .bf16) : FVec Ideal S1024x32x1024 .bf16 := shapeCast S1024x32x1024 a shapeCasts_S1024x32768_S1024x32x1024

/-- What the host leaves after the call. -/
theorem tail_eq (hO : Ok m) (c : Dev nD) :
    Pipeline.afterTail pcfgs (fun _ => adm m hO) (dats m hO) 0 (V0 m) [hostOps1] c main_v13
      = stack (timeMajor (m ((c : Thread nD τ).loc main_arg0))) (rolledOf ((dats m hO 0 c).arrAt 1 (cfgM m hO).N)) := by
  have hv9 : Pipeline.withArrays ((Pipeline.pin pcfgs fun _ => adm m hO) 0).spec c (V0 m c)
      (fun w => (dats m hO 0 c).arrAt w ((Pipeline.pin pcfgs fun _ => adm m hO) 0).N) (Proc.devRef .tc main_v9)
      = (dats m hO 0 c).arrAt 1 (cfgM m hO).N :=
    Pipeline.withArrays_arr spec0 (by decide) c (V0 m c) _ 1
  have hv7 : Pipeline.withArrays ((Pipeline.pin pcfgs fun _ => adm m hO) 0).spec c (V0 m c)
      (fun w => (dats m hO 0 c).arrAt w ((Pipeline.pin pcfgs fun _ => adm m hO) 0).N) (Proc.devRef .tc main_v7)
      = timeMajor (m ((c : Thread nD τ).loc main_arg0)) :=
    (Pipeline.withArrays_of_ne spec0 c (V0 m c) _ main_v7 (by decide)).trans (V_v7_eq m c)
  rw [← hv9, ← hv7]
  unfold Pipeline.afterTail
  show StableHlo.after hostOps1 _ (Proc.devRef .tc main_v13) = _
  after_results
  rfl

/-- The call's result, entry by entry. -/
theorem rolled_apply (hO : Ok m) (c : Dev nD) (hs : Roll.LengthsOk (lens (m ((c : Thread nD τ).loc main_arg1)))) (t : Fin 1024) (b : Fin 32) (k : Fin 1024) :
    rolledOf ((dats m hO 0 c).arrAt 1 (cfgM m hO).N) (ValueIdx.ix3 t b k)
      = Roll.rolled (timeMajor (m ((c : Thread nD τ).loc main_arg0))) (starts (m ((c : Thread nD τ).loc main_arg1))) t b k := by
  have hk := k.isLt
  have hb := b.isLt
  have e1 : (1024 * b.val + k.val) / 1024 = b.val := by omega
  have e2 : (1024 * b.val + k.val) % 1024 = k.val := by omega
  rw [arr_eq m hO c hs]
  unfold rolledOf
  refine (shapeCast_apply _ _ _ (ValueIdx.ix2 t (⟨1024 * b.val + k.val, by omega⟩ : Fin 32768)) ?_).trans ?_
  · rw [Shape.rowMajor_val_two, Shape.rowMajor_val_three]
    show t.val * 32768 + (1024 * b.val + k.val) = (t.val * 32 + b.val) * 1024 + k.val
    omega
  · unfold flat
    dsimp only [ValueIdx.ix2]
    simp only [e1, e2]

/-- The result, entry by entry. -/
theorem result_apply (hO : Ok m) (c : Dev nD) (hs : Roll.LengthsOk (lens (m ((c : Thread nD τ).loc main_arg1))))
    (d : Fin 2) (t : Fin 1024) (b : Fin 32) (k : Fin 1024) :
    (Pipeline.afterTail pcfgs (fun _ => adm m hO) (dats m hO) 0 (V0 m) [hostOps1] c main_v13 : FVec Ideal S2x1024x32x1024 .bf16) (ValueIdx.ix4 d t b k)
      = Roll.firstInput (m ((c : Thread nD τ).loc main_arg0)) (lens (m ((c : Thread nD τ).loc main_arg1))) d t b k := by
  rw [tail_eq, stack_apply, timeMajor_apply, rolled_apply m hO c hs]
  unfold Roll.firstInput Roll.rolled
  refine if_congr Iff.rfl rfl ((timeMajor_apply _ _ _ _).trans ?_)
  simp only [starts_toNat _ hs]

/-- The program runs, ends with its result as above, leaves its arguments as they were and every counter at zero. -/
theorem run_values (hO : Ok m) (hs : ∀ c : Dev nD, Roll.LengthsOk (lens (m ((c : Thread nD τ).loc main_arg1)))) :
    θ_run defs (onTc (τ := τ) (main (F := Ideal))) ⟨m, fun _ => 0, ρ⟩ (fun r => ∀ c : Dev nD,
      r.2.mem ((c.tc : Thread nD τ).loc main_v13) = (fun i : S2x1024x32x1024.Idx =>
        Roll.firstInput (m ((c : Thread nD τ).loc main_arg0)) (lens (m ((c : Thread nD τ).loc main_arg1)))
          (⟨(i 0).val, (i 0).isLt⟩ : Fin 2) (⟨(i 1).val, (i 1).isLt⟩ : Fin 1024) (⟨(i 2).val, (i 2).isLt⟩ : Fin 32) (⟨(i 3).val, (i 3).isLt⟩ : Fin 1024))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ hO)
  · refine ((h c).2 main_v13 (by decide : main_v13 ∈ Pipeline.restRefs sig spec0)).trans (funext fun i => ?_)
    exact (congrArg _ (ValueIdx.eq_ix4 (i : S2x1024x32x1024.Idx))).trans (result_apply m hO c (hs c) _ _ _ _)
  · exact ((h c).2 main_arg0 (by decide : main_arg0 ∈ Pipeline.restRefs sig spec0)).trans (W_main_arg0 m hO (dats m hO) c)
  · exact ((h c).2 main_arg1 (by decide : main_arg1 ∈ Pipeline.restRefs sig spec0)).trans (W_main_arg1 m hO (dats m hO) c)

end Cert.Kernel5Ideal.Gen

end
-- ==== Proof.Hand.Roll.In.RefValue.lean ====
module

public import proofs.«01_k».proof.Proof.Gen.Reference5Ideal.Run
public import proofs.«01_k».proof.Proof.Hand.Roll.In.Index
public import proofs.«01_k».proof.Proof.Hand.RefValue
/- The reference of the first layer's two inputs over the extended reals, index by index. -/

@[expose] public section

set_option maxRecDepth 16384

noncomputable section

namespace Cert.Reference5Ideal.Roll

open Cert.Reference5Ideal Cert.Reference5Ideal.Gen Idealize.ShloMosaic Idealize.ShloMosaic.TcCoe

/-- The flip of every sequence at its length. -/
def flip (v : FVec Ideal S32x1024x1024 .f32) (s : IVec S32 32) : FVec Ideal S32x1024x1024 .f32 :=
  select (broadcastInDim S32x1024x1024 ![0, 1] bcast_S32x1024_S32x1024x1024_0_1
      (Host.reduce IntOp.andi (inside s) (constantI S_ 1 1#1) reducesTo_S32x1024x1_S32x1024_d2 h_S_))
    (Host.gather gather_S32x1024x1024_S32x1024x1_S32x1024x1024_2_1_0_0_1_2_111024 v (idx4 s))
    (broadcastInDim S32x1024x1024 ![] bcast_S_S32x1024x1024 (constant S_ .f32 0x7FC00000#32))

/-- The first layer's two inputs, of the two arguments. -/
def res (x : FVec Ideal S32x1024x1024 .f32) (p : FVec Ideal S32x1024 .f32) : FVec Ideal S2x1024x32x1024 .bf16 :=
  truncf .bf16 (concatenate S2x1024x32x1024 0
    [⟨S1x1024x32x1024, broadcastInDim S1x1024x32x1024 ![1, 2, 3] bcast_S1024x32x1024_S1x1024x32x1024_1_2_3 (transpose S1024x32x1024 [1, 0, 2] x transposes_S32x1024x1024_S1024x32x1024_1_0_2)⟩,
     ⟨S1x1024x32x1024, broadcastInDim S1x1024x32x1024 ![1, 2, 3] bcast_S1024x32x1024_S1x1024x32x1024_1_2_3
       (Host.reverse [0] (transpose S1024x32x1024 [1, 0, 2] (flip x (lens p)) transposes_S32x1024x1024_S1024x32x1024_1_0_2))⟩]
    concatenates_S1x1024x32x1024_S1x1024x32x1024_S2x1024x32x1024_d0) bitsLt_bf16_f32

/-- The reference's result in those terms. -/
theorem res_eq (m : (ℓ : Loc nD τ sig) → Buf (Elt Ideal) ℓ) (c : Dev nD) :
    Value.res_main_v23 m c = res (m ((c.tc : Thread nD τ).loc main_arg0)) (m ((c.tc : Thread nD τ).loc main_arg1)) := by
  unfold Value.res_main_v23
  rfl

/-- The take along the time axis at an index: the array at the read index, clamped into the array. -/
theorem gather_apply (v : FVec Ideal S32x1024x1024 .f32) (x : IVec S32x1024x1 32) (b : Fin 32) (t : Fin 1024) (k : Fin 1024) :
    Host.gather gather_S32x1024x1024_S32x1024x1_S32x1024x1024_2_1_0_0_1_2_111024 v x (ValueIdx.ix3 b t k)
      = v (ValueIdx.ix3 b ⟨min (x (ValueIdx.ix3 b t 0)).toInt.toNat 1023, by omega⟩ k) := by
  unfold Host.gather
  refine congrArg v (funext fun a => Fin.ext ?_)
  show GatherDims.start _ _ _ a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : gather_S32x1024x1024_S32x1024x1_S32x1024x1024_2_1_0_0_1_2_111024.siIdx (ValueIdx.ix3 b t k) ⟨0, by decide⟩ = ValueIdx.ix3 b t 0 := by
      funext b; refine Fin.ext ?_
      match b with
      | ⟨0, _⟩ => rfl
      | ⟨1, _⟩ => rfl
      | ⟨2, _⟩ => rfl
    exact congrArg (fun i => min (x i).toInt.toNat 1023) hsi
  · rw [GatherDims.batchCoord_eq_zero _ _ _ (by decide)]
    unfold GatherDims.start GatherDims.offCoord
    rw [dif_neg (by decide), dif_pos (by decide)]
    simp only [Nat.zero_add]
    rfl

/-- The flip at an index. -/
theorem flip_apply (v : FVec Ideal S32x1024x1024 .f32) (s : IVec S32 32) (hs : Roll.LengthsOk s) (b : Fin 32) (t : Fin 1024) (k : Fin 1024) :
    flip v s (ValueIdx.ix3 b t k)
      = v (ValueIdx.ix3 b (⟨(1023 - t.val + (s (ValueIdx.ix1 b)).toNat) % 1024, Nat.mod_lt _ (by decide)⟩ : Fin 1024) k) := by
  have hm : broadcastInDim S32x1024x1024 ![0, 1] bcast_S32x1024_S32x1024x1024_0_1
      (Host.reduce IntOp.andi (inside s) (constantI S_ 1 1#1) reducesTo_S32x1024x1_S32x1024_d2 h_S_) (ValueIdx.ix3 b t k) = 1#1 := by
    unfold broadcastInDim
    exact Host.reduce_andi_one _ _ _ _ _ rfl (inside_apply s hs)
  unfold flip
  show Scalar.select _ _ _ = _
  rw [hm]
  refine (gather_apply v (idx4 s) b t k).trans (congrArg (fun u => v (ValueIdx.ix3 b u k)) (Fin.ext ?_))
  exact read_eq s hs b t

/-- A sequence made time-major, at an index. -/
theorem transpose_at (x : FVec Ideal S32x1024x1024 .f32) (t : Fin 1024) (b : Fin 32) (k : Fin 1024) :
    transpose S1024x32x1024 [1, 0, 2] x transposes_S32x1024x1024_S1024x32x1024_1_0_2 (ValueIdx.ix3 t b k) = x (ValueIdx.ix3 b t k) := by
  pointwise
  rfl

/-- Two arrays stacked, at an index. -/
theorem stack_at (x y : FVec Ideal S1024x32x1024 .f32) (d : Fin 2) (t : Fin 1024) (b : Fin 32) (k : Fin 1024) :
    (truncf .bf16 (concatenate S2x1024x32x1024 0
      [⟨S1x1024x32x1024, broadcastInDim S1x1024x32x1024 ![1, 2, 3] bcast_S1024x32x1024_S1x1024x32x1024_1_2_3 x⟩,
       ⟨S1x1024x32x1024, broadcastInDim S1x1024x32x1024 ![1, 2, 3] bcast_S1024x32x1024_S1x1024x32x1024_1_2_3 y⟩]
      concatenates_S1x1024x32x1024_S1x1024x32x1024_S2x1024x32x1024_d0) bitsLt_bf16_f32 : FVec Ideal S2x1024x32x1024 .bf16) (ValueIdx.ix4 d t b k)
      = if d.val < 1 then x (ValueIdx.ix3 t b k) else y (ValueIdx.ix3 t b k) := by
  pointwise
  rfl

/-- The reference's result at an index. -/
theorem res_apply (x : FVec Ideal S32x1024x1024 .f32) (p : FVec Ideal S32x1024 .f32) (hs : Roll.LengthsOk (lens p))
    (d : Fin 2) (t : Fin 1024) (b : Fin 32) (k : Fin 1024) : res x p (ValueIdx.ix4 d t b k) = Roll.firstInput x (lens p) d t b k := by
  unfold res
  refine (stack_at _ _ d t b k).trans (if_congr Iff.rfl (transpose_at x t b k) ?_)
  refine (Cert.ReferenceIdeal.Step.rev_rows _ t b k).trans ((transpose_at _ _ b k).trans ((flip_apply x _ hs b _ k).trans ?_))
  refine congrArg (fun u => x (ValueIdx.ix3 b u k)) (Fin.ext ?_)
  have ht := t.isLt
  dsimp only
  omega

end Cert.Reference5Ideal.Roll

end
-- ==== Proof.Hand.Roll.Out.Kernel.lean ====
module

public import proofs.«01_k».proof.Proof.Gen.Kernel6Ideal.Frame
public import proofs.«01_k».proof.Proof.Hand.Roll.Kernel
/- What the roll's body leaves at each grid point in the making of the result: the block of the narrow roll. -/

@[expose] public section

set_option maxRecDepth 16384

noncomputable section

namespace Cert.Kernel6Ideal.Gen

open Idealize.ShloMosaic Idealize.ShloMosaic.TcCoe Idealize.ShloMosaic.Pipeline

/-- The block of one batch entry, rolled by its start. -/
theorem block_apply (w : BitVec 32) (hw : w.toNat < 1024) (x : FVec Ideal S1024x512 .bf16) (t : Fin 1024) (k : Fin 512) :
    k0_pay3 (F := Ideal) (k0_pay2 (F := Ideal) w (k0_pay1 (F := Ideal))) x (ValueIdx.ix2 t k)
      = x (ValueIdx.ix2 (⟨(t.val + w.toNat) % 1024, Nat.mod_lt _ (by decide)⟩ : Fin 1024) k) :=
  Cert.Kernel3Ideal.Gen.block_apply w hw x t k

variable (m : (ℓ : Loc nD τ sig) → Buf (Elt Ideal) ℓ)

/-- The carried table after every point. -/
theorem table_eq (hO : Ok m) (c : Dev nD) : ∀ (n : ℕ) (hn : n < (cfgM m hO).N), (outsAt0 m hO c n hn).2 = k0_pay1 (F := Ideal)
  | 0, hn => by
    refine (congrArg Prod.snd (outsAt0_A m hO c ⟨0, hn⟩ rfl)).trans ?_
    dsimp only
    frame_out
  | n + 1, hn => by
    have hN : n + 1 < 32 := lt_of_lt_of_eq hn N_0
    refine (congrArg Prod.snd (outsAt0_B m hO c ⟨n + 1, hn⟩ (by dsimp only; omega))).trans ?_
    exact table_eq hO c n _

/-- The place of the start the body reads at a point: its batch entry's. -/
theorem coords_val : ∀ t : Fin grid0.N, k0_off1 (grid0.coords t) 0 = t.val := by decide +kernel

/-- The block a point leaves. -/
theorem out_eq (hO : Ok m) (c : Dev nD) (t : Fin (cfgM m hO).N) :
    (outsAt0 m hO c t.val t.isLt).1
      = k0_pay3 (F := Ideal) (k0_pay2 (F := Ideal) (tbl m 0 (ValueIdx.ix1 (⟨t.val, lt_of_lt_of_eq t.isLt N_0⟩ : Fin 32))) (k0_pay1 (F := Ideal))) (iblk m hO c 0 t) := by
  have hw : ∀ (r : S32.Idx), (r 0).val = t.val → r = ValueIdx.ix1 (⟨t.val, lt_of_lt_of_eq t.isLt N_0⟩ : Fin 32) := fun r h =>
    funext fun a => by obtain rfl : a = 0 := Subsingleton.elim _ _; exact Fin.ext h
  by_cases h0 : t.val % 32 = 0
  · rw [outsAt0_A m hO c t h0]
    dsimp only
    frame_out
    exact congrArg₂ (fun w x => k0_pay3 (F := Ideal) (k0_pay2 (F := Ideal) w (k0_pay1 (F := Ideal))) x)
      (congrArg (tbl m 0) (hw _ (coords_val t))) ((hs0_0 m hO t).read_unread _)
  · rw [outsAt0_B m hO c t h0]
    dsimp only
    frame_out
    have hs : ∀ X : Vec Ideal S1024x1024 .f32, X = k0_pay1 (F := Ideal) →
        View.read (Elt Ideal) (View.whole cc0_scratch0) ((Memref.isWhole_whole cc0_scratch0).unread X) = k0_pay1 (F := Ideal) := fun X h =>
      ((Memref.isWhole_whole cc0_scratch0).read_unread X).trans h
    exact congr (congrArg₂ (fun w s x => k0_pay3 (F := Ideal) (k0_pay2 (F := Ideal) w s) x)
      (congrArg (tbl m 0) (hw _ (coords_val t))) (hs _ (table_eq m hO c _ _))) ((hs0_0 m hO t).read_unread _)

end Cert.Kernel6Ideal.Gen

end
-- ==== Proof.Hand.Roll.Out.KernelValue.lean ====
module

public import proofs.«01_k».proof.Proof.Hand.Roll.Out.Kernel
public import proofs.«01_k».proof.Proof.Hand.Roll.In.Index
/- The result over the extended reals, from the last layer's hidden states in both directions. -/

@[expose] public section

set_option maxRecDepth 16384

noncomputable section

namespace Cert.Kernel6Ideal.Gen

open Cert.Reference5Ideal.Roll (lens)
open Idealize.ShloMosaic Idealize.ShloMosaic.TcCoe Idealize.ShloMosaic.Pipeline

variable (m : (ℓ : Loc nD τ sig) → Buf (Elt Ideal) ℓ) (ρ : Dev nD → PrngReg)

/-- The starts: what is left of the times after the length, round the end. -/
def starts (p : FVec Ideal S32x1024 .f32) : IVec S32 32 :=
  Host.remsi (subi (broadcastInDim S32 ![] bcast_S_S32 (constantI S_ 32 1024#32)) (lens p)) (broadcastInDim S32 ![] bcast_S_S32 (constantI S_ 32 1024#32))

theorem starts_toNat (p : FVec Ideal S32x1024 .f32) (hl : Roll.LengthsOk (lens p)) (b : Fin 32) :
    (starts p (ValueIdx.ix1 b)).toNat = (1024 - (lens p (ValueIdx.ix1 b)).toNat) % 1024 :=
  Roll.toNat_start_rest _ (hl b)

theorem starts_inRange (p : FVec Ideal S32x1024 .f32) (hl : Roll.LengthsOk (lens p)) : Roll.InRange (starts p) := fun b => by
  rw [starts_toNat p hl]
  exact Nat.mod_lt _ (by decide)

/-- The starts before the call. -/
theorem V_v7_eq (c : Dev nD) : V m c main_v7 = starts (m ((c : Thread nD τ).loc main_arg2)) := by
  show StableHlo.after hostOps0 (fun b => m (c, b)) (Proc.devRef .tc main_v7) = _
  after_results
  rfl

/-- The reshape before the call. -/
theorem V_v8_eq (c : Dev nD) :
    V m c main_v8 = shapeCast S1024x16384 (m ((c : Thread nD τ).loc main_arg1) : FVec Ideal S1024x32x512 .bf16) shapeCasts_S1024x32x512_S1024x16384 := by
  show StableHlo.after hostOps0 (fun b => m (c, b)) (Proc.devRef .tc main_v8) = _
  after_results
  rfl

/-- The array the call reads: the batch entries side by side. -/
theorem V_v8 (c : Dev nD) (u : Fin 1024) (b : Fin 32) (k : Fin 512) :
    (V m c main_v8 : FVec Ideal S1024x16384 .bf16) (ValueIdx.ix2 u (⟨512 * b.val + k.val, by omega⟩ : Fin 16384))
      = (m ((c : Thread nD τ).loc main_arg1) : FVec Ideal S1024x32x512 .bf16) (ValueIdx.ix3 u b k) := by
  refine (congrFun (V_v8_eq m c) _).trans (shapeCast_apply (s := S1024x32x512) (t := S1024x16384) _ _ _ _ ?_)
  rw [Shape.rowMajor_val_two, Shape.rowMajor_val_three]
  show (u.val * 32 + b.val) * 512 + k.val = u.val * 16384 + (512 * b.val + k.val)
  omega

/-- Grid point `t` reads batch entry `t`'s columns. -/
theorem index_0 (hO : Ok m) : ∀ t : Fin (cfgM m hO).N, ((cfgM m hO).win 0).index t = ![0, t.val] :=
  (by decide +kernel : ∀ t : Fin grid0.N, cc0_transform_0 (grid0.coords t) = ![0, t.val])

/-- Grid point `t` writes batch entry `t`'s columns. -/
theorem index_1 (hO : Ok m) : ∀ t : Fin (cfgM m hO).N, ((cfgM m hO).win 1).index t = ![0, t.val] :=
  (by decide +kernel : ∀ t : Fin grid0.N, cc0_transform_1 (grid0.coords t) = ![0, t.val])

/-- Where a written block's entry lies in the array. -/
theorem emb_1 (hO : Ok m) (t : Fin (cfgM m hO).N) (u : Fin 1024) (k : Fin 512) :
    ((((cfgM m hO).win 1).rect t).emb (ValueIdx.ix2 u k) : S1024x16384.Idx)
      = ValueIdx.ix2 u (⟨(512 * t.val + k.val) % 16384, Nat.mod_lt _ (by decide)⟩ : Fin 16384) := by
  have ht : t.val < 32 := Nat.lt_of_lt_of_eq t.isLt N_0
  refine Shape.idx_ext₂ ?_ ?_
  · refine (Window.rect_emb_val ((cfgM m hO).win 1) t _ (show Fin 2 from 0)).trans ?_
    rw [index_1 m hO t]
    show 0 * 1024 + u.val = u.val
    omega
  · refine (Window.rect_emb_val ((cfgM m hO).win 1) t _ (show Fin 2 from 1)).trans ?_
    rw [index_1 m hO t]
    have hk := k.isLt
    show t.val * 512 + k.val = (512 * t.val + k.val) % 16384
    omega

/-- The block read at a grid point: one batch entry of the argument. -/
theorem iblk_0 (hO : Ok m) (c : Dev nD) (t : Fin (cfgM m hO).N) (u : Fin 1024) (k : Fin 512) :
    iblk m hO c 0 t (ValueIdx.ix2 u k) = m ((c : Thread nD τ).loc main_arg1)
      (ValueIdx.ix3 u (⟨t.val, Nat.lt_of_lt_of_eq t.isLt N_0⟩ : Fin 32) k) := by
  have ht : t.val < 32 := Nat.lt_of_lt_of_eq t.isLt N_0
  refine Eq.trans ?_ (V_v8 m c u _ k)
  show V m c main_v8 ((((cfgM m hO).win 0).rect t).emb (ValueIdx.ix2 u k)) = _
  refine congrArg (V m c main_v8) (Shape.idx_ext₂ ?_ ?_)
  · refine (Window.rect_emb_val ((cfgM m hO).win 0) t _ (show Fin 2 from 0)).trans ?_
    rw [index_0 m hO t]
    show 0 * 1024 + u.val = u.val
    omega
  · refine (Window.rect_emb_val ((cfgM m hO).win 0) t _ (show Fin 2 from 1)).trans ?_
    rw [index_0 m hO t]
    show t.val * 512 + k.val = 512 * t.val + k.val
    omega

/-- The pipeline's result array: the batch entries side by side, each rolled by its start. -/
def flat (v : FVec Ideal S1024x32x512 .bf16) (s : IVec S32 32) : FVec Ideal S1024x16384 .bf16 := fun i =>
  Roll.rolled v s ⟨(i 0).val, (i 0).isLt⟩ ⟨(i 1).val / 512, by have : (i 1).val < 16384 := (i 1).isLt; omega⟩
    ⟨(i 1).val % 512, Nat.mod_lt _ (by decide)⟩

/-- The starts of the one device. -/
theorem tbl_eq (c : Dev nD) : tbl m 0 = starts (m ((c : Thread nD τ).loc main_arg2)) := (V_pre m c 0).symm.trans (V_v7_eq m c)

/-- The block a grid point leaves, by its place in the result array. -/
theorem out_apply (hO : Ok m) (c : Dev nD) (hs : Roll.LengthsOk (lens (m ((c : Thread nD τ).loc main_arg2)))) (t : Fin (cfgM m hO).N) (u : Fin 1024) (k : Fin 512) :
    (outsAt0 m hO c t.val t.isLt).1 (ValueIdx.ix2 u k)
      = flat (m ((c : Thread nD τ).loc main_arg1)) (starts (m ((c : Thread nD τ).loc main_arg2)))
          (ValueIdx.ix2 u (⟨(512 * t.val + k.val) % 16384, Nat.mod_lt _ (by decide)⟩ : Fin 16384)) := by
  have ht : t.val < 32 := Nat.lt_of_lt_of_eq t.isLt N_0
  have hk := k.isLt
  have e1 : (512 * t.val + k.val) % 16384 / 512 = t.val := by omega
  have e2 : (512 * t.val + k.val) % 16384 % 512 = k.val := by omega
  rw [out_eq, tbl_eq m c]
  refine (block_apply _ (starts_inRange _ hs _) _ u k).trans ((iblk_0 m hO c t _ k).trans ?_)
  unfold flat Roll.rolled
  dsimp only [ValueIdx.ix2]
  simp only [e1, e2]
  rfl

/-- The pipeline's result array. -/
theorem arr_eq (hO : Ok m) (c : Dev nD) (hs : Roll.LengthsOk (lens (m ((c : Thread nD τ).loc main_arg2)))) :
    (dats m hO 0 c).arrAt 1 (cfgM m hO).N = flat (m ((c : Thread nD τ).loc main_arg1)) (starts (m ((c : Thread nD τ).loc main_arg2))) := by
  refine Dat.arrAt_eq_of_cover (dats m hO 0 c) 1 _ (fun t _ => ?_) (fun (i : S1024x16384.Idx) => ?_)
  · refine Eq.trans (b := (outsAt0 m hO c t.val t.isLt).1) rfl ?_
    funext y
    refine (congrArg (outsAt0 m hO c t.val t.isLt).1 (ValueIdx.eq_ix2 (y : (a : Fin 2) → Fin (S1024x512.size a)))).trans ((out_apply m hO c hs t _ _).trans ?_)
    show _ = flat (m ((c : Thread nD τ).loc main_arg1)) (starts (m ((c : Thread nD τ).loc main_arg2))) ((((cfgM m hO).win 1).rect t).emb y)
    refine congrArg _ ((emb_1 m hO t (y 0) (y 1)).symm.trans (congrArg (((cfgM m hO).win 1).rect t).emb (ValueIdx.eq_ix2 (y : (a : Fin 2) → Fin (S1024x512.size a))).symm))
  · have hi : (i 1).val < 16384 := (i 1).isLt
    have hN : (i 1).val / 512 < (cfgM m hO).N := Nat.lt_of_lt_of_eq (by omega : _ < 32) N_0.symm
    refine ⟨⟨(i 1).val / 512, hN⟩, flush0_1 _ _, ?_⟩
    have e := emb_1 m hO ⟨_, hN⟩ (⟨(i 0).val, (i 0).isLt⟩ : Fin 1024) (⟨(i 1).val % 512, Nat.mod_lt _ (by decide)⟩ : Fin 512)
    have e2 : i = (((cfgM m hO).win 1).blk ⟨_, hN⟩).view.emb (ValueIdx.ix2 (⟨(i 0).val, (i 0).isLt⟩ : Fin 1024) (⟨(i 1).val % 512, Nat.mod_lt _ (by decide)⟩ : Fin 512)) := by
      refine Eq.trans ?_ e.symm
      refine Shape.idx_ext₂ rfl ?_
      show (i 1).val = (512 * ((i 1).val / 512) + (i 1).val % 512) % 16384
      omega
    have hm := View.emb_mem_set (((cfgM m hO).win 1).blk ⟨_, hN⟩).view (ValueIdx.ix2 (⟨(i 0).val, (i 0).isLt⟩ : Fin 1024) (⟨(i 1).val % 512, Nat.mod_lt _ (by decide)⟩ : Fin 512))
    rw [← e2] at hm
    exact hm

/-- The call's result, a row of features to each time and batch entry. -/
def rolledOf (a : FVec Ideal S1024x16384 .bf16) : FVec Ideal S1024x32x512 .bf16 := shapeCast S1024x32x512 a shapeCasts_S1024x16384_S1024x32x512

/-- The two directions' states side by side, batch-major. -/
def joined (f w : FVec Ideal S1024x32x512 .bf16) : FVec Ideal S32x1024x1024 .f32 :=
  transpose S32x1024x1024 [1, 0, 2] (extf .f32 (concatenate S1024x32x1024 2 [⟨S1024x32x512, f⟩, ⟨S1024x32x512, w⟩]
    concatenates_S1024x32x512_S1024x32x512_S1024x32x1024_d2) bitsLt_bf16_f32 : FVec Ideal S1024x32x1024 .f32) transposes_S1024x32x1024_S32x1024x1024_1_0_2

theorem joined_apply (f w : FVec Ideal S1024x32x512 .bf16) (b : Fin 32) (t : Fin 1024) (k : Fin 1024) :
    joined f w (ValueIdx.ix3 b t k)
      = if h : k.val < 512 then f (ValueIdx.ix3 t b (⟨k.val, h⟩ : Fin 512)) else w (ValueIdx.ix3 t b (⟨k.val - 512, by omega⟩ : Fin 512)) := by
  unfold joined
  pointwise
  rfl

/-- What the host leaves after the call. -/
theorem tail_eq (hO : Ok m) (c : Dev nD) :
    Pipeline.afterTail pcfgs (fun _ => adm m hO) (dats m hO) 0 (V0 m) [hostOps1] c main_v13
      = joined (m ((c : Thread nD τ).loc main_arg0)) (rolledOf ((dats m hO 0 c).arrAt 1 (cfgM m hO).N)) := by
  have hv9 : Pipeline.withArrays ((Pipeline.pin pcfgs fun _ => adm m hO) 0).spec c (V0 m c)
      (fun w => (dats m hO 0 c).arrAt w ((Pipeline.pin pcfgs fun _ => adm m hO) 0).N) (Proc.devRef .tc main_v9)
      = (dats m hO 0 c).arrAt 1 (cfgM m hO).N :=
    Pipeline.withArrays_arr spec0 (by decide) c (V0 m c) _ 1
  have hv0 : Pipeline.withArrays ((Pipeline.pin pcfgs fun _ => adm m hO) 0).spec c (V0 m c)
      (fun w => (dats m hO 0 c).arrAt w ((Pipeline.pin pcfgs fun _ => adm m hO) 0).N) (Proc.devRef .tc main_arg0)
      = m ((c : Thread nD τ).loc main_arg0) :=
    (Pipeline.withArrays_of_ne spec0 c (V0 m c) _ main_arg0 (by decide)).trans (V_main_arg0 m c)
  rw [← hv9, ← hv0]
  unfold Pipeline.afterTail
  show StableHlo.after hostOps1 _ (Proc.devRef .tc main_v13) = _
  after_results
  rfl

/-- The call's result, entry by entry. -/
theorem rolled_apply (hO : Ok m) (c : Dev nD) (hs : Roll.LengthsOk (lens (m ((c : Thread nD τ).loc main_arg2)))) (t : Fin 1024) (b : Fin 32) (k : Fin 512) :
    rolledOf ((dats m hO 0 c).arrAt 1 (cfgM m hO).N) (ValueIdx.ix3 t b k)
      = Roll.rolled (m ((c : Thread nD τ).loc main_arg1)) (starts (m ((c : Thread nD τ).loc main_arg2))) t b k := by
  have hk := k.isLt
  have hb := b.isLt
  have e1 : (512 * b.val + k.val) / 512 = b.val := by omega
  have e2 : (512 * b.val + k.val) % 512 = k.val := by omega
  rw [arr_eq m hO c hs]
  unfold rolledOf
  refine (shapeCast_apply _ _ _ (ValueIdx.ix2 t (⟨512 * b.val + k.val, by omega⟩ : Fin 16384)) ?_).trans ?_
  · rw [Shape.rowMajor_val_two, Shape.rowMajor_val_three]
    show t.val * 16384 + (512 * b.val + k.val) = (t.val * 32 + b.val) * 512 + k.val
    omega
  · unfold flat
    dsimp only [ValueIdx.ix2]
    simp only [e1, e2]

/-- The result, entry by entry. -/
theorem result_apply (hO : Ok m) (c : Dev nD) (hs : Roll.LengthsOk (lens (m ((c : Thread nD τ).loc main_arg2))))
    (b : Fin 32) (t : Fin 1024) (k : Fin 1024) :
    (Pipeline.afterTail pcfgs (fun _ => adm m hO) (dats m hO) 0 (V0 m) [hostOps1] c main_v13 : FVec Ideal S32x1024x1024 .f32) (ValueIdx.ix3 b t k)
      = Roll.lastOutput (m ((c : Thread nD τ).loc main_arg0)) (m ((c : Thread nD τ).loc main_arg1)) (lens (m ((c : Thread nD τ).loc main_arg2))) b t k := by
  rw [tail_eq, joined_apply]
  unfold Roll.lastOutput
  refine dite_congr rfl (fun h => rfl) (fun h => ?_)
  rw [rolled_apply m hO c hs]
  unfold Roll.rolled
  simp only [starts_toNat _ hs]

/-- The program runs, ends with its result as above, leaves its arguments as they were and every counter at zero. -/
theorem run_values (hO : Ok m) (hs : ∀ c : Dev nD, Roll.LengthsOk (lens (m ((c : Thread nD τ).loc main_arg2)))) :
    θ_run defs (onTc (τ := τ) (main (F := Ideal))) ⟨m, fun _ => 0, ρ⟩ (fun r => ∀ c : Dev nD,
      r.2.mem ((c.tc : Thread nD τ).loc main_v13) = (fun i : S32x1024x1024.Idx =>
        Roll.lastOutput (m ((c : Thread nD τ).loc main_arg0)) (m ((c : Thread nD τ).loc main_arg1)) (lens (m ((c : Thread nD τ).loc main_arg2)))
          (⟨(i 0).val, (i 0).isLt⟩ : Fin 32) (⟨(i 1).val, (i 1).isLt⟩ : Fin 1024) (⟨(i 2).val, (i 2).isLt⟩ : Fin 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ hO)
  · refine ((h c).2 main_v13 (by decide : main_v13 ∈ Pipeline.restRefs sig spec0)).trans (funext fun i => ?_)
    exact (congrArg _ (ValueIdx.eq_ix3 (i : S32x1024x1024.Idx))).trans (result_apply m hO c (hs c) _ _ _)
  · exact ((h c).2 main_arg0 (by decide : main_arg0 ∈ Pipeline.restRefs sig spec0)).trans (W_main_arg0 m hO (dats m hO) c)
  · exact ((h c).2 main_arg1 (by decide : main_arg1 ∈ Pipeline.restRefs sig spec0)).trans (W_main_arg1 m hO (dats m hO) c)
  · exact ((h c).2 main_arg2 (by decide : main_arg2 ∈ Pipeline.restRefs sig spec0)).trans (W_main_arg2 m hO (dats m hO) c)

end Cert.Kernel6Ideal.Gen

end
-- ==== Proof.Hand.Roll.Out.RefValue.lean ====
module

public import proofs.«01_k».proof.Proof.Gen.Reference6Ideal.Run
public import proofs.«01_k».proof.Proof.Hand.Roll.In.Index
public import proofs.«01_k».proof.Proof.Hand.RefValue
/- The reference of the result over the extended reals, from the last layer's hidden states, index by index. -/

@[expose] public section

set_option maxRecDepth 16384

noncomputable section

namespace Cert.Reference6Ideal.Roll

open Cert.Reference6Ideal Cert.Reference6Ideal.Gen Idealize.ShloMosaic Idealize.ShloMosaic.TcCoe
open Cert.Reference5Ideal.Roll (lens idx4 inside inside_apply read_eq)

/-- The flip of every sequence at its length. -/
def flip (v : FVec Ideal S32x1024x512 .f32) (s : IVec S32 32) : FVec Ideal S32x1024x512 .f32 :=
  select (broadcastInDim S32x1024x512 ![0, 1] bcast_S32x1024_S32x1024x512_0_1
      (Host.reduce IntOp.andi (inside s) (constantI S_ 1 1#1) reducesTo_S32x1024x1_S32x1024_d2 h_S_))
    (Host.gather gather_S32x1024x512_S32x1024x1_S32x1024x512_2_1_0_0_1_2_11512 v (idx4 s))
    (broadcastInDim S32x1024x512 ![] bcast_S_S32x1024x512 (constant S_ .f32 0x7FC00000#32))

/-- The result, of the two directions' states and the paddings. -/
def res (f w : FVec Ideal S1024x32x512 .bf16) (p : FVec Ideal S32x1024 .f32) : FVec Ideal S32x1024x1024 .f32 :=
  concatenate S32x1024x1024 2
    [⟨S32x1024x512, transpose S32x1024x512 [1, 0, 2] (extf .f32 f bitsLt_bf16_f32 : FVec Ideal S1024x32x512 .f32) transposes_S1024x32x512_S32x1024x512_1_0_2⟩,
     ⟨S32x1024x512, flip (transpose S32x1024x512 [1, 0, 2] (Host.reverse [0] (extf .f32 w bitsLt_bf16_f32 : FVec Ideal S1024x32x512 .f32)) transposes_S1024x32x512_S32x1024x512_1_0_2)
       (lens p)⟩]
    concatenates_S32x1024x512_S32x1024x512_S32x1024x1024_d2

/-- The reference's result in those terms. -/
theorem res_eq (m : (ℓ : Loc nD τ sig) → Buf (Elt Ideal) ℓ) (c : Dev nD) :
    Value.res_main_v22 m c
      = res (m ((c.tc : Thread nD τ).loc main_arg0)) (m ((c.tc : Thread nD τ).loc main_arg1)) (m ((c.tc : Thread nD τ).loc main_arg2)) := by
  unfold Value.res_main_v22
  rfl

/-- The take along the time axis at an index: the array at the read index, clamped into the array. -/
theorem gather_apply (v : FVec Ideal S32x1024x512 .f32) (x : IVec S32x1024x1 32) (b : Fin 32) (t : Fin 1024) (k : Fin 512) :
    Host.gather gather_S32x1024x512_S32x1024x1_S32x1024x512_2_1_0_0_1_2_11512 v x (ValueIdx.ix3 b t k)
      = v (ValueIdx.ix3 b ⟨min (x (ValueIdx.ix3 b t 0)).toInt.toNat 1023, by omega⟩ k) := by
  unfold Host.gather
  refine congrArg v (funext fun a => Fin.ext ?_)
  show GatherDims.start _ _ _ a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : gather_S32x1024x512_S32x1024x1_S32x1024x512_2_1_0_0_1_2_11512.siIdx (ValueIdx.ix3 b t k) ⟨0, by decide⟩ = ValueIdx.ix3 b t 0 := by
      funext b; refine Fin.ext ?_
      match b with
      | ⟨0, _⟩ => rfl
      | ⟨1, _⟩ => rfl
      | ⟨2, _⟩ => rfl
    exact congrArg (fun i => min (x i).toInt.toNat 1023) hsi
  · rw [GatherDims.batchCoord_eq_zero _ _ _ (by decide)]
    unfold GatherDims.start GatherDims.offCoord
    rw [dif_neg (by decide), dif_pos (by decide)]
    simp only [Nat.zero_add]
    rfl

/-- The flip at an index. -/
theorem flip_apply (v : FVec Ideal S32x1024x512 .f32) (s : IVec S32 32) (hs : Roll.LengthsOk s) (b : Fin 32) (t : Fin 1024) (k : Fin 512) :
    flip v s (ValueIdx.ix3 b t k)
      = v (ValueIdx.ix3 b (⟨(1023 - t.val + (s (ValueIdx.ix1 b)).toNat) % 1024, Nat.mod_lt _ (by decide)⟩ : Fin 1024) k) := by
  have hm : broadcastInDim S32x1024x512 ![0, 1] bcast_S32x1024_S32x1024x512_0_1
      (Host.reduce IntOp.andi (inside s) (constantI S_ 1 1#1) reducesTo_S32x1024x1_S32x1024_d2 h_S_) (ValueIdx.ix3 b t k) = 1#1 := by
    unfold broadcastInDim
    exact Host.reduce_andi_one _ _ _ _ _ rfl (inside_apply s hs)
  unfold flip
  show Scalar.select _ _ _ = _
  rw [hm]
  refine (gather_apply v (idx4 s) b t k).trans (congrArg (fun u => v (ValueIdx.ix3 b u k)) (Fin.ext ?_))
  exact read_eq s hs b t

/-- States made batch-major, at an index. -/
theorem transpose_at (x : FVec Ideal S1024x32x512 .f32) (b : Fin 32) (t : Fin 1024) (k : Fin 512) :
    transpose S32x1024x512 [1, 0, 2] x transposes_S1024x32x512_S32x1024x512_1_0_2 (ValueIdx.ix3 b t k) = x (ValueIdx.ix3 t b k) := by
  pointwise
  rfl

/-- Two arrays side by side, at an index. -/
theorem cat_at (x y : FVec Ideal S32x1024x512 .f32) (b : Fin 32) (t : Fin 1024) (k : Fin 1024) :
    concatenate S32x1024x1024 2 [⟨S32x1024x512, x⟩, ⟨S32x1024x512, y⟩] concatenates_S32x1024x512_S32x1024x512_S32x1024x1024_d2 (ValueIdx.ix3 b t k)
      = if h : k.val < 512 then x (ValueIdx.ix3 b t (⟨k.val, h⟩ : Fin 512)) else y (ValueIdx.ix3 b t (⟨k.val - 512, by omega⟩ : Fin 512)) := by
  pointwise
  rfl

/-- The reference's result at an index. -/
theorem res_apply (f w : FVec Ideal S1024x32x512 .bf16) (p : FVec Ideal S32x1024 .f32) (hs : Roll.LengthsOk (lens p))
    (b : Fin 32) (t : Fin 1024) (k : Fin 1024) : res f w p (ValueIdx.ix3 b t k) = Roll.lastOutput f w (lens p) b t k := by
  unfold res
  refine (cat_at _ _ b t k).trans ?_
  unfold Roll.lastOutput
  refine dite_congr rfl (fun h => ?_) (fun h => ?_)
  · exact transpose_at _ b t _
  · refine (flip_apply _ _ hs b t _).trans ((transpose_at _ b _ _).trans ((Cert.ReferenceIdeal.Step.rev_out _ _ b _).trans ?_))
    refine congrArg (fun u => w (ValueIdx.ix3 u b _)) (Fin.ext ?_)
    have ht := t.isLt
    have hl := hs b
    dsimp only
    omega

end Cert.Reference6Ideal.Roll

end
-- ==== Proof.lean ====
/- The certificate of six programs that make up the bidirectional LSTM: the two layer calls, the first layer's and that of the
   later layers; the roll along time that flips a sequence at its length, at a layer's 512 features and at the 1024 features
   of the input; the first layer's two inputs from the kernel's arguments; and the kernel's result from the last layer's hidden
   states. For each its frame, the frame of its idealization, the frame of its reference, and the equality of the two
   programs' results over the extended reals. The layer calls' runs and values are in Hand/Run.lean, Hand/KernelValue.lean
   and in Hand/First/, the references' in RefRun.lean and RefValue.lean beside them; both are stated against the recurrence of
   Hand/Math.lean. The roll's two sides are in Hand/Roll/, stated against the rolled array of Hand/Roll/Math.lean, and the
   programs around it in Hand/Roll/In/ and Hand/Roll/Out/, stated against Hand/Roll/Flip.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Step
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_starts_in_range
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_starts_in_range_wide
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_lengths_in_range
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_lengths_in_range_last
public import proofs.«01_k».proof.Proof.Hand.BitsFrame
public import proofs.«01_k».proof.Proof.Hand.KernelValue
public import proofs.«01_k».proof.Proof.Hand.RefValue
public import proofs.«01_k».proof.Proof.Hand.First.KernelValue
public import proofs.«01_k».proof.Proof.Hand.First.RefValue
public import proofs.«01_k».proof.Proof.Hand.Roll.KernelValue
public import proofs.«01_k».proof.Proof.Hand.Roll.RefValue
public import proofs.«01_k».proof.Proof.Hand.Roll.Wide.KernelValue
public import proofs.«01_k».proof.Proof.Hand.Roll.Wide.RefValue
public import proofs.«01_k».proof.Proof.Hand.Roll.In.KernelValue
public import proofs.«01_k».proof.Proof.Hand.Roll.In.RefValue
public import proofs.«01_k».proof.Proof.Hand.Roll.Out.KernelValue
public import proofs.«01_k».proof.Proof.Hand.Roll.Out.RefValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

open Cert.ReferenceIdeal in
/-- The reference's run at the ideal values, its results read off the scan's state after the last trip. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v30) = Step.R_main_v30 (Step.states (RefRun.initState m c) 1024)
      ∧ r.2.mem ((c.tc : Thread nD τ).loc main_v33) = Step.R_main_v33 (Step.states (RefRun.initState m c) 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  RefRun.run_iter (F := Ideal) m g (fun c => Step.states (RefRun.initState m c)) (fun _ => rfl) (fun _ _ => rfl)

theorem frame_reference : @Cert.quiescent_ReferenceIdeal Cert.ReferenceIdeal.Gen.facts := fun m g _ =>
  (θ_run (Cert.ReferenceIdeal.defs (F := Ideal)) _ _).mono (fun r h => ⟨fun c => (h c).2.2,
    Idealize.ShloMosaic.sem_eq_zero_of_no_sems (by decide) r.2⟩) (ref_run m g)

/-- Over the extended reals the kernel's two results are the reference's. -/
theorem algebraic : @Cert.algebraic_KernelIdeal_ReferenceIdeal Cert.KernelIdeal.Gen.facts Cert.ReferenceIdeal.Gen.facts := by
  intro m g m' g' _ hag
  refine ⟨fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run (Cert.KernelIdeal.defs (F := Ideal)) _ _).mono (fun r h c => ⟨?_, ?_, ?_⟩)
      (Cert.KernelIdeal.Gen.run_values m g)
    · exact (h c).1
    · exact (h c).2.1
    · exact (h c).2.2
  · refine (θ_run (Cert.ReferenceIdeal.defs (F := Ideal)) _ _).mono (fun r h c => ⟨?_, ?_, (h c).2.2⟩) (ref_run m' g')
    · obtain ⟨e0, e1, e2, e3, e4, e5, e6⟩ := hag c
      refine (h c).1.trans ((Cert.ReferenceIdeal.Step.result_F _ _ _ _ _ _ _).trans ?_)
      rw [e0, e1, e4, e5, e6]
      exact (Cert.KernelIdeal.Gen.arr_F m c).symm
    · obtain ⟨e0, e1, e2, e3, e4, e5, e6⟩ := hag c
      refine (h c).2.1.trans ((Cert.ReferenceIdeal.Step.result_B _ _ _ _ _ _ _).trans ?_)
      rw [e2, e3, e4, e5, e6]
      exact (Cert.KernelIdeal.Gen.arr_B m c).symm

open Cert.Reference2Ideal in
/-- The first layer's reference's run at the ideal values, its results read off the scan's state after the last trip. -/
theorem ref_run_first (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v29) = Step.R_main_v29 (Step.states (RefRun.initState m c) 1024)
      ∧ r.2.mem ((c.tc : Thread nD τ).loc main_v32) = Step.R_main_v32 (Step.states (RefRun.initState m c) 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  RefRun.run_iter (F := Ideal) m g (fun c => Step.states (RefRun.initState m c)) (fun _ => rfl) (fun _ _ => rfl)

theorem frame_reference_first : @Cert.quiescent_Reference2Ideal Cert.Reference2Ideal.Gen.facts := fun m g _ =>
  (θ_run (Cert.Reference2Ideal.defs (F := Ideal)) _ _).mono (fun r h => ⟨fun c => (h c).2.2,
    Idealize.ShloMosaic.sem_eq_zero_of_no_sems (by decide) r.2⟩) (ref_run_first m g)

/-- Over the extended reals the first layer's two results are the reference's. -/
theorem algebraic_first : @Cert.algebraic_Kernel2Ideal_Reference2Ideal Cert.Kernel2Ideal.Gen.facts Cert.Reference2Ideal.Gen.facts := by
  intro m g m' g' _ hag
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N, ?_, ?_⟩
  · refine (θ_run (Cert.Kernel2Ideal.defs (F := Ideal)) _ _).mono (fun r h c => ⟨?_, ?_, ?_⟩)
      (Cert.Kernel2Ideal.Gen.run_values m g)
    · exact (h c).1
    · exact (h c).2.1
    · exact (h c).2.2
  · refine (θ_run (Cert.Reference2Ideal.defs (F := Ideal)) _ _).mono (fun r h c => ⟨?_, ?_, (h c).2.2⟩) (ref_run_first m' g')
    · obtain ⟨e0, e1, e2, e3⟩ := hag c
      refine (h c).1.trans ((Cert.Reference2Ideal.Step.result_F _ _ _ _).trans ?_)
      rw [e0, e1, e2, e3]
      exact (Cert.Kernel2Ideal.Gen.arr_F m c).symm
    · obtain ⟨e0, e1, e2, e3⟩ := hag c
      refine (h c).2.1.trans ((Cert.Reference2Ideal.Step.result_B _ _ _ _).trans ?_)
      rw [e0, e1, e2, e3]
      exact (Cert.Kernel2Ideal.Gen.arr_B m c).symm

theorem frame_reference_roll (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run (Cert.Reference3Ideal.defs (F := Ideal)) _ _).mono (fun r h => ⟨fun c => (h c).2,
    Idealize.ShloMosaic.sem_eq_zero_of_no_sems (by decide) r.2⟩) (Cert.Reference3Ideal.Value.run m g)

/-- The precondition of the roll says that every start lies in 0 … 1023. -/
theorem inRange_of_pre (m : (ℓ : Loc Cert.Kernel3Ideal.nD Cert.Kernel3Ideal.τ Cert.Kernel3Ideal.sig) → Buf (Elt Ideal) ℓ)
    (h : @Cert.Pre_Kernel3Ideal_starts_in_range Cert.Pre_starts_in_range.Gen.facts m) (c : Dev Cert.Kernel3Ideal.nD) :
    Roll.InRange (m ((c.tc : Thread Cert.Kernel3Ideal.nD Cert.Kernel3Ideal.τ).loc Cert.Kernel3Ideal.main_arg1)) := by
  intro b
  have h1 := Host.reduce_andi_all _ _ _ _ _ (congrFun (h c) (fun a => a.elim0)) (ValueIdx.ix1 b)
  obtain ⟨h2, h3⟩ := IntOp.andi_eq_one.mp h1
  exact Roll.toNat_lt_of_signed (IntOp.cmpi_sge.mp h2) (IntOp.cmpi_slt.mp h3)

/-- Over the extended reals the roll's result is the reference's, for starts in 0 … 1023. -/
theorem algebraic_roll : @Cert.algebraic_Kernel3Ideal_Reference3Ideal_pre_starts_in_range Cert.Kernel3Ideal.Gen.facts
    Cert.Reference3Ideal.Gen.facts Cert.Pre_starts_in_range.Gen.facts := by
  intro m g m' g' hpre hag
  have hs := inRange_of_pre m hpre
  refine ⟨_, Cert.Kernel3Ideal.Gen.run_values m g trivial hs, ?_⟩
  refine (θ_run (Cert.Reference3Ideal.defs (F := Ideal)) _ _).mono (fun r h c => ⟨?_, (h c).2⟩) (Cert.Reference3Ideal.Value.run m' g')
  obtain ⟨e0, e1⟩ := hag c
  refine (h c).1.trans ((Cert.Reference3Ideal.Roll.res_eq m' c).trans ?_)
  rw [e0, e1]
  funext i
  exact (congrArg _ (ValueIdx.eq_ix3 (i : Cert.Reference3Ideal.S1024x32x512.Idx))).trans
    (Cert.Reference3Ideal.Roll.res_apply _ (hs c) _ _ _ _)

theorem frame_reference_roll_wide (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run (Cert.Reference4Ideal.defs (F := Ideal)) _ _).mono (fun r h => ⟨fun c => (h c).2,
    Idealize.ShloMosaic.sem_eq_zero_of_no_sems (by decide) r.2⟩) (Cert.Reference4Ideal.Value.run m g)

/-- The precondition of the wide roll says the same: every start lies in 0 … 1023. -/
theorem inRange_of_pre_wide (m : (ℓ : Loc Cert.Kernel4Ideal.nD Cert.Kernel4Ideal.τ Cert.Kernel4Ideal.sig) → Buf (Elt Ideal) ℓ)
    (h : @Cert.Pre_Kernel4Ideal_starts_in_range_wide Cert.Pre_starts_in_range_wide.Gen.facts m) (c : Dev Cert.Kernel4Ideal.nD) :
    Roll.InRange (m ((c.tc : Thread Cert.Kernel4Ideal.nD Cert.Kernel4Ideal.τ).loc Cert.Kernel4Ideal.main_arg1)) := by
  intro b
  have h1 := Host.reduce_andi_all _ _ _ _ _ (congrFun (h c) (fun a => a.elim0)) (ValueIdx.ix1 b)
  obtain ⟨h2, h3⟩ := IntOp.andi_eq_one.mp h1
  exact Roll.toNat_lt_of_signed (IntOp.cmpi_sge.mp h2) (IntOp.cmpi_slt.mp h3)

/-- Over the extended reals the wide roll's result is the reference's, for starts in 0 … 1023. -/
theorem algebraic_roll_wide : @Cert.algebraic_Kernel4Ideal_Reference4Ideal_pre_starts_in_range_wide Cert.Kernel4Ideal.Gen.facts
    Cert.Reference4Ideal.Gen.facts Cert.Pre_starts_in_range_wide.Gen.facts := by
  intro m g m' g' hpre hag
  have hs := inRange_of_pre_wide m hpre
  refine ⟨_, Cert.Kernel4Ideal.Gen.run_values m g trivial hs, ?_⟩
  refine (θ_run (Cert.Reference4Ideal.defs (F := Ideal)) _ _).mono (fun r h c => ⟨?_, (h c).2⟩) (Cert.Reference4Ideal.Value.run m' g')
  obtain ⟨e0, e1⟩ := hag c
  refine (h c).1.trans ((Cert.Reference4Ideal.Roll.res_eq m' c).trans ?_)
  rw [e0, e1]
  funext i
  exact (congrArg _ (ValueIdx.eq_ix3 (i : Cert.Reference4Ideal.S1024x32x1024.Idx))).trans
    (Cert.Reference4Ideal.Roll.res_apply _ (hs c) _ _ _ _)

open Cert.Reference5Ideal in
theorem frame_reference_in (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run (defs (F := Ideal)) _ _).mono (fun r h => ⟨fun c => (h c).2, Idealize.ShloMosaic.sem_eq_zero_of_no_sems (by decide) r.2⟩) (Value.run m g)

open Cert.Kernel5Ideal in
/-- The precondition of the first layer's inputs says that every length lies in 0 … 1024. -/
theorem lengths_of_pre (m : (ℓ : Loc nD τ sig) → Buf (Elt Ideal) ℓ)
    (h : @Cert.Pre_Kernel5Ideal_lengths_in_range Cert.Pre_lengths_in_range.Gen.facts m) (c : Dev nD) :
    Roll.LengthsOk (Cert.Reference5Ideal.Roll.lens (m ((c.tc : Thread nD τ).loc main_arg1))) := by
  intro b
  have h1 := Host.reduce_andi_all _ _ _ _ _ (congrFun (h c) (fun a => a.elim0)) (ValueIdx.ix1 b)
  obtain ⟨h2, h3⟩ := IntOp.andi_eq_one.mp h1
  exact Roll.toNat_le_of_signed (IntOp.cmpi_sge.mp h2) (IntOp.cmpi_sle.mp h3)

/-- Over the extended reals the first layer's inputs are the reference's, for lengths in 0 … 1024. -/
theorem algebraic_in : @Cert.algebraic_Kernel5Ideal_Reference5Ideal_pre_lengths_in_range Cert.Kernel5Ideal.Gen.facts
    Cert.Reference5Ideal.Gen.facts Cert.Pre_lengths_in_range.Gen.facts := by
  intro m g m' g' hpre hag
  have hs := lengths_of_pre m hpre
  refine ⟨_, Cert.Kernel5Ideal.Gen.run_values m g trivial hs, ?_⟩
  refine (θ_run (Cert.Reference5Ideal.defs (F := Ideal)) _ _).mono (fun r h c => ⟨?_, (h c).2⟩) (Cert.Reference5Ideal.Value.run m' g')
  obtain ⟨e0, e1⟩ := hag c
  refine (h c).1.trans ((Cert.Reference5Ideal.Roll.res_eq m' c).trans ?_)
  rw [e0, e1]
  funext i
  exact (congrArg _ (ValueIdx.eq_ix4 (i : Cert.Reference5Ideal.S2x1024x32x1024.Idx))).trans
    (Cert.Reference5Ideal.Roll.res_apply _ _ (hs c) _ _ _ _)

open Cert.Reference6Ideal in
theorem frame_reference_out (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run (defs (F := Ideal)) _ _).mono (fun r h => ⟨fun c => (h c).2, Idealize.ShloMosaic.sem_eq_zero_of_no_sems (by decide) r.2⟩) (Value.run m g)

open Cert.Kernel6Ideal in
/-- The precondition of the result says the same: every length lies in 0 … 1024. -/
theorem lengths_of_pre_last (m : (ℓ : Loc nD τ sig) → Buf (Elt Ideal) ℓ)
    (h : @Cert.Pre_Kernel6Ideal_lengths_in_range_last Cert.Pre_lengths_in_range_last.Gen.facts m) (c : Dev nD) :
    Roll.LengthsOk (Cert.Reference5Ideal.Roll.lens (m ((c.tc : Thread nD τ).loc main_arg2))) := by
  intro b
  have h1 := Host.reduce_andi_all _ _ _ _ _ (congrFun (h c) (fun a => a.elim0)) (ValueIdx.ix1 b)
  obtain ⟨h2, h3⟩ := IntOp.andi_eq_one.mp h1
  exact Roll.toNat_le_of_signed (IntOp.cmpi_sge.mp h2) (IntOp.cmpi_sle.mp h3)

/-- Over the extended reals the result of the last layer's states is the reference's, for lengths in 0 … 1024. -/
theorem algebraic_out : @Cert.algebraic_Kernel6Ideal_Reference6Ideal_pre_lengths_in_range_last Cert.Kernel6Ideal.Gen.facts
    Cert.Reference6Ideal.Gen.facts Cert.Pre_lengths_in_range_last.Gen.facts := by
  intro m g m' g' hpre hag
  have hs := lengths_of_pre_last m hpre
  refine ⟨_, Cert.Kernel6Ideal.Gen.run_values m g trivial hs, ?_⟩
  refine (θ_run (Cert.Reference6Ideal.defs (F := Ideal)) _ _).mono (fun r h c => ⟨?_, (h c).2⟩) (Cert.Reference6Ideal.Value.run m' g')
  obtain ⟨e0, e1, e2⟩ := hag c
  refine (h c).1.trans ((Cert.Reference6Ideal.Roll.res_eq m' c).trans ?_)
  rw [e0, e1, e2]
  funext i
  exact (congrArg _ (ValueIdx.eq_ix3 (i : Cert.Reference6Ideal.S32x1024x1024.Idx))).trans
    (Cert.Reference6Ideal.Roll.res_apply _ _ _ (hs c) _ _ _)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_starts_in_range.Gen.facts, Cert.Pre_starts_in_range_wide.Gen.facts,
    Cert.Pre_lengths_in_range.Gen.facts, Cert.Pre_lengths_in_range_last.Gen.facts,
    fun m ρ _ => Cert.BitsFrame.frame m ρ, fun m ρ _ => Cert.KernelIdeal.Gen.frame m ρ, frame_reference,
    fun m ρ _ => Cert.BitsFrame.frame_first m ρ, fun m ρ _ => Cert.Kernel2Ideal.Gen.frame m ρ, frame_reference_first,
    fun m ρ _ => Cert.Kernel3.Gen.frame m ρ trivial, fun m ρ _ => Cert.Kernel3Ideal.Gen.frame m ρ trivial,
    fun m ρ _ => Cert.Kernel3Ideal.Gen.frame m ρ trivial,
    fun m ρ _ => frame_reference_roll m ρ, fun m ρ _ => frame_reference_roll m ρ,
    fun m ρ _ => Cert.Kernel4.Gen.frame m ρ trivial, fun m ρ _ => Cert.Kernel4Ideal.Gen.frame m ρ trivial,
    fun m ρ _ => Cert.Kernel4Ideal.Gen.frame m ρ trivial,
    fun m ρ _ => frame_reference_roll_wide m ρ, fun m ρ _ => frame_reference_roll_wide m ρ,
    fun m ρ _ => Cert.Kernel5.Gen.frame m ρ trivial, fun m ρ _ => Cert.Kernel5Ideal.Gen.frame m ρ trivial,
    fun m ρ _ => Cert.Kernel5Ideal.Gen.frame m ρ trivial,
    fun m ρ _ => frame_reference_in m ρ, fun m ρ _ => frame_reference_in m ρ,
    fun m ρ _ => Cert.Kernel6.Gen.frame m ρ trivial, fun m ρ _ => Cert.Kernel6Ideal.Gen.frame m ρ trivial,
    fun m ρ _ => Cert.Kernel6Ideal.Gen.frame m ρ trivial,
    fun m ρ _ => frame_reference_out m ρ, fun m ρ _ => frame_reference_out m ρ,
    trivial, algebraic, trivial, algebraic_first, trivial, algebraic_roll, trivial, algebraic_roll_wide,
    trivial, algebraic_in, trivial, algebraic_out⟩

end Cert.Proof

end
